-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Label (m : (ℓ : Loc Cert.Label.nD Cert.Label.τ Cert.Label.sig) → Buf (Elt Bits) ℓ) : Prop :=
  True

def Pre_LabelIdeal (m : (ℓ : Loc Cert.LabelIdeal.nD Cert.LabelIdeal.τ Cert.LabelIdeal.sig) → Buf (Elt Ideal) ℓ) : Prop :=
  True

def Pre_LabelIdeal_channels_in_range [hPre_channels_in_range : Cert.Pre_channels_in_range.Facts] (m : (ℓ : Loc Cert.LabelIdeal.nD Cert.LabelIdeal.τ Cert.LabelIdeal.sig) → Buf (Elt Ideal) ℓ) : Prop :=
  ∀ c : Dev Cert.LabelIdeal.nD,
    (Cert.Pre_channels_in_range.fn (F := Ideal) (m ((c.tc : Thread Cert.LabelIdeal.nD Cert.LabelIdeal.τ).loc Cert.LabelIdeal.main_arg0)) (m ((c.tc : Thread Cert.LabelIdeal.nD Cert.LabelIdeal.τ).loc Cert.LabelIdeal.main_arg1)) (m ((c.tc : Thread Cert.LabelIdeal.nD Cert.LabelIdeal.τ).loc Cert.LabelIdeal.main_arg2)) (m ((c.tc : Thread Cert.LabelIdeal.nD Cert.LabelIdeal.τ).loc Cert.LabelIdeal.main_arg3)) (m ((c.tc : Thread Cert.LabelIdeal.nD Cert.LabelIdeal.τ).loc Cert.LabelIdeal.main_arg4))) = (fun _ => 1#1)

def Pre_LabelReferenceIdeal (m : (ℓ : Loc Cert.LabelReferenceIdeal.nD Cert.LabelReferenceIdeal.τ Cert.LabelReferenceIdeal.sig) → Buf (Elt Ideal) ℓ) : Prop :=
  True

def Pre_LabelReferenceIdeal_channels_in_range [hPre_channels_in_range : Cert.Pre_channels_in_range.Facts] (m : (ℓ : Loc Cert.LabelReferenceIdeal.nD Cert.LabelReferenceIdeal.τ Cert.LabelReferenceIdeal.sig) → Buf (Elt Ideal) ℓ) : Prop :=
  ∀ c : Dev Cert.LabelReferenceIdeal.nD,
    (Cert.Pre_channels_in_range.fn (F := Ideal) (m ((c.tc : Thread Cert.LabelReferenceIdeal.nD Cert.LabelReferenceIdeal.τ).loc Cert.LabelReferenceIdeal.main_arg0)) (m ((c.tc : Thread Cert.LabelReferenceIdeal.nD Cert.LabelReferenceIdeal.τ).loc Cert.LabelReferenceIdeal.main_arg1)) (m ((c.tc : Thread Cert.LabelReferenceIdeal.nD Cert.LabelReferenceIdeal.τ).loc Cert.LabelReferenceIdeal.main_arg2)) (m ((c.tc : Thread Cert.LabelReferenceIdeal.nD Cert.LabelReferenceIdeal.τ).loc Cert.LabelReferenceIdeal.main_arg3)) (m ((c.tc : Thread Cert.LabelReferenceIdeal.nD Cert.LabelReferenceIdeal.τ).loc Cert.LabelReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Label [hLabel : Cert.Label.Facts] : Prop :=
  ∀ (m : (ℓ : Loc Cert.Label.nD Cert.Label.τ Cert.Label.sig) → Buf (Elt Bits) ℓ) (g : Dev Cert.Label.nD → PrngReg), Pre_Label m →
    θ_run (Cert.Label.defs (F := Bits)) (onTc (τ := Cert.Label.τ) (Cert.Label.main (F := Bits))) ⟨m, fun _ => 0, g⟩ (fun r => (∀ c : Dev Cert.Label.nD,
      r.2.mem ((c.tc : Thread Cert.Label.nD Cert.Label.τ).loc Cert.Label.main_arg0) = m ((c.tc : Thread Cert.Label.nD Cert.Label.τ).loc Cert.Label.main_arg0)
      ∧ r.2.mem ((c.tc : Thread Cert.Label.nD Cert.Label.τ).loc Cert.Label.main_arg1) = m ((c.tc : Thread Cert.Label.nD Cert.Label.τ).loc Cert.Label.main_arg1)
      ∧ r.2.mem ((c.tc : Thread Cert.Label.nD Cert.Label.τ).loc Cert.Label.main_arg2) = m ((c.tc : Thread Cert.Label.nD Cert.Label.τ).loc Cert.Label.main_arg2)
      ∧ r.2.mem ((c.tc : Thread Cert.Label.nD Cert.Label.τ).loc Cert.Label.main_arg3) = m ((c.tc : Thread Cert.Label.nD Cert.Label.τ).loc Cert.Label.main_arg3)
      ∧ r.2.mem ((c.tc : Thread Cert.Label.nD Cert.Label.τ).loc Cert.Label.main_arg4) = m ((c.tc : Thread Cert.Label.nD Cert.Label.τ).loc Cert.Label.main_arg4))
      ∧ r.2.sem = fun _ => 0)

def quiescent_LabelIdeal [hLabelIdeal : Cert.LabelIdeal.Facts] : Prop :=
  ∀ (m : (ℓ : Loc Cert.LabelIdeal.nD Cert.LabelIdeal.τ Cert.LabelIdeal.sig) → Buf (Elt Ideal) ℓ) (g : Dev Cert.LabelIdeal.nD → PrngReg), Pre_LabelIdeal m →
    θ_run (Cert.LabelIdeal.defs (F := Ideal)) (onTc (τ := Cert.LabelIdeal.τ) (Cert.LabelIdeal.main (F := Ideal))) ⟨m, fun _ => 0, g⟩ (fun r => (∀ c : Dev Cert.LabelIdeal.nD,
      r.2.mem ((c.tc : Thread Cert.LabelIdeal.nD Cert.LabelIdeal.τ).loc Cert.LabelIdeal.main_arg0) = m ((c.tc : Thread Cert.LabelIdeal.nD Cert.LabelIdeal.τ).loc Cert.LabelIdeal.main_arg0)
      ∧ r.2.mem ((c.tc : Thread Cert.LabelIdeal.nD Cert.LabelIdeal.τ).loc Cert.LabelIdeal.main_arg1) = m ((c.tc : Thread Cert.LabelIdeal.nD Cert.LabelIdeal.τ).loc Cert.LabelIdeal.main_arg1)
      ∧ r.2.mem ((c.tc : Thread Cert.LabelIdeal.nD Cert.LabelIdeal.τ).loc Cert.LabelIdeal.main_arg2) = m ((c.tc : Thread Cert.LabelIdeal.nD Cert.LabelIdeal.τ).loc Cert.LabelIdeal.main_arg2)
      ∧ r.2.mem ((c.tc : Thread Cert.LabelIdeal.nD Cert.LabelIdeal.τ).loc Cert.LabelIdeal.main_arg3) = m ((c.tc : Thread Cert.LabelIdeal.nD Cert.LabelIdeal.τ).loc Cert.LabelIdeal.main_arg3)
      ∧ r.2.mem ((c.tc : Thread Cert.LabelIdeal.nD Cert.LabelIdeal.τ).loc Cert.LabelIdeal.main_arg4) = m ((c.tc : Thread Cert.LabelIdeal.nD Cert.LabelIdeal.τ).loc Cert.LabelIdeal.main_arg4))
      ∧ r.2.sem = fun _ => 0)

def quiescent_LabelIdeal_pre_channels_in_range [hLabelIdeal : Cert.LabelIdeal.Facts] [hPre_channels_in_range : Cert.Pre_channels_in_range.Facts] : Prop :=
  ∀ (m : (ℓ : Loc Cert.LabelIdeal.nD Cert.LabelIdeal.τ Cert.LabelIdeal.sig) → Buf (Elt Ideal) ℓ) (g : Dev Cert.LabelIdeal.nD → PrngReg), Pre_LabelIdeal_channels_in_range m →
    θ_run (Cert.LabelIdeal.defs (F := Ideal)) (onTc (τ := Cert.LabelIdeal.τ) (Cert.LabelIdeal.main (F := Ideal))) ⟨m, fun _ => 0, g⟩ (fun r => (∀ c : Dev Cert.LabelIdeal.nD,
      r.2.mem ((c.tc : Thread Cert.LabelIdeal.nD Cert.LabelIdeal.τ).loc Cert.LabelIdeal.main_arg0) = m ((c.tc : Thread Cert.LabelIdeal.nD Cert.LabelIdeal.τ).loc Cert.LabelIdeal.main_arg0)
      ∧ r.2.mem ((c.tc : Thread Cert.LabelIdeal.nD Cert.LabelIdeal.τ).loc Cert.LabelIdeal.main_arg1) = m ((c.tc : Thread Cert.LabelIdeal.nD Cert.LabelIdeal.τ).loc Cert.LabelIdeal.main_arg1)
      ∧ r.2.mem ((c.tc : Thread Cert.LabelIdeal.nD Cert.LabelIdeal.τ).loc Cert.LabelIdeal.main_arg2) = m ((c.tc : Thread Cert.LabelIdeal.nD Cert.LabelIdeal.τ).loc Cert.LabelIdeal.main_arg2)
      ∧ r.2.mem ((c.tc : Thread Cert.LabelIdeal.nD Cert.LabelIdeal.τ).loc Cert.LabelIdeal.main_arg3) = m ((c.tc : Thread Cert.LabelIdeal.nD Cert.LabelIdeal.τ).loc Cert.LabelIdeal.main_arg3)
      ∧ r.2.mem ((c.tc : Thread Cert.LabelIdeal.nD Cert.LabelIdeal.τ).loc Cert.LabelIdeal.main_arg4) = m ((c.tc : Thread Cert.LabelIdeal.nD Cert.LabelIdeal.τ).loc Cert.LabelIdeal.main_arg4))
      ∧ r.2.sem = fun _ => 0)

def quiescent_LabelReferenceIdeal [hLabelReferenceIdeal : Cert.LabelReferenceIdeal.Facts] : Prop :=
  ∀ (m : (ℓ : Loc Cert.LabelReferenceIdeal.nD Cert.LabelReferenceIdeal.τ Cert.LabelReferenceIdeal.sig) → Buf (Elt Ideal) ℓ) (g : Dev Cert.LabelReferenceIdeal.nD → PrngReg), Pre_LabelReferenceIdeal m →
    θ_run (Cert.LabelReferenceIdeal.defs (F := Ideal)) (onTc (τ := Cert.LabelReferenceIdeal.τ) (Cert.LabelReferenceIdeal.main (F := Ideal))) ⟨m, fun _ => 0, g⟩ (fun r => (∀ c : Dev Cert.LabelReferenceIdeal.nD,
      r.2.mem ((c.tc : Thread Cert.LabelReferenceIdeal.nD Cert.LabelReferenceIdeal.τ).loc Cert.LabelReferenceIdeal.main_arg0) = m ((c.tc : Thread Cert.LabelReferenceIdeal.nD Cert.LabelReferenceIdeal.τ).loc Cert.LabelReferenceIdeal.main_arg0)
      ∧ r.2.mem ((c.tc : Thread Cert.LabelReferenceIdeal.nD Cert.LabelReferenceIdeal.τ).loc Cert.LabelReferenceIdeal.main_arg1) = m ((c.tc : Thread Cert.LabelReferenceIdeal.nD Cert.LabelReferenceIdeal.τ).loc Cert.LabelReferenceIdeal.main_arg1)
      ∧ r.2.mem ((c.tc : Thread Cert.LabelReferenceIdeal.nD Cert.LabelReferenceIdeal.τ).loc Cert.LabelReferenceIdeal.main_arg2) = m ((c.tc : Thread Cert.LabelReferenceIdeal.nD Cert.LabelReferenceIdeal.τ).loc Cert.LabelReferenceIdeal.main_arg2)
      ∧ r.2.mem ((c.tc : Thread Cert.LabelReferenceIdeal.nD Cert.LabelReferenceIdeal.τ).loc Cert.LabelReferenceIdeal.main_arg3) = m ((c.tc : Thread Cert.LabelReferenceIdeal.nD Cert.LabelReferenceIdeal.τ).loc Cert.LabelReferenceIdeal.main_arg3)
      ∧ r.2.mem ((c.tc : Thread Cert.LabelReferenceIdeal.nD Cert.LabelReferenceIdeal.τ).loc Cert.LabelReferenceIdeal.main_arg4) = m ((c.tc : Thread Cert.LabelReferenceIdeal.nD Cert.LabelReferenceIdeal.τ).loc Cert.LabelReferenceIdeal.main_arg4))
      ∧ r.2.sem = fun _ => 0)

def quiescent_LabelReferenceIdeal_pre_channels_in_range [hLabelReferenceIdeal : Cert.LabelReferenceIdeal.Facts] [hPre_channels_in_range : Cert.Pre_channels_in_range.Facts] : Prop :=
  ∀ (m : (ℓ : Loc Cert.LabelReferenceIdeal.nD Cert.LabelReferenceIdeal.τ Cert.LabelReferenceIdeal.sig) → Buf (Elt Ideal) ℓ) (g : Dev Cert.LabelReferenceIdeal.nD → PrngReg), Pre_LabelReferenceIdeal_channels_in_range m →
    θ_run (Cert.LabelReferenceIdeal.defs (F := Ideal)) (onTc (τ := Cert.LabelReferenceIdeal.τ) (Cert.LabelReferenceIdeal.main (F := Ideal))) ⟨m, fun _ => 0, g⟩ (fun r => (∀ c : Dev Cert.LabelReferenceIdeal.nD,
      r.2.mem ((c.tc : Thread Cert.LabelReferenceIdeal.nD Cert.LabelReferenceIdeal.τ).loc Cert.LabelReferenceIdeal.main_arg0) = m ((c.tc : Thread Cert.LabelReferenceIdeal.nD Cert.LabelReferenceIdeal.τ).loc Cert.LabelReferenceIdeal.main_arg0)
      ∧ r.2.mem ((c.tc : Thread Cert.LabelReferenceIdeal.nD Cert.LabelReferenceIdeal.τ).loc Cert.LabelReferenceIdeal.main_arg1) = m ((c.tc : Thread Cert.LabelReferenceIdeal.nD Cert.LabelReferenceIdeal.τ).loc Cert.LabelReferenceIdeal.main_arg1)
      ∧ r.2.mem ((c.tc : Thread Cert.LabelReferenceIdeal.nD Cert.LabelReferenceIdeal.τ).loc Cert.LabelReferenceIdeal.main_arg2) = m ((c.tc : Thread Cert.LabelReferenceIdeal.nD Cert.LabelReferenceIdeal.τ).loc Cert.LabelReferenceIdeal.main_arg2)
      ∧ r.2.mem ((c.tc : Thread Cert.LabelReferenceIdeal.nD Cert.LabelReferenceIdeal.τ).loc Cert.LabelReferenceIdeal.main_arg3) = m ((c.tc : Thread Cert.LabelReferenceIdeal.nD Cert.LabelReferenceIdeal.τ).loc Cert.LabelReferenceIdeal.main_arg3)
      ∧ r.2.mem ((c.tc : Thread Cert.LabelReferenceIdeal.nD Cert.LabelReferenceIdeal.τ).loc Cert.LabelReferenceIdeal.main_arg4) = m ((c.tc : Thread Cert.LabelReferenceIdeal.nD Cert.LabelReferenceIdeal.τ).loc Cert.LabelReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Label_LabelIdeal : Prop :=
  True

def algebraic_LabelIdeal_LabelReferenceIdeal_pre_channels_in_range [hLabelIdeal : Cert.LabelIdeal.Facts] [hLabelReferenceIdeal : Cert.LabelReferenceIdeal.Facts] [hPre_channels_in_range : Cert.Pre_channels_in_range.Facts] : Prop :=
  ∀ (m : (ℓ : Loc Cert.LabelIdeal.nD Cert.LabelIdeal.τ Cert.LabelIdeal.sig) → Buf (Elt Ideal) ℓ) (g : Dev Cert.LabelIdeal.nD → PrngReg)
    (m' : (ℓ : Loc Cert.LabelReferenceIdeal.nD Cert.LabelReferenceIdeal.τ Cert.LabelReferenceIdeal.sig) → Buf (Elt Ideal) ℓ) (g' : Dev Cert.LabelReferenceIdeal.nD → PrngReg), Pre_LabelIdeal_channels_in_range m →
    (∀ c : Dev Cert.LabelIdeal.nD,
      m' ((c.tc : Thread Cert.LabelReferenceIdeal.nD Cert.LabelReferenceIdeal.τ).loc Cert.LabelReferenceIdeal.main_arg0) = m ((c.tc : Thread Cert.LabelIdeal.nD Cert.LabelIdeal.τ).loc Cert.LabelIdeal.main_arg0)
      ∧ m' ((c.tc : Thread Cert.LabelReferenceIdeal.nD Cert.LabelReferenceIdeal.τ).loc Cert.LabelReferenceIdeal.main_arg1) = m ((c.tc : Thread Cert.LabelIdeal.nD Cert.LabelIdeal.τ).loc Cert.LabelIdeal.main_arg1)
      ∧ m' ((c.tc : Thread Cert.LabelReferenceIdeal.nD Cert.LabelReferenceIdeal.τ).loc Cert.LabelReferenceIdeal.main_arg2) = m ((c.tc : Thread Cert.LabelIdeal.nD Cert.LabelIdeal.τ).loc Cert.LabelIdeal.main_arg2)
      ∧ m' ((c.tc : Thread Cert.LabelReferenceIdeal.nD Cert.LabelReferenceIdeal.τ).loc Cert.LabelReferenceIdeal.main_arg3) = m ((c.tc : Thread Cert.LabelIdeal.nD Cert.LabelIdeal.τ).loc Cert.LabelIdeal.main_arg3)
      ∧ m' ((c.tc : Thread Cert.LabelReferenceIdeal.nD Cert.LabelReferenceIdeal.τ).loc Cert.LabelReferenceIdeal.main_arg4) = m ((c.tc : Thread Cert.LabelIdeal.nD Cert.LabelIdeal.τ).loc Cert.LabelIdeal.main_arg4)) →
    ∃ (v0 : (c : Dev Cert.LabelIdeal.nD) → Buf (Elt Ideal) ((c.tc : Thread Cert.LabelIdeal.nD Cert.LabelIdeal.τ).loc Cert.LabelIdeal.main_v0)),
      θ_run (Cert.LabelIdeal.defs (F := Ideal)) (onTc (τ := Cert.LabelIdeal.τ) (Cert.LabelIdeal.main (F := Ideal))) ⟨m, fun _ => 0, g⟩ (fun r => ∀ c : Dev Cert.LabelIdeal.nD,
          r.2.mem ((c.tc : Thread Cert.LabelIdeal.nD Cert.LabelIdeal.τ).loc Cert.LabelIdeal.main_v0) = v0 c
          ∧ r.2.mem ((c.tc : Thread Cert.LabelIdeal.nD Cert.LabelIdeal.τ).loc Cert.LabelIdeal.main_arg0) = m ((c.tc : Thread Cert.LabelIdeal.nD Cert.LabelIdeal.τ).loc Cert.LabelIdeal.main_arg0)
          ∧ r.2.mem ((c.tc : Thread Cert.LabelIdeal.nD Cert.LabelIdeal.τ).loc Cert.LabelIdeal.main_arg1) = m ((c.tc : Thread Cert.LabelIdeal.nD Cert.LabelIdeal.τ).loc Cert.LabelIdeal.main_arg1)
          ∧ r.2.mem ((c.tc : Thread Cert.LabelIdeal.nD Cert.LabelIdeal.τ).loc Cert.LabelIdeal.main_arg2) = m ((c.tc : Thread Cert.LabelIdeal.nD Cert.LabelIdeal.τ).loc Cert.LabelIdeal.main_arg2)
          ∧ r.2.mem ((c.tc : Thread Cert.LabelIdeal.nD Cert.LabelIdeal.τ).loc Cert.LabelIdeal.main_arg3) = m ((c.tc : Thread Cert.LabelIdeal.nD Cert.LabelIdeal.τ).loc Cert.LabelIdeal.main_arg3)
          ∧ r.2.mem ((c.tc : Thread Cert.LabelIdeal.nD Cert.LabelIdeal.τ).loc Cert.LabelIdeal.main_arg4) = m ((c.tc : Thread Cert.LabelIdeal.nD Cert.LabelIdeal.τ).loc Cert.LabelIdeal.main_arg4))
      ∧ θ_run (Cert.LabelReferenceIdeal.defs (F := Ideal)) (onTc (τ := Cert.LabelReferenceIdeal.τ) (Cert.LabelReferenceIdeal.main (F := Ideal))) ⟨m', fun _ => 0, g'⟩ (fun r => ∀ c : Dev Cert.LabelReferenceIdeal.nD,
          r.2.mem ((c.tc : Thread Cert.LabelReferenceIdeal.nD Cert.LabelReferenceIdeal.τ).loc Cert.LabelReferenceIdeal.main_v36) = v0 c
          ∧ r.2.mem ((c.tc : Thread Cert.LabelReferenceIdeal.nD Cert.LabelReferenceIdeal.τ).loc Cert.LabelReferenceIdeal.main_arg0) = m' ((c.tc : Thread Cert.LabelReferenceIdeal.nD Cert.LabelReferenceIdeal.τ).loc Cert.LabelReferenceIdeal.main_arg0)
          ∧ r.2.mem ((c.tc : Thread Cert.LabelReferenceIdeal.nD Cert.LabelReferenceIdeal.τ).loc Cert.LabelReferenceIdeal.main_arg1) = m' ((c.tc : Thread Cert.LabelReferenceIdeal.nD Cert.LabelReferenceIdeal.τ).loc Cert.LabelReferenceIdeal.main_arg1)
          ∧ r.2.mem ((c.tc : Thread Cert.LabelReferenceIdeal.nD Cert.LabelReferenceIdeal.τ).loc Cert.LabelReferenceIdeal.main_arg2) = m' ((c.tc : Thread Cert.LabelReferenceIdeal.nD Cert.LabelReferenceIdeal.τ).loc Cert.LabelReferenceIdeal.main_arg2)
          ∧ r.2.mem ((c.tc : Thread Cert.LabelReferenceIdeal.nD Cert.LabelReferenceIdeal.τ).loc Cert.LabelReferenceIdeal.main_arg3) = m' ((c.tc : Thread Cert.LabelReferenceIdeal.nD Cert.LabelReferenceIdeal.τ).loc Cert.LabelReferenceIdeal.main_arg3)
          ∧ r.2.mem ((c.tc : Thread Cert.LabelReferenceIdeal.nD Cert.LabelReferenceIdeal.τ).loc Cert.LabelReferenceIdeal.main_arg4) = m' ((c.tc : Thread Cert.LabelReferenceIdeal.nD Cert.LabelReferenceIdeal.τ).loc Cert.LabelReferenceIdeal.main_arg4))

def Claim : Prop :=
  ∃ (hKernel : Cert.Kernel.Facts) (hKernelIdeal : Cert.KernelIdeal.Facts) (hReferenceIdeal : Cert.ReferenceIdeal.Facts) (hLabel : Cert.Label.Facts) (hLabelIdeal : Cert.LabelIdeal.Facts) (hLabelReferenceIdeal : Cert.LabelReferenceIdeal.Facts) (hPre_channels_in_range : Cert.Pre_channels_in_range.Facts),
    quiescent_Kernel (hKernel := hKernel)
    ∧ quiescent_KernelIdeal (hKernelIdeal := hKernelIdeal)
    ∧ quiescent_ReferenceIdeal (hReferenceIdeal := hReferenceIdeal)
    ∧ quiescent_Label (hLabel := hLabel)
    ∧ quiescent_LabelIdeal (hLabelIdeal := hLabelIdeal)
    ∧ quiescent_LabelIdeal_pre_channels_in_range (hLabelIdeal := hLabelIdeal) (hPre_channels_in_range := hPre_channels_in_range)
    ∧ quiescent_LabelReferenceIdeal (hLabelReferenceIdeal := hLabelReferenceIdeal)
    ∧ quiescent_LabelReferenceIdeal_pre_channels_in_range (hLabelReferenceIdeal := hLabelReferenceIdeal) (hPre_channels_in_range := hPre_channels_in_range)
    ∧ preserves_Kernel_KernelIdeal
    ∧ algebraic_KernelIdeal_ReferenceIdeal (hKernelIdeal := hKernelIdeal) (hReferenceIdeal := hReferenceIdeal)
    ∧ preserves_Label_LabelIdeal
    ∧ algebraic_LabelIdeal_LabelReferenceIdeal_pre_channels_in_range (hLabelIdeal := hLabelIdeal) (hLabelReferenceIdeal := hLabelReferenceIdeal) (hPre_channels_in_range := hPre_channels_in_range)
-- ==== Pre_channels_in_range.lean ====
abbrev S96 : Shape := ⟨1, ![96]⟩
abbrev S2x16 : Shape := ⟨2, ![2, 16]⟩
abbrev S96x2x2x8192 : Shape := ⟨4, ![96, 2, 2, 8192]⟩
abbrev S96x2x8192 : Shape := ⟨3, ![96, 2, 8192]⟩
abbrev S96x1536 : Shape := ⟨2, ![96, 1536]⟩
abbrev S_ : Shape := ⟨0, ![]⟩

class Facts : Prop where
  bcast_S_S2x16 : S_.BroadcastsInDim S2x16 (![] : Fin 0 → Fin S2x16.rank)

variable [Facts]

def fn {F : FTy → Type} [FloatOps F] (main_arg0 : IVec S96 32) (main_arg1 : IVec S2x16 32) (main_arg2 : IVec S96x2x2x8192 32) (main_arg3 : FVec F S96x2x8192 .f32) (main_arg4 : FVec F S96x1536 .bf16) : IVec S2x16 1 :=
  let main_c : IVec S_ 32 := constantI S_ 32 0#32
  let main_v0 : IVec S2x16 32 := broadcastInDim S2x16 ![] bcast_S_S2x16 main_c
  let main_v1 : IVec S2x16 1 := cmpi .sge main_arg1 main_v0
  let main_c_0 : IVec S_ 32 := constantI S_ 32 128#32
  let main_v2 : IVec S2x16 32 := broadcastInDim S2x16 ![] bcast_S_S2x16 main_c_0
  let main_v3 : IVec S2x16 1 := cmpi .slt main_arg1 main_v2
  let main_v4 : IVec S2x16 1 := andi main_v1 main_v3
  main_v4
-- ==== Kernel.lean ====
abbrev S96x1536 : Shape := ⟨2, ![96, 1536]⟩
abbrev S96x2x128 : Shape := ⟨3, ![96, 2, 128]⟩
abbrev S24576x128 : Shape := ⟨2, ![24576, 128]⟩
abbrev S2x96x512 : Shape := ⟨3, ![2, 96, 512]⟩
abbrev S12x96x513 : Shape := ⟨3, ![12, 96, 513]⟩
abbrev S8x1536 : Shape := ⟨2, ![8, 1536]⟩
abbrev S8x2x128 : Shape := ⟨3, ![8, 2, 128]⟩
abbrev S2048x128 : Shape := ⟨2, ![2048, 128]⟩
abbrev S2x8x512 : Shape := ⟨3, ![2, 8, 512]⟩
abbrev S12x8x513 : Shape := ⟨3, ![12, 8, 513]⟩
abbrev S8x128 : Shape := ⟨2, ![8, 128]⟩
abbrev S96x128 : Shape := ⟨2, ![96, 128]⟩
abbrev S96x1 : Shape := ⟨2, ![96, 1]⟩
abbrev S96x256 : Shape := ⟨2, ![96, 256]⟩
abbrev S128x128 : Shape := ⟨2, ![128, 128]⟩
abbrev S512x128 : Shape := ⟨2, ![512, 128]⟩
abbrev S512x256 : Shape := ⟨2, ![512, 256]⟩
abbrev S96x512 : Shape := ⟨2, ![96, 512]⟩
abbrev S1x8x512 : Shape := ⟨3, ![1, 8, 512]⟩
abbrev S8x512 : Shape := ⟨2, ![8, 512]⟩
abbrev S8x1x128 : Shape := ⟨3, ![8, 1, 128]⟩
abbrev S8 : Shape := ⟨1, ![8]⟩
abbrev S8x1 : Shape := ⟨2, ![8, 1]⟩
abbrev S1x8x1 : Shape := ⟨3, ![1, 8, 1]⟩
abbrev S96 : Shape := ⟨1, ![96]⟩

abbrev nBuf : Space → Nat
  | .hbm => 9
  | .vmem => 18
  | .smem => 0
  | _ => 0

abbrev bufTy : (tb : Table) → Fin (tcTables nBuf tb) → BufTy
  | .hbm, ⟨0, _⟩ => ⟨S96x1536, .bf16⟩
  | .hbm, ⟨1, _⟩ => ⟨S96x2x128, .bf16⟩
  | .hbm, ⟨2, _⟩ => ⟨S96x2x128, .bf16⟩
  | .hbm, ⟨3, _⟩ => ⟨S24576x128, .i32⟩
  | .hbm, ⟨4, _⟩ => ⟨S24576x128, .i32⟩
  | .hbm, ⟨5, _⟩ => ⟨S2x96x512, .f32⟩
  | .hbm, ⟨6, _⟩ => ⟨S2x96x512, .f32⟩
  | .hbm, ⟨7, _⟩ => ⟨S96x1536, .bf16⟩
  | .hbm, ⟨8, _⟩ => ⟨S12x96x513, .f32⟩
  | .local _ .vmem, ⟨0, _⟩ => ⟨S8x1536, .bf16⟩
  | .local _ .vmem, ⟨1, _⟩ => ⟨S8x1536, .bf16⟩
  | .local _ .vmem, ⟨2, _⟩ => ⟨S8x2x128, .bf16⟩
  | .local _ .vmem, ⟨3, _⟩ => ⟨S8x2x128, .bf16⟩
  | .local _ .vmem, ⟨4, _⟩ => ⟨S8x2x128, .bf16⟩
  | .local _ .vmem, ⟨5, _⟩ => ⟨S8x2x128, .bf16⟩
  | .local _ .vmem, ⟨6, _⟩ => ⟨S2048x128, .i32⟩
  | .local _ .vmem, ⟨7, _⟩ => ⟨S2048x128, .i32⟩
  | .local _ .vmem, ⟨8, _⟩ => ⟨S2048x128, .i32⟩
  | .local _ .vmem, ⟨9, _⟩ => ⟨S2048x128, .i32⟩
  | .local _ .vmem, ⟨10, _⟩ => ⟨S2x8x512, .f32⟩
  | .local _ .vmem, ⟨11, _⟩ => ⟨S2x8x512, .f32⟩
  | .local _ .vmem, ⟨12, _⟩ => ⟨S2x8x512, .f32⟩
  | .local _ .vmem, ⟨13, _⟩ => ⟨S2x8x512, .f32⟩
  | .local _ .vmem, ⟨14, _⟩ => ⟨S8x1536, .bf16⟩
  | .local _ .vmem, ⟨15, _⟩ => ⟨S8x1536, .bf16⟩
  | .local _ .vmem, ⟨16, _⟩ => ⟨S12x8x513, .f32⟩
  | .local _ .vmem, ⟨17, _⟩ => ⟨S12x8x513, .f32⟩
  | _, _ => ⟨S96x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S12x8x513 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S96x1536 : Shape := ⟨2, ![96, 1536]⟩
abbrev S96x2x128 : Shape := ⟨3, ![96, 2, 128]⟩
abbrev S24576x128 : Shape := ⟨2, ![24576, 128]⟩
abbrev S2x96x512 : Shape := ⟨3, ![2, 96, 512]⟩
abbrev S12x96x513 : Shape := ⟨3, ![12, 96, 513]⟩
abbrev S192x6x128 : Shape := ⟨3, ![192, 6, 128]⟩
abbrev S98304x128 : Shape := ⟨2, ![98304, 128]⟩
abbrev S192x512x128 : Shape := ⟨3, ![192, 512, 128]⟩
abbrev S192x1x128 : Shape := ⟨3, ![192, 1, 128]⟩
abbrev S96x2x512 : Shape := ⟨3, ![96, 2, 512]⟩
abbrev S192x1x512 : Shape := ⟨3, ![192, 1, 512]⟩
abbrev S192x6x512 : Shape := ⟨3, ![192, 6, 512]⟩
abbrev S192x6x1 : Shape := ⟨3, ![192, 6, 1]⟩
abbrev S192x6x513 : Shape := ⟨3, ![192, 6, 513]⟩
abbrev S192x6 : Shape := ⟨2, ![192, 6]⟩
abbrev S96x12x513 : Shape := ⟨3, ![96, 12, 513]⟩

abbrev nBuf : Space → Nat
  | .hbm => 9
  | .vmem => 9
  | .smem => 0
  | _ => 0

abbrev bufTy : (tb : Table) → Fin (tcTables nBuf tb) → BufTy
  | .hbm, ⟨0, _⟩ => ⟨S96x1536, .bf16⟩
  | .hbm, ⟨1, _⟩ => ⟨S96x2x128, .bf16⟩
  | .hbm, ⟨2, _⟩ => ⟨S96x2x128, .bf16⟩
  | .hbm, ⟨3, _⟩ => ⟨S24576x128, .i32⟩
  | .hbm, ⟨4, _⟩ => ⟨S24576x128, .i32⟩
  | .hbm, ⟨5, _⟩ => ⟨S2x96x512, .f32⟩
  | .hbm, ⟨6, _⟩ => ⟨S2x96x512, .f32⟩
  | .hbm, ⟨7, _⟩ => ⟨S96x1536, .bf16⟩
  | .hbm, ⟨8, _⟩ => ⟨S12x96x513, .f32⟩
  | .local _ .vmem, ⟨0, _⟩ => ⟨S96x1536, .bf16⟩
  | .local _ .vmem, ⟨1, _⟩ => ⟨S96x2x128, .bf16⟩
  | .local _ .vmem, ⟨2, _⟩ => ⟨S96x2x128, .bf16⟩
  | .local _ .vmem, ⟨3, _⟩ => ⟨S24576x128, .i32⟩
  | .local _ .vmem, ⟨4, _⟩ => ⟨S24576x128, .i32⟩
  | .local _ .vmem, ⟨5, _⟩ => ⟨S2x96x512, .f32⟩
  | .local _ .vmem, ⟨6, _⟩ => ⟨S2x96x512, .f32⟩
  | .local _ .vmem, ⟨7, _⟩ => ⟨S96x1536, .bf16⟩
  | .local _ .vmem, ⟨8, _⟩ => ⟨S12x96x513, .f32⟩
  | _, _ => ⟨S96x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S96x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x2x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x2x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x96x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x96x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x96x513 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Label.lean ====
abbrev S96 : Shape := ⟨1, ![96]⟩
abbrev S2x16 : Shape := ⟨2, ![2, 16]⟩
abbrev S96x2x2x8192 : Shape := ⟨4, ![96, 2, 2, 8192]⟩
abbrev S96x2x8192 : Shape := ⟨3, ![96, 2, 8192]⟩
abbrev S96x1536 : Shape := ⟨2, ![96, 1536]⟩
abbrev S12x96x8192 : Shape := ⟨3, ![12, 96, 8192]⟩
abbrev S8x1536 : Shape := ⟨2, ![8, 1536]⟩
abbrev S12x8x8192 : Shape := ⟨3, ![12, 8, 8192]⟩
abbrev S2x32x8192 : Shape := ⟨3, ![2, 32, 8192]⟩
abbrev S2x2x8x8192 : Shape := ⟨4, ![2, 2, 8, 8192]⟩
abbrev S128x256 : Shape := ⟨2, ![128, 256]⟩
abbrev S2 : Shape := ⟨1, ![2]⟩
abbrev S1 : Shape := ⟨1, ![1]⟩
abbrev S_ : Shape := ⟨0, ![]⟩
abbrev S1x1x1x8192 : Shape := ⟨4, ![1, 1, 1, 8192]⟩
abbrev S8192 : Shape := ⟨1, ![8192]⟩
abbrev S1x1x8192 : Shape := ⟨3, ![1, 1, 8192]⟩
abbrev S1x256 : Shape := ⟨2, ![1, 256]⟩
abbrev S1x1 : Shape := ⟨2, ![1, 1]⟩
abbrev S8x128 : Shape := ⟨2, ![8, 128]⟩
abbrev S96x128 : Shape := ⟨2, ![96, 128]⟩
abbrev S96x256 : Shape := ⟨2, ![96, 256]⟩
abbrev S96x1 : Shape := ⟨2, ![96, 1]⟩
abbrev S8x1 : Shape := ⟨2, ![8, 1]⟩
abbrev S1x32x1024 : Shape := ⟨3, ![1, 32, 1024]⟩
abbrev S32x1024 : Shape := ⟨2, ![32, 1024]⟩
abbrev S64x1024 : Shape := ⟨2, ![64, 1024]⟩
abbrev S256x1024 : Shape := ⟨2, ![256, 1024]⟩
abbrev S96x1024 : Shape := ⟨2, ![96, 1024]⟩
abbrev S8x1024 : Shape := ⟨2, ![8, 1024]⟩
abbrev S1x1x8x1024 : Shape := ⟨4, ![1, 1, 8, 1024]⟩
abbrev S1x8x1024 : Shape := ⟨3, ![1, 8, 1024]⟩

abbrev nBuf : Space → Nat
  | .hbm => 6
  | .vmem => 7
  | .smem => 2
  | _ => 0

abbrev bufTy : (tb : Table) → Fin (tcTables nBuf tb) → BufTy
  | .hbm, ⟨0, _⟩ => ⟨S96, .i32⟩
  | .hbm, ⟨1, _⟩ => ⟨S2x16, .i32⟩
  | .hbm, ⟨2, _⟩ => ⟨S96x2x2x8192, .i32⟩
  | .hbm, ⟨3, _⟩ => ⟨S96x2x8192, .f32⟩
  | .hbm, ⟨4, _⟩ => ⟨S96x1536, .bf16⟩
  | .hbm, ⟨5, _⟩ => ⟨S12x96x8192, .f32⟩
  | .local _ .vmem, ⟨0, _⟩ => ⟨S8x1536, .bf16⟩
  | .local _ .vmem, ⟨1, _⟩ => ⟨S8x1536, .bf16⟩
  | .local _ .vmem, ⟨2, _⟩ => ⟨S12x8x8192, .f32⟩
  | .local _ .vmem, ⟨3, _⟩ => ⟨S12x8x8192, .f32⟩
  | .local _ .vmem, ⟨4, _⟩ => ⟨S2x32x8192, .i32⟩
  | .local _ .vmem, ⟨5, _⟩ => ⟨S2x2x8x8192, .f32⟩
  | .local _ .vmem, ⟨6, _⟩ => ⟨S128x256, .bf16⟩
  | .local _ .smem, ⟨0, _⟩ => ⟨S96, .i32⟩
  | .local _ .smem, ⟨1, _⟩ => ⟨S2x16, .i32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c1_i32 : BitVec 32 := 1#32
  let v4 : BitVec 32 := Scalar.addi arg0 c1_i32
  let c12_i32 : BitVec 32 := 12#32
  let v5 : BitVec 1 := Scalar.cmpi .slt v4 c12_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  ![v699.toNat]
def k0_off2 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_509 : BitVec 32 := 0#32
  let c0_i32_510 : BitVec 32 := 0#32
  let c0_i32_511 : BitVec 32 := 0#32
  ![v699.toNat, 0, 0, 0]
def k0_off3 (i : grid0.Coords) (c0_i32_413 : BitVec 32) : Fin 3 → Nat :=
  let arg0 : BitVec 32 := BitVec.ofNat 32 (i 0).val
  let c1_i32_410 : BitVec 32 := 1#32
  let v698 : BitVec 32 := Scalar.addi arg0 c1_i32_410
  let c8_i32_412 : BitVec 32 := 8#32
  let v700 : BitVec 32 := Scalar.muli v698 c8_i32_412
  let v701 : BitVec 32 := Scalar.addi v700 c0_i32_413
  let c0_i32_508 : BitVec 32 := 0#32
  let c0_i32_512 : BitVec 32 := 0#32
  ![v701.toNat, 0, 0]
def k0_off4 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_515 : BitVec 32 := 0#32
  let c0_i32_516 : BitVec 32 := 0#32
  ![v699.toNat, 0, 0]
def k0_off5 (i : grid0.Coords) (c0_i32_415 : BitVec 32) : Fin 4 → Nat :=
  let arg0 : BitVec 32 := BitVec.ofNat 32 (i 0).val
  let c1_i32_410 : BitVec 32 := 1#32
  let v698 : BitVec 32 := Scalar.addi arg0 c1_i32_410
  let c8_i32_414 : BitVec 32 := 8#32
  let v702 : BitVec 32 := Scalar.muli v698 c8_i32_414
  let v703 : BitVec 32 := Scalar.addi v702 c0_i32_415
  let c0_i32_513 : BitVec 32 := 0#32
  let c0_i32_514 : BitVec 32 := 0#32
  let c0_i32_517 : BitVec 32 := 0#32
  ![v703.toNat, 0, 0, 0]
def k0_off6 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c16_i32_520 : BitVec 32 := 16#32
  let c0_i32_521 : BitVec 32 := 0#32
  ![v699.toNat, 16, 0]
def k0_off7 (i : grid0.Coords) (c0_i32_417 : BitVec 32) : Fin 4 → Nat :=
  let arg0 : BitVec 32 := BitVec.ofNat 32 (i 0).val
  let c1_i32_410 : BitVec 32 := 1#32
  let v698 : BitVec 32 := Scalar.addi arg0 c1_i32_410
  let c8_i32_416 : BitVec 32 := 8#32
  let v704 : BitVec 32 := Scalar.muli v698 c8_i32_416
  let v705 : BitVec 32 := Scalar.addi v704 c0_i32_417
  let c0_i32_518 : BitVec 32 := 0#32
  let c1_i32_519 : BitVec 32 := 1#32
  let c0_i32_522 : BitVec 32 := 0#32
  ![v705.toNat, 0, 1, 0]
def k0_off8 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_524 : BitVec 32 := 1#32
  let c0_i32_525 : BitVec 32 := 0#32
  let c0_i32_526 : BitVec 32 := 0#32
  ![v699.toNat, 1, 0, 0]
def k0_off9 (i : grid0.Coords) (c0_i32_419 : BitVec 32) : Fin 3 → Nat :=
  let arg0 : BitVec 32 := BitVec.ofNat 32 (i 0).val
  let c1_i32_410 : BitVec 32 := 1#32
  let v698 : BitVec 32 := Scalar.addi arg0 c1_i32_410
  let c8_i32_418 : BitVec 32 := 8#32
  let v706 : BitVec 32 := Scalar.muli v698 c8_i32_418
  let v707 : BitVec 32 := Scalar.addi v706 c0_i32_419
  let c1_i32_523 : BitVec 32 := 1#32
  let c0_i32_527 : BitVec 32 := 0#32
  ![v707.toNat, 1, 0]
def k0_off10 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_530 : BitVec 32 := 1#32
  let c0_i32_531 : BitVec 32 := 0#32
  ![v699.toNat, 1, 0]
def k0_off11 (i : grid0.Coords) (c0_i32_421 : BitVec 32) : Fin 4 → Nat :=
  let arg0 : BitVec 32 := BitVec.ofNat 32 (i 0).val
  let c1_i32_410 : BitVec 32 := 1#32
  let v698 : BitVec 32 := Scalar.addi arg0 c1_i32_410
  let c8_i32_420 : BitVec 32 := 8#32
  let v708 : BitVec 32 := Scalar.muli v698 c8_i32_420
  let v709 : BitVec 32 := Scalar.addi v708 c0_i32_421
  let c1_i32_528 : BitVec 32 := 1#32
  let c0_i32_529 : BitVec 32 := 0#32
  let c0_i32_532 : BitVec 32 := 0#32
  ![v709.toNat, 1, 0, 0]
def k0_off12 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c17_i32_535 : BitVec 32 := 17#32
  let c0_i32_536 : BitVec 32 := 0#32
  ![v699.toNat, 17, 0]
def k0_off13 (i : grid0.Coords) (c0_i32_423 : BitVec 32) : Fin 4 → Nat :=
  let arg0 : BitVec 32 := BitVec.ofNat 32 (i 0).val
  let c1_i32_410 : BitVec 32 := 1#32
  let v698 : BitVec 32 := Scalar.addi arg0 c1_i32_410
  let c8_i32_422 : BitVec 32 := 8#32
  let v710 : BitVec 32 := Scalar.muli v698 c8_i32_422
  let v711 : BitVec 32 := Scalar.addi v710 c0_i32_423
  let c1_i32_533 : BitVec 32 := 1#32
  let c1_i32_534 : BitVec 32 := 1#32
  let c0_i32_537 : BitVec 32 := 0#32
  ![v711.toNat, 1, 1, 0]
def k0_off14 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_539 : BitVec 32 := 0#32
  let c1_i32_540 : BitVec 32 := 1#32
  let c0_i32_541 : BitVec 32 := 0#32
  ![v699.toNat, 0, 1, 0]
def k0_off15 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c2_i32_545 : BitVec 32 := 2#32
  let c0_i32_546 : BitVec 32 := 0#32
  ![v699.toNat, 2, 0]
def k0_off16 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c18_i32_550 : BitVec 32 := 18#32
  let c0_i32_551 : BitVec 32 := 0#32
  ![v699.toNat, 18, 0]
def k0_off17 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_554 : BitVec 32 := 1#32
  let c1_i32_555 : BitVec 32 := 1#32
  let c0_i32_556 : BitVec 32 := 0#32
  ![v699.toNat, 1, 1, 0]
def k0_off18 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c3_i32_560 : BitVec 32 := 3#32
  let c0_i32_561 : BitVec 32 := 0#32
  ![v699.toNat, 3, 0]
def k0_off19 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c19_i32_565 : BitVec 32 := 19#32
  let c0_i32_566 : BitVec 32 := 0#32
  ![v699.toNat, 19, 0]
def k0_off20 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_569 : BitVec 32 := 0#32
  let c2_i32_570 : BitVec 32 := 2#32
  let c0_i32_571 : BitVec 32 := 0#32
  ![v699.toNat, 0, 2, 0]
def k0_off21 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c4_i32_575 : BitVec 32 := 4#32
  let c0_i32_576 : BitVec 32 := 0#32
  ![v699.toNat, 4, 0]
def k0_off22 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c20_i32_580 : BitVec 32 := 20#32
  let c0_i32_581 : BitVec 32 := 0#32
  ![v699.toNat, 20, 0]
def k0_off23 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_584 : BitVec 32 := 1#32
  let c2_i32_585 : BitVec 32 := 2#32
  let c0_i32_586 : BitVec 32 := 0#32
  ![v699.toNat, 1, 2, 0]
def k0_off24 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c5_i32_590 : BitVec 32 := 5#32
  let c0_i32_591 : BitVec 32 := 0#32
  ![v699.toNat, 5, 0]
def k0_off25 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c21_i32_595 : BitVec 32 := 21#32
  let c0_i32_596 : BitVec 32 := 0#32
  ![v699.toNat, 21, 0]
def k0_off26 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_599 : BitVec 32 := 0#32
  let c3_i32_600 : BitVec 32 := 3#32
  let c0_i32_601 : BitVec 32 := 0#32
  ![v699.toNat, 0, 3, 0]
def k0_off27 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c6_i32_605 : BitVec 32 := 6#32
  let c0_i32_606 : BitVec 32 := 0#32
  ![v699.toNat, 6, 0]
def k0_off28 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c22_i32_610 : BitVec 32 := 22#32
  let c0_i32_611 : BitVec 32 := 0#32
  ![v699.toNat, 22, 0]
def k0_off29 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_614 : BitVec 32 := 1#32
  let c3_i32_615 : BitVec 32 := 3#32
  let c0_i32_616 : BitVec 32 := 0#32
  ![v699.toNat, 1, 3, 0]
def k0_off30 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c7_i32_620 : BitVec 32 := 7#32
  let c0_i32_621 : BitVec 32 := 0#32
  ![v699.toNat, 7, 0]
def k0_off31 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c23_i32_625 : BitVec 32 := 23#32
  let c0_i32_626 : BitVec 32 := 0#32
  ![v699.toNat, 23, 0]
def k0_off32 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_629 : BitVec 32 := 0#32
  let c4_i32_630 : BitVec 32 := 4#32
  let c0_i32_631 : BitVec 32 := 0#32
  ![v699.toNat, 0, 4, 0]
def k0_off33 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c8_i32_635 : BitVec 32 := 8#32
  let c0_i32_636 : BitVec 32 := 0#32
  ![v699.toNat, 8, 0]
def k0_off34 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c24_i32_640 : BitVec 32 := 24#32
  let c0_i32_641 : BitVec 32 := 0#32
  ![v699.toNat, 24, 0]
def k0_off35 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_644 : BitVec 32 := 1#32
  let c4_i32_645 : BitVec 32 := 4#32
  let c0_i32_646 : BitVec 32 := 0#32
  ![v699.toNat, 1, 4, 0]
def k0_off36 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c9_i32_650 : BitVec 32 := 9#32
  let c0_i32_651 : BitVec 32 := 0#32
  ![v699.toNat, 9, 0]
def k0_off37 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c25_i32_655 : BitVec 32 := 25#32
  let c0_i32_656 : BitVec 32 := 0#32
  ![v699.toNat, 25, 0]
def k0_off38 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_659 : BitVec 32 := 0#32
  let c5_i32_660 : BitVec 32 := 5#32
  let c0_i32_661 : BitVec 32 := 0#32
  ![v699.toNat, 0, 5, 0]
def k0_off39 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c10_i32_665 : BitVec 32 := 10#32
  let c0_i32_666 : BitVec 32 := 0#32
  ![v699.toNat, 10, 0]
def k0_off40 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c26_i32_670 : BitVec 32 := 26#32
  let c0_i32_671 : BitVec 32 := 0#32
  ![v699.toNat, 26, 0]
def k0_off41 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_674 : BitVec 32 := 1#32
  let c5_i32_675 : BitVec 32 := 5#32
  let c0_i32_676 : BitVec 32 := 0#32
  ![v699.toNat, 1, 5, 0]
def k0_off42 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c11_i32_680 : BitVec 32 := 11#32
  let c0_i32_681 : BitVec 32 := 0#32
  ![v699.toNat, 11, 0]
def k0_off43 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c27_i32_685 : BitVec 32 := 27#32
  let c0_i32_686 : BitVec 32 := 0#32
  ![v699.toNat, 27, 0]
def k0_off44 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_689 : BitVec 32 := 0#32
  let c6_i32_690 : BitVec 32 := 6#32
  let c0_i32_691 : BitVec 32 := 0#32
  ![v699.toNat, 0, 6, 0]
def k0_off45 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c12_i32_695 : BitVec 32 := 12#32
  let c0_i32_696 : BitVec 32 := 0#32
  ![v699.toNat, 12, 0]
def k0_off46 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c28_i32_700 : BitVec 32 := 28#32
  let c0_i32_701 : BitVec 32 := 0#32
  ![v699.toNat, 28, 0]
def k0_off47 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_704 : BitVec 32 := 1#32
  let c6_i32_705 : BitVec 32 := 6#32
  let c0_i32_706 : BitVec 32 := 0#32
  ![v699.toNat, 1, 6, 0]
def k0_off48 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c13_i32_710 : BitVec 32 := 13#32
  let c0_i32_711 : BitVec 32 := 0#32
  ![v699.toNat, 13, 0]
def k0_off49 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c29_i32_715 : BitVec 32 := 29#32
  let c0_i32_716 : BitVec 32 := 0#32
  ![v699.toNat, 29, 0]
def k0_off50 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c0_i32_719 : BitVec 32 := 0#32
  let c7_i32_720 : BitVec 32 := 7#32
  let c0_i32_721 : BitVec 32 := 0#32
  ![v699.toNat, 0, 7, 0]
def k0_off51 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c14_i32_725 : BitVec 32 := 14#32
  let c0_i32_726 : BitVec 32 := 0#32
  ![v699.toNat, 14, 0]
def k0_off52 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c30_i32_730 : BitVec 32 := 30#32
  let c0_i32_731 : BitVec 32 := 0#32
  ![v699.toNat, 30, 0]
def k0_off53 (i : grid0.Coords) : Fin 4 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c1_i32_734 : BitVec 32 := 1#32
  let c7_i32_735 : BitVec 32 := 7#32
  let c0_i32_736 : BitVec 32 := 0#32
  ![v699.toNat, 1, 7, 0]
def k0_off54 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c15_i32_740 : BitVec 32 := 15#32
  let c0_i32_741 : BitVec 32 := 0#32
  ![v699.toNat, 15, 0]
def k0_off55 (i : grid0.Coords) : Fin 3 → Nat :=
  let c1_i32_411 : BitVec 32 := 1#32
  let arg0 : BitVec 32 := BitVec.ofNat 32 (i 0).val
  let c2_i32 : BitVec 32 := 2#32
  let v0 : BitVec 32 := Scalar.remsi arg0 c2_i32
  let v699 : BitVec 32 := Scalar.subi c1_i32_411 v0
  let c31_i32_745 : BitVec 32 := 31#32
  let c0_i32_746 : BitVec 32 := 0#32
  ![v699.toNat, 31, 0]
def k0_off56 (i : grid0.Coords) (c0_i32_73 : BitVec 32) : Fin 1 → Nat :=
  let arg0 : BitVec 32 := BitVec.ofNat 32 (i 0).val
  let c8_i32_72 : BitVec 32 := 8#32
  let v251 : BitVec 32 := Scalar.muli arg0 c8_i32_72
  let v252 : BitVec 32 := Scalar.addi v251 c0_i32_73
  let v253 : Index := Scalar.indexCast v252
  ![v253.toNat]
def k0_off57 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off58 (i : grid0.Coords) : Fin 4 → Nat :=
  let arg0 : BitVec 32 := BitVec.ofNat 32 (i 0).val
  let c2_i32 : BitVec 32 := 2#32
  let v0 : BitVec 32 := Scalar.remsi arg0 c2_i32
  let c0_i32_188 : BitVec 32 := 0#32
  let c0_i32_189 : BitVec 32 := 0#32
  let c0_i32_190 : BitVec 32 := 0#32
  ![v0.toNat, 0, 0, 0]
def k0_off59 (i : grid0.Coords) (c0_i32_92 : BitVec 32) : Fin 3 → Nat :=
  let arg0 : BitVec 32 := BitVec.ofNat 32 (i 0).val
  let c8_i32_91 : BitVec 32 := 8#32
  let v313 : BitVec 32 := Scalar.muli arg0 c8_i32_91
  let v314 : BitVec 32 := Scalar.addi v313 c0_i32_92
  let c0_i32_187 : BitVec 32 := 0#32
  let c0_i32_191 : BitVec 32 := 0#32
  ![v314.toNat, 0, 0]
def k0_off60 (i : grid0.Coords) : Fin 3 → Nat :=
  let arg0 : BitVec 32 := BitVec.ofNat 32 (i 0).val
  let c2_i32 : BitVec 32 := 2#32
  let v0 : BitVec 32 := Scalar.remsi arg0 c2_i32
  let c0_i32_194 : BitVec 32 := 0#32
  let c0_i32_195 : BitVec 32 := 0#32
  ![v0.toNat, 0, 0]
def k0_off61 (i : grid0.Coords) (c0_i32_94 : BitVec 32) : Fin 4 → Nat :=
  let arg0 : BitVec 32 := BitVec.ofNat 32 (i 0).val
  let c8_i32_93 : BitVec 32 := 8#32
  let v315 : BitVec 32 := Scalar.muli arg0 c8_i32_93
  let v316 : BitVec 32 := Scalar.addi v315 c0_i32_94
  let c0_i32_192 : BitVec 32 := 0#32
  let c0_i32_193 : BitVec 32 := 0#32
  let c0_i32_196 : BitVec 32 := 0#32
  ![v316.toNat, 0, 0, 0]
def k0_off62 (i : grid0.Coords) : Fin 3 → Nat :=
  let arg0 : BitVec 32 := BitVec.ofNat 32 (i 0).val
  let c2_i32 : BitVec 32 := 2#32
  let v0 : BitVec 32 := Scalar.remsi arg0 c2_i32
  let c16_i32_199 : BitVec 32 := 16#32
  let c0_i32_200 : BitVec 32 := 0#32
  ![v0.toNat, 16, 0]
def k0_off63 (i : grid0.Coords) (c0_i32_96 : BitVec 32) : Fin 4 → Nat :=
  let arg0 : BitVec 32 := BitVec.ofNat 32 (i 0).val
  let c8_i32_95 : BitVec 32 := 8#32
  let v317 : BitVec 32 := Scalar.muli arg0 c8_i32_95
  let v318 : BitVec 32 := Scalar.addi v317 c0_i32_96
  let c0_i32_197 : BitVec 32 := 0#32
  let c1_i32_198 : BitVec 32 := 1#32
  let c0_i32_201 : BitVec 32 := 0#32
  ![v318.toNat, 0, 1, 0]
def k0_off64 (i : grid0.Coords) : Fin 4 → Nat :=
  let arg0 : BitVec 32 := BitVec.ofNat 32 (i 0).val
  let c2_i32 : BitVec 32 := 2#32
  let v0 : BitVec 32 := Scalar.remsi arg0 c2_i32
  let c1_i32_203 : BitVec 32 := 1#32
  let c0_i32_204 : BitVec 32 := 0#32
  let c0_i32_205 : BitVec 32 := 0#32
  ![v0.toNat, 1, 0, 0]
def k0_off65 (i : grid0.Coords) (c0_i32_98 : BitVec 32) : Fin 3 → Nat :=
  let arg0 : BitVec 32 := BitVec.ofNat 32 (i 0).val
  let c8_i32_97 : BitVec 32 := 8#32
  let v319 : BitVec 32 := Scalar.muli arg0 c8_i32_97
  let v320 : BitVec 32 := Scalar.addi v319 c0_i32_98
  let c1_i32_202 : BitVec 32 := 1#32
  let c0_i32_206 : BitVec 32 := 0#32
  ![v320.toNat, 1, 0]
def k0_off66 (i : grid0.Coords) : Fin 3 → Nat :=
  let arg0 : BitVec 32 := BitVec.ofNat 32 (i 0).val
  let c2_i32 : BitVec 32 := 2#32
  let v0 : BitVec 32 := Scalar.remsi arg0 c2_i32
  let c1_i32_209 : BitVec 32 := 1#32
  let c0_i32_210 : BitVec 32 := 0#32
  ![v0.toNat, 1, 0]
def k0_off67 (i : grid0.Coords) (c0_i32_100 : BitVec 32) : Fin 4 → Nat :=
  let arg0 : BitVec 32 := BitVec.ofNat 32 (i 0).val
  let c8_i32_99 : BitVec 32 := 8#32
  let v321 : BitVec 32 := Scalar.muli arg0 c8_i32_99
  let v322 : BitVec 32 := Scalar.addi v321 c0_i32_100
  let c1_i32_207 : BitVec 32 := 1#32
  let c0_i32_208 : BitVec 32 := 0#32
  let c0_i32_211 : BitVec 32 := 0#32
  ![v322.toNat, 1, 0, 0]
def k0_off68 (i : grid0.Coords) : Fin 3 → Nat :=
  let arg0 : BitVec 32 := BitVec.ofNat 32 (i 0).val
  let c2_i32 : BitVec 32 := 2#32
  let v0 : BitVec 32 := Scalar.remsi arg0 c2_i32
  let c17_i32 : BitVec 32 := 17#32
  let c0_i32_214 : BitVec 32 := 0#32
  ![v0.toNat, 17, 0]
def k0_off69 (i : grid0.Coords) (c0_i32_102 : BitVec 32) : Fin 4 → Nat :=
  let arg0 : BitVec 32 := BitVec.ofNat 32 (i 0).val
  let c8_i32_101 : BitVec 32 := 8#32
  let v323 : BitVec 32 := Scalar.muli arg0 c8_i32_101
  let v324 : BitVec 32 := Scalar.addi v323 c0_i32_102
  let c1_i32_212 : BitVec 32 := 1#32
  let c1_i32_213 : BitVec 32 := 1#32
  let c0_i32_215 : BitVec 32 := 0#32
  ![v324.toNat, 1, 1, 0]
def k0_off70 (i : grid0.Coords) : Fin 4 → Nat :=
  let arg0 : BitVec 32 := BitVec.ofNat 32 (i 0).val
  let c2_i32 : BitVec 32 := 2#32
  let v0 : BitVec 32 := Scalar.remsi arg0 c2_i32
  let c0_i32_217 : BitVec 32 := 0#32
  let c1_i32_218 : BitVec 32 := 1#32
  let c0_i32_219 : BitVec 32 := 0#32
  ![v0.toNat, 0, 1, 0]
def k0_off71 (i : grid0.Coords) : Fin 3 → Nat :=
  let arg0 : BitVec 32 := BitVec.ofNat 32 (i 0).val
  let c2_i32 : BitVec 32 := 2#32
  let v0 : BitVec 32 := Scalar.remsi arg0 c2_i32
  let c2_i32_223 : BitVec 32 := 2#32
  let c0_i32_224 : BitVec 32 := 0#32
  ![v0.toNat, 2, 0]
def k0_off72 (i : grid0.Coords) : Fin 3 → Nat :=
  let arg0 : BitVec 32 := BitVec.ofNat 32 (i 0).val
  let c2_i32 : BitVec 32 := 2#32
  let v0 : BitVec 32 := Scalar.remsi arg0 c2_i32
  let c18_i32 : BitVec 32 := 18#32
  let c0_i32_228 : BitVec 32 := 0#32
  ![v0.toNat, 18, 0]
def k0_off73 (i : grid0.Coords) : Fin 4 → Nat :=
  let arg0 : BitVec 32 := BitVec.ofNat 32 (i 0).val
  let c2_i32 : BitVec 32 := 2#32
  let v0 : BitVec 32 := Scalar.remsi arg0 c2_i32
  let c1_i32_231 : BitVec 32 := 1#32
  let c1_i32_232 : BitVec 32 := 1#32
  let c0_i32_233 : BitVec 32 := 0#32
  ![v0.toNat, 1, 1, 0]
def k0_off74 (i : grid0.Coords) : Fin 3 → Nat :=
  let arg0 : BitVec 32 := BitVec.ofNat 32 (i 0).val
  let c2_i32 : BitVec 32 := 2#32
  let v0 : BitVec 32 := Scalar.remsi arg0 c2_i32
  let c3_i32_237 : BitVec 32 := 3#32
  let c0_i32_238 : BitVec 32 := 0#32
  ![v0.toNat, 3, 0]
def k0_off75 (i : grid0.Coords) : Fin 3 → Nat :=
  let arg0 : BitVec 32 := BitVec.ofNat 32 (i 0).val
  let c2_i32 : BitVec 32 := 2#32
  let v0 : BitVec 32 := Scalar.remsi arg0 c2_i32
  let c19_i32 : BitVec 32 := 19#32
  let c0_i32_242 : BitVec 32 := 0#32
  ![v0.toNat, 19, 0]
def k0_off76 (i : grid0.Coords) : Fin 4 → Nat :=
  let arg0 : BitVec 32 := BitVec.ofNat 32 (i 0).val
  let c2_i32 : BitVec 32 := 2#32
  let v0 : BitVec 32 := Scalar.remsi arg0 c2_i32
  let c0_i32_245 : BitVec 32 := 0#32
  let c2_i32_246 : BitVec 32 := 2#32
  let c0_i32_247 : BitVec 32 := 0#32
  ![v0.toNat, 0, 2, 0]
def k0_off77 (i : grid0.Coords) : Fin 3 → Nat :=
  let arg0 : BitVec 32 := BitVec.ofNat 32 (i 0).val
  let c2_i32 : BitVec 32 := 2#32
  let v0 : BitVec 32 := Scalar.remsi arg0 c2_i32
  let c4_i32_251 : BitVec 32 := 4#32
  let c0_i32_252 : BitVec 32 := 0#32
  ![v0.toNat, 4, 0]
def k0_off78 (i : grid0.Coords) : Fin 3 → Nat :=
  let arg0 : BitVec 32 := BitVec.ofNat 32 (i 0).val
  let c2_i32 : BitVec 32 := 2#32
  let v0 : BitVec 32 := Scalar.remsi arg0 c2_i32
  let c20_i32 : BitVec 32 := 20#32
  let c0_i32_256 : BitVec 32 := 0#32
  ![v0.toNat, 20, 0]
def k0_off79 (i : grid0.Coords) : Fin 4 → Nat :=
  let arg0 : BitVec 32 := BitVec.ofNat 32 (i 0).val
  let c2_i32 : BitVec 32 := 2#32
  let v0 : BitVec 32 := Scalar.remsi arg0 c2_i32
  let c1_i32_259 : BitVec 32 := 1#32
  let c2_i32_260 : BitVec 32 := 2#32
  let c0_i32_261 : BitVec 32 := 0#32
  ![v0.toNat, 1, 2, 0]
def k0_off80 (i : grid0.Coords) : Fin 3 → Nat :=
  let arg0 : BitVec 32 := BitVec.ofNat 32 (i 0).val
  let c2_i32 : BitVec 32 := 2#32
  let v0 : BitVec 32 := Scalar.remsi arg0 c2_i32
  let c5_i32_265 : BitVec 32 := 5#32
  let c0_i32_266 : BitVec 32 := 0#32
  ![v0.toNat, 5, 0]
def k0_off81 (i : grid0.Coords) : Fin 3 → Nat :=
  let arg0 : BitVec 32 := BitVec.ofNat 32 (i 0).val
  let c2_i32 : BitVec 32 := 2#32
  let v0 : BitVec 32 := Scalar.remsi arg0 c2_i32
  let c21_i32 : BitVec 32 := 21#32
  let c0_i32_270 : BitVec 32 := 0#32
  ![v0.toNat, 21, 0]
def k0_off82 (i : grid0.Coords) : Fin 4 → Nat :=
  let arg0 : BitVec 32 := BitVec.ofNat 32 (i 0).val
  let c2_i32 : BitVec 32 := 2#32
  let v0 : BitVec 32 := Scalar.remsi arg0 c2_i32
  let c0_i32_273 : BitVec 32 := 0#32
  let c3_i32_274 : BitVec 32 := 3#32
  let c0_i32_275 : BitVec 32 := 0#32
  ![v0.toNat, 0, 3, 0]
def k0_off83 (i : grid0.Coords) : Fin 3 → Nat :=
  let arg0 : BitVec 32 := BitVec.ofNat 32 (i 0).val
  let c2_i32 : BitVec 32 := 2#32
  let v0 : BitVec 32 := Scalar.remsi arg0 c2_i32
  let c6_i32_279 : BitVec 32 := 6#32
  let c0_i32_280 : BitVec 32 := 0#32
  ![v0.toNat, 6, 0]
def k0_off84 (i : grid0.Coords) : Fin 3 → Nat :=
  let arg0 : BitVec 32 := BitVec.ofNat 32 (i 0).val
  let c2_i32 : BitVec 32 := 2#32
  let v0 : BitVec 32 := Scalar.remsi arg0 c2_i32
  let c22_i32 : BitVec 32 := 22#32
  let c0_i32_284 : BitVec 32 := 0#32
  ![v0.toNat, 22, 0]
def k0_off85 (i : grid0.Coords) : Fin 4 → Nat :=
  let arg0 : BitVec 32 := BitVec.ofNat 32 (i 0).val
  let c2_i32 : BitVec 32 := 2#32
  let v0 : BitVec 32 := Scalar.remsi arg0 c2_i32
  let c1_i32_287 : BitVec 32 := 1#32
  let c3_i32_288 : BitVec 32 := 3#32
  let c0_i32_289 : BitVec 32 := 0#32
  ![v0.toNat, 1, 3, 0]
def k0_off86 (i : grid0.Coords) : Fin 3 → Nat :=
  let arg0 : BitVec 32 := BitVec.ofNat 32 (i 0).val
  let c2_i32 : BitVec 32 := 2#32
  let v0 : BitVec 32 := Scalar.remsi arg0 c2_i32
  let c7_i32_293 : BitVec 32 := 7#32
  let c0_i32_294 : BitVec 32 := 0#32
  ![v0.toNat, 7, 0]
def k0_off87 (i : grid0.Coords) : Fin 3 → Nat :=
  let arg0 : BitVec 32 := BitVec.ofNat 32 (i 0).val
  let c2_i32 : BitVec 32 := 2#32
  let v0 : BitVec 32 := Scalar.remsi arg0 c2_i32
  let c23_i32 : BitVec 32 := 23#32
  let c0_i32_298 : BitVec 32 := 0#32
  ![v0.toNat, 23, 0]
def k0_off88 (i : grid0.Coords) : Fin 4 → Nat :=
  let arg0 : BitVec 32 := BitVec.ofNat 32 (i 0).val
  let c2_i32 : BitVec 32 := 2#32
  let v0 : BitVec 32 := Scalar.remsi arg0 c2_i32
  let c0_i32_301 : BitVec 32 := 0#32
  let c4_i32_302 : BitVec 32 := 4#32
  let c0_i32_303 : BitVec 32 := 0#32
  ![v0.toNat, 0, 4, 0]
def k0_off89 (i : grid0.Coords) : Fin 3 → Nat :=
  let arg0 : BitVec 32 := BitVec.ofNat 32 (i 0).val
  let c2_i32 : BitVec 32 := 2#32
  let v0 : BitVec 32 := Scalar.remsi arg0 c2_i32
  let c8_i32_307 : BitVec 32 := 8#32
  let c0_i32_308 : BitVec 32 := 0#32
  ![v0.toNat, 8, 0]
def k0_off90 (i : grid0.Coords) : Fin 3 → Nat :=
  let arg0 : BitVec 32 := BitVec.ofNat 32 (i 0).val
  let c2_i32 : BitVec 32 := 2#32
  let v0 : BitVec 32 := Scalar.remsi arg0 c2_i32
  let c24_i32 : BitVec 32 := 24#32
  let c0_i32_312 : BitVec 32 := 0#32
  ![v0.toNat, 24, 0]
def k0_off91 (i : grid0.Coords) : Fin 4 → Nat :=
  let arg0 : BitVec 32 := BitVec.ofNat 32 (i 0).val
  let c2_i32 : BitVec 32 := 2#32
  let v0 : BitVec 32 := Scalar.remsi arg0 c2_i32
  let c1_i32_315 : BitVec 32 := 1#32
  let c4_i32_316 : BitVec 32 := 4#32
  let c0_i32_317 : BitVec 32 := 0#32
  ![v0.toNat, 1, 4, 0]
def k0_off92 (i : grid0.Coords) : Fin 3 → Nat :=
  let arg0 : BitVec 32 := BitVec.ofNat 32 (i 0).val
  let c2_i32 : BitVec 32 := 2#32
  let v0 : BitVec 32 := Scalar.remsi arg0 c2_i32
  let c9_i32 : BitVec 32 := 9#32
  let c0_i32_321 : BitVec 32 := 0#32
  ![v0.toNat, 9, 0]
def k0_off93 (i : grid0.Coords) : Fin 3 → Nat :=
  let arg0 : BitVec 32 := BitVec.ofNat 32 (i 0).val
  let c2_i32 : BitVec 32 := 2#32
  let v0 : BitVec 32 := Scalar.remsi arg0 c2_i32
  let c25_i32 : BitVec 32 := 25#32
  let c0_i32_325 : BitVec 32 := 0#32
  ![v0.toNat, 25, 0]
def k0_off94 (i : grid0.Coords) : Fin 4 → Nat :=
  let arg0 : BitVec 32 := BitVec.ofNat 32 (i 0).val
  let c2_i32 : BitVec 32 := 2#32
  let v0 : BitVec 32 := Scalar.remsi arg0 c2_i32
  let c0_i32_328 : BitVec 32 := 0#32
  let c5_i32_329 : BitVec 32 := 5#32
  let c0_i32_330 : BitVec 32 := 0#32
  ![v0.toNat, 0, 5, 0]
def k0_off95 (i : grid0.Coords) : Fin 3 → Nat :=
  let arg0 : BitVec 32 := BitVec.ofNat 32 (i 0).val
  let c2_i32 : BitVec 32 := 2#32
  let v0 : BitVec 32 := Scalar.remsi arg0 c2_i32
  let c10_i32 : BitVec 32 := 10#32
  let c0_i32_334 : BitVec 32 := 0#32
  ![v0.toNat, 10, 0]
def k0_off96 (i : grid0.Coords) : Fin 3 → Nat :=
  let arg0 : BitVec 32 := BitVec.ofNat 32 (i 0).val
  let c2_i32 : BitVec 32 := 2#32
  let v0 : BitVec 32 := Scalar.remsi arg0 c2_i32
  let c26_i32 : BitVec 32 := 26#32
  let c0_i32_338 : BitVec 32 := 0#32
  ![v0.toNat, 26, 0]
def k0_off97 (i : grid0.Coords) : Fin 4 → Nat :=
  let arg0 : BitVec 32 := BitVec.ofNat 32 (i 0).val
  let c2_i32 : BitVec 32 := 2#32
  let v0 : BitVec 32 := Scalar.remsi arg0 c2_i32
  let c1_i32_341 : BitVec 32 := 1#32
  let c5_i32_342 : BitVec 32 := 5#32
  let c0_i32_343 : BitVec 32 := 0#32
  ![v0.toNat, 1, 5, 0]
def k0_off98 (i : grid0.Coords) : Fin 3 → Nat :=
  let arg0 : BitVec 32 := BitVec.ofNat 32 (i 0).val
  let c2_i32 : BitVec 32 := 2#32
  let v0 : BitVec 32 := Scalar.remsi arg0 c2_i32
  let c11_i32 : BitVec 32 := 11#32
  let c0_i32_347 : BitVec 32 := 0#32
  ![v0.toNat, 11, 0]
def k0_off99 (i : grid0.Coords) : Fin 3 → Nat :=
  let arg0 : BitVec 32 := BitVec.ofNat 32 (i 0).val
  let c2_i32 : BitVec 32 := 2#32
  let v0 : BitVec 32 := Scalar.remsi arg0 c2_i32
  let c27_i32 : BitVec 32 := 27#32
  let c0_i32_351 : BitVec 32 := 0#32
  ![v0.toNat, 27, 0]
def k0_off100 (i : grid0.Coords) : Fin 4 → Nat :=
  let arg0 : BitVec 32 := BitVec.ofNat 32 (i 0).val
  let c2_i32 : BitVec 32 := 2#32
  let v0 : BitVec 32 := Scalar.remsi arg0 c2_i32
  let c0_i32_354 : BitVec 32 := 0#32
  let c6_i32_355 : BitVec 32 := 6#32
  let c0_i32_356 : BitVec 32 := 0#32
  ![v0.toNat, 0, 6, 0]
def k0_off101 (i : grid0.Coords) : Fin 3 → Nat :=
  let arg0 : BitVec 32 := BitVec.ofNat 32 (i 0).val
  let c2_i32 : BitVec 32 := 2#32
  let v0 : BitVec 32 := Scalar.remsi arg0 c2_i32
  let c12_i32_360 : BitVec 32 := 12#32
  let c0_i32_361 : BitVec 32 := 0#32
  ![v0.toNat, 12, 0]
def k0_off102 (i : grid0.Coords) : Fin 3 → Nat :=
  let arg0 : BitVec 32 := BitVec.ofNat 32 (i 0).val
  let c2_i32 : BitVec 32 := 2#32
  let v0 : BitVec 32 := Scalar.remsi arg0 c2_i32
  let c28_i32 : BitVec 32 := 28#32
  let c0_i32_365 : BitVec 32 := 0#32
  ![v0.toNat, 28, 0]
def k0_off103 (i : grid0.Coords) : Fin 4 → Nat :=
  let arg0 : BitVec 32 := BitVec.ofNat 32 (i 0).val
  let c2_i32 : BitVec 32 := 2#32
  let v0 : BitVec 32 := Scalar.remsi arg0 c2_i32
  let c1_i32_368 : BitVec 32 := 1#32
  let c6_i32_369 : BitVec 32 := 6#32
  let c0_i32_370 : BitVec 32 := 0#32
  ![v0.toNat, 1, 6, 0]
def k0_off104 (i : grid0.Coords) : Fin 3 → Nat :=
  let arg0 : BitVec 32 := BitVec.ofNat 32 (i 0).val
  let c2_i32 : BitVec 32 := 2#32
  let v0 : BitVec 32 := Scalar.remsi arg0 c2_i32
  let c13_i32 : BitVec 32 := 13#32
  let c0_i32_374 : BitVec 32 := 0#32
  ![v0.toNat, 13, 0]
def k0_off105 (i : grid0.Coords) : Fin 3 → Nat :=
  let arg0 : BitVec 32 := BitVec.ofNat 32 (i 0).val
  let c2_i32 : BitVec 32 := 2#32
  let v0 : BitVec 32 := Scalar.remsi arg0 c2_i32
  let c29_i32 : BitVec 32 := 29#32
  let c0_i32_378 : BitVec 32 := 0#32
  ![v0.toNat, 29, 0]
def k0_off106 (i : grid0.Coords) : Fin 4 → Nat :=
  let arg0 : BitVec 32 := BitVec.ofNat 32 (i 0).val
  let c2_i32 : BitVec 32 := 2#32
  let v0 : BitVec 32 := Scalar.remsi arg0 c2_i32
  let c0_i32_381 : BitVec 32 := 0#32
  let c7_i32_382 : BitVec 32 := 7#32
  let c0_i32_383 : BitVec 32 := 0#32
  ![v0.toNat, 0, 7, 0]
def k0_off107 (i : grid0.Coords) : Fin 3 → Nat :=
  let arg0 : BitVec 32 := BitVec.ofNat 32 (i 0).val
  let c2_i32 : BitVec 32 := 2#32
  let v0 : BitVec 32 := Scalar.remsi arg0 c2_i32
  let c14_i32 : BitVec 32 := 14#32
  let c0_i32_387 : BitVec 32 := 0#32
  ![v0.toNat, 14, 0]
def k0_off108 (i : grid0.Coords) : Fin 3 → Nat :=
  let arg0 : BitVec 32 := BitVec.ofNat 32 (i 0).val
  let c2_i32 : BitVec 32 := 2#32
  let v0 : BitVec 32 := Scalar.remsi arg0 c2_i32
  let c30_i32 : BitVec 32 := 30#32
  let c0_i32_391 : BitVec 32 := 0#32
  ![v0.toNat, 30, 0]
def k0_off109 (i : grid0.Coords) : Fin 4 → Nat :=
  let arg0 : BitVec 32 := BitVec.ofNat 32 (i 0).val
  let c2_i32 : BitVec 32 := 2#32
  let v0 : BitVec 32 := Scalar.remsi arg0 c2_i32
  let c1_i32_394 : BitVec 32 := 1#32
  let c7_i32_395 : BitVec 32 := 7#32
  let c0_i32_396 : BitVec 32 := 0#32
  ![v0.toNat, 1, 7, 0]
def k0_off110 (i : grid0.Coords) : Fin 3 → Nat :=
  let arg0 : BitVec 32 := BitVec.ofNat 32 (i 0).val
  let c2_i32 : BitVec 32 := 2#32
  let v0 : BitVec 32 := Scalar.remsi arg0 c2_i32
  let c15_i32 : BitVec 32 := 15#32
  let c0_i32_400 : BitVec 32 := 0#32
  ![v0.toNat, 15, 0]
def k0_off111 (i : grid0.Coords) : Fin 3 → Nat :=
  let arg0 : BitVec 32 := BitVec.ofNat 32 (i 0).val
  let c2_i32 : BitVec 32 := 2#32
  let v0 : BitVec 32 := Scalar.remsi arg0 c2_i32
  let c31_i32 : BitVec 32 := 31#32
  let c0_i32_404 : BitVec 32 := 0#32
  ![v0.toNat, 31, 0]
@[reducible] def k0_t1_loop : Scf.Loop 32 :=
  let c0_i32_406 : BitVec 32 := 0#32
  let c8_i32_407 : BitVec 32 := 8#32
  let v697 : BitVec 32 := Scalar.addi c0_i32_406 c8_i32_407
  let c1_i32_408 : BitVec 32 := 1#32
  ⟨c0_i32_406, v697, c1_i32_408⟩
def k0_mult1 (k0_t1 : Fin k0_t1_loop.trips) : BitVec 32 :=
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  v700
def k0_off112 (i : grid0.Coords) (k0_t1 : Fin k0_t1_loop.trips) : Fin 3 → Nat :=
  let arg0 : BitVec 32 := BitVec.ofNat 32 (i 0).val
  let c2_i32 : BitVec 32 := 2#32
  let v0 : BitVec 32 := Scalar.remsi arg0 c2_i32
  let v702 : Index := Scalar.indexCast v0
  let c0_412 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v703 : Index := Scalar.indexCast v701
  ![v702.toNat, 0, v703.toNat]
def k0_off113 (i : grid0.Coords) (k0_t1 : Fin k0_t1_loop.trips) : Fin 4 → Nat :=
  let arg0 : BitVec 32 := BitVec.ofNat 32 (i 0).val
  let c2_i32 : BitVec 32 := 2#32
  let v0 : BitVec 32 := Scalar.remsi arg0 c2_i32
  let v744 : Index := Scalar.indexCast v0
  let c0_426 : Index := 0#32
  let c0_427 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v745 : Index := Scalar.indexCast v701
  ![v744.toNat, 0, 0, v745.toNat]
def k0_off114 (k0_t1 : Fin k0_t1_loop.trips) : Fin 3 → Nat :=
  let c0_430 : Index := 0#32
  let c0_431 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v754 : Index := Scalar.indexCast v701
  ![0, 0, v754.toNat]
def k0_off115 (k0_t1 : Fin k0_t1_loop.trips) : Fin 3 → Nat :=
  let c1 : Index := 1#32
  let c0_433 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v762 : Index := Scalar.indexCast v701
  ![1, 0, v762.toNat]
def k0_off116 (k0_t1 : Fin k0_t1_loop.trips) : Fin 3 → Nat :=
  let c2 : Index := 2#32
  let c0_435 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v770 : Index := Scalar.indexCast v701
  ![2, 0, v770.toNat]
def k0_off117 (k0_t1 : Fin k0_t1_loop.trips) : Fin 3 → Nat :=
  let c3 : Index := 3#32
  let c0_437 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v778 : Index := Scalar.indexCast v701
  ![3, 0, v778.toNat]
def k0_off118 (k0_t1 : Fin k0_t1_loop.trips) : Fin 3 → Nat :=
  let c4 : Index := 4#32
  let c0_439 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v786 : Index := Scalar.indexCast v701
  ![4, 0, v786.toNat]
def k0_off119 (k0_t1 : Fin k0_t1_loop.trips) : Fin 3 → Nat :=
  let c5 : Index := 5#32
  let c0_441 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v794 : Index := Scalar.indexCast v701
  ![5, 0, v794.toNat]
def k0_off120 (i : grid0.Coords) (k0_t1 : Fin k0_t1_loop.trips) : Fin 4 → Nat :=
  let arg0 : BitVec 32 := BitVec.ofNat 32 (i 0).val
  let c2_i32 : BitVec 32 := 2#32
  let v0 : BitVec 32 := Scalar.remsi arg0 c2_i32
  let v798 : Index := Scalar.indexCast v0
  let c1_442 : Index := 1#32
  let c0_443 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v799 : Index := Scalar.indexCast v701
  ![v798.toNat, 1, 0, v799.toNat]
def k0_off121 (k0_t1 : Fin k0_t1_loop.trips) : Fin 3 → Nat :=
  let c6 : Index := 6#32
  let c0_446 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v808 : Index := Scalar.indexCast v701
  ![6, 0, v808.toNat]
def k0_off122 (k0_t1 : Fin k0_t1_loop.trips) : Fin 3 → Nat :=
  let c7 : Index := 7#32
  let c0_448 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v816 : Index := Scalar.indexCast v701
  ![7, 0, v816.toNat]
def k0_off123 (k0_t1 : Fin k0_t1_loop.trips) : Fin 3 → Nat :=
  let c8 : Index := 8#32
  let c0_450 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v824 : Index := Scalar.indexCast v701
  ![8, 0, v824.toNat]
def k0_off124 (k0_t1 : Fin k0_t1_loop.trips) : Fin 3 → Nat :=
  let c9 : Index := 9#32
  let c0_452 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v832 : Index := Scalar.indexCast v701
  ![9, 0, v832.toNat]
def k0_off125 (k0_t1 : Fin k0_t1_loop.trips) : Fin 3 → Nat :=
  let c10 : Index := 10#32
  let c0_454 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v840 : Index := Scalar.indexCast v701
  ![10, 0, v840.toNat]
def k0_off126 (k0_t1 : Fin k0_t1_loop.trips) : Fin 3 → Nat :=
  let c11 : Index := 11#32
  let c0_456 : Index := 0#32
  let c0_i32_411 : BitVec 32 := 0#32
  let c0_i32_406 : BitVec 32 := 0#32
  let c1_i32_408 : BitVec 32 := 1#32
  let arg12 : BitVec 32 := Scf.iv c0_i32_406 c1_i32_408 k0_t1
  let c1_i32_410 : BitVec 32 := 1#32
  let v698 : BitVec 32 := Scalar.muli arg12 c1_i32_410
  let v699 : BitVec 32 := Scalar.addi c0_i32_411 v698
  let c1024_i32 : BitVec 32 := 1024#32
  let v700 : BitVec 32 := Scalar.muli v699 c1024_i32
  let v701 : BitVec 32 := v700
  let v848 : Index := Scalar.indexCast v701
  ![11, 0, v848.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S96 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LabelReferenceIdeal.lean ====
abbrev S96 : Shape := ⟨1, ![96]⟩
abbrev S2x16 : Shape := ⟨2, ![2, 16]⟩
abbrev S96x2x2x8192 : Shape := ⟨4, ![96, 2, 2, 8192]⟩
abbrev S96x2x8192 : Shape := ⟨3, ![96, 2, 8192]⟩
abbrev S96x1536 : Shape := ⟨2, ![96, 1536]⟩
abbrev S96x2x6x128 : Shape := ⟨4, ![96, 2, 6, 128]⟩
abbrev S1x2x1x16 : Shape := ⟨4, ![1, 2, 1, 16]⟩
abbrev S96x2x6x16 : Shape := ⟨4, ![96, 2, 6, 16]⟩
abbrev S_ : Shape := ⟨0, ![]⟩
abbrev S96x2x6x16x1 : Shape := ⟨5, ![96, 2, 6, 16, 1]⟩
abbrev S1 : Shape := ⟨1, ![1]⟩
abbrev S1x1x1x1x1 : Shape := ⟨5, ![1, 1, 1, 1, 1]⟩
abbrev S8 : Shape := ⟨1, ![8]⟩
abbrev S96x2x2x1x8192 : Shape := ⟨5, ![96, 2, 2, 1, 8192]⟩
abbrev S8x1 : Shape := ⟨2, ![8, 1]⟩
abbrev S1x1x1x8x1 : Shape := ⟨5, ![1, 1, 1, 8, 1]⟩
abbrev S96x2x2x8x8192 : Shape := ⟨5, ![96, 2, 2, 8, 8192]⟩
abbrev S96x2x16x8192 : Shape := ⟨4, ![96, 2, 16, 8192]⟩
abbrev S96x2x6x8192 : Shape := ⟨4, ![96, 2, 6, 8192]⟩
abbrev S8192 : Shape := ⟨1, ![8192]⟩
abbrev S1x1x1x8192 : Shape := ⟨4, ![1, 1, 1, 8192]⟩
abbrev S96x1x1x1 : Shape := ⟨4, ![96, 1, 1, 1]⟩
abbrev S96x1x1x8192 : Shape := ⟨4, ![96, 1, 1, 8192]⟩
abbrev S96x2x1x8192 : Shape := ⟨4, ![96, 2, 1, 8192]⟩
abbrev S96x12x8192 : Shape := ⟨3, ![96, 12, 8192]⟩
abbrev S12x96x8192 : Shape := ⟨3, ![12, 96, 8192]⟩

abbrev nBuf : Space → Nat
  | .hbm => 72
  | .vmem => 0
  | .smem => 0
  | _ => 0

abbrev bufTy : (tb : Table) → Fin (tcTables nBuf tb) → BufTy
  | .hbm, ⟨0, _⟩ => ⟨S96, .i32⟩
  | .hbm, ⟨1, _⟩ => ⟨S2x16, .i32⟩
  | .hbm, ⟨2, _⟩ => ⟨S96x2x2x8192, .i32⟩
  | .hbm, ⟨3, _⟩ => ⟨S96x2x8192, .f32⟩
  | .hbm, ⟨4, _⟩ => ⟨S96x1536, .bf16⟩
  | .hbm, ⟨5, _⟩ => ⟨S96x2x6x128, .bf16⟩
  | .hbm, ⟨6, _⟩ => ⟨S1x2x1x16, .i32⟩
  | .hbm, ⟨7, _⟩ => ⟨S96x2x6x16, .i32⟩
  | .hbm, ⟨8, _⟩ => ⟨S_, .i32⟩
  | .hbm, ⟨9, _⟩ => ⟨S96x2x6x16, .i32⟩
  | .hbm, ⟨10, _⟩ => ⟨S96x2x6x16, .i1⟩
  | .hbm, ⟨11, _⟩ => ⟨S_, .i32⟩
  | .hbm, ⟨12, _⟩ => ⟨S96x2x6x16, .i32⟩
  | .hbm, ⟨13, _⟩ => ⟨S96x2x6x16, .i32⟩
  | .hbm, ⟨14, _⟩ => ⟨S96x2x6x16, .i32⟩
  | .hbm, ⟨15, _⟩ => ⟨S96x2x6x16x1, .i32⟩
  | .hbm, ⟨16, _⟩ => ⟨S1, .i32⟩
  | .hbm, ⟨17, _⟩ => ⟨S_, .i32⟩
  | .hbm, ⟨18, _⟩ => ⟨S96x2x6x16x1, .i32⟩
  | .hbm, ⟨19, _⟩ => ⟨S96x2x6x16x1, .i1⟩
  | .hbm, ⟨20, _⟩ => ⟨S1x1x1x1x1, .i32⟩
  | .hbm, ⟨21, _⟩ => ⟨S96x2x6x16x1, .i32⟩
  | .hbm, ⟨22, _⟩ => ⟨S96x2x6x16x1, .i1⟩
  | .hbm, ⟨23, _⟩ => ⟨S96x2x6x16x1, .i1⟩
  | .hbm, ⟨24, _⟩ => ⟨S_, .i1⟩
  | .hbm, ⟨25, _⟩ => ⟨S96x2x6x16, .i1⟩
  | .hbm, ⟨26, _⟩ => ⟨S96x2x6x16, .bf16⟩
  | .hbm, ⟨27, _⟩ => ⟨S_, .bf16⟩
  | .hbm, ⟨28, _⟩ => ⟨S96x2x6x16, .bf16⟩
  | .hbm, ⟨29, _⟩ => ⟨S96x2x6x16, .bf16⟩
  | .hbm, ⟨30, _⟩ => ⟨S8, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S96x2x2x1x8192, .i32⟩
  | .hbm, ⟨35, _⟩ => ⟨S8x1, .i32⟩
  | .hbm, ⟨36, _⟩ => ⟨S1x1x1x8x1, .i32⟩
  | .hbm, ⟨37, _⟩ => ⟨S96x2x2x8x8192, .i32⟩
  | .hbm, ⟨38, _⟩ => ⟨S96x2x2x8x8192, .i32⟩
  | .hbm, ⟨39, _⟩ => ⟨S96x2x2x8x8192, .i32⟩
  | .hbm, ⟨40, _⟩ => ⟨S_, .i32⟩
  | .hbm, ⟨41, _⟩ => ⟨S96x2x2x8x8192, .i32⟩
  | .hbm, ⟨42, _⟩ => ⟨S96x2x2x8x8192, .i32⟩
  | .hbm, ⟨43, _⟩ => ⟨S96x2x16x8192, .i32⟩
  | .hbm, ⟨44, _⟩ => ⟨S_, .i32⟩
  | .hbm, ⟨45, _⟩ => ⟨S96x2x16x8192, .i32⟩
  | .hbm, ⟨46, _⟩ => ⟨S96x2x16x8192, .i1⟩
  | .hbm, ⟨47, _⟩ => ⟨S_, .i32⟩
  | .hbm, ⟨48, _⟩ => ⟨S96x2x16x8192, .i32⟩
  | .hbm, ⟨49, _⟩ => ⟨S96x2x16x8192, .i32⟩
  | .hbm, ⟨50, _⟩ => ⟨S96x2x16x8192, .i32⟩
  | .hbm, ⟨51, _⟩ => ⟨S96x2x16x8192, .bf16⟩
  | .hbm, ⟨52, _⟩ => ⟨S96x2x6x8192, .f32⟩
  | .hbm, ⟨53, _⟩ => ⟨S8192, .i32⟩
  | .hbm, ⟨54, _⟩ => ⟨S1x1x1x8192, .i32⟩
  | .hbm, ⟨55, _⟩ => ⟨S96x1x1x1, .i32⟩
  | .hbm, ⟨56, _⟩ => ⟨S96x1x1x8192, .i32⟩
  | .hbm, ⟨57, _⟩ => ⟨S96x1x1x8192, .i32⟩
  | .hbm, ⟨58, _⟩ => ⟨S96x1x1x8192, .i1⟩
  | .hbm, ⟨59, _⟩ => ⟨S96x2x1x8192, .f32⟩
  | .hbm, ⟨60, _⟩ => ⟨S_, .f32⟩
  | .hbm, ⟨61, _⟩ => ⟨S96x2x1x8192, .f32⟩
  | .hbm, ⟨62, _⟩ => ⟨S96x2x1x8192, .f32⟩
  | .hbm, ⟨63, _⟩ => ⟨S96x2x6x8192, .f32⟩
  | .hbm, ⟨64, _⟩ => ⟨S96x2x6x8192, .f32⟩
  | .hbm, ⟨65, _⟩ => ⟨S_, .f32⟩
  | .hbm, ⟨66, _⟩ => ⟨S_, .f32⟩
  | .hbm, ⟨67, _⟩ => ⟨S96x2x6x8192, .i1⟩
  | .hbm, ⟨68, _⟩ => ⟨S96x2x6x8192, .f32⟩
  | .hbm, ⟨69, _⟩ => ⟨S96x2x6x8192, .f32⟩
  | .hbm, ⟨70, _⟩ => ⟨S96x12x8192, .f32⟩
  | .hbm, ⟨71, _⟩ => ⟨S12x96x8192, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_1 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_3 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]
-- ==== Proof.BlockDefs.lean ====
/- What one grid point of the attention call leaves in its two output blocks, as a chain of named values.

   `b_vN` is the value the printed body calls `%N`, as a function of the seven input blocks: `x0` the queries,
   `x1` / `x2` the new key and value, `x3` / `x4` the words of the gathered key and value codes, `x5` / `x6` the gathered
   key and value scales. Only the values that pass from one printed part of the body to the next are named. `pieces7` /
   `pieces8` list the stores into the two output blocks (the last store first). -/
module

public import proofs.«01_k».proof.Proof.Gen.KernelIdeal.Value
public import Idealize.ShloMosaic.Lib.Pipeline.ValueKit.Acc

@[expose] public section

noncomputable section

namespace Cert.Proof

open Cert.KernelIdeal Cert.KernelIdeal.Gen Idealize.ShloMosaic Idealize.ShloMosaic.TcCoe Idealize.SL.Sem

variable {F : FTy → Type} [FloatOps F]

def b_v0 (x0 : Vec F S8x1536 .bf16) : Vec F S8x1536 .bf16 :=
  View.ld x0 (Rect.unit (s := S8x1536) ![0, 0] S8x1536.size inb_S8x1536_S8x1536_0_0)

def b_v15  : IVec S96x1 32 :=
  iota .tc S96x1 32 [0] iota_S96x1_d0_w32

def b_v41  : BitVec 1 :=
  Scalar.cmpi .sgt 48#32 0#32

def b_v42  : BitVec 32 :=
  Scalar.extui b_v41

def b_v43  : BitVec 1 :=
  Scalar.cmpi .slt 48#32 0#32

def b_v44  : BitVec 32 :=
  Scalar.extui b_v43

def b_v45  : BitVec 32 :=
  Scalar.subi b_v42 b_v44

def b_v14 (x0 : Vec F S8x1536 .bf16) : FVec F S96x128 .f32 :=
  k0_pay3 (b_v0 x0)

def b_v31  : IVec S96x1 32 :=
  k0_pay4

def b_c48_i32  : BitVec 32 :=
  48#32

def b_v33  : IVec S96x1 32 :=
  k0_pay5

def b_v40  : IVec S96x1 32 :=
  k0_pay6

def b_v77 (x3 : Vec F S2048x128 .i32) : Vec F S128x128 .i32 :=
  View.ld x3 (Rect.unit (s := S2048x128) ![0, 0] S128x128.size inb_S2048x128_S128x128_0_0)

def b_v79 (x3 : Vec F S2048x128 .i32) : Vec F S128x128 .i32 :=
  View.ld x3 (Rect.unit (s := S2048x128) ![128, 0] S128x128.size inb_S2048x128_S128x128_128_0)

def b_cst_21  : F .f32 :=
  Scalar.ofBits .f32 0x00000000#32

def b_v55  : IVec S96x1 32 :=
  k0_pay7 b_v15 b_c48_i32 b_v33 b_v40 b_v45

def b_v82 (x0 : Vec F S8x1536 .bf16) (x3 : Vec F S2048x128 .i32) : FVec F S96x512 .f32 :=
  k0_pay8 (b_v14 x0) b_v15 b_v31 b_c48_i32 b_v33 b_v40 b_v45 (b_v77 x3) (b_v79 x3)

def b_v89  : IVec S96x128 1 :=
  k0_pay9 b_v15 b_v31 b_c48_i32 b_v33 b_v40 b_v45

def b_v104 (x3 : Vec F S2048x128 .i32) : Vec F S128x128 .i32 :=
  View.ld x3 (Rect.unit (s := S2048x128) ![256, 0] S128x128.size inb_S2048x128_S128x128_256_0)

def b_v106 (x3 : Vec F S2048x128 .i32) : Vec F S128x128 .i32 :=
  View.ld x3 (Rect.unit (s := S2048x128) ![384, 0] S128x128.size inb_S2048x128_S128x128_384_0)

def b_v132 (x3 : Vec F S2048x128 .i32) : Vec F S128x128 .i32 :=
  View.ld x3 (Rect.unit (s := S2048x128) ![512, 0] S128x128.size inb_S2048x128_S128x128_512_0)

def b_v110 (x0 : Vec F S8x1536 .bf16) (x3 : Vec F S2048x128 .i32) : FVec F S96x512 .f32 :=
  k0_pay10 (b_v14 x0) b_v31 b_v55 (b_v82 x0 x3) b_cst_21 b_v89 (b_v104 x3) (b_v106 x3)

def b_v131 (x0 : Vec F S8x1536 .bf16) : FVec F S96x256 .bf16 :=
  k0_pay11 (b_v14 x0) b_v31 b_v55

def b_v133 (x3 : Vec F S2048x128 .i32) : FVec F S512x128 .fp8e4m3 :=
  k0_pay12 (b_v132 x3)

def b_v134 (x3 : Vec F S2048x128 .i32) : Vec F S128x128 .i32 :=
  View.ld x3 (Rect.unit (s := S2048x128) ![640, 0] S128x128.size inb_S2048x128_S128x128_640_0)

def b_v160 (x3 : Vec F S2048x128 .i32) : Vec F S128x128 .i32 :=
  View.ld x3 (Rect.unit (s := S2048x128) ![768, 0] S128x128.size inb_S2048x128_S128x128_768_0)

def b_v162 (x3 : Vec F S2048x128 .i32) : Vec F S128x128 .i32 :=
  View.ld x3 (Rect.unit (s := S2048x128) ![896, 0] S128x128.size inb_S2048x128_S128x128_896_0)

def b_v166 (x0 : Vec F S8x1536 .bf16) (x3 : Vec F S2048x128 .i32) : FVec F S96x512 .f32 :=
  k0_pay13 (b_v14 x0) b_v31 b_v55 (b_v110 x0 x3) (b_v131 x0) (b_v133 x3) (b_v134 x3) (b_v160 x3) (b_v162 x3)

def b_v176 (x0 : Vec F S8x1536 .bf16) : FVec F S96x128 .bf16 :=
  k0_pay14 (b_v14 x0) b_v31 b_v55

def b_v188 (x3 : Vec F S2048x128 .i32) : Vec F S128x128 .i32 :=
  View.ld x3 (Rect.unit (s := S2048x128) ![1024, 0] S128x128.size inb_S2048x128_S128x128_1024_0)

def b_v190 (x3 : Vec F S2048x128 .i32) : Vec F S128x128 .i32 :=
  View.ld x3 (Rect.unit (s := S2048x128) ![1152, 0] S128x128.size inb_S2048x128_S128x128_1152_0)

def b_v216 (x3 : Vec F S2048x128 .i32) : Vec F S128x128 .i32 :=
  View.ld x3 (Rect.unit (s := S2048x128) ![1280, 0] S128x128.size inb_S2048x128_S128x128_1280_0)

def b_v218 (x3 : Vec F S2048x128 .i32) : Vec F S128x128 .i32 :=
  View.ld x3 (Rect.unit (s := S2048x128) ![1408, 0] S128x128.size inb_S2048x128_S128x128_1408_0)

def b_v194 (x0 : Vec F S8x1536 .bf16) (x3 : Vec F S2048x128 .i32) : FVec F S96x512 .f32 :=
  k0_pay15 (b_v14 x0) b_v31 b_v55 (b_v166 x0 x3) (b_v176 x0) (b_v188 x3) (b_v190 x3)

def b_v215 (x0 : Vec F S8x1536 .bf16) : FVec F S96x256 .bf16 :=
  k0_pay16 (b_v14 x0) b_v31 b_v55

def b_v217 (x3 : Vec F S2048x128 .i32) : FVec F S512x128 .fp8e4m3 :=
  k0_pay17 (b_v216 x3)

def b_v244 (x3 : Vec F S2048x128 .i32) : Vec F S128x128 .i32 :=
  View.ld x3 (Rect.unit (s := S2048x128) ![1536, 0] S128x128.size inb_S2048x128_S128x128_1536_0)

def b_v246 (x3 : Vec F S2048x128 .i32) : Vec F S128x128 .i32 :=
  View.ld x3 (Rect.unit (s := S2048x128) ![1664, 0] S128x128.size inb_S2048x128_S128x128_1664_0)

def b_v250 (x0 : Vec F S8x1536 .bf16) (x3 : Vec F S2048x128 .i32) : FVec F S96x512 .f32 :=
  k0_pay18 (b_v14 x0) b_v31 b_v55 (b_v194 x0 x3) (b_v215 x0) (b_v217 x3) (b_v218 x3) (b_v244 x3) (b_v246 x3)

def b_v260 (x0 : Vec F S8x1536 .bf16) : FVec F S96x128 .bf16 :=
  k0_pay19 (b_v14 x0) b_v31 b_v55

def b_v262  : IVec S96x1 1 :=
  k0_pay20 b_v31

def b_v272 (x3 : Vec F S2048x128 .i32) : Vec F S128x128 .i32 :=
  View.ld x3 (Rect.unit (s := S2048x128) ![1792, 0] S128x128.size inb_S2048x128_S128x128_1792_0)

def b_v274 (x3 : Vec F S2048x128 .i32) : Vec F S128x128 .i32 :=
  View.ld x3 (Rect.unit (s := S2048x128) ![1920, 0] S128x128.size inb_S2048x128_S128x128_1920_0)

def b_v279 (x1 : Vec F S8x2x128 .bf16) : Vec F S8x2x128 .bf16 :=
  View.ld x1 (Rect.unit (s := S8x2x128) ![0, 0, 0] S8x2x128.size inb_S8x2x128_S8x2x128_0_0_0)

def b_v281 (x2 : Vec F S8x2x128 .bf16) : Vec F S8x2x128 .bf16 :=
  View.ld x2 (Rect.unit (s := S8x2x128) ![0, 0, 0] S8x2x128.size inb_S8x2x128_S8x2x128_0_0_0)

def b_v283 (x5 : Vec F S2x8x512 .f32) : Vec F S1x8x512 .f32 :=
  View.ld x5 (Rect.unit (s := S2x8x512) ![0, 0, 0] S1x8x512.size inb_S2x8x512_S1x8x512_0_0_0)

def b_v278 (x0 : Vec F S8x1536 .bf16) (x3 : Vec F S2048x128 .i32) : FVec F S96x512 .f32 :=
  k0_pay21 (b_v14 x0) b_v55 (b_v250 x0 x3) (b_v260 x0) b_v262 (b_v272 x3) (b_v274 x3)

def b_v280 (x1 : Vec F S8x2x128 .bf16) : FVec F S8x2x128 .f32 :=
  k0_pay22 (b_v279 x1)

def b_v282 (x2 : Vec F S8x2x128 .bf16) : FVec F S8x2x128 .f32 :=
  k0_pay23 (b_v281 x2)

def b_v288 (x0 : Vec F S8x1536 .bf16) (x3 : Vec F S2048x128 .i32) (x5 : Vec F S2x8x512 .f32) : FVec F S8x512 .f32 :=
  k0_pay24 (b_v14 x0) b_v55 (b_v250 x0 x3) (b_v260 x0) b_v262 (b_v272 x3) (b_v274 x3) (b_v283 x5)

def b_v296 (x0 : Vec F S8x1536 .bf16) (x1 : Vec F S8x2x128 .bf16) : FVec F S8x1 .f32 :=
  k0_pay25 (b_v14 x0) (b_v279 x1)

def b_v303 (x5 : Vec F S2x8x512 .f32) : Vec F S1x8x512 .f32 :=
  View.ld x5 (Rect.unit (s := S2x8x512) ![0, 0, 0] S1x8x512.size inb_S2x8x512_S1x8x512_0_0_0)

def b_v323 (x5 : Vec F S2x8x512 .f32) : Vec F S1x8x512 .f32 :=
  View.ld x5 (Rect.unit (s := S2x8x512) ![0, 0, 0] S1x8x512.size inb_S2x8x512_S1x8x512_0_0_0)

def b_v308 (x0 : Vec F S8x1536 .bf16) (x3 : Vec F S2048x128 .i32) (x5 : Vec F S2x8x512 .f32) : FVec F S8x512 .f32 :=
  k0_pay28 (b_v278 x0 x3) (b_v303 x5)

def b_v316 (x0 : Vec F S8x1536 .bf16) (x1 : Vec F S8x2x128 .bf16) : FVec F S8x1 .f32 :=
  k0_pay29 (b_v14 x0) (b_v280 x1)

def b_v328 (x0 : Vec F S8x1536 .bf16) (x3 : Vec F S2048x128 .i32) (x5 : Vec F S2x8x512 .f32) : FVec F S8x512 .f32 :=
  k0_pay32 (b_v278 x0 x3) (b_v323 x5)

def b_v334 (x0 : Vec F S8x1536 .bf16) (x1 : Vec F S8x2x128 .bf16) : FVec F S8x1 .f32 :=
  k0_pay33 (b_v14 x0) (b_v280 x1)

def b_v335  : FVec F S8x1 .f32 :=
  k0_pay34 (F := F)

def b_v343 (x5 : Vec F S2x8x512 .f32) : Vec F S1x8x512 .f32 :=
  View.ld x5 (Rect.unit (s := S2x8x512) ![0, 0, 0] S1x8x512.size inb_S2x8x512_S1x8x512_0_0_0)

def b_v363 (x5 : Vec F S2x8x512 .f32) : Vec F S1x8x512 .f32 :=
  View.ld x5 (Rect.unit (s := S2x8x512) ![0, 0, 0] S1x8x512.size inb_S2x8x512_S1x8x512_0_0_0)

def b_v336 (x0 : Vec F S8x1536 .bf16) (x1 : Vec F S8x2x128 .bf16) : FVec F S8x1 .f32 :=
  k0_pay35 (b_v334 x0 x1) b_v335

def b_v348 (x0 : Vec F S8x1536 .bf16) (x3 : Vec F S2048x128 .i32) (x5 : Vec F S2x8x512 .f32) : FVec F S8x512 .f32 :=
  k0_pay38 (b_v278 x0 x3) (b_v343 x5)

def b_v356 (x0 : Vec F S8x1536 .bf16) (x1 : Vec F S8x2x128 .bf16) : FVec F S8x1 .f32 :=
  k0_pay39 (b_v14 x0) (b_v280 x1)

def b_v368 (x0 : Vec F S8x1536 .bf16) (x3 : Vec F S2048x128 .i32) (x5 : Vec F S2x8x512 .f32) : FVec F S8x512 .f32 :=
  k0_pay42 (b_v278 x0 x3) (b_v363 x5)

def b_v369 (x0 : Vec F S8x1536 .bf16) : FVec F S8x128 .f32 :=
  k0_pay43 (b_v14 x0)

def b_v383 (x5 : Vec F S2x8x512 .f32) : Vec F S1x8x512 .f32 :=
  View.ld x5 (Rect.unit (s := S2x8x512) ![0, 0, 0] S1x8x512.size inb_S2x8x512_S1x8x512_0_0_0)

def b_v376 (x0 : Vec F S8x1536 .bf16) (x1 : Vec F S8x2x128 .bf16) : FVec F S8x1 .f32 :=
  k0_pay44 (b_v280 x1) (b_v369 x0)

def b_v388 (x0 : Vec F S8x1536 .bf16) (x3 : Vec F S2048x128 .i32) (x5 : Vec F S2x8x512 .f32) : FVec F S8x512 .f32 :=
  k0_pay47 (b_v278 x0 x3) (b_v383 x5)

def b_v396 (x0 : Vec F S8x1536 .bf16) (x1 : Vec F S8x2x128 .bf16) : FVec F S8x1 .f32 :=
  k0_pay48 (b_v14 x0) (b_v280 x1)

def b_v403 (x5 : Vec F S2x8x512 .f32) : Vec F S1x8x512 .f32 :=
  View.ld x5 (Rect.unit (s := S2x8x512) ![1, 0, 0] S1x8x512.size inb_S2x8x512_S1x8x512_1_0_0)

def b_v423 (x5 : Vec F S2x8x512 .f32) : Vec F S1x8x512 .f32 :=
  View.ld x5 (Rect.unit (s := S2x8x512) ![1, 0, 0] S1x8x512.size inb_S2x8x512_S1x8x512_1_0_0)

def b_v408 (x0 : Vec F S8x1536 .bf16) (x3 : Vec F S2048x128 .i32) (x5 : Vec F S2x8x512 .f32) : FVec F S8x512 .f32 :=
  k0_pay51 (b_v278 x0 x3) (b_v403 x5)

def b_v416 (x0 : Vec F S8x1536 .bf16) (x1 : Vec F S8x2x128 .bf16) : FVec F S8x1 .f32 :=
  k0_pay52 (b_v14 x0) (b_v280 x1)

def b_v428 (x0 : Vec F S8x1536 .bf16) (x3 : Vec F S2048x128 .i32) (x5 : Vec F S2x8x512 .f32) : FVec F S8x512 .f32 :=
  k0_pay55 (b_v278 x0 x3) (b_v423 x5)

def b_v436 (x0 : Vec F S8x1536 .bf16) (x1 : Vec F S8x2x128 .bf16) : FVec F S8x1 .f32 :=
  k0_pay56 (b_v14 x0) (b_v280 x1)

def b_v443 (x5 : Vec F S2x8x512 .f32) : Vec F S1x8x512 .f32 :=
  View.ld x5 (Rect.unit (s := S2x8x512) ![1, 0, 0] S1x8x512.size inb_S2x8x512_S1x8x512_1_0_0)

def b_v463 (x5 : Vec F S2x8x512 .f32) : Vec F S1x8x512 .f32 :=
  View.ld x5 (Rect.unit (s := S2x8x512) ![1, 0, 0] S1x8x512.size inb_S2x8x512_S1x8x512_1_0_0)

def b_v448 (x0 : Vec F S8x1536 .bf16) (x3 : Vec F S2048x128 .i32) (x5 : Vec F S2x8x512 .f32) : FVec F S8x512 .f32 :=
  k0_pay59 (b_v278 x0 x3) (b_v443 x5)

def b_v456 (x0 : Vec F S8x1536 .bf16) (x1 : Vec F S8x2x128 .bf16) : FVec F S8x1 .f32 :=
  k0_pay60 (b_v14 x0) (b_v280 x1)

def b_v468 (x0 : Vec F S8x1536 .bf16) (x3 : Vec F S2048x128 .i32) (x5 : Vec F S2x8x512 .f32) : FVec F S8x512 .f32 :=
  k0_pay63 (b_v278 x0 x3) (b_v463 x5)

def b_v476 (x0 : Vec F S8x1536 .bf16) (x1 : Vec F S8x2x128 .bf16) : FVec F S8x1 .f32 :=
  k0_pay64 (b_v14 x0) (b_v280 x1)

def b_v483 (x5 : Vec F S2x8x512 .f32) : Vec F S1x8x512 .f32 :=
  View.ld x5 (Rect.unit (s := S2x8x512) ![1, 0, 0] S1x8x512.size inb_S2x8x512_S1x8x512_1_0_0)

def b_v503 (x5 : Vec F S2x8x512 .f32) : Vec F S1x8x512 .f32 :=
  View.ld x5 (Rect.unit (s := S2x8x512) ![1, 0, 0] S1x8x512.size inb_S2x8x512_S1x8x512_1_0_0)

def b_v488 (x0 : Vec F S8x1536 .bf16) (x3 : Vec F S2048x128 .i32) (x5 : Vec F S2x8x512 .f32) : FVec F S8x512 .f32 :=
  k0_pay67 (b_v278 x0 x3) (b_v483 x5)

def b_v496 (x0 : Vec F S8x1536 .bf16) (x1 : Vec F S8x2x128 .bf16) : FVec F S8x1 .f32 :=
  k0_pay68 (b_v14 x0) (b_v280 x1)

def b_v508 (x0 : Vec F S8x1536 .bf16) (x3 : Vec F S2048x128 .i32) (x5 : Vec F S2x8x512 .f32) : FVec F S8x512 .f32 :=
  k0_pay71 (b_v278 x0 x3) (b_v503 x5)

def b_v509 (x0 : Vec F S8x1536 .bf16) : FVec F S8x128 .f32 :=
  k0_pay72 (b_v14 x0)

def b_v511 (x1 : Vec F S8x2x128 .bf16) : FVec F S8x128 .f32 :=
  k0_pay73 (b_v280 x1)

def b_v542 (x6 : Vec F S2x8x512 .f32) : Vec F S1x8x512 .f32 :=
  View.ld x6 (Rect.unit (s := S2x8x512) ![0, 0, 0] S1x8x512.size inb_S2x8x512_S1x8x512_0_0_0)

def b_v546 (x6 : Vec F S2x8x512 .f32) : Vec F S1x8x512 .f32 :=
  View.ld x6 (Rect.unit (s := S2x8x512) ![0, 0, 0] S1x8x512.size inb_S2x8x512_S1x8x512_0_0_0)

def b_v550 (x6 : Vec F S2x8x512 .f32) : Vec F S1x8x512 .f32 :=
  View.ld x6 (Rect.unit (s := S2x8x512) ![0, 0, 0] S1x8x512.size inb_S2x8x512_S1x8x512_0_0_0)

def b_v537 (x0 : Vec F S8x1536 .bf16) (x1 : Vec F S8x2x128 .bf16) (x3 : Vec F S2048x128 .i32) (x5 : Vec F S2x8x512 .f32) : FVec F S96x512 .f32 :=
  k0_pay83 (b_v288 x0 x3 x5) (b_v296 x0 x1) (b_v308 x0 x3 x5) (b_v316 x0 x1) (b_v328 x0 x3 x5) (b_v336 x0 x1) (b_v348 x0 x3 x5) (b_v356 x0 x1) (b_v368 x0 x3 x5) (b_v376 x0 x1) (b_v388 x0 x3 x5) (b_v396 x0 x1) (b_v408 x0 x3 x5) (b_v416 x0 x1) (b_v428 x0 x3 x5) (b_v436 x0 x1) (b_v448 x0 x3 x5) (b_v456 x0 x1) (b_v468 x0 x3 x5) (b_v476 x0 x1) (b_v488 x0 x3 x5) (b_v496 x0 x1) (b_v508 x0 x3 x5) (b_v509 x0) (b_v511 x1)

def b_v540 (x0 : Vec F S8x1536 .bf16) (x1 : Vec F S8x2x128 .bf16) (x3 : Vec F S2048x128 .i32) (x5 : Vec F S2x8x512 .f32) : FVec F S96x1 .f32 :=
  k0_pay84 (b_v288 x0 x3 x5) (b_v296 x0 x1) (b_v308 x0 x3 x5) (b_v316 x0 x1) (b_v328 x0 x3 x5) (b_v336 x0 x1) (b_v348 x0 x3 x5) (b_v356 x0 x1) (b_v368 x0 x3 x5) (b_v376 x0 x1) (b_v388 x0 x3 x5) (b_v396 x0 x1) (b_v408 x0 x3 x5) (b_v416 x0 x1) (b_v428 x0 x3 x5) (b_v436 x0 x1) (b_v448 x0 x3 x5) (b_v456 x0 x1) (b_v468 x0 x3 x5) (b_v476 x0 x1) (b_v488 x0 x3 x5) (b_v496 x0 x1) (b_v508 x0 x3 x5) (b_v509 x0) (b_v511 x1)

def b_v544 (x0 : Vec F S8x1536 .bf16) (x1 : Vec F S8x2x128 .bf16) (x3 : Vec F S2048x128 .i32) (x5 : Vec F S2x8x512 .f32) (x6 : Vec F S2x8x512 .f32) : FVec F S8x512 .f32 :=
  k0_pay85 (b_v288 x0 x3 x5) (b_v296 x0 x1) (b_v308 x0 x3 x5) (b_v316 x0 x1) (b_v328 x0 x3 x5) (b_v336 x0 x1) (b_v348 x0 x3 x5) (b_v356 x0 x1) (b_v368 x0 x3 x5) (b_v376 x0 x1) (b_v388 x0 x3 x5) (b_v396 x0 x1) (b_v408 x0 x3 x5) (b_v416 x0 x1) (b_v428 x0 x3 x5) (b_v436 x0 x1) (b_v448 x0 x3 x5) (b_v456 x0 x1) (b_v468 x0 x3 x5) (b_v476 x0 x1) (b_v488 x0 x3 x5) (b_v496 x0 x1) (b_v508 x0 x3 x5) (b_v509 x0) (b_v511 x1) (b_v542 x6)

def b_v548 (x0 : Vec F S8x1536 .bf16) (x1 : Vec F S8x2x128 .bf16) (x3 : Vec F S2048x128 .i32) (x5 : Vec F S2x8x512 .f32) (x6 : Vec F S2x8x512 .f32) : FVec F S8x512 .f32 :=
  k0_pay86 (b_v288 x0 x3 x5) (b_v296 x0 x1) (b_v308 x0 x3 x5) (b_v316 x0 x1) (b_v328 x0 x3 x5) (b_v336 x0 x1) (b_v348 x0 x3 x5) (b_v356 x0 x1) (b_v368 x0 x3 x5) (b_v376 x0 x1) (b_v388 x0 x3 x5) (b_v396 x0 x1) (b_v408 x0 x3 x5) (b_v416 x0 x1) (b_v428 x0 x3 x5) (b_v436 x0 x1) (b_v448 x0 x3 x5) (b_v456 x0 x1) (b_v468 x0 x3 x5) (b_v476 x0 x1) (b_v488 x0 x3 x5) (b_v496 x0 x1) (b_v508 x0 x3 x5) (b_v509 x0) (b_v511 x1) (b_v546 x6)

def b_v549 (x0 : Vec F S8x1536 .bf16) (x1 : Vec F S8x2x128 .bf16) (x3 : Vec F S2048x128 .i32) (x5 : Vec F S2x8x512 .f32) : FVec F S8x512 .f32 :=
  k0_pay87 (b_v288 x0 x3 x5) (b_v296 x0 x1) (b_v308 x0 x3 x5) (b_v316 x0 x1) (b_v328 x0 x3 x5) (b_v336 x0 x1) (b_v348 x0 x3 x5) (b_v356 x0 x1) (b_v368 x0 x3 x5) (b_v376 x0 x1) (b_v388 x0 x3 x5) (b_v396 x0 x1) (b_v408 x0 x3 x5) (b_v416 x0 x1) (b_v428 x0 x3 x5) (b_v436 x0 x1) (b_v448 x0 x3 x5) (b_v456 x0 x1) (b_v468 x0 x3 x5) (b_v476 x0 x1) (b_v488 x0 x3 x5) (b_v496 x0 x1) (b_v508 x0 x3 x5) (b_v509 x0) (b_v511 x1)

def b_v554 (x6 : Vec F S2x8x512 .f32) : Vec F S1x8x512 .f32 :=
  View.ld x6 (Rect.unit (s := S2x8x512) ![0, 0, 0] S1x8x512.size inb_S2x8x512_S1x8x512_0_0_0)

def b_v558 (x6 : Vec F S2x8x512 .f32) : Vec F S1x8x512 .f32 :=
  View.ld x6 (Rect.unit (s := S2x8x512) ![0, 0, 0] S1x8x512.size inb_S2x8x512_S1x8x512_0_0_0)

def b_v562 (x6 : Vec F S2x8x512 .f32) : Vec F S1x8x512 .f32 :=
  View.ld x6 (Rect.unit (s := S2x8x512) ![0, 0, 0] S1x8x512.size inb_S2x8x512_S1x8x512_0_0_0)

def b_v566 (x6 : Vec F S2x8x512 .f32) : Vec F S1x8x512 .f32 :=
  View.ld x6 (Rect.unit (s := S2x8x512) ![1, 0, 0] S1x8x512.size inb_S2x8x512_S1x8x512_1_0_0)

def b_v570 (x6 : Vec F S2x8x512 .f32) : Vec F S1x8x512 .f32 :=
  View.ld x6 (Rect.unit (s := S2x8x512) ![1, 0, 0] S1x8x512.size inb_S2x8x512_S1x8x512_1_0_0)

def b_v574 (x6 : Vec F S2x8x512 .f32) : Vec F S1x8x512 .f32 :=
  View.ld x6 (Rect.unit (s := S2x8x512) ![1, 0, 0] S1x8x512.size inb_S2x8x512_S1x8x512_1_0_0)

def b_v578 (x6 : Vec F S2x8x512 .f32) : Vec F S1x8x512 .f32 :=
  View.ld x6 (Rect.unit (s := S2x8x512) ![1, 0, 0] S1x8x512.size inb_S2x8x512_S1x8x512_1_0_0)

def b_v582 (x6 : Vec F S2x8x512 .f32) : Vec F S1x8x512 .f32 :=
  View.ld x6 (Rect.unit (s := S2x8x512) ![1, 0, 0] S1x8x512.size inb_S2x8x512_S1x8x512_1_0_0)

def b_v552 (x0 : Vec F S8x1536 .bf16) (x1 : Vec F S8x2x128 .bf16) (x3 : Vec F S2048x128 .i32) (x5 : Vec F S2x8x512 .f32) (x6 : Vec F S2x8x512 .f32) : FVec F S8x512 .f32 :=
  k0_pay88 (b_v549 x0 x1 x3 x5) (b_v550 x6)

def b_v556 (x0 : Vec F S8x1536 .bf16) (x1 : Vec F S8x2x128 .bf16) (x3 : Vec F S2048x128 .i32) (x5 : Vec F S2x8x512 .f32) (x6 : Vec F S2x8x512 .f32) : FVec F S8x512 .f32 :=
  k0_pay89 (b_v537 x0 x1 x3 x5) (b_v554 x6)

def b_v560 (x0 : Vec F S8x1536 .bf16) (x1 : Vec F S8x2x128 .bf16) (x3 : Vec F S2048x128 .i32) (x5 : Vec F S2x8x512 .f32) (x6 : Vec F S2x8x512 .f32) : FVec F S8x512 .f32 :=
  k0_pay90 (b_v537 x0 x1 x3 x5) (b_v558 x6)

def b_v564 (x0 : Vec F S8x1536 .bf16) (x1 : Vec F S8x2x128 .bf16) (x3 : Vec F S2048x128 .i32) (x5 : Vec F S2x8x512 .f32) (x6 : Vec F S2x8x512 .f32) : FVec F S8x512 .f32 :=
  k0_pay91 (b_v537 x0 x1 x3 x5) (b_v562 x6)

def b_v568 (x0 : Vec F S8x1536 .bf16) (x1 : Vec F S8x2x128 .bf16) (x3 : Vec F S2048x128 .i32) (x5 : Vec F S2x8x512 .f32) (x6 : Vec F S2x8x512 .f32) : FVec F S8x512 .f32 :=
  k0_pay92 (b_v537 x0 x1 x3 x5) (b_v566 x6)

def b_v572 (x0 : Vec F S8x1536 .bf16) (x1 : Vec F S8x2x128 .bf16) (x3 : Vec F S2048x128 .i32) (x5 : Vec F S2x8x512 .f32) (x6 : Vec F S2x8x512 .f32) : FVec F S8x512 .f32 :=
  k0_pay93 (b_v537 x0 x1 x3 x5) (b_v570 x6)

def b_v576 (x0 : Vec F S8x1536 .bf16) (x1 : Vec F S8x2x128 .bf16) (x3 : Vec F S2048x128 .i32) (x5 : Vec F S2x8x512 .f32) (x6 : Vec F S2x8x512 .f32) : FVec F S8x512 .f32 :=
  k0_pay94 (b_v537 x0 x1 x3 x5) (b_v574 x6)

def b_v580 (x0 : Vec F S8x1536 .bf16) (x1 : Vec F S8x2x128 .bf16) (x3 : Vec F S2048x128 .i32) (x5 : Vec F S2x8x512 .f32) (x6 : Vec F S2x8x512 .f32) : FVec F S8x512 .f32 :=
  k0_pay95 (b_v537 x0 x1 x3 x5) (b_v578 x6)

def b_v584 (x0 : Vec F S8x1536 .bf16) (x1 : Vec F S8x2x128 .bf16) (x3 : Vec F S2048x128 .i32) (x5 : Vec F S2x8x512 .f32) (x6 : Vec F S2x8x512 .f32) : FVec F S8x512 .f32 :=
  k0_pay96 (b_v537 x0 x1 x3 x5) (b_v582 x6)

def b_v585 (x0 : Vec F S8x1536 .bf16) (x1 : Vec F S8x2x128 .bf16) (x3 : Vec F S2048x128 .i32) (x5 : Vec F S2x8x512 .f32) : FVec F S8x512 .f32 :=
  k0_pay97 (b_v537 x0 x1 x3 x5)

def b_v586 (x6 : Vec F S2x8x512 .f32) : Vec F S1x8x512 .f32 :=
  View.ld x6 (Rect.unit (s := S2x8x512) ![1, 0, 0] S1x8x512.size inb_S2x8x512_S1x8x512_1_0_0)

def b_v597 (x4 : Vec F S2048x128 .i32) : Vec F S128x128 .i32 :=
  View.ld x4 (Rect.unit (s := S2048x128) ![0, 0] S128x128.size inb_S2048x128_S128x128_0_0)

def b_v599 (x4 : Vec F S2048x128 .i32) : Vec F S128x128 .i32 :=
  View.ld x4 (Rect.unit (s := S2048x128) ![128, 0] S128x128.size inb_S2048x128_S128x128_128_0)

def b_v610 (x4 : Vec F S2048x128 .i32) : Vec F S128x128 .i32 :=
  View.ld x4 (Rect.unit (s := S2048x128) ![256, 0] S128x128.size inb_S2048x128_S128x128_256_0)

def b_v612 (x4 : Vec F S2048x128 .i32) : Vec F S128x128 .i32 :=
  View.ld x4 (Rect.unit (s := S2048x128) ![384, 0] S128x128.size inb_S2048x128_S128x128_384_0)

def b_v624 (x4 : Vec F S2048x128 .i32) : Vec F S128x128 .i32 :=
  View.ld x4 (Rect.unit (s := S2048x128) ![512, 0] S128x128.size inb_S2048x128_S128x128_512_0)

def b_v589 (x0 : Vec F S8x1536 .bf16) (x1 : Vec F S8x2x128 .bf16) (x3 : Vec F S2048x128 .i32) (x5 : Vec F S2x8x512 .f32) (x6 : Vec F S2x8x512 .f32) : FVec F S96x512 .f32 :=
  k0_pay98 (b_v544 x0 x1 x3 x5 x6) (b_v548 x0 x1 x3 x5 x6) (b_v552 x0 x1 x3 x5 x6) (b_v556 x0 x1 x3 x5 x6) (b_v560 x0 x1 x3 x5 x6) (b_v564 x0 x1 x3 x5 x6) (b_v568 x0 x1 x3 x5 x6) (b_v572 x0 x1 x3 x5 x6) (b_v576 x0 x1 x3 x5 x6) (b_v580 x0 x1 x3 x5 x6) (b_v584 x0 x1 x3 x5 x6) (b_v585 x0 x1 x3 x5) (b_v586 x6)

def b_v616 (x0 : Vec F S8x1536 .bf16) (x1 : Vec F S8x2x128 .bf16) (x3 : Vec F S2048x128 .i32) (x4 : Vec F S2048x128 .i32) (x5 : Vec F S2x8x512 .f32) (x6 : Vec F S2x8x512 .f32) : FVec F S96x256 .f32 :=
  k0_pay99 b_v31 (b_v544 x0 x1 x3 x5 x6) (b_v548 x0 x1 x3 x5 x6) (b_v552 x0 x1 x3 x5 x6) (b_v556 x0 x1 x3 x5 x6) (b_v560 x0 x1 x3 x5 x6) (b_v564 x0 x1 x3 x5 x6) (b_v568 x0 x1 x3 x5 x6) (b_v572 x0 x1 x3 x5 x6) (b_v576 x0 x1 x3 x5 x6) (b_v580 x0 x1 x3 x5 x6) (b_v584 x0 x1 x3 x5 x6) (b_v585 x0 x1 x3 x5) (b_v586 x6) (b_v597 x4) (b_v599 x4) (b_v610 x4) (b_v612 x4)

def b_v623 (x0 : Vec F S8x1536 .bf16) (x1 : Vec F S8x2x128 .bf16) (x3 : Vec F S2048x128 .i32) (x5 : Vec F S2x8x512 .f32) (x6 : Vec F S2x8x512 .f32) : FVec F S96x512 .bf16 :=
  k0_pay100 b_v31 (b_v544 x0 x1 x3 x5 x6) (b_v548 x0 x1 x3 x5 x6) (b_v552 x0 x1 x3 x5 x6) (b_v556 x0 x1 x3 x5 x6) (b_v560 x0 x1 x3 x5 x6) (b_v564 x0 x1 x3 x5 x6) (b_v568 x0 x1 x3 x5 x6) (b_v572 x0 x1 x3 x5 x6) (b_v576 x0 x1 x3 x5 x6) (b_v580 x0 x1 x3 x5 x6) (b_v584 x0 x1 x3 x5 x6) (b_v585 x0 x1 x3 x5) (b_v586 x6)

def b_v625 (x4 : Vec F S2048x128 .i32) : FVec F S512x128 .fp8e4m3 :=
  k0_pay101 (b_v624 x4)

def b_v626 (x4 : Vec F S2048x128 .i32) : Vec F S128x128 .i32 :=
  View.ld x4 (Rect.unit (s := S2048x128) ![640, 0] S128x128.size inb_S2048x128_S128x128_640_0)

def b_v638 (x4 : Vec F S2048x128 .i32) : Vec F S128x128 .i32 :=
  View.ld x4 (Rect.unit (s := S2048x128) ![768, 0] S128x128.size inb_S2048x128_S128x128_768_0)

def b_v640 (x4 : Vec F S2048x128 .i32) : Vec F S128x128 .i32 :=
  View.ld x4 (Rect.unit (s := S2048x128) ![896, 0] S128x128.size inb_S2048x128_S128x128_896_0)

def b_v652 (x4 : Vec F S2048x128 .i32) : Vec F S128x128 .i32 :=
  View.ld x4 (Rect.unit (s := S2048x128) ![1024, 0] S128x128.size inb_S2048x128_S128x128_1024_0)

def b_v654 (x4 : Vec F S2048x128 .i32) : Vec F S128x128 .i32 :=
  View.ld x4 (Rect.unit (s := S2048x128) ![1152, 0] S128x128.size inb_S2048x128_S128x128_1152_0)

def b_v658 (x0 : Vec F S8x1536 .bf16) (x1 : Vec F S8x2x128 .bf16) (x3 : Vec F S2048x128 .i32) (x4 : Vec F S2048x128 .i32) (x5 : Vec F S2x8x512 .f32) (x6 : Vec F S2x8x512 .f32) : FVec F S96x256 .f32 :=
  k0_pay102 b_v31 (b_v589 x0 x1 x3 x5 x6) (b_v616 x0 x1 x3 x4 x5 x6) (b_v623 x0 x1 x3 x5 x6) (b_v625 x4) (b_v626 x4) (b_v638 x4) (b_v640 x4) (b_v652 x4) (b_v654 x4)

def b_v665 (x0 : Vec F S8x1536 .bf16) (x1 : Vec F S8x2x128 .bf16) (x3 : Vec F S2048x128 .i32) (x5 : Vec F S2x8x512 .f32) (x6 : Vec F S2x8x512 .f32) : FVec F S96x512 .bf16 :=
  k0_pay103 b_v31 (b_v589 x0 x1 x3 x5 x6)

def b_v666 (x4 : Vec F S2048x128 .i32) : Vec F S128x128 .i32 :=
  View.ld x4 (Rect.unit (s := S2048x128) ![1280, 0] S128x128.size inb_S2048x128_S128x128_1280_0)

def b_v668 (x4 : Vec F S2048x128 .i32) : Vec F S128x128 .i32 :=
  View.ld x4 (Rect.unit (s := S2048x128) ![1408, 0] S128x128.size inb_S2048x128_S128x128_1408_0)

def b_v680 (x4 : Vec F S2048x128 .i32) : Vec F S128x128 .i32 :=
  View.ld x4 (Rect.unit (s := S2048x128) ![1536, 0] S128x128.size inb_S2048x128_S128x128_1536_0)

def b_v682 (x4 : Vec F S2048x128 .i32) : Vec F S128x128 .i32 :=
  View.ld x4 (Rect.unit (s := S2048x128) ![1664, 0] S128x128.size inb_S2048x128_S128x128_1664_0)

def b_v694 (x4 : Vec F S2048x128 .i32) : Vec F S128x128 .i32 :=
  View.ld x4 (Rect.unit (s := S2048x128) ![1792, 0] S128x128.size inb_S2048x128_S128x128_1792_0)

def b_v696 (x4 : Vec F S2048x128 .i32) : Vec F S128x128 .i32 :=
  View.ld x4 (Rect.unit (s := S2048x128) ![1920, 0] S128x128.size inb_S2048x128_S128x128_1920_0)

def b_v700 (x0 : Vec F S8x1536 .bf16) (x1 : Vec F S8x2x128 .bf16) (x3 : Vec F S2048x128 .i32) (x4 : Vec F S2048x128 .i32) (x5 : Vec F S2x8x512 .f32) (x6 : Vec F S2x8x512 .f32) : FVec F S96x256 .f32 :=
  k0_pay104 b_v31 (b_v589 x0 x1 x3 x5 x6) (b_v658 x0 x1 x3 x4 x5 x6) (b_v665 x0 x1 x3 x5 x6) (b_v666 x4) (b_v668 x4) (b_v680 x4) (b_v682 x4) (b_v694 x4) (b_v696 x4)

def b_v707 (x0 : Vec F S8x1536 .bf16) (x1 : Vec F S8x2x128 .bf16) (x2 : Vec F S8x2x128 .bf16) (x3 : Vec F S2048x128 .i32) (x4 : Vec F S2048x128 .i32) (x5 : Vec F S2x8x512 .f32) (x6 : Vec F S2x8x512 .f32) : FVec F S8x128 .f32 :=
  k0_pay105 b_v31 (b_v282 x2) (b_v540 x0 x1 x3 x5) (b_v589 x0 x1 x3 x5 x6) (b_v658 x0 x1 x3 x4 x5 x6) (b_v665 x0 x1 x3 x5 x6) (b_v666 x4) (b_v668 x4) (b_v680 x4) (b_v682 x4) (b_v694 x4) (b_v696 x4)

def b_v752 (x0 : Vec F S8x1536 .bf16) (x1 : Vec F S8x2x128 .bf16) (x2 : Vec F S8x2x128 .bf16) (x3 : Vec F S2048x128 .i32) (x4 : Vec F S2048x128 .i32) (x5 : Vec F S2x8x512 .f32) (x6 : Vec F S2x8x512 .f32) : FVec F S8x128 .f32 :=
  (k0_pay111 (b_v282 x2) (b_v540 x0 x1 x3 x5) (b_v700 x0 x1 x3 x4 x5 x6))

def b_v797 (x0 : Vec F S8x1536 .bf16) (x1 : Vec F S8x2x128 .bf16) (x2 : Vec F S8x2x128 .bf16) (x3 : Vec F S2048x128 .i32) (x4 : Vec F S2048x128 .i32) (x5 : Vec F S2x8x512 .f32) (x6 : Vec F S2x8x512 .f32) : FVec F S8x128 .f32 :=
  (k0_pay117 (b_v282 x2) (b_v540 x0 x1 x3 x5) (b_v700 x0 x1 x3 x4 x5 x6))

def pieces7 (x0 : Vec F S8x1536 .bf16) (x1 : Vec F S8x2x128 .bf16) (x2 : Vec F S8x2x128 .bf16) (x3 : Vec F S2048x128 .i32) (x4 : Vec F S2048x128 .i32) (x5 : Vec F S2x8x512 .f32) (x6 : Vec F S2x8x512 .f32) : List (View.Piece (Elt F) S8x1536 .bf16) :=
  [⟨Rect.unit (s := S8x1536) ![0, 1408] S8x128.size inb_S8x1536_S8x128_0_1408, k0_pay2 (b_v282 x2) (b_v540 x0 x1 x3 x5) (b_v700 x0 x1 x3 x4 x5 x6)⟩,
   ⟨Rect.unit (s := S8x1536) ![0, 1280] S8x128.size inb_S8x1536_S8x128_0_1280, k0_pay1 (b_v797 x0 x1 x2 x3 x4 x5 x6)⟩,
   ⟨Rect.unit (s := S8x1536) ![0, 1152] S8x128.size inb_S8x1536_S8x128_0_1152, k0_pay116 (b_v282 x2) (b_v540 x0 x1 x3 x5) (b_v700 x0 x1 x3 x4 x5 x6)⟩,
   ⟨Rect.unit (s := S8x1536) ![0, 1024] S8x128.size inb_S8x1536_S8x128_0_1024, k0_pay115 (b_v282 x2) (b_v540 x0 x1 x3 x5) (b_v700 x0 x1 x3 x4 x5 x6)⟩,
   ⟨Rect.unit (s := S8x1536) ![0, 896] S8x128.size inb_S8x1536_S8x128_0_896, k0_pay114 (b_v282 x2) (b_v540 x0 x1 x3 x5) (b_v700 x0 x1 x3 x4 x5 x6)⟩,
   ⟨Rect.unit (s := S8x1536) ![0, 768] S8x128.size inb_S8x1536_S8x128_0_768, k0_pay113 (b_v282 x2) (b_v540 x0 x1 x3 x5) (b_v700 x0 x1 x3 x4 x5 x6)⟩,
   ⟨Rect.unit (s := S8x1536) ![0, 640] S8x128.size inb_S8x1536_S8x128_0_640, k0_pay112 (b_v752 x0 x1 x2 x3 x4 x5 x6)⟩,
   ⟨Rect.unit (s := S8x1536) ![0, 512] S8x128.size inb_S8x1536_S8x128_0_512, k0_pay110 (b_v282 x2) (b_v540 x0 x1 x3 x5) (b_v700 x0 x1 x3 x4 x5 x6)⟩,
   ⟨Rect.unit (s := S8x1536) ![0, 384] S8x128.size inb_S8x1536_S8x128_0_384, k0_pay109 (b_v282 x2) (b_v540 x0 x1 x3 x5) (b_v700 x0 x1 x3 x4 x5 x6)⟩,
   ⟨Rect.unit (s := S8x1536) ![0, 256] S8x128.size inb_S8x1536_S8x128_0_256, k0_pay108 (b_v282 x2) (b_v540 x0 x1 x3 x5) (b_v700 x0 x1 x3 x4 x5 x6)⟩,
   ⟨Rect.unit (s := S8x1536) ![0, 128] S8x128.size inb_S8x1536_S8x128_0_128, k0_pay107 (b_v282 x2) (b_v540 x0 x1 x3 x5) (b_v700 x0 x1 x3 x4 x5 x6)⟩,
   ⟨Rect.unit (s := S8x1536) ![0, 0] S8x128.size inb_S8x1536_S8x128_0_0, k0_pay106 (b_v707 x0 x1 x2 x3 x4 x5 x6)⟩]

def pieces8 (x0 : Vec F S8x1536 .bf16) (x1 : Vec F S8x2x128 .bf16) (x3 : Vec F S2048x128 .i32) (x5 : Vec F S2x8x512 .f32) : List (View.Piece (Elt F) S12x8x513 .f32) :=
  [⟨Rect.unit (s := S12x8x513) ![11, 0, 512] S1x8x1.size inb_S12x8x513_S1x8x1_11_0_512, k0_pay76 (b_v509 x0) (b_v511 x1)⟩,
   ⟨Rect.unit (s := S12x8x513) ![11, 0, 0] S1x8x512.size inb_S12x8x513_S1x8x512_11_0_0, k0_pay75 (b_v508 x0 x3 x5)⟩,
   ⟨Rect.unit (s := S12x8x513) ![10, 0, 512] S1x8x1.size inb_S12x8x513_S1x8x1_10_0_512, k0_pay70 (b_v14 x0) (b_v280 x1)⟩,
   ⟨Rect.unit (s := S12x8x513) ![10, 0, 0] S1x8x512.size inb_S12x8x513_S1x8x512_10_0_0, k0_pay69 (b_v278 x0 x3) (b_v483 x5)⟩,
   ⟨Rect.unit (s := S12x8x513) ![9, 0, 512] S1x8x1.size inb_S12x8x513_S1x8x1_9_0_512, k0_pay66 (b_v476 x0 x1)⟩,
   ⟨Rect.unit (s := S12x8x513) ![9, 0, 0] S1x8x512.size inb_S12x8x513_S1x8x512_9_0_0, k0_pay65 (b_v468 x0 x3 x5)⟩,
   ⟨Rect.unit (s := S12x8x513) ![8, 0, 512] S1x8x1.size inb_S12x8x513_S1x8x1_8_0_512, k0_pay62 (b_v14 x0) (b_v280 x1)⟩,
   ⟨Rect.unit (s := S12x8x513) ![8, 0, 0] S1x8x512.size inb_S12x8x513_S1x8x512_8_0_0, k0_pay61 (b_v278 x0 x3) (b_v443 x5)⟩,
   ⟨Rect.unit (s := S12x8x513) ![7, 0, 512] S1x8x1.size inb_S12x8x513_S1x8x1_7_0_512, k0_pay58 (b_v436 x0 x1)⟩,
   ⟨Rect.unit (s := S12x8x513) ![7, 0, 0] S1x8x512.size inb_S12x8x513_S1x8x512_7_0_0, k0_pay57 (b_v278 x0 x3) (b_v423 x5)⟩,
   ⟨Rect.unit (s := S12x8x513) ![6, 0, 512] S1x8x1.size inb_S12x8x513_S1x8x1_6_0_512, k0_pay54 (b_v14 x0) (b_v280 x1)⟩,
   ⟨Rect.unit (s := S12x8x513) ![6, 0, 0] S1x8x512.size inb_S12x8x513_S1x8x512_6_0_0, k0_pay53 (b_v278 x0 x3) (b_v403 x5)⟩,
   ⟨Rect.unit (s := S12x8x513) ![5, 0, 512] S1x8x1.size inb_S12x8x513_S1x8x1_5_0_512, k0_pay50 (b_v14 x0) (b_v280 x1)⟩,
   ⟨Rect.unit (s := S12x8x513) ![5, 0, 0] S1x8x512.size inb_S12x8x513_S1x8x512_5_0_0, k0_pay49 (b_v278 x0 x3) (b_v383 x5)⟩,
   ⟨Rect.unit (s := S12x8x513) ![4, 0, 512] S1x8x1.size inb_S12x8x513_S1x8x1_4_0_512, k0_pay46 (b_v280 x1) (b_v369 x0)⟩,
   ⟨Rect.unit (s := S12x8x513) ![4, 0, 0] S1x8x512.size inb_S12x8x513_S1x8x512_4_0_0, k0_pay45 (b_v368 x0 x3 x5)⟩,
   ⟨Rect.unit (s := S12x8x513) ![3, 0, 512] S1x8x1.size inb_S12x8x513_S1x8x1_3_0_512, k0_pay41 (b_v14 x0) (b_v280 x1)⟩,
   ⟨Rect.unit (s := S12x8x513) ![3, 0, 0] S1x8x512.size inb_S12x8x513_S1x8x512_3_0_0, k0_pay40 (b_v278 x0 x3) (b_v343 x5)⟩,
   ⟨Rect.unit (s := S12x8x513) ![2, 0, 512] S1x8x1.size inb_S12x8x513_S1x8x1_2_0_512, k0_pay37 (b_v334 x0 x1) b_v335⟩,
   ⟨Rect.unit (s := S12x8x513) ![2, 0, 0] S1x8x512.size inb_S12x8x513_S1x8x512_2_0_0, k0_pay36 (b_v328 x0 x3 x5)⟩,
   ⟨Rect.unit (s := S12x8x513) ![1, 0, 512] S1x8x1.size inb_S12x8x513_S1x8x1_1_0_512, k0_pay31 (b_v14 x0) (b_v280 x1)⟩,
   ⟨Rect.unit (s := S12x8x513) ![1, 0, 0] S1x8x512.size inb_S12x8x513_S1x8x512_1_0_0, k0_pay30 (b_v278 x0 x3) (b_v303 x5)⟩,
   ⟨Rect.unit (s := S12x8x513) ![0, 0, 512] S1x8x1.size inb_S12x8x513_S1x8x1_0_0_512, k0_pay27 (b_v296 x0 x1)⟩,
   ⟨Rect.unit (s := S12x8x513) ![0, 0, 0] S1x8x512.size inb_S12x8x513_S1x8x512_0_0_0, k0_pay26 (b_v14 x0) b_v55 (b_v250 x0 x3) (b_v260 x0) b_v262 (b_v272 x3) (b_v274 x3) (b_v283 x5)⟩]

end Cert.Proof

end
-- ==== Proof.BlockTerms.lean ====
/- The output blocks the body leaves are what the stores listed in `BlockDefs` leave. -/
module

public import proofs.«01_k».proof.Proof.BlockDefs

@[expose] public section

noncomputable section

namespace Cert.Proof

open Cert.KernelIdeal Cert.KernelIdeal.Gen Idealize.ShloMosaic Idealize.ShloMosaic.TcCoe Idealize.SL.Sem

variable {F : FTy → Type} [FloatOps F]

set_option maxRecDepth 100000
set_option maxHeartbeats 4000000

variable (c : Dev nD) (t : Fin cfg0.N) (x0 : Vec F S8x1536 .bf16) (x1 : Vec F S8x2x128 .bf16) (x2 : Vec F S8x2x128 .bf16)
  (x3 : Vec F S2048x128 .i32) (x4 : Vec F S2048x128 .i32) (x5 : Vec F S2x8x512 .f32) (x6 : Vec F S2x8x512 .f32)

/-- The attention block a grid point leaves is what its twelve stores leave. -/
theorem out7_eq :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 x6
      = View.canon (pieces7 x0 x1 x2 x3 x4 x5 x6) := by
  unfold out0_A_7
  rw [View.read_writes_eq_canon _ _ _ (cover0_A_7 c _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

/-- The logits block a grid point leaves is what its twenty-four stores leave. -/
theorem out8_eq :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 x6
      = View.canon (pieces8 x0 x1 x3 x5) := by
  unfold out0_A_8
  rw [View.read_writes_eq_canon _ _ _ (cover0_A_8 c _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

end Cert.Proof

end
-- ==== Proof.Codes.lean ====
/- The eight-bit codes packed four to a word: `code w j` is the number that byte `j` of the word `w` stands for, and reading
   a block of words at eight bits puts byte `n % 4` of word row `n / 4` at code row `n`. -/
module

public import Idealize.ShloMosaic.Lib.Pointwise
public import Idealize.ShloMosaic.Lib.BitcastPair

@[expose] public section

noncomputable section

namespace Cert.Proof

open Idealize.ShloMosaic

/-- The number byte `j` of the word `w` stands for. -/
def code (w : BitVec 32) (j : ℕ) : Ideal .fp8e4m3 := Ideal.ofBits .fp8e4m3 (w.extractLsb' (8 * j) 8)

/-- A block of 32-bit words read at eight bits: the element at row `n` is byte `n % 4` of the word at row `n / 4`. -/
theorem bitcast_32_8 {R r n : ℕ} (x : (⟨2, ![R, n]⟩ : Shape).Idx → BitVec 32)
    (h : (⟨2, ![R, n]⟩ : Shape).Bitcasts 32 ⟨2, ![r, n]⟩ 8) (a : Fin r) (l : Fin n) (p : Fin R) (hp : p.val = a.val / 4) :
    bitcast ⟨2, ![r, n]⟩ 8 x h (ix2 a l) = (x (ix2 p l)).extractLsb' (8 * (a.val % 4)) 8 := by
  apply BitVec.eq_of_getLsbD_eq
  intro q hq
  rw [bitcast_getLsbD x h _ q hq (by decide)]
  have hrow : Shape.row (⟨2, ![r, n]⟩ : Shape) (ix2 a l) = a.val := rfl
  have e1 : (Shape.row (⟨2, ![r, n]⟩ : Shape) (ix2 a l) * 8 + q) / 32 = p.val := by rw [hrow, hp]; omega
  have e2 : (Shape.row (⟨2, ![r, n]⟩ : Shape) (ix2 a l) * 8 + q) % 32 = 8 * (a.val % 4) + q := by rw [hrow]; omega
  rw [BitVec.getLsbD_extractLsb', decide_eq_true hq, Bool.true_and, e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The codes of a block of words, at an index. -/
theorem codes_apply {R r n : ℕ} (x : (⟨2, ![R, n]⟩ : Shape).Idx → BitVec 32)
    (h : (⟨2, ![R, n]⟩ : Shape).Bitcasts 32 ⟨2, ![r, n]⟩ 8) (a : Fin r) (l : Fin n) (p : Fin R) (hp : p.val = a.val / 4) :
    (bitcastToFloat (F := Ideal) .fp8e4m3 (bitcast ⟨2, ![r, n]⟩ 8 x h) (ix2 a l)) = code (x (ix2 p l)) (a.val % 4) := by
  show Ideal.ofBits .fp8e4m3 (bitcast ⟨2, ![r, n]⟩ 8 x h (ix2 a l)) = _
  rw [bitcast_32_8 x h a l p hp]; rfl

end Cert.Proof

end
-- ==== Proof.Spec.lean ====
/- Attention of one query row over 512 cached tokens and one new token, as both programs compute it.

   The row's query is `q`; token `k` of the cache has key `kk k`, value `vv k`, key scale `ks k` and value scale `vs k`; the
   new token has key `kn` and value `vn`. -/
module

public import proofs.«01_k».proof.Proof.Codes

@[expose] public section

noncomputable section

namespace Cert.Proof

open Idealize.ShloMosaic

/-- The softmax scale (the word of `128 ** -0.5`). -/
def sc : EReal := Ideal.ofBits .f32 0x3DB504F3#32

/-- The number a maximum starts from (the word of minus infinity). -/
def ninf : EReal := Ideal.ofBits .f32 0xFF800000#32

/-- The logit of a cached token. -/
def lgt (q : Fin 128 → EReal) (kk : Fin 512 → Fin 128 → EReal) (ks : Fin 512 → EReal) (k : Fin 512) : EReal :=
  sc * ks k * ∑ d : Fin 128, q d * kk k d

/-- The logit of the new token. -/
def nlg (q kn : Fin 128 → EReal) : EReal := sc * ∑ d : Fin 128, q d * kn d

/-- The greatest logit of a row. -/
def top (l : Fin 512 → EReal) (n : EReal) : EReal := max (Finset.univ.fold max ninf l) n

/-- The sum of a row's exponentials. -/
def tot (l : Fin 512 → EReal) (n : EReal) : EReal :=
  (∑ k : Fin 512, Ideal.exp (l k - top l n)) + Ideal.exp (n - top l n)

/-- The probability of a token with logit `a`. -/
def prob (l : Fin 512 → EReal) (n a : EReal) : EReal := Ideal.div (Ideal.exp (a - top l n)) (tot l n)

/-- The attention of a row at one value dimension: `vv` and `vn` are the values' entries there. -/
def att (l : Fin 512 → EReal) (n : EReal) (vs vv : Fin 512 → EReal) (vn : EReal) : EReal :=
  (∑ k : Fin 512, prob l n (l k) * vs k * vv k) + prob l n n * vn

/-- Code row `k` of the 512 codes that start at word row `128 j`, at dimension `d`. -/
def codeAt {R : ℕ} (w : (⟨2, ![R, 128]⟩ : Shape).Idx → BitVec 32) (j : ℕ) (hj : 128 * j + 128 ≤ R) (k : Fin 512)
    (d : Fin 128) : EReal :=
  code (w (ix2 ⟨128 * j + k.val / 4, by omega⟩ d)) (k.val % 4)

end Cert.Proof

end
-- ==== Proof.BlockDot.lean ====
/- The products of queries and keys of one block.

   The body stacks its 12 heads by 8 sequences into 96 rows, row `8 h + b`. For each sequence it zeroes every other
   sequence's rows and multiplies by that sequence's codes; the eight products are added. Since zero times anything is
   zero, the sum at row `8 h + b` is the product of that row's query with the keys of sequence `b` and head `h / 6`. -/
module

public import proofs.«01_k».proof.Proof.BlockDefs
public import proofs.«01_k».proof.Proof.Spec

@[expose] public section

set_option maxRecDepth 16384

noncomputable section

namespace Cert.Proof

open Cert.KernelIdeal Cert.KernelIdeal.Gen Idealize.ShloMosaic Idealize.ShloMosaic.TcCoe Idealize.SL.Sem

/-- Row `8 h + b` of a block's 96 rows. -/
abbrev rw96 (h : Fin 12) (b : Fin 8) : Fin 96 := ⟨8 * h.val + b.val, by omega⟩

/-- Row `r` of the block's 96 rows belongs to sequence `r % 8` of the block. -/
theorem rowB (h : Fin 12) (b : Fin 8) : b_v31 (ix2 (rw96 h b) 0) = BitVec.ofNat 32 b.val := by
  revert h b; decide +kernel

/-- Row `r` of the block's 96 rows belongs to key/value head `r / 48`. -/
theorem rowG (h : Fin 12) (b : Fin 8) : b_v55 (ix2 (rw96 h b) 0) = BitVec.ofNat 32 (h.val / 6) := by
  revert h b; decide +kernel

/-- Twelve pieces of eight rows, stacked, at row `8 h + b`: row `b` of piece `h`. -/
theorem concat12 {α : Type} {n : ℕ} (v0 v1 v2 v3 v4 v5 v6 v7 v8 v9 v10 v11 : (⟨2, ![8, n]⟩ : Shape).Idx → α)
    (hc) (h : Fin 12) (b : Fin 8) (k : Fin n) :
    concatenate ⟨2, ![96, n]⟩ 0 [⟨⟨2, ![8, n]⟩, v0⟩, ⟨⟨2, ![8, n]⟩, v1⟩, ⟨⟨2, ![8, n]⟩, v2⟩, ⟨⟨2, ![8, n]⟩, v3⟩,
        ⟨⟨2, ![8, n]⟩, v4⟩, ⟨⟨2, ![8, n]⟩, v5⟩, ⟨⟨2, ![8, n]⟩, v6⟩, ⟨⟨2, ![8, n]⟩, v7⟩, ⟨⟨2, ![8, n]⟩, v8⟩,
        ⟨⟨2, ![8, n]⟩, v9⟩, ⟨⟨2, ![8, n]⟩, v10⟩, ⟨⟨2, ![8, n]⟩, v11⟩] hc (ix2 (rw96 h b) k)
      = (![v0, v1, v2, v3, v4, v5, v6, v7, v8, v9, v10, v11] : Fin 12 → _) h (ix2 b k) := by
  refine concatenate_ofFn_apply (t := ⟨2, ![96, n]⟩) (s₁ := ⟨2, ![8, n]⟩) 0
    (![v0, v1, v2, v3, v4, v5, v6, v7, v8, v9, v10, v11] : Fin 12 → _) hc rfl 8 rfl (ix2 (rw96 h b) k) h ?_ (ix2 b k) ?_ ?_
  · show (8 * h.val + b.val) / 8 = h.val; omega
  · show b.val = (8 * h.val + b.val) % 8; omega
  · intro a ha
    match a with
    | ⟨0, _⟩ => exact absurd rfl ha
    | ⟨1, _⟩ => rfl

/-- Row `8 h + b` of the query rows is head `h` of sequence `b`. -/
theorem q_apply (x0 : Vec Ideal S8x1536 .bf16) (h : Fin 12) (b : Fin 8) (d : Fin 128) :
    b_v14 x0 (ix2 (rw96 h b) d) = x0 (ix2 b ⟨128 * h.val + d.val, by omega⟩) := by
  unfold b_v14 k0_pay3 b_v0
  dsimp only
  rw [concat12]
  fin_cases h <;>
    simp only [Matrix.cons_val, Fin.reduceFinMk, Fin.zero_eta, Fin.isValue, Fin.mk_one] <;>
    pointwise [] <;> congr 2 <;> simp

/-- The query rows of sequence `b` and key/value head `g`, every other row zero. -/
def qSel (q : FVec Ideal S96x128 .f32) (b g : BitVec 32) : FVec Ideal S96x128 .bf16 :=
  truncf .bf16 (select (broadcastTo S96x128 (shapeCast S96x1 (andi (cmpi .eq b_v31 (broadcast S96x1 b)) (cmpi .eq b_v55 (broadcast S96x1 g))) shapeCasts_S96x1_S96x1) broadcasts_S96x1_S96x128) q (broadcast S96x128 (Scalar.ofBits .f32 0x00000000#32))) bitsLt_bf16_f32

/-- The codes of a sequence's two heads side by side. -/
def codes2 (w0 w1 : Vec Ideal S128x128 .i32) : FVec Ideal S512x256 .fp8e4m3 :=
  concatenate S512x256 1 [⟨S512x128, bitcastToFloat .fp8e4m3 (bitcast S512x128 8 w0 bitcasts_S128x128_w32_S512x128_w8)⟩, ⟨S512x128, bitcastToFloat .fp8e4m3 (bitcast S512x128 8 w1 bitcasts_S128x128_w32_S512x128_w8)⟩] concatenates_S512x128_S512x128_S512x256_d1

/-- What sequence `b` adds to the products of queries and keys. -/
def qkPart (q : FVec Ideal S96x128 .f32) (b : BitVec 32) (w0 w1 : Vec Ideal S128x128 .i32) : FVec Ideal S96x512 .f32 :=
  matmul dot_S96x256_S512x256_S96x512_1_1_0_0_n_n none
    (concatenate S96x256 1 [⟨S96x128, qSel q b 0#32⟩, ⟨S96x128, qSel q b 1#32⟩] concatenates_S96x128_S96x128_S96x256_d1)
    (codes2 w0 w1) (constant S96x512 .f32 0x00000000#32)

/-- The body's products are the eight sequences' parts, added in order. -/
theorem qk_eq (x0 : Vec Ideal S8x1536 .bf16) (x3 : Vec Ideal S2048x128 .i32) :
    b_v278 x0 x3 = addf (addf (addf (addf (addf (addf (addf
      (qkPart (b_v14 x0) 0#32 (b_v77 x3) (b_v79 x3)) (qkPart (b_v14 x0) 1#32 (b_v104 x3) (b_v106 x3)))
      (qkPart (b_v14 x0) 2#32 (b_v132 x3) (b_v134 x3))) (qkPart (b_v14 x0) 3#32 (b_v160 x3) (b_v162 x3)))
      (qkPart (b_v14 x0) 4#32 (b_v188 x3) (b_v190 x3))) (qkPart (b_v14 x0) 5#32 (b_v216 x3) (b_v218 x3)))
      (qkPart (b_v14 x0) 6#32 (b_v244 x3) (b_v246 x3))) (qkPart (b_v14 x0) 7#32 (b_v272 x3) (b_v274 x3)) := rfl

/-- The condition that selects a row: its sequence and its head are the ones asked for. -/
theorem sel_cond (b b' : Fin 8) (h : Fin 12) (g : Fin 2) :
    IntOp.andi (IntOp.cmpi .eq (BitVec.ofNat 32 b.val) (BitVec.ofNat 32 b'.val))
        (IntOp.cmpi .eq (BitVec.ofNat 32 (h.val / 6)) (BitVec.ofNat 32 g.val))
      = if b = b' ∧ h.val / 6 = g.val then 1#1 else 0#1 := by
  revert b b' h g; decide +kernel

/-- One of two blocks of words, by the head. -/
def pick (h : Fin 12) (w0 w1 : Vec Ideal S128x128 .i32) : Vec Ideal S128x128 .i32 := if h.val / 6 = 0 then w0 else w1

/-- Sequence `b'`'s part at row `8 h + b`: the row's product with the keys when it is the row's sequence, else zero. -/
theorem qkPart_apply (q : FVec Ideal S96x128 .f32) (b' : Fin 8) (w0 w1 : Vec Ideal S128x128 .i32) (h : Fin 12) (b : Fin 8)
    (k : Fin 512) :
    qkPart q (BitVec.ofNat 32 b'.val) w0 w1 (ix2 (rw96 h b) k)
      = if b = b' then ∑ d : Fin 128, q (ix2 (rw96 h b) d) * code (pick h w0 w1 (ix2 ⟨k.val / 4, by omega⟩ d)) (k.val % 4)
        else 0 := by
  have h0 := sel_cond b b' h 0
  have h1 := sel_cond b b' h 1
  have hc : ∀ (w : Vec Ideal S128x128 .i32) (d : Fin 128),
      Ideal.ofBits .fp8e4m3 (bitcast S512x128 8 w bitcasts_S128x128_w32_S512x128_w8 (ix2 k d))
        = code (w (ix2 ⟨k.val / 4, by omega⟩ d)) (k.val % 4) := fun w d => codes_apply w _ k d _ rfl
  pointwise [qkPart, codes2, qSel]
  simp only [rowB, rowG, hc]
  simp only [Fin.val_zero, Fin.val_one] at h0 h1
  rw [h0, h1]
  have hg : h.val / 6 = 0 ∨ h.val / 6 = 1 := by omega
  by_cases hb : b = b'
  · rcases hg with hg | hg <;> simp [hb, hg, pick, Scalar.select]
  · simp [hb, Scalar.select]

/-- The words of sequence `b` and head `g`, one load for each. -/
def kw (x3 : Vec Ideal S2048x128 .i32) : Fin 8 → Vec Ideal S128x128 .i32 × Vec Ideal S128x128 .i32 :=
  ![(b_v77 x3, b_v79 x3), (b_v104 x3, b_v106 x3), (b_v132 x3, b_v134 x3), (b_v160 x3, b_v162 x3),
    (b_v188 x3, b_v190 x3), (b_v216 x3, b_v218 x3), (b_v244 x3, b_v246 x3), (b_v272 x3, b_v274 x3)]

/-- Row `p` of those words is word row `128 (2 b + h / 6) + p` of the block. -/
theorem kw_apply (x3 : Vec Ideal S2048x128 .i32) (b : Fin 8) (h : Fin 12) (p : Fin 128) (d : Fin 128) :
    pick h (kw x3 b).1 (kw x3 b).2 (ix2 p d) = x3 (ix2 ⟨128 * (2 * b.val + h.val / 6) + p.val, by omega⟩ d) := by
  have hg : h.val / 6 = 0 ∨ h.val / 6 = 1 := by omega
  rcases hg with hg | hg <;> simp only [pick, hg] <;> fin_cases b <;>
    simp only [kw, if_true, one_ne_zero, if_false, Matrix.cons_val, Fin.reduceFinMk, Fin.zero_eta, Fin.isValue, Fin.mk_one] <;>
    pointwise [b_v77, b_v79, b_v104, b_v106, b_v132, b_v134, b_v160, b_v162, b_v188, b_v190, b_v216, b_v218, b_v244, b_v246,
      b_v272, b_v274]

/-- The body's products of queries and keys, at an index. -/
theorem qk_apply (x0 : Vec Ideal S8x1536 .bf16) (x3 : Vec Ideal S2048x128 .i32) (h : Fin 12) (b : Fin 8) (k : Fin 512) :
    b_v278 x0 x3 (ix2 (rw96 h b) k)
      = ∑ d : Fin 128, (x0 (ix2 b ⟨128 * h.val + d.val, by omega⟩) : EReal)
          * codeAt x3 (2 * b.val + h.val / 6) (by omega) k d := by
  have hp : ∀ b' : Fin 8, qkPart (b_v14 x0) (BitVec.ofNat 32 b'.val) (kw x3 b').1 (kw x3 b').2 (ix2 (rw96 h b) k)
      = if b = b' then ∑ d : Fin 128, (x0 (ix2 b ⟨128 * h.val + d.val, by omega⟩) : EReal)
          * codeAt x3 (2 * b.val + h.val / 6) (by omega) k d else 0 := by
    intro b'
    rw [qkPart_apply]
    split_ifs with hb
    · subst hb
      refine Finset.sum_congr rfl fun d _ => ?_
      rw [q_apply, kw_apply]
      rfl
    · rfl
  have h0 := hp 0
  have h1 := hp 1
  have h2 := hp 2
  have h3 := hp 3
  have h4 := hp 4
  have h5 := hp 5
  have h6 := hp 6
  have h7 := hp 7
  simp only [kw, Matrix.cons_val, Fin.isValue] at h0 h1 h2 h3 h4 h5 h6 h7
  rw [qk_eq]
  show (qkPart (b_v14 x0) 0#32 (b_v77 x3) (b_v79 x3) (ix2 (rw96 h b) k) + qkPart (b_v14 x0) 1#32 (b_v104 x3) (b_v106 x3) (ix2 (rw96 h b) k)
    + qkPart (b_v14 x0) 2#32 (b_v132 x3) (b_v134 x3) (ix2 (rw96 h b) k) + qkPart (b_v14 x0) 3#32 (b_v160 x3) (b_v162 x3) (ix2 (rw96 h b) k)
    + qkPart (b_v14 x0) 4#32 (b_v188 x3) (b_v190 x3) (ix2 (rw96 h b) k) + qkPart (b_v14 x0) 5#32 (b_v216 x3) (b_v218 x3) (ix2 (rw96 h b) k)
    + qkPart (b_v14 x0) 6#32 (b_v244 x3) (b_v246 x3) (ix2 (rw96 h b) k) + qkPart (b_v14 x0) 7#32 (b_v272 x3) (b_v274 x3) (ix2 (rw96 h b) k) : EReal) = _
  refine (congrArg₂ _ (congrArg₂ _ (congrArg₂ _ (congrArg₂ _ (congrArg₂ _ (congrArg₂ _ (congrArg₂ _ h0 h1) h2) h3) h4) h5) h6) h7).trans ?_
  clear h0 h1 h2 h3 h4 h5 h6 h7 hp
  generalize (∑ d : Fin 128, _ : EReal) = A
  fin_cases b <;> simp
end Cert.Proof

end
-- ==== Proof.BlockLogits.lean ====
/- The logits of one block: head by head, of the cached tokens and of the new token. -/
module

public import proofs.«01_k».proof.Proof.BlockDot

@[expose] public section

set_option maxRecDepth 16384

noncomputable section

namespace Cert.Proof

open Cert.KernelIdeal Cert.KernelIdeal.Gen Idealize.ShloMosaic Idealize.ShloMosaic.TcCoe Idealize.SL.Sem

/-- Query head `h` of sequence `b`: 128 of the 1536 columns. -/
def qRow {B : ℕ} (x : (⟨2, ![B, 1536]⟩ : Shape).Idx → EReal) (b : Fin B) (h : Fin 12) (d : Fin 128) : EReal :=
  x (ix2 b ⟨128 * h.val + d.val, by omega⟩)

/-- The new token's key or value of sequence `b` for query head `h`, whose key/value head is `h / 6`. -/
def newRow {B : ℕ} (x : (⟨3, ![B, 2, 128]⟩ : Shape).Idx → EReal) (b : Fin B) (h : Fin 12) (d : Fin 128) : EReal :=
  x (ix3 b ⟨h.val / 6, by omega⟩ d)

/-- The scales of the cached tokens of sequence `b` for query head `h`. -/
def scRow {B : ℕ} (x : (⟨3, ![2, B, 512]⟩ : Shape).Idx → EReal) (b : Fin B) (h : Fin 12) (k : Fin 512) : EReal :=
  x (ix3 ⟨h.val / 6, by omega⟩ b k)

/-- The body's logits of the cached tokens, one array for each head. -/
def LG (x0 : Vec Ideal S8x1536 .bf16) (x3 : Vec Ideal S2048x128 .i32) (x5 : Vec Ideal S2x8x512 .f32) :
    Fin 12 → FVec Ideal S8x512 .f32 :=
  ![b_v288 x0 x3 x5, b_v308 x0 x3 x5, b_v328 x0 x3 x5, b_v348 x0 x3 x5, b_v368 x0 x3 x5, b_v388 x0 x3 x5, b_v408 x0 x3 x5,
    b_v428 x0 x3 x5, b_v448 x0 x3 x5, b_v468 x0 x3 x5, b_v488 x0 x3 x5, b_v508 x0 x3 x5]

/-- The body's logits of the new token, one array for each head. -/
def NW (x0 : Vec Ideal S8x1536 .bf16) (x1 : Vec Ideal S8x2x128 .bf16) : Fin 12 → FVec Ideal S8x1 .f32 :=
  ![b_v296 x0 x1, b_v316 x0 x1, b_v336 x0 x1, b_v356 x0 x1, b_v376 x0 x1, b_v396 x0 x1, b_v416 x0 x1, b_v436 x0 x1,
    b_v456 x0 x1, b_v476 x0 x1, b_v496 x0 x1, k0_pay74 (b_v509 x0) (b_v511 x1)]

/-- Head 0's logits, in the form the other heads have. -/
theorem v288_eq (x0 : Vec Ideal S8x1536 .bf16) (x3 : Vec Ideal S2048x128 .i32) (x5 : Vec Ideal S2x8x512 .f32) :
    b_v288 x0 x3 x5 = mulf (mulf (broadcast S8x512 (Scalar.ofBits .f32 0x3DB504F3#32))
        (shapeCast S8x512 (b_v283 x5) shapeCasts_S1x8x512_S8x512))
      (extractStridedSlice S8x512 ![0, 0] (b_v278 x0 x3) slices_S96x512_o0_0_S8x512) := rfl

/-- A cached token's logit: scale times key scale times product. -/
theorem LG_scaled (x0 : Vec Ideal S8x1536 .bf16) (x3 : Vec Ideal S2048x128 .i32) (x5 : Vec Ideal S2x8x512 .f32) (h : Fin 12)
    (b : Fin 8) (k : Fin 512) :
    LG x0 x3 x5 h (ix2 b k) = sc * scRow x5 b h k * b_v278 x0 x3 (ix2 (rw96 h b) k) := by
  have e288 := v288_eq x0 x3 x5
  have r0 : (⟨b.val, by omega⟩ : Fin 96) = rw96 0 b := Fin.ext (by simp)
  fin_cases h <;>
    simp only [LG, e288, Matrix.cons_val, Fin.reduceFinMk, Fin.zero_eta, Fin.isValue, Fin.mk_one] <;>
    pointwise [b_v308, k0_pay28, b_v328, b_v348, b_v368, b_v388, b_v408, b_v428, b_v448, b_v468, b_v488, b_v508,
      k0_pay32, k0_pay38, k0_pay42, k0_pay47, k0_pay51, k0_pay55, k0_pay59, k0_pay63, k0_pay67, k0_pay71,
      b_v283, b_v303, b_v323, b_v343, b_v363, b_v383, b_v403, b_v423, b_v443, b_v463, b_v483, b_v503] <;>
    generalize b_v278 x0 x3 = D <;>
    first
    | rfl
    | exact congrArg (fun r : Fin 96 => sc * scRow x5 b 0 k * D (ix2 r k)) r0

/-- A cached token's logit, in full. -/
theorem LG_apply (x0 : Vec Ideal S8x1536 .bf16) (x3 : Vec Ideal S2048x128 .i32) (x5 : Vec Ideal S2x8x512 .f32) (h : Fin 12)
    (b : Fin 8) (k : Fin 512) :
    LG x0 x3 x5 h (ix2 b k)
      = lgt (qRow x0 b h) (codeAt x3 (2 * b.val + h.val / 6) (by omega)) (scRow x5 b h) k := by
  rw [LG_scaled, qk_apply]; rfl

/-- The new token's logit. -/
theorem NW_apply (x0 : Vec Ideal S8x1536 .bf16) (x1 : Vec Ideal S8x2x128 .bf16) (h : Fin 12) (b : Fin 8) (z : Fin 1) :
    NW x0 x1 h (ix2 b z) = nlg (qRow x0 b h) (newRow x1 b h) := by
  have hq : ∀ d, b_v14 x0 (ix2 (rw96 h b) d) = qRow x0 b h d := q_apply x0 h b
  unfold nlg
  simp only [← hq]
  clear hq
  have r0 : (⟨b.val, by omega⟩ : Fin 96) = rw96 0 b := Fin.ext (by simp)
  fin_cases h <;>
    simp only [NW, Matrix.cons_val, Fin.reduceFinMk, Fin.zero_eta, Fin.isValue, Fin.mk_one] <;>
    pointwise [b_v296, b_v316, b_v336, b_v356, b_v376, b_v396, b_v416, b_v436, b_v456, b_v476, b_v496, b_v509, b_v511, b_v334, b_v335,
      b_v369, k0_pay25, k0_pay29, k0_pay33, k0_pay34, k0_pay35, k0_pay39, k0_pay43, k0_pay44, k0_pay48, k0_pay52, k0_pay56, k0_pay60,
      k0_pay64, k0_pay68, k0_pay72, k0_pay73, k0_pay74, k0_pay22, b_v280, b_v279] <;>
    generalize b_v14 x0 = D <;>
    first
    | rfl
    | exact congrArg (fun r : Fin 96 => sc * ∑ d, D (ix2 r d) * newRow x1 b 0 d) r0

end Cert.Proof

end
-- ==== Proof.BlockSoftmax.lean ====
/- The softmax of one block: the body's probabilities of the cached tokens and of the new one, row by row. -/
module

public import proofs.«01_k».proof.Proof.BlockLogits
@[expose] public section
set_option maxRecDepth 16384
noncomputable section
namespace Cert.Proof
open Cert.KernelIdeal Cert.KernelIdeal.Gen Idealize.ShloMosaic Idealize.ShloMosaic.TcCoe Idealize.SL.Sem

/-- The 96 rows' logits of the cached tokens. -/
def rowsL (L : Fin 12 → FVec Ideal S8x512 .f32) : FVec Ideal S96x512 .f32 :=
  k0_pay77 (L 0) (L 1) (L 2) (L 3) (L 4) (L 5) (L 6) (L 7) (L 8) (L 9) (L 10) (L 11)

/-- Row `8 h + b` of them is row `b` of head `h`. -/
theorem rowsL_apply (L : Fin 12 → FVec Ideal S8x512 .f32) (h : Fin 12) (b : Fin 8) (k : Fin 512) :
    rowsL L (ix2 (rw96 h b) k) = L h (ix2 b k) := by
  unfold rowsL k0_pay77
  refine (concat12 _ _ _ _ _ _ _ _ _ _ _ _ _ h b k).trans ?_
  fin_cases h <;> rfl

/-- The 96 rows' logits of the new token. -/
def rowsN (N : Fin 12 → FVec Ideal S8x1 .f32) : FVec Ideal S96x1 .f32 :=
  concatenate S96x1 0 [⟨S8x1, N 0⟩, ⟨S8x1, N 1⟩, ⟨S8x1, N 2⟩, ⟨S8x1, N 3⟩, ⟨S8x1, N 4⟩, ⟨S8x1, N 5⟩, ⟨S8x1, N 6⟩, ⟨S8x1, N 7⟩,
    ⟨S8x1, N 8⟩, ⟨S8x1, N 9⟩, ⟨S8x1, N 10⟩, ⟨S8x1, N 11⟩]
    concatenates_S8x1_S8x1_S8x1_S8x1_S8x1_S8x1_S8x1_S8x1_S8x1_S8x1_S8x1_S8x1_S96x1_d0

/-- Row `8 h + b` of them is row `b` of head `h`. -/
theorem rowsN_apply (N : Fin 12 → FVec Ideal S8x1 .f32) (h : Fin 12) (b : Fin 8) (k : Fin 1) :
    rowsN N (ix2 (rw96 h b) k) = N h (ix2 b k) := by
  unfold rowsN
  refine (concat12 _ _ _ _ _ _ _ _ _ _ _ _ _ h b k).trans ?_
  fin_cases h <;> rfl

/-- The greatest logit of each row. -/
def rowsM (l : FVec Ideal S96x512 .f32) (n : FVec Ideal S96x1 .f32) : FVec Ideal S96x1 .f32 :=
  maximumf (shapeCast S96x1 (multiReduction .maximumf [1] S96 l 0xFF800000#32 reduces_S96x512_S96 (.inl rfl) rfl) shapeCasts_S96_S96x1) n

/-- The cached tokens' exponentials. -/
def rowsE (l : FVec Ideal S96x512 .f32) (n : FVec Ideal S96x1 .f32) : FVec Ideal S96x512 .f32 :=
  exp (subf l (broadcastTo S96x512 (rowsM l n) broadcasts_S96x1_S96x512))

/-- The new token's exponential. -/
def rowsEN (l : FVec Ideal S96x512 .f32) (n : FVec Ideal S96x1 .f32) : FVec Ideal S96x1 .f32 := exp (subf n (rowsM l n))

/-- The sum of a row's exponentials. -/
def rowsT (l : FVec Ideal S96x512 .f32) (n : FVec Ideal S96x1 .f32) : FVec Ideal S96x1 .f32 :=
  addf (shapeCast S96x1 (multiReduction .add [1] S96 (rowsE l n) 0x00000000#32 reduces_S96x512_S96 (.inl rfl) rfl) shapeCasts_S96_S96x1) (rowsEN l n)

/-- The cached tokens' probabilities. -/
def rowsP (l : FVec Ideal S96x512 .f32) (n : FVec Ideal S96x1 .f32) : FVec Ideal S96x512 .f32 :=
  divf (rowsE l n) (broadcastTo S96x512 (rowsT l n) broadcasts_S96x1_S96x512)

/-- The new token's probability. -/
def rowsPN (l : FVec Ideal S96x512 .f32) (n : FVec Ideal S96x1 .f32) : FVec Ideal S96x1 .f32 :=
  extf .f32 (truncf .bf16 (divf (rowsEN l n) (rowsT l n)) bitsLt_bf16_f32) bitsLt_bf16_f32

/-- The body's probabilities are these, of its logits. -/
theorem v537_eq (x0 : Vec Ideal S8x1536 .bf16) (x1 : Vec Ideal S8x2x128 .bf16) (x3 : Vec Ideal S2048x128 .i32)
    (x5 : Vec Ideal S2x8x512 .f32) : b_v537 x0 x1 x3 x5 = rowsP (rowsL (LG x0 x3 x5)) (rowsN (NW x0 x1)) := rfl

/-- The body's probability of the new token likewise. -/
theorem v540_eq (x0 : Vec Ideal S8x1536 .bf16) (x1 : Vec Ideal S8x2x128 .bf16) (x3 : Vec Ideal S2048x128 .i32)
    (x5 : Vec Ideal S2x8x512 .f32) : b_v540 x0 x1 x3 x5 = rowsPN (rowsL (LG x0 x3 x5)) (rowsN (NW x0 x1)) := rfl

/-- A probability at an index. -/
theorem rowsP_apply (l : FVec Ideal S96x512 .f32) (n : FVec Ideal S96x1 .f32) (r : Fin 96) (k : Fin 512) :
    rowsP l n (ix2 r k) = prob (fun k => l (ix2 r k)) (n (ix2 r 0)) (l (ix2 r k)) := by
  pointwise [rowsP, rowsE, rowsT, rowsEN, rowsM]
  rfl

/-- The new token's probability at an index. -/
theorem rowsPN_apply (l : FVec Ideal S96x512 .f32) (n : FVec Ideal S96x1 .f32) (r : Fin 96) (z : Fin 1) :
    rowsPN l n (ix2 r z) = prob (fun k => l (ix2 r k)) (n (ix2 r 0)) (n (ix2 r 0)) := by
  obtain rfl : z = 0 := Subsingleton.elim _ _
  pointwise [rowsPN, rowsE, rowsT, rowsEN, rowsM]
  rfl

/-- The logits of a block's cached tokens for sequence `b` and head `h`. -/
def lrow (x0 : Vec Ideal S8x1536 .bf16) (x3 : Vec Ideal S2048x128 .i32) (x5 : Vec Ideal S2x8x512 .f32) (b : Fin 8)
    (h : Fin 12) : Fin 512 → EReal :=
  lgt (qRow x0 b h) (codeAt x3 (2 * b.val + h.val / 6) (by omega)) (scRow x5 b h)

/-- The logit of a block's new token for sequence `b` and head `h`. -/
def nrow (x0 : Vec Ideal S8x1536 .bf16) (x1 : Vec Ideal S8x2x128 .bf16) (b : Fin 8) (h : Fin 12) : EReal :=
  nlg (qRow x0 b h) (newRow x1 b h)

/-- The body's probability of a cached token. -/
theorem v537_apply (x0 : Vec Ideal S8x1536 .bf16) (x1 : Vec Ideal S8x2x128 .bf16) (x3 : Vec Ideal S2048x128 .i32)
    (x5 : Vec Ideal S2x8x512 .f32) (h : Fin 12) (b : Fin 8) (k : Fin 512) :
    b_v537 x0 x1 x3 x5 (ix2 (rw96 h b) k) = prob (lrow x0 x3 x5 b h) (nrow x0 x1 b h) (lrow x0 x3 x5 b h k) := by
  rw [v537_eq, rowsP_apply]
  simp only [rowsL_apply, rowsN_apply, LG_apply, NW_apply]
  rfl

/-- The body's probability of the new token. -/
theorem v540_apply (x0 : Vec Ideal S8x1536 .bf16) (x1 : Vec Ideal S8x2x128 .bf16) (x3 : Vec Ideal S2048x128 .i32)
    (x5 : Vec Ideal S2x8x512 .f32) (h : Fin 12) (b : Fin 8) (z : Fin 1) :
    b_v540 x0 x1 x3 x5 (ix2 (rw96 h b) z) = prob (lrow x0 x3 x5 b h) (nrow x0 x1 b h) (nrow x0 x1 b h) := by
  rw [v540_eq, rowsPN_apply]
  simp only [rowsL_apply, rowsN_apply, LG_apply, NW_apply]
  rfl

end Cert.Proof

end
-- ==== Proof.BlockOut.lean ====
/- The attention of one block: probabilities times value scales times value codes, plus the new token's part. -/
module

public import proofs.«01_k».proof.Proof.BlockSoftmax

@[expose] public section

set_option maxRecDepth 16384

noncomputable section

namespace Cert.Proof

open Cert.KernelIdeal Cert.KernelIdeal.Gen Idealize.ShloMosaic Idealize.ShloMosaic.TcCoe Idealize.SL.Sem

/-- The body's weighted probabilities, one array for each head. -/
def PV (x0 : Vec Ideal S8x1536 .bf16) (x1 : Vec Ideal S8x2x128 .bf16) (x3 : Vec Ideal S2048x128 .i32)
    (x5 : Vec Ideal S2x8x512 .f32) (x6 : Vec Ideal S2x8x512 .f32) : Fin 12 → FVec Ideal S8x512 .f32 :=
  ![b_v544 x0 x1 x3 x5 x6, b_v548 x0 x1 x3 x5 x6, b_v552 x0 x1 x3 x5 x6, b_v556 x0 x1 x3 x5 x6, b_v560 x0 x1 x3 x5 x6,
    b_v564 x0 x1 x3 x5 x6, b_v568 x0 x1 x3 x5 x6, b_v572 x0 x1 x3 x5 x6, b_v576 x0 x1 x3 x5 x6, b_v580 x0 x1 x3 x5 x6,
    b_v584 x0 x1 x3 x5 x6, mulf (b_v585 x0 x1 x3 x5) (shapeCast S8x512 (b_v586 x6) shapeCasts_S1x8x512_S8x512)]

/-- Head 0's weighted probabilities, from the rows' probabilities. -/
theorem v544_eq (x0 : Vec Ideal S8x1536 .bf16) (x1 : Vec Ideal S8x2x128 .bf16) (x3 : Vec Ideal S2048x128 .i32)
    (x5 : Vec Ideal S2x8x512 .f32) (x6 : Vec Ideal S2x8x512 .f32) :
    b_v544 x0 x1 x3 x5 x6 = mulf (extractStridedSlice S8x512 ![0, 0] (b_v537 x0 x1 x3 x5) slices_S96x512_o0_0_S8x512)
      (shapeCast S8x512 (b_v542 x6) shapeCasts_S1x8x512_S8x512) := rfl

/-- Head 1's weighted probabilities, from the rows' probabilities. -/
theorem v548_eq (x0 : Vec Ideal S8x1536 .bf16) (x1 : Vec Ideal S8x2x128 .bf16) (x3 : Vec Ideal S2048x128 .i32)
    (x5 : Vec Ideal S2x8x512 .f32) (x6 : Vec Ideal S2x8x512 .f32) :
    b_v548 x0 x1 x3 x5 x6 = mulf (extractStridedSlice S8x512 ![8, 0] (b_v537 x0 x1 x3 x5) slices_S96x512_o8_0_S8x512)
      (shapeCast S8x512 (b_v546 x6) shapeCasts_S1x8x512_S8x512) := rfl

/-- Head 2's probabilities, from the rows' probabilities. -/
theorem v549_eq (x0 : Vec Ideal S8x1536 .bf16) (x1 : Vec Ideal S8x2x128 .bf16) (x3 : Vec Ideal S2048x128 .i32)
    (x5 : Vec Ideal S2x8x512 .f32) :
    b_v549 x0 x1 x3 x5 = extractStridedSlice S8x512 ![16, 0] (b_v537 x0 x1 x3 x5) slices_S96x512_o16_0_S8x512 := rfl

/-- A weighted probability is the probability times the value scale. -/
theorem PV_apply (x0 : Vec Ideal S8x1536 .bf16) (x1 : Vec Ideal S8x2x128 .bf16) (x3 : Vec Ideal S2048x128 .i32)
    (x5 : Vec Ideal S2x8x512 .f32) (x6 : Vec Ideal S2x8x512 .f32) (h : Fin 12) (b : Fin 8) (k : Fin 512) :
    PV x0 x1 x3 x5 x6 h (ix2 b k) = b_v537 x0 x1 x3 x5 (ix2 (rw96 h b) k) * scRow x6 b h k := by
  have r0 : (⟨b.val, by omega⟩ : Fin 96) = rw96 0 b := Fin.ext (by simp)
  have e0 := v544_eq x0 x1 x3 x5 x6
  have e1 := v548_eq x0 x1 x3 x5 x6
  have e2 := v549_eq x0 x1 x3 x5
  fin_cases h <;>
    simp only [PV, e0, e1, b_v552, e2, Matrix.cons_val, Fin.reduceFinMk, Fin.zero_eta, Fin.isValue, Fin.mk_one] <;>
    pointwise [b_v556, b_v560, b_v564, b_v568, b_v572, b_v576, b_v580, b_v584, b_v585, k0_pay88, k0_pay89, k0_pay90, k0_pay91, k0_pay92,
      k0_pay93, k0_pay94, k0_pay95, k0_pay96, k0_pay97, b_v542, b_v546, b_v550, b_v554, b_v558, b_v562, b_v566, b_v570, b_v574,
      b_v578, b_v582, b_v586] <;>
    generalize b_v537 x0 x1 x3 x5 = D <;>
    first
    | rfl
    | exact congrArg (fun r : Fin 96 => D (ix2 r k) * scRow x6 b 0 k) r0

/-- The 96 rows' weighted probabilities. -/
theorem v589_apply (x0 : Vec Ideal S8x1536 .bf16) (x1 : Vec Ideal S8x2x128 .bf16) (x3 : Vec Ideal S2048x128 .i32)
    (x5 : Vec Ideal S2x8x512 .f32) (x6 : Vec Ideal S2x8x512 .f32) (h : Fin 12) (b : Fin 8) (k : Fin 512) :
    b_v589 x0 x1 x3 x5 x6 (ix2 (rw96 h b) k)
      = prob (lrow x0 x3 x5 b h) (nrow x0 x1 b h) (lrow x0 x3 x5 b h k) * scRow x6 b h k := by
  rw [← v537_apply x0 x1 x3 x5, ← PV_apply]
  unfold b_v589 k0_pay98
  exact concat12 _ _ _ _ _ _ _ _ _ _ _ _ _ h b k

/-- What sequence `b` adds to the products with the values. -/
def pvPart (p : FVec Ideal S96x512 .f32) (b : BitVec 32) (w0 w1 : Vec Ideal S128x128 .i32) : FVec Ideal S96x256 .f32 :=
  matmul dot_S96x512_S512x256_S96x256_1_0_0_1_n_n none
    (truncf .bf16 (select (broadcastTo S96x512 (shapeCast S96x1 (cmpi .eq b_v31 (broadcast S96x1 b)) shapeCasts_S96x1_S96x1) broadcasts_S96x1_S96x512) p (broadcast S96x512 (Scalar.ofBits .f32 0x00000000#32))) bitsLt_bf16_f32)
    (codes2 w0 w1) (constant S96x256 .f32 0x00000000#32)

/-- The body's products with the values are the eight sequences' parts, added in order. -/
theorem pv_eq (x0 : Vec Ideal S8x1536 .bf16) (x1 : Vec Ideal S8x2x128 .bf16) (x3 : Vec Ideal S2048x128 .i32)
    (x4 : Vec Ideal S2048x128 .i32) (x5 : Vec Ideal S2x8x512 .f32) (x6 : Vec Ideal S2x8x512 .f32) :
    b_v700 x0 x1 x3 x4 x5 x6 = addf (addf (addf (addf (addf (addf (addf
      (pvPart (b_v589 x0 x1 x3 x5 x6) 0#32 (b_v597 x4) (b_v599 x4)) (pvPart (b_v589 x0 x1 x3 x5 x6) 1#32 (b_v610 x4) (b_v612 x4)))
      (pvPart (b_v589 x0 x1 x3 x5 x6) 2#32 (b_v624 x4) (b_v626 x4))) (pvPart (b_v589 x0 x1 x3 x5 x6) 3#32 (b_v638 x4) (b_v640 x4)))
      (pvPart (b_v589 x0 x1 x3 x5 x6) 4#32 (b_v652 x4) (b_v654 x4))) (pvPart (b_v589 x0 x1 x3 x5 x6) 5#32 (b_v666 x4) (b_v668 x4)))
      (pvPart (b_v589 x0 x1 x3 x5 x6) 6#32 (b_v680 x4) (b_v682 x4))) (pvPart (b_v589 x0 x1 x3 x5 x6) 7#32 (b_v694 x4) (b_v696 x4)) := rfl

/-- The condition that selects a row: its sequence is the one asked for. -/
theorem seq_cond (b b' : Fin 8) :
    IntOp.cmpi .eq (BitVec.ofNat 32 b.val) (BitVec.ofNat 32 b'.val) = if b = b' then 1#1 else 0#1 := by
  revert b b'; decide +kernel

/-- Sequence `b'`'s part at row `8 h + b` and value dimension `d` of the row's own head. -/
theorem pvPart_apply (p : FVec Ideal S96x512 .f32) (b' : Fin 8) (w0 w1 : Vec Ideal S128x128 .i32) (h : Fin 12) (b : Fin 8)
    (d : Fin 128) :
    pvPart p (BitVec.ofNat 32 b'.val) w0 w1 (ix2 (rw96 h b) ⟨128 * (h.val / 6) + d.val, by omega⟩)
      = if b = b' then ∑ k : Fin 512, p (ix2 (rw96 h b) k) * code (pick h w0 w1 (ix2 ⟨k.val / 4, by omega⟩ d)) (k.val % 4)
        else 0 := by
  have hs := seq_cond b b'
  have hc : ∀ (w : Vec Ideal S128x128 .i32) (k : Fin 512),
      Ideal.ofBits .fp8e4m3 (bitcast S512x128 8 w bitcasts_S128x128_w32_S512x128_w8 (ix2 k d))
        = code (w (ix2 ⟨k.val / 4, by omega⟩ d)) (k.val % 4) := fun w k => codes_apply w _ k d _ rfl
  obtain ⟨c, hcd⟩ : ∃ c : Fin 256, c = ⟨128 * (h.val / 6) + d.val, by omega⟩ := ⟨_, rfl⟩
  rw [← hcd]
  have hv : c.val = 128 * (h.val / 6) + d.val := by rw [hcd]
  pointwise [pvPart, codes2]
  simp only [rowB]
  rw [hs]
  have hg : h.val / 6 = 0 ∨ h.val / 6 = 1 := by omega
  rcases hg with hg | hg
  · have hlt : c.val < 128 := by omega
    have he : (⟨c.val, hlt⟩ : Fin 128) = d := Fin.ext (by show c.val = d.val; omega)
    simp only [dif_pos hlt, he, hc]
    by_cases hb : b = b' <;> simp [hb, hg, pick, Scalar.select]
  · have hlt : ¬ c.val < 128 := by omega
    have he : (⟨c.val - 128, by omega⟩ : Fin 128) = d := Fin.ext (by show c.val - 128 = d.val; omega)
    simp only [dif_neg hlt, he, hc]
    by_cases hb : b = b' <;> simp [hb, hg, pick, Scalar.select]

/-- The words of the values of sequence `b`, one load for each head. -/
def vw (x4 : Vec Ideal S2048x128 .i32) : Fin 8 → Vec Ideal S128x128 .i32 × Vec Ideal S128x128 .i32 :=
  ![(b_v597 x4, b_v599 x4), (b_v610 x4, b_v612 x4), (b_v624 x4, b_v626 x4), (b_v638 x4, b_v640 x4),
    (b_v652 x4, b_v654 x4), (b_v666 x4, b_v668 x4), (b_v680 x4, b_v682 x4), (b_v694 x4, b_v696 x4)]

/-- The loads of the value words are the loads of the key words, of the other array. -/
theorem vw_eq (x4 : Vec Ideal S2048x128 .i32) : vw x4 = kw x4 := rfl

/-- The body's products with the values, at an index of the row's own head. -/
theorem pv_apply (x0 : Vec Ideal S8x1536 .bf16) (x1 : Vec Ideal S8x2x128 .bf16) (x3 : Vec Ideal S2048x128 .i32)
    (x4 : Vec Ideal S2048x128 .i32) (x5 : Vec Ideal S2x8x512 .f32) (x6 : Vec Ideal S2x8x512 .f32) (h : Fin 12) (b : Fin 8)
    (d : Fin 128) :
    b_v700 x0 x1 x3 x4 x5 x6 (ix2 (rw96 h b) ⟨128 * (h.val / 6) + d.val, by omega⟩)
      = ∑ k : Fin 512, prob (lrow x0 x3 x5 b h) (nrow x0 x1 b h) (lrow x0 x3 x5 b h k) * scRow x6 b h k
          * codeAt x4 (2 * b.val + h.val / 6) (by omega) k d := by
  have hp : ∀ b' : Fin 8, pvPart (b_v589 x0 x1 x3 x5 x6) (BitVec.ofNat 32 b'.val) (vw x4 b').1 (vw x4 b').2
        (ix2 (rw96 h b) ⟨128 * (h.val / 6) + d.val, by omega⟩)
      = if b = b' then ∑ k : Fin 512, prob (lrow x0 x3 x5 b h) (nrow x0 x1 b h) (lrow x0 x3 x5 b h k) * scRow x6 b h k
          * codeAt x4 (2 * b.val + h.val / 6) (by omega) k d else 0 := by
    intro b'
    rw [pvPart_apply]
    split_ifs with hb
    · subst hb
      refine Finset.sum_congr rfl fun k _ => ?_
      rw [v589_apply, vw_eq, kw_apply]
      rfl
    · rfl
  have h0 := hp 0
  have h1 := hp 1
  have h2 := hp 2
  have h3 := hp 3
  have h4 := hp 4
  have h5 := hp 5
  have h6 := hp 6
  have h7 := hp 7
  simp only [vw, Matrix.cons_val, Fin.isValue] at h0 h1 h2 h3 h4 h5 h6 h7
  rw [pv_eq]
  clear hp
  generalize (ix2 (rw96 h b) ⟨128 * (h.val / 6) + d.val, _⟩ : S96x256.Idx) = i at *
  generalize (∑ k : Fin 512, _ : EReal) = A at *
  refine (congrArg₂ _ (congrArg₂ _ (congrArg₂ _ (congrArg₂ _ (congrArg₂ _ (congrArg₂ _ (congrArg₂ _ h0 h1) h2) h3) h4) h5) h6)
    h7 : _ = (if b = 0 then A else 0) + (if b = 1 then A else 0) + (if b = 2 then A else 0) + (if b = 3 then A else 0)
      + (if b = 4 then A else 0) + (if b = 5 then A else 0) + (if b = 6 then A else 0) + (if b = 7 then A else 0)).trans ?_
  fin_cases b <;> simp

/-- The body's stored results, one array for each head. -/
def OUT (x0 : Vec Ideal S8x1536 .bf16) (x1 : Vec Ideal S8x2x128 .bf16) (x2 : Vec Ideal S8x2x128 .bf16)
    (x3 : Vec Ideal S2048x128 .i32) (x4 : Vec Ideal S2048x128 .i32) (x5 : Vec Ideal S2x8x512 .f32)
    (x6 : Vec Ideal S2x8x512 .f32) : Fin 12 → FVec Ideal S8x128 .bf16 :=
  ![k0_pay106 (b_v707 x0 x1 x2 x3 x4 x5 x6),
    k0_pay107 (b_v282 x2) (b_v540 x0 x1 x3 x5) (b_v700 x0 x1 x3 x4 x5 x6),
    k0_pay108 (b_v282 x2) (b_v540 x0 x1 x3 x5) (b_v700 x0 x1 x3 x4 x5 x6),
    k0_pay109 (b_v282 x2) (b_v540 x0 x1 x3 x5) (b_v700 x0 x1 x3 x4 x5 x6),
    k0_pay110 (b_v282 x2) (b_v540 x0 x1 x3 x5) (b_v700 x0 x1 x3 x4 x5 x6),
    k0_pay112 (b_v752 x0 x1 x2 x3 x4 x5 x6),
    k0_pay113 (b_v282 x2) (b_v540 x0 x1 x3 x5) (b_v700 x0 x1 x3 x4 x5 x6),
    k0_pay114 (b_v282 x2) (b_v540 x0 x1 x3 x5) (b_v700 x0 x1 x3 x4 x5 x6),
    k0_pay115 (b_v282 x2) (b_v540 x0 x1 x3 x5) (b_v700 x0 x1 x3 x4 x5 x6),
    k0_pay116 (b_v282 x2) (b_v540 x0 x1 x3 x5) (b_v700 x0 x1 x3 x4 x5 x6),
    k0_pay1 (b_v797 x0 x1 x2 x3 x4 x5 x6),
    k0_pay2 (b_v282 x2) (b_v540 x0 x1 x3 x5) (b_v700 x0 x1 x3 x4 x5 x6)]

/-- Head 0's result, in the form the other heads have. -/
theorem v707_eq (x0 : Vec Ideal S8x1536 .bf16) (x1 : Vec Ideal S8x2x128 .bf16) (x2 : Vec Ideal S8x2x128 .bf16)
    (x3 : Vec Ideal S2048x128 .i32) (x4 : Vec Ideal S2048x128 .i32) (x5 : Vec Ideal S2x8x512 .f32)
    (x6 : Vec Ideal S2x8x512 .f32) :
    b_v707 x0 x1 x2 x3 x4 x5 x6 = addf (extractStridedSlice S8x128 ![0, 0] (b_v700 x0 x1 x3 x4 x5 x6) slices_S96x256_o0_0_S8x128)
      (mulf (broadcastTo S8x128 (extractStridedSlice S8x1 ![0, 0] (b_v540 x0 x1 x3 x5) slices_S96x1_o0_0_S8x1) broadcasts_S8x1_S8x128)
        (shapeCast S8x128 (extractStridedSlice S8x1x128 ![0, 0, 0] (b_v282 x2) slices_S8x2x128_o0_0_0_S8x1x128) shapeCasts_S8x1x128_S8x128)) := rfl

/-- A head's result: its product with the values plus the new token's part. -/
theorem OUT_parts (x0 : Vec Ideal S8x1536 .bf16) (x1 : Vec Ideal S8x2x128 .bf16) (x2 : Vec Ideal S8x2x128 .bf16)
    (x3 : Vec Ideal S2048x128 .i32) (x4 : Vec Ideal S2048x128 .i32) (x5 : Vec Ideal S2x8x512 .f32)
    (x6 : Vec Ideal S2x8x512 .f32) (h : Fin 12) (b : Fin 8) (d : Fin 128) :
    OUT x0 x1 x2 x3 x4 x5 x6 h (ix2 b d)
      = b_v700 x0 x1 x3 x4 x5 x6 (ix2 (rw96 h b) ⟨128 * (h.val / 6) + d.val, by omega⟩)
        + b_v540 x0 x1 x3 x5 (ix2 (rw96 h b) 0) * newRow x2 b h d := by
  have e0 := v707_eq x0 x1 x2 x3 x4 x5 x6
  generalize hO : OUT x0 x1 x2 x3 x4 x5 x6 h (ix2 b d) = R
  unfold OUT b_v752 b_v797 at hO
  rw [e0] at hO
  clear e0
  generalize b_v700 x0 x1 x3 x4 x5 x6 = D at *
  generalize b_v540 x0 x1 x3 x5 = P at *
  subst hO
  have r0 : (⟨b.val, by omega⟩ : Fin 96) = rw96 0 b := Fin.ext (by simp)
  fin_cases h <;>
    simp only [Matrix.cons_val, Fin.reduceFinMk, Fin.zero_eta, Fin.isValue, Fin.mk_one] <;>
    pointwise [k0_pay106, k0_pay107, k0_pay108, k0_pay109, k0_pay110, k0_pay111, k0_pay112, k0_pay113, k0_pay114, k0_pay115,
      k0_pay116, k0_pay117, k0_pay1, k0_pay2, b_v282, b_v281, k0_pay23] <;>
    first
    | rfl
    | exact congrArg (fun r : Fin 96 => D (ix2 r ⟨d.val, by omega⟩) + P (ix2 r 0) * newRow x2 b 0 d) r0

/-- A head's result at an index: the attention of its row. -/
theorem OUT_apply (x0 : Vec Ideal S8x1536 .bf16) (x1 : Vec Ideal S8x2x128 .bf16) (x2 : Vec Ideal S8x2x128 .bf16)
    (x3 : Vec Ideal S2048x128 .i32) (x4 : Vec Ideal S2048x128 .i32) (x5 : Vec Ideal S2x8x512 .f32)
    (x6 : Vec Ideal S2x8x512 .f32) (h : Fin 12) (b : Fin 8) (d : Fin 128) :
    OUT x0 x1 x2 x3 x4 x5 x6 h (ix2 b d)
      = att (lrow x0 x3 x5 b h) (nrow x0 x1 b h) (scRow x6 b h)
          (fun k => codeAt x4 (2 * b.val + h.val / 6) (by omega) k d) (newRow x2 b h d) := by
  rw [OUT_parts, pv_apply, v540_apply]
  rfl

end Cert.Proof

end
-- ==== Proof.BlockValue.lean ====
/- What the stores of one block leave at an index. -/
module

public import proofs.«01_k».proof.Proof.BlockOut
public import Idealize.ShloMosaic.Lib.Pipeline.ValueKit.Tiles

@[expose] public section

set_option maxRecDepth 16384

noncomputable section

namespace Cert.Proof

open Cert.KernelIdeal Cert.KernelIdeal.Gen Idealize.ShloMosaic Idealize.ShloMosaic.TcCoe Idealize.SL.Sem

/-- The attention block at sequence `b`, head `h`, dimension `d`. -/
theorem canon7 (x0 : Vec Ideal S8x1536 .bf16) (x1 : Vec Ideal S8x2x128 .bf16) (x2 : Vec Ideal S8x2x128 .bf16)
    (x3 : Vec Ideal S2048x128 .i32) (x4 : Vec Ideal S2048x128 .i32) (x5 : Vec Ideal S2x8x512 .f32)
    (x6 : Vec Ideal S2x8x512 .f32) (h : Fin 12) (b : Fin 8) (d : Fin 128) :
    View.canon (pieces7 x0 x1 x2 x3 x4 x5 x6) (ix2 b ⟨128 * h.val + d.val, by omega⟩)
      = att (lrow x0 x3 x5 b h) (nrow x0 x1 b h) (scRow x6 b h)
          (fun k => codeAt x4 (2 * b.val + h.val / 6) (by omega) k d) (newRow x2 b h d) := by
  rw [← OUT_apply x0 x1 x2 x3 x4 x5 x6 h b d]
  have key : ∀ (k : Fin 12) (w : FVec Ideal S8x128 .bf16), w = OUT x0 x1 x2 x3 x4 x5 x6 k →
      View.TileAt (Val := Elt Ideal) (e := .bf16) (ix2 b ⟨128 * h.val + d.val, by omega⟩ : S8x1536.Idx) ![0, 128 * k.val] S8x128.size w
        (OUT x0 x1 x2 x3 x4 x5 x6 h (ix2 b d)) := by
    intro k w hw x hx
    have h0 : b.val = 0 + (x 0).val := hx 0
    have h1 : 128 * h.val + d.val = 128 * k.val + (x 1).val := hx 1
    have l1 : (x 1).val < 128 := (x 1).isLt
    have e1 : h = k := Fin.ext (by omega)
    subst e1
    rw [hw]
    congr 1
    funext a
    match a with
    | ⟨0, _⟩ => exact Fin.ext (by show (x 0).val = b.val; omega)
    | ⟨1, _⟩ => exact Fin.ext (by show (x 1).val = d.val; omega)
  refine View.canon_eq_of_allAt _ _ _ (View.cover_of_tiled_head _ _ _ (by rfl) _) ?_
  unfold pieces7
  refine View.allAt_cons_unit _ _ _ _ _ (key 11 _ rfl) ?_
  refine View.allAt_cons_unit _ _ _ _ _ (key 10 _ rfl) ?_
  refine View.allAt_cons_unit _ _ _ _ _ (key 9 _ rfl) ?_
  refine View.allAt_cons_unit _ _ _ _ _ (key 8 _ rfl) ?_
  refine View.allAt_cons_unit _ _ _ _ _ (key 7 _ rfl) ?_
  refine View.allAt_cons_unit _ _ _ _ _ (key 6 _ rfl) ?_
  refine View.allAt_cons_unit _ _ _ _ _ (key 5 _ rfl) ?_
  refine View.allAt_cons_unit _ _ _ _ _ (key 4 _ rfl) ?_
  refine View.allAt_cons_unit _ _ _ _ _ (key 3 _ rfl) ?_
  refine View.allAt_cons_unit _ _ _ _ _ (key 2 _ rfl) ?_
  refine View.allAt_cons_unit _ _ _ _ _ (key 1 _ rfl) ?_
  refine View.allAt_cons_unit _ _ _ _ _ (key 0 _ rfl) ?_
  exact View.allAt_nil _ _

/-- The logits of a row, the new token's last. -/
def row513 (l : Fin 512 → EReal) (n : EReal) (k : Fin 513) : EReal := if hk : k.val < 512 then l ⟨k.val, hk⟩ else n

/-- The first store of a list covers what it holds. -/
theorem cov_here {S : Shape} {e : EltTy} {y : S.Idx} (p : View.Piece (Elt Ideal) S e) (L : List (View.Piece (Elt Ideal) S e))
    (h : y ∈ p.1.set) : ∃ q ∈ p :: L, y ∈ q.1.set := ⟨p, List.mem_cons_self, h⟩

/-- A list covers what its tail covers. -/
theorem cov_there {S : Shape} {e : EltTy} {y : S.Idx} (p : View.Piece (Elt Ideal) S e) (L : List (View.Piece (Elt Ideal) S e))
    (h : ∃ q ∈ L, y ∈ q.1.set) : ∃ q ∈ p :: L, y ∈ q.1.set :=
  h.elim fun q hq => ⟨q, List.mem_cons_of_mem _ hq.1, hq.2⟩

/-- Every index of the logits block lies in some store. -/
theorem cover8 (x0 : Vec Ideal S8x1536 .bf16) (x1 : Vec Ideal S8x2x128 .bf16) (x3 : Vec Ideal S2048x128 .i32)
    (x5 : Vec Ideal S2x8x512 .f32) (h : Fin 12) (b : Fin 8) (k : Fin 513) :
    ∃ p ∈ pieces8 x0 x1 x3 x5, (ix3 h b k : S12x8x513.Idx) ∈ p.1.set := by
  unfold pieces8
  by_cases hk : k.val < 512
  · have hL : ∀ (g : ℕ) (inb), h.val = g →
        (ix3 h b k : S12x8x513.Idx) ∈ (Rect.unit (s := S12x8x513) ![g, 0, 0] S1x8x512.size inb).set := by
      intro g inb hg
      refine Rect.mem_set_unit.mpr fun a => ?_
      match a with
      | ⟨0, _⟩ => exact ⟨by show g ≤ h.val; omega, by show h.val < g + 1; omega⟩
      | ⟨1, _⟩ => exact ⟨Nat.zero_le _, by show b.val < 0 + 8; omega⟩
      | ⟨2, _⟩ => exact ⟨Nat.zero_le _, by show k.val < 0 + 512; omega⟩
    rcases (by omega : h.val = 0 ∨ h.val = 1 ∨ h.val = 2 ∨ h.val = 3 ∨ h.val = 4 ∨ h.val = 5 ∨ h.val = 6 ∨ h.val = 7 ∨ h.val = 8 ∨ h.val = 9 ∨ h.val = 10 ∨ h.val = 11) with
      hg | hg | hg | hg | hg | hg | hg | hg | hg | hg | hg | hg
    · iterate 23 refine cov_there _ _ ?_
      exact cov_here _ _ (hL 0 inb_S12x8x513_S1x8x512_0_0_0 hg)
    · iterate 21 refine cov_there _ _ ?_
      exact cov_here _ _ (hL 1 inb_S12x8x513_S1x8x512_1_0_0 hg)
    · iterate 19 refine cov_there _ _ ?_
      exact cov_here _ _ (hL 2 inb_S12x8x513_S1x8x512_2_0_0 hg)
    · iterate 17 refine cov_there _ _ ?_
      exact cov_here _ _ (hL 3 inb_S12x8x513_S1x8x512_3_0_0 hg)
    · iterate 15 refine cov_there _ _ ?_
      exact cov_here _ _ (hL 4 inb_S12x8x513_S1x8x512_4_0_0 hg)
    · iterate 13 refine cov_there _ _ ?_
      exact cov_here _ _ (hL 5 inb_S12x8x513_S1x8x512_5_0_0 hg)
    · iterate 11 refine cov_there _ _ ?_
      exact cov_here _ _ (hL 6 inb_S12x8x513_S1x8x512_6_0_0 hg)
    · iterate 9 refine cov_there _ _ ?_
      exact cov_here _ _ (hL 7 inb_S12x8x513_S1x8x512_7_0_0 hg)
    · iterate 7 refine cov_there _ _ ?_
      exact cov_here _ _ (hL 8 inb_S12x8x513_S1x8x512_8_0_0 hg)
    · iterate 5 refine cov_there _ _ ?_
      exact cov_here _ _ (hL 9 inb_S12x8x513_S1x8x512_9_0_0 hg)
    · iterate 3 refine cov_there _ _ ?_
      exact cov_here _ _ (hL 10 inb_S12x8x513_S1x8x512_10_0_0 hg)
    · iterate 1 refine cov_there _ _ ?_
      exact cov_here _ _ (hL 11 inb_S12x8x513_S1x8x512_11_0_0 hg)
  · have hN : ∀ (g : ℕ) (inb), h.val = g →
        (ix3 h b k : S12x8x513.Idx) ∈ (Rect.unit (s := S12x8x513) ![g, 0, 512] S1x8x1.size inb).set := by
      intro g inb hg
      refine Rect.mem_set_unit.mpr fun a => ?_
      match a with
      | ⟨0, _⟩ => exact ⟨by show g ≤ h.val; omega, by show h.val < g + 1; omega⟩
      | ⟨1, _⟩ => exact ⟨Nat.zero_le _, by show b.val < 0 + 8; omega⟩
      | ⟨2, _⟩ => exact ⟨by show 512 ≤ k.val; omega, by show k.val < 512 + 1; omega⟩
    rcases (by omega : h.val = 0 ∨ h.val = 1 ∨ h.val = 2 ∨ h.val = 3 ∨ h.val = 4 ∨ h.val = 5 ∨ h.val = 6 ∨ h.val = 7 ∨ h.val = 8 ∨ h.val = 9 ∨ h.val = 10 ∨ h.val = 11) with
      hg | hg | hg | hg | hg | hg | hg | hg | hg | hg | hg | hg
    · iterate 22 refine cov_there _ _ ?_
      exact cov_here _ _ (hN 0 inb_S12x8x513_S1x8x1_0_0_512 hg)
    · iterate 20 refine cov_there _ _ ?_
      exact cov_here _ _ (hN 1 inb_S12x8x513_S1x8x1_1_0_512 hg)
    · iterate 18 refine cov_there _ _ ?_
      exact cov_here _ _ (hN 2 inb_S12x8x513_S1x8x1_2_0_512 hg)
    · iterate 16 refine cov_there _ _ ?_
      exact cov_here _ _ (hN 3 inb_S12x8x513_S1x8x1_3_0_512 hg)
    · iterate 14 refine cov_there _ _ ?_
      exact cov_here _ _ (hN 4 inb_S12x8x513_S1x8x1_4_0_512 hg)
    · iterate 12 refine cov_there _ _ ?_
      exact cov_here _ _ (hN 5 inb_S12x8x513_S1x8x1_5_0_512 hg)
    · iterate 10 refine cov_there _ _ ?_
      exact cov_here _ _ (hN 6 inb_S12x8x513_S1x8x1_6_0_512 hg)
    · iterate 8 refine cov_there _ _ ?_
      exact cov_here _ _ (hN 7 inb_S12x8x513_S1x8x1_7_0_512 hg)
    · iterate 6 refine cov_there _ _ ?_
      exact cov_here _ _ (hN 8 inb_S12x8x513_S1x8x1_8_0_512 hg)
    · iterate 4 refine cov_there _ _ ?_
      exact cov_here _ _ (hN 9 inb_S12x8x513_S1x8x1_9_0_512 hg)
    · iterate 2 refine cov_there _ _ ?_
      exact cov_here _ _ (hN 10 inb_S12x8x513_S1x8x1_10_0_512 hg)
    · exact cov_here _ _ (hN 11 inb_S12x8x513_S1x8x1_11_0_512 hg)

/-- The logits block at head `h`, sequence `b`, token `k`. -/
theorem canon8 (x0 : Vec Ideal S8x1536 .bf16) (x1 : Vec Ideal S8x2x128 .bf16) (x3 : Vec Ideal S2048x128 .i32)
    (x5 : Vec Ideal S2x8x512 .f32) (h : Fin 12) (b : Fin 8) (k : Fin 513) :
    View.canon (pieces8 x0 x1 x3 x5) (ix3 h b k) = row513 (lrow x0 x3 x5 b h) (nrow x0 x1 b h) k := by
  have keyL : ∀ (g : Fin 12) (w : FVec Ideal S1x8x512 .f32),
      w = shapeCast S1x8x512 (LG x0 x3 x5 g) shapeCasts_S8x512_S1x8x512 →
      View.TileAt (Val := Elt Ideal) (e := .f32) (ix3 h b k : S12x8x513.Idx) ![g.val, 0, 0] S1x8x512.size w
        (row513 (lrow x0 x3 x5 b h) (nrow x0 x1 b h) k) := by
    intro g w hw x hx
    have h0 : h.val = g.val + (x 0).val := hx 0
    have h1 : b.val = 0 + (x 1).val := hx 1
    have h2 : k.val = 0 + (x 2).val := hx 2
    have l0 : (x 0).val < 1 := (x 0).isLt
    have l2 : (x 2).val < 512 := (x 2).isLt
    have e1 : h = g := Fin.ext (by omega)
    subst e1
    have ex : x = (ix3 0 b ⟨k.val, by omega⟩ : S1x8x512.Idx) := by
      funext a
      match a with
      | ⟨0, _⟩ => exact Fin.ext (by show (x 0).val = 0; omega)
      | ⟨1, _⟩ => exact Fin.ext (by show (x 1).val = b.val; omega)
      | ⟨2, _⟩ => exact Fin.ext (by show (x 2).val = k.val; omega)
    rw [hw, ex]
    have hk : k.val < 512 := by omega
    have hv : (shapeCast S1x8x512 (LG x0 x3 x5 h) shapeCasts_S8x512_S1x8x512) (ix3 0 b ⟨k.val, hk⟩)
        = LG x0 x3 x5 h (ix2 b ⟨k.val, hk⟩) := by pointwise []
    rw [hv, LG_apply, row513, dif_pos hk]
    rfl
  have keyN : ∀ (g : Fin 12) (w : FVec Ideal S1x8x1 .f32),
      w = shapeCast S1x8x1 (NW x0 x1 g) shapeCasts_S8x1_S1x8x1 →
      View.TileAt (Val := Elt Ideal) (e := .f32) (ix3 h b k : S12x8x513.Idx) ![g.val, 0, 512] S1x8x1.size w
        (row513 (lrow x0 x3 x5 b h) (nrow x0 x1 b h) k) := by
    intro g w hw x hx
    have h0 : h.val = g.val + (x 0).val := hx 0
    have h1 : b.val = 0 + (x 1).val := hx 1
    have h2 : k.val = 512 + (x 2).val := hx 2
    have l0 : (x 0).val < 1 := (x 0).isLt
    have l2 : (x 2).val < 1 := (x 2).isLt
    have e1 : h = g := Fin.ext (by omega)
    subst e1
    have ex : x = (ix3 0 b 0 : S1x8x1.Idx) := by
      funext a
      match a with
      | ⟨0, _⟩ => exact Fin.ext (by show (x 0).val = 0; omega)
      | ⟨1, _⟩ => exact Fin.ext (by show (x 1).val = b.val; omega)
      | ⟨2, _⟩ => exact Fin.ext (by show (x 2).val = 0; omega)
    rw [hw, ex]
    have hv : (shapeCast S1x8x1 (NW x0 x1 h) shapeCasts_S8x1_S1x8x1) (ix3 0 b 0) = NW x0 x1 h (ix2 b 0) := by pointwise []
    rw [hv, NW_apply, row513, dif_neg (by omega)]
    rfl
  refine View.canon_eq_of_allAt _ _ _ (cover8 x0 x1 x3 x5 h b k) ?_
  unfold pieces8
  refine View.allAt_cons_unit _ _ _ _ _ (keyN 11 _ rfl) ?_
  refine View.allAt_cons_unit _ _ _ _ _ (keyL 11 _ rfl) ?_
  refine View.allAt_cons_unit _ _ _ _ _ (keyN 10 _ rfl) ?_
  refine View.allAt_cons_unit _ _ _ _ _ (keyL 10 _ rfl) ?_
  refine View.allAt_cons_unit _ _ _ _ _ (keyN 9 _ rfl) ?_
  refine View.allAt_cons_unit _ _ _ _ _ (keyL 9 _ rfl) ?_
  refine View.allAt_cons_unit _ _ _ _ _ (keyN 8 _ rfl) ?_
  refine View.allAt_cons_unit _ _ _ _ _ (keyL 8 _ rfl) ?_
  refine View.allAt_cons_unit _ _ _ _ _ (keyN 7 _ rfl) ?_
  refine View.allAt_cons_unit _ _ _ _ _ (keyL 7 _ rfl) ?_
  refine View.allAt_cons_unit _ _ _ _ _ (keyN 6 _ rfl) ?_
  refine View.allAt_cons_unit _ _ _ _ _ (keyL 6 _ rfl) ?_
  refine View.allAt_cons_unit _ _ _ _ _ (keyN 5 _ rfl) ?_
  refine View.allAt_cons_unit _ _ _ _ _ (keyL 5 _ rfl) ?_
  refine View.allAt_cons_unit _ _ _ _ _ (keyN 4 _ rfl) ?_
  refine View.allAt_cons_unit _ _ _ _ _ (keyL 4 _ rfl) ?_
  refine View.allAt_cons_unit _ _ _ _ _ (keyN 3 _ rfl) ?_
  refine View.allAt_cons_unit _ _ _ _ _ (keyL 3 _ rfl) ?_
  refine View.allAt_cons_unit _ _ _ _ _ (keyN 2 _ rfl) ?_
  refine View.allAt_cons_unit _ _ _ _ _ (keyL 2 _ rfl) ?_
  refine View.allAt_cons_unit _ _ _ _ _ (keyN 1 _ rfl) ?_
  refine View.allAt_cons_unit _ _ _ _ _ (keyL 1 _ rfl) ?_
  refine View.allAt_cons_unit _ _ _ _ _ (keyN 0 _ rfl) ?_
  refine View.allAt_cons_unit _ _ _ _ _ (keyL 0 _ ?_) (View.allAt_nil _ _)
  rfl

end Cert.Proof

end
-- ==== Proof.ArrayValue.lean ====
/- What the kernel's two result arrays hold after the run, index by index. -/
module

public import proofs.«01_k».proof.Proof.BlockTerms
public import proofs.«01_k».proof.Proof.BlockValue
public import Idealize.ShloMosaic.Lib.Pipeline.ValueKit

@[expose] public section

set_option maxRecDepth 16384

noncomputable section

namespace Cert.Proof

open Cert.KernelIdeal Cert.KernelIdeal.Gen Idealize.ShloMosaic Idealize.ShloMosaic.TcCoe Idealize.SL.Sem

/-- The logits of the cached tokens of sequence `b` and head `h`. -/
def alog (a0 : FVec Ideal S96x1536 .bf16) (a3 : IVec S24576x128 32) (a5 : FVec Ideal S2x96x512 .f32) (b : Fin 96) (h : Fin 12) :
    Fin 512 → EReal :=
  lgt (qRow a0 b h) (codeAt a3 (2 * b.val + h.val / 6) (by omega)) (scRow a5 b h)

/-- The logit of the new token of sequence `b` and head `h`. -/
def anew (a0 : FVec Ideal S96x1536 .bf16) (a1 : FVec Ideal S96x2x128 .bf16) (b : Fin 96) (h : Fin 12) : EReal :=
  nlg (qRow a0 b h) (newRow a1 b h)

/-- The attention of sequence `b` and head `h` at dimension `d`. -/
def aatt (a0 : FVec Ideal S96x1536 .bf16) (a1 a2 : FVec Ideal S96x2x128 .bf16) (a3 a4 : IVec S24576x128 32)
    (a5 a6 : FVec Ideal S2x96x512 .f32) (b : Fin 96) (h : Fin 12) (d : Fin 128) : EReal :=
  att (alog a0 a3 a5 b h) (anew a0 a1 b h) (scRow a6 b h) (fun k => codeAt a4 (2 * b.val + h.val / 6) (by omega) k d)
    (newRow a2 b h d)

/-- The attention array. -/
def attArr (a0 : FVec Ideal S96x1536 .bf16) (a1 a2 : FVec Ideal S96x2x128 .bf16) (a3 a4 : IVec S24576x128 32)
    (a5 a6 : FVec Ideal S2x96x512 .f32) : FVec Ideal S96x1536 .bf16 :=
  fun i => aatt a0 a1 a2 a3 a4 a5 a6 (i 0) ⟨(i 1).val / 128, by have : (i 1).val < 1536 := (i 1).isLt; omega⟩ ⟨(i 1).val % 128, Nat.mod_lt _ (by decide)⟩

/-- The logits array: head, sequence, token (the new one last). -/
def logArr (a0 : FVec Ideal S96x1536 .bf16) (a1 : FVec Ideal S96x2x128 .bf16) (a3 : IVec S24576x128 32)
    (a5 : FVec Ideal S2x96x512 .f32) : FVec Ideal S12x96x513 .f32 :=
  fun i => row513 (alog a0 a3 a5 (i 1) (i 0)) (anew a0 a1 (i 1) (i 0)) (i 2)

variable (m : (ℓ : Loc nD τ sig) → Buf (Elt Ideal) ℓ)

/-- Where window 0's block lies at point `t`. -/
theorem index0 : ∀ t : Fin cfg0.N, win0_0.index t = ![t.val, 0] :=
  (by decide +kernel : ∀ t : Fin grid0.N, win0_0.index t = ![t.val, 0])

/-- Where window 1's block lies at point `t`. -/
theorem index1 : ∀ t : Fin cfg0.N, win0_1.index t = ![t.val, 0, 0] :=
  (by decide +kernel : ∀ t : Fin grid0.N, win0_1.index t = ![t.val, 0, 0])

/-- Where window 2's block lies at point `t`. -/
theorem index2 : ∀ t : Fin cfg0.N, win0_2.index t = ![t.val, 0, 0] :=
  (by decide +kernel : ∀ t : Fin grid0.N, win0_2.index t = ![t.val, 0, 0])

/-- Where window 3's block lies at point `t`. -/
theorem index3 : ∀ t : Fin cfg0.N, win0_3.index t = ![t.val, 0] :=
  (by decide +kernel : ∀ t : Fin grid0.N, win0_3.index t = ![t.val, 0])

/-- Where window 4's block lies at point `t`. -/
theorem index4 : ∀ t : Fin cfg0.N, win0_4.index t = ![t.val, 0] :=
  (by decide +kernel : ∀ t : Fin grid0.N, win0_4.index t = ![t.val, 0])

/-- Where window 5's block lies at point `t`. -/
theorem index5 : ∀ t : Fin cfg0.N, win0_5.index t = ![0, t.val, 0] :=
  (by decide +kernel : ∀ t : Fin grid0.N, win0_5.index t = ![0, t.val, 0])

/-- Where window 6's block lies at point `t`. -/
theorem index6 : ∀ t : Fin cfg0.N, win0_6.index t = ![0, t.val, 0] :=
  (by decide +kernel : ∀ t : Fin grid0.N, win0_6.index t = ![0, t.val, 0])

/-- Where window 7's block lies at point `t`. -/
theorem index7 : ∀ t : Fin cfg0.N, win0_7.index t = ![t.val, 0] :=
  (by decide +kernel : ∀ t : Fin grid0.N, win0_7.index t = ![t.val, 0])

/-- Where window 8's block lies at point `t`. -/
theorem index8 : ∀ t : Fin cfg0.N, win0_8.index t = ![0, t.val, 0] :=
  (by decide +kernel : ∀ t : Fin grid0.N, win0_8.index t = ![0, t.val, 0])

/-- Sequence `b` of grid point `t`'s block is sequence `8 t + b` of the array. -/
def seqOf (t : Fin cfg0.N) (b : Fin 8) : Fin 96 :=
  ⟨8 * t.val + b.val, by have h : t.val < 12 := t.isLt; omega⟩

/-- The queries of a block. -/
theorem blk_q (c : Dev nD) (t : Fin cfg0.N) (b : Fin 8) (h : Fin 12) :
    qRow (iblk m c 0 t : Vec Ideal S8x1536 .bf16) b h = qRow (V m c main_arg0) (seqOf t b) h := by
  funext d
  unfold qRow
  blk_simp [iblk]
  congr 1
  blk_ext [index0, seqOf]

/-- The keys of the new tokens of a block. -/
theorem blk_kn (c : Dev nD) (t : Fin cfg0.N) (b : Fin 8) (h : Fin 12) :
    newRow (iblk m c 1 t : Vec Ideal S8x2x128 .bf16) b h = newRow (V m c main_arg1) (seqOf t b) h := by
  funext d
  unfold newRow
  blk_simp [iblk]
  congr 1
  blk_ext [index1, seqOf]

/-- The values of the new tokens of a block. -/
theorem blk_vn (c : Dev nD) (t : Fin cfg0.N) (b : Fin 8) (h : Fin 12) :
    newRow (iblk m c 2 t : Vec Ideal S8x2x128 .bf16) b h = newRow (V m c main_arg2) (seqOf t b) h := by
  funext d
  unfold newRow
  blk_simp [iblk]
  congr 1
  blk_ext [index2, seqOf]

/-- The key codes of a block. -/
theorem blk_k (c : Dev nD) (t : Fin cfg0.N) (b : Fin 8) (g : ℕ) (hg : g < 2) :
    codeAt (iblk m c 3 t : Vec Ideal S2048x128 .i32) (2 * b.val + g) (by omega)
      = codeAt (V m c main_arg3) (2 * (seqOf t b).val + g) (by omega) := by
  funext k d
  unfold codeAt
  blk_simp [iblk]
  congr 2
  blk_ext [index3, seqOf]

/-- The value codes of a block. -/
theorem blk_v (c : Dev nD) (t : Fin cfg0.N) (b : Fin 8) (g : ℕ) (hg : g < 2) :
    codeAt (iblk m c 4 t : Vec Ideal S2048x128 .i32) (2 * b.val + g) (by omega)
      = codeAt (V m c main_arg4) (2 * (seqOf t b).val + g) (by omega) := by
  funext k d
  unfold codeAt
  blk_simp [iblk]
  congr 2
  blk_ext [index4, seqOf]

/-- The key scales of a block. -/
theorem blk_ks (c : Dev nD) (t : Fin cfg0.N) (b : Fin 8) (h : Fin 12) :
    scRow (iblk m c 5 t : Vec Ideal S2x8x512 .f32) b h = scRow (V m c main_arg5) (seqOf t b) h := by
  funext k
  unfold scRow
  blk_simp [iblk]
  congr 1
  blk_ext [index5, seqOf]

/-- The value scales of a block. -/
theorem blk_vs (c : Dev nD) (t : Fin cfg0.N) (b : Fin 8) (h : Fin 12) :
    scRow (iblk m c 6 t : Vec Ideal S2x8x512 .f32) b h = scRow (V m c main_arg6) (seqOf t b) h := by
  funext k
  unfold scRow
  blk_simp [iblk]
  congr 1
  blk_ext [index6, seqOf]

/-- The cached logits of a block are the array's. -/
theorem blk_l (c : Dev nD) (t : Fin cfg0.N) (b : Fin 8) (h : Fin 12) :
    lrow (iblk m c 0 t) (iblk m c 3 t) (iblk m c 5 t) b h
      = alog (V m c main_arg0) (V m c main_arg3) (V m c main_arg5) (seqOf t b) h := by
  unfold lrow alog
  rw [blk_q, blk_k m c t b (h.val / 6) (by omega), blk_ks]

/-- The new logits of a block are the array's. -/
theorem blk_n (c : Dev nD) (t : Fin cfg0.N) (b : Fin 8) (h : Fin 12) :
    nrow (iblk m c 0 t) (iblk m c 1 t) b h = anew (V m c main_arg0) (V m c main_arg1) (seqOf t b) h := by
  unfold nrow anew
  rw [blk_q, blk_kn]

/-- What grid point `t` leaves in the attention window, at an index. -/
theorem after7_apply (c : Dev nD) (t : Fin cfg0.N) (b : Fin 8) (h : Fin 12) (d : Fin 128) :
    (outsAt0 m c t).1 (ix2 b ⟨128 * h.val + d.val, by omega⟩)
      = aatt (V m c main_arg0) (V m c main_arg1) (V m c main_arg2) (V m c main_arg3) (V m c main_arg4) (V m c main_arg5)
          (V m c main_arg6) (seqOf t b) h d := by
  unfold outsAt0
  dsimp only
  rw [out7_eq, canon7, blk_l, blk_n, blk_vs, blk_vn, blk_v m c t b (h.val / 6) (by omega)]
  rfl

/-- What grid point `t` leaves in the logits window, at an index. -/
theorem after8_apply (c : Dev nD) (t : Fin cfg0.N) (b : Fin 8) (h : Fin 12) (k : Fin 513) :
    (outsAt0 m c t).2 (ix3 h b k)
      = row513 (alog (V m c main_arg0) (V m c main_arg3) (V m c main_arg5) (seqOf t b) h)
          (anew (V m c main_arg0) (V m c main_arg1) (seqOf t b) h) k := by
  unfold outsAt0
  dsimp only
  rw [out8_eq, canon8, blk_l, blk_n]

/-- The same, at an index of the window. -/
theorem after7_eq (c : Dev nD) (t : Fin cfg0.N) (y : S8x1536.Idx) :
    (outsAt0 m c t).1 y
      = attArr (V m c main_arg0) (V m c main_arg1) (V m c main_arg2) (V m c main_arg3) (V m c main_arg4) (V m c main_arg5)
          (V m c main_arg6) (ix2 (seqOf t (y 0)) (y 1)) := by
  have hy : (y 1).val < 1536 := (y 1).isLt
  have e : y = ix2 (y 0) ⟨128 * ((y 1).val / 128) + (y 1).val % 128, by omega⟩ := by
    funext a
    match a with
    | ⟨0, _⟩ => rfl
    | ⟨1, _⟩ => exact Fin.ext (by show (y 1).val = 128 * ((y 1).val / 128) + (y 1).val % 128; omega)
  have := after7_apply m c t (y 0) ⟨(y 1).val / 128, by omega⟩ ⟨(y 1).val % 128, Nat.mod_lt _ (by decide)⟩
  exact (congrArg _ e).trans this

/-- The same, at an index of the window. -/
theorem after8_eq (c : Dev nD) (t : Fin cfg0.N) (y : S12x8x513.Idx) :
    (outsAt0 m c t).2 y
      = logArr (V m c main_arg0) (V m c main_arg1) (V m c main_arg3) (V m c main_arg5) (ix3 (y 0) (seqOf t (y 1)) (y 2)) := by
  have e : y = ix3 (y 0) (y 1) (y 2) := by
    funext a
    match a with
    | ⟨0, _⟩ => rfl
    | ⟨1, _⟩ => rfl
    | ⟨2, _⟩ => rfl
  have := after8_apply m c t (y 1) (y 0) (y 2)
  exact (congrArg _ e).trans this

/-- The attention array after the run. -/
theorem final7 (c : Dev nD) :
    (dats m 0 c).arrAt 7 cfg0.N
      = attArr (V m c main_arg0) (V m c main_arg1) (V m c main_arg2) (V m c main_arg3) (V m c main_arg4) (V m c main_arg5)
          (V m c main_arg6) := by
  refine (dats m 0 c).arrAt_eq_of_covers 7 _ (by decide +kernel) fun t hf y => ?_
  blk_simp
  rw [after0_7]
  refine (after7_eq m c t y).trans (congrArg _ ?_)
  blk_ext [index7, seqOf]

/-- The logits array after the run. -/
theorem final8 (c : Dev nD) :
    (dats m 0 c).arrAt 8 cfg0.N
      = logArr (V m c main_arg0) (V m c main_arg1) (V m c main_arg3) (V m c main_arg5) := by
  refine (dats m 0 c).arrAt_eq_of_covers 8 _ (by decide +kernel) fun t hf y => ?_
  blk_simp
  rw [after0_8]
  refine (after8_eq m c t y).trans (congrArg _ ?_)
  blk_ext [index8, seqOf]

end Cert.Proof

end
-- ==== Proof.RefValue.lean ====
/- What the reference computes, index by index: the same attention and the same logits. -/
module

public import proofs.«01_k».proof.Proof.ArrayValue
public import proofs.«01_k».proof.Proof.Gen.ReferenceIdeal.Value

@[expose] public section

set_option maxRecDepth 16384

noncomputable section

namespace Cert.Proof

open Cert.ReferenceIdeal Cert.ReferenceIdeal.Gen Idealize.ShloMosaic Idealize.ShloMosaic.TcCoe Idealize.SL.Sem

/-- The reference's row of sequence `b` and head `h`: the sequence and the head's group in one index. -/
def mrow (b : Fin 96) (h : Fin 12) : Fin 192 := ⟨2 * b.val + h.val / 6, by omega⟩

/-- The head within its group. -/
def mcol (h : Fin 12) : Fin 6 := ⟨h.val % 6, by omega⟩

/-- A row's greatest logit, over the row as one. -/
theorem fold513 (l : Fin 512 → EReal) (n : EReal) :
    max ninf (Finset.univ.fold max ninf (fun k : Fin 513 => row513 l n k)) = top l n := by
  refine eq_of_forall_ge_iff fun c => ?_
  have hs : ∀ k : Fin 512, row513 l n k.castSucc = l k := fun k => by simp [row513]
  have hn : row513 l n (Fin.last 512) = n := by simp [row513]
  unfold top
  rw [max_le_iff, max_le_iff, Finset.fold_max_le, Finset.fold_max_le]
  simp only [Finset.mem_univ, true_imp_iff]
  rw [Fin.forall_fin_succ']
  simp only [hs, hn]
  tauto

/-- A sum over a row as one. -/
theorem sum513 (f : EReal → EReal) (l : Fin 512 → EReal) (n : EReal) :
    ∑ k : Fin 513, f (row513 l n k) = (∑ k : Fin 512, f (l k)) + f n := by
  rw [Fin.sum_univ_castSucc]
  congr 1

/-- The row's sequence. -/
theorem mrow_div (b : Fin 96) (h : Fin 12) (p : (mrow b h).val / 2 < 96) : (⟨(mrow b h).val / 2, p⟩ : Fin 96) = b :=
  Fin.ext (by show (2 * b.val + h.val / 6) / 2 = b.val; omega)

/-- The row's group. -/
theorem mrow_mod (b : Fin 96) (h : Fin 12) (p : (mrow b h).val % 2 < 2) :
    (⟨(mrow b h).val % 2, p⟩ : Fin 2) = ⟨h.val / 6, by omega⟩ :=
  Fin.ext (by show (2 * b.val + h.val / 6) % 2 = h.val / 6; omega)

/-- The column of the row's query at dimension `x`. -/
theorem mrow_col (b : Fin 96) (h : Fin 12) (x : Fin 128)
    (p : (mrow b h).val % 2 * 768 + (mcol h).val * 128 + x.val < 1536) :
    (⟨(mrow b h).val % 2 * 768 + (mcol h).val * 128 + x.val, p⟩ : Fin 1536) = ⟨128 * h.val + x.val, by omega⟩ :=
  Fin.ext (by show (2 * b.val + h.val / 6) % 2 * 768 + h.val % 6 * 128 + x.val = 128 * h.val + x.val; omega)

/-- The row of an output column. -/
theorem out_row (b : Fin 96) (h : Fin 12) (d : Fin 128) (p : b.val * 2 + (128 * h.val + d.val) / 768 < 192) :
    (⟨b.val * 2 + (128 * h.val + d.val) / 768, p⟩ : Fin 192) = mrow b h :=
  Fin.ext (by show b.val * 2 + (128 * h.val + d.val) / 768 = 2 * b.val + h.val / 6; omega)

/-- The head within its group of an output column. -/
theorem out_col (h : Fin 12) (d : Fin 128) (p : (128 * h.val + d.val) / 128 % 6 < 6) :
    (⟨(128 * h.val + d.val) / 128 % 6, p⟩ : Fin 6) = mcol h :=
  Fin.ext (by show (128 * h.val + d.val) / 128 % 6 = h.val % 6; omega)

variable (a0 : FVec Ideal S96x1536 .bf16) (a1 a2 : FVec Ideal S96x2x128 .bf16) (a3 a4 : Vec Ideal S24576x128 .i32)
    (a5 a6 : FVec Ideal S2x96x512 .f32)

/-- The reference's codes at row `mrow b h`. -/
theorem ref_code (w : Vec Ideal S24576x128 .i32) (b : Fin 96) (h : Fin 12) (k : Fin 512) (d : Fin 128) :
    k0_pay3 w (ix3 (mrow b h) k d) = codeAt w (2 * b.val + h.val / 6) (by omega) k d := by
  have hc := codes_apply w bitcasts_S24576x128_w32_S98304x128_w8 ⟨(2 * b.val + h.val / 6) * 512 + k.val, by omega⟩ d
    ⟨128 * (2 * b.val + h.val / 6) + k.val / 4, by omega⟩ (by show 128 * (2 * b.val + h.val / 6) + k.val / 4 = ((2 * b.val + h.val / 6) * 512 + k.val) / 4; omega)
  have hm : ((2 * b.val + h.val / 6) * 512 + k.val) % 4 = k.val % 4 := by omega
  unfold codeAt
  rw [← hm]
  refine Eq.trans ?_ hc
  pointwise [k0_pay3]
  rfl

/-- The reference's logits. -/
theorem ref_logits (b : Fin 96) (h : Fin 12) (k : Fin 513) :
    k0_pay6 a0 a3 a1 a5 (ix3 (mrow b h) (mcol h) k) = row513 (alog a0 a3 a5 b h) (anew a0 a1 b h) k := by
  have hc := ref_code a3 b h
  pointwise [k0_pay3] at hc
  pointwise [k0_pay6]
  simp only [mrow_div, mrow_mod, mrow_col]
  by_cases hk : k.val < 512
  · rw [dif_pos hk, row513, dif_pos hk]
    unfold alog lgt
    exact congrArg _ (Finset.sum_congr rfl fun d _ => congrArg _ (hc ⟨k.val, hk⟩ d))
  · rw [dif_neg hk, row513, dif_neg hk]
    rfl

/-- The reference's exponentials. -/
theorem ref_exp (b : Fin 96) (h : Fin 12) (k : Fin 513) :
    k0_pay7 a0 a3 a1 a5 (ix3 (mrow b h) (mcol h) k)
      = Ideal.exp (row513 (alog a0 a3 a5 b h) (anew a0 a1 b h) k - top (alog a0 a3 a5 b h) (anew a0 a1 b h)) := by
  have hl := ref_logits a0 a1 a3 a5 b h
  unfold k0_pay7
  generalize k0_pay6 a0 a3 a1 a5 = L at hl
  pointwise
  simp only [hl]
  rw [← fold513]
  rfl

/-- The reference's attention. -/
theorem ref_att (b : Fin 96) (h : Fin 12) (d : Fin 128) :
    k0_pay1 (k0_pay3 a4) (k0_pay4 a2) (k0_pay5 a6) (k0_pay7 a0 a3 a1 a5) (ix2 b ⟨128 * h.val + d.val, by omega⟩)
      = aatt a0 a1 a2 a3 a4 a5 a6 b h d := by
  have he := ref_exp a0 a1 a3 a5 b h
  have hc := ref_code a4 b h
  have hn : ∀ d : Fin 128, k0_pay4 (F := Ideal) a2 (ix3 (mrow b h) 0 d) = newRow a2 b h d := by
    intro d
    pointwise [k0_pay4]
    simp only [mrow_div, mrow_mod]
    rfl
  have hs : ∀ k : Fin 512, k0_pay5 (F := Ideal) a6 (ix3 (mrow b h) 0 k) = scRow a6 b h k := by
    intro k
    pointwise [k0_pay5]
    simp only [mrow_div, mrow_mod]
    rfl
  generalize k0_pay7 a0 a3 a1 a5 = E at he
  generalize k0_pay3 (F := Ideal) a4 = vc at hc
  generalize k0_pay4 (F := Ideal) a2 = vn at hn
  generalize k0_pay5 (F := Ideal) a6 = vs at hs
  pointwise [k0_pay1]
  simp only [out_row, out_col, Finset.univ_unique, Finset.sum_singleton, Fin.default_eq_zero, Fin.isValue, he, hc, hn, hs]
  rw [sum513 (fun a => Ideal.exp (a - top (alog a0 a3 a5 b h) (anew a0 a1 b h)))]
  unfold aatt att prob tot
  refine congrArg₂ _ (Finset.sum_congr rfl fun k _ => ?_) ?_
  · simp [row513]
  · simp [row513]

/-- The reference's second result is the logits array. -/
theorem G8_eq : Cert.ReferenceIdeal.Value.G8 a0 a1 a2 a3 a4 a5 a6 = logArr a0 a1 a3 a5 := by
  have key : ∀ (h : Fin 12) (b : Fin 96) (k : Fin 513),
      Cert.ReferenceIdeal.Value.G8 a0 a1 a2 a3 a4 a5 a6 (ix3 h b k) = logArr a0 a1 a3 a5 (ix3 h b k) := by
    intro h b k
    refine Eq.trans ?_ (ref_logits a0 a1 a3 a5 b h k)
    unfold Cert.ReferenceIdeal.Value.G8
    generalize k0_pay6 a0 a3 a1 a5 = L
    pointwise [k0_pay2]
    refine congrArg L ?_
    congr 1
    exact Fin.ext (by show b.val * 2 + h.val / 6 = 2 * b.val + h.val / 6; omega)
  funext i
  have e : i = ix3 (i 0) (i 1) (i 2) := by
    funext a
    match a with
    | ⟨0, _⟩ => rfl
    | ⟨1, _⟩ => rfl
    | ⟨2, _⟩ => rfl
  exact (congrArg _ e).trans ((key (i 0) (i 1) (i 2)).trans (congrArg _ e.symm))

/-- The reference's first result is the attention array. -/
theorem G7_eq : Cert.ReferenceIdeal.Value.G7 a0 a1 a2 a3 a4 a5 a6 = attArr a0 a1 a2 a3 a4 a5 a6 := by
  funext i
  have hi : (i 1).val < 1536 := (i 1).isLt
  have e : i = ix2 (i 0) ⟨128 * ((i 1).val / 128) + (i 1).val % 128, by omega⟩ := by
    funext a
    match a with
    | ⟨0, _⟩ => rfl
    | ⟨1, _⟩ => exact Fin.ext (by show (i 1).val = 128 * ((i 1).val / 128) + (i 1).val % 128; omega)
  exact (congrArg _ e).trans
    (ref_att a0 a1 a2 a3 a4 a5 a6 (i 0) ⟨(i 1).val / 128, by omega⟩ ⟨(i 1).val % 128, Nat.mod_lt _ (by decide)⟩)

end Cert.Proof

end
-- ==== Proof.LabelRing.lean ====
module

public import proofs.«01_k».proof.Proof.Gen.Label.Frame
public import proofs.«01_k».proof.Proof.Gen.Label.Skeleton
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
abbrev MM (F : FTy → Type) : Type := MT nD τ sig Unit (Elt F) ℕ (Pipeline.UD sig nD τ) ℕ

/-! ## The rows a step copies -/

/-- Semaphore cell `k` of the word copies. -/
def cellW (k : Fin 2) : SemLoc sig :=
  .dma ((cc0_scratch3.slice (Rect.unit (s := S2) ![k.val] S1.size (by intro a; fin_cases a; show k.val + 1 ≤ 2; omega))).squeeze S_ squeezes_S1_S_).sem
/-- Semaphore cell `k` of the scale copies. -/
def cellS (k : Fin 2) : SemLoc sig :=
  .dma ((cc0_scratch4.slice (Rect.unit (s := S2) ![k.val] S1.size (by intro a; fin_cases a; show k.val + 1 ≤ 2; omega))).squeeze S_ squeezes_S1_S_).sem

/-- Where word row `p` of slot `k` lands. -/
def wOff (k : Fin 2) (p : Fin 32) : Fin 3 → ℕ := ![k.val, (p.val % 2) * 16 + p.val / 2, 0]
/-- Where word row `p` of block `n` comes from. -/
def wFrom (n : Fin 12) (p : Fin 32) : Fin 4 → ℕ := ![8 * n.val + p.val / 4, (p.val / 2) % 2, p.val % 2, 0]
/-- Where scale row `q` of slot `k` lands. -/
def sOff (k : Fin 2) (q : Fin 16) : Fin 4 → ℕ := ![k.val, q.val % 2, q.val / 2, 0]
/-- Where scale row `q` of block `n` comes from. -/
def sFrom (n : Fin 12) (q : Fin 16) : Fin 3 → ℕ := ![8 * n.val + q.val / 2, q.val % 2, 0]

theorem wOff_inb (k p) : ∀ a, wOff k p a + S1x1x8192.size a ≤ S2x32x8192.size a := by
  intro a; fin_cases a
  · show k.val + 1 ≤ 2; omega
  · show (p.val % 2) * 16 + p.val / 2 + 1 ≤ 32; omega
  · show 0 + 8192 ≤ 8192; omega
theorem wFrom_inb (n p) : ∀ a, wFrom n p a + S1x1x1x8192.size a ≤ S96x2x2x8192.size a := by
  intro a; fin_cases a
  · show 8 * n.val + p.val / 4 + 1 ≤ 96; omega
  · show (p.val / 2) % 2 + 1 ≤ 2; omega
  · show p.val % 2 + 1 ≤ 2; omega
  · show 0 + 8192 ≤ 8192; omega
theorem sOff_inb (k q) : ∀ a, sOff k q a + S1x1x1x8192.size a ≤ S2x2x8x8192.size a := by
  intro a; fin_cases a
  · show k.val + 1 ≤ 2; omega
  · show q.val % 2 + 1 ≤ 2; omega
  · show q.val / 2 + 1 ≤ 8; omega
  · show 0 + 8192 ≤ 8192; omega
theorem sFrom_inb (n q) : ∀ a, sFrom n q a + S1x1x8192.size a ≤ S96x2x8192.size a := by
  intro a; fin_cases a
  · show 8 * n.val + q.val / 2 + 1 ≤ 96; omega
  · show q.val % 2 + 1 ≤ 2; omega
  · show 0 + 8192 ≤ 8192; omega

/-- Word row `p` of slot `k`. -/
def wRow (k : Fin 2) (p : Fin 32) : Memref sig .tc .vmem S8192 .i32 :=
  ((Memref.whole cc0_scratch0 : Memref sig .tc .vmem S2x32x8192 .i32).slice (Rect.unit (s := S2x32x8192) (wOff k p) S1x1x8192.size (wOff_inb k p)) (fun _ => rfl)).squeeze S8192 squeezes_S1x1x8192_S8192
/-- Word row `p` of block `n` in the array. -/
def wSrc (n : Fin 12) (p : Fin 32) : Memref sig .tc .hbm S8192 .i32 :=
  ((Memref.whole main_arg2 : Memref sig .tc .hbm S96x2x2x8192 .i32).slice (Rect.unit (s := S96x2x2x8192) (wFrom n p) S1x1x1x8192.size (wFrom_inb n p)) (fun _ => rfl)).squeeze S8192 squeezes_S1x1x1x8192_S8192
/-- Scale row `q` of slot `k`. -/
def sRow (k : Fin 2) (q : Fin 16) : Memref sig .tc .vmem S8192 .f32 :=
  ((Memref.whole cc0_scratch1 : Memref sig .tc .vmem S2x2x8x8192 .f32).slice (Rect.unit (s := S2x2x8x8192) (sOff k q) S1x1x1x8192.size (sOff_inb k q)) (fun _ => rfl)).squeeze S8192 squeezes_S1x1x1x8192_S8192
/-- Scale row `q` of block `n` in the array. -/
def sSrc (n : Fin 12) (q : Fin 16) : Memref sig .tc .hbm S8192 .f32 :=
  ((Memref.whole main_arg3 : Memref sig .tc .hbm S96x2x8192 .f32).slice (Rect.unit (s := S96x2x8192) (sFrom n q) S1x1x8192.size (sFrom_inb n q)) (fun _ => rfl)).squeeze S8192 squeezes_S1x1x8192_S8192

/-! ## The landed contents -/

/-- The array element that lands at `i` of the word scratch from block `n`. -/
def wIx (n : Fin 12) (i : S2x32x8192.Idx) : S96x2x2x8192.Idx := fun
  | 0 => ⟨8 * n.val + ((i 1).val % 16) / 2, by have : (i 1).val < 32 := (i 1).isLt; show _ < 96; omega⟩
  | 1 => ⟨(i 1).val % 2, by show _ < 2; omega⟩
  | 2 => ⟨(i 1).val / 16, by have : (i 1).val < 32 := (i 1).isLt; show _ < 2; omega⟩
  | 3 => ⟨(i 2).val, (i 2).isLt⟩
/-- The array element that lands at `i` of the scale scratch from block `n`. -/
def sIx (n : Fin 12) (i : S2x2x8x8192.Idx) : S96x2x8192.Idx := fun
  | 0 => ⟨8 * n.val + (i 2).val, by have : (i 2).val < 8 := (i 2).isLt; show _ < 96; omega⟩
  | 1 => ⟨(i 1).val, (i 1).isLt⟩
  | 2 => ⟨(i 3).val, (i 3).isLt⟩
/-- The word scratch with block `n` landed, in either slot. -/
def Gw (W : Vec F S96x2x2x8192 .i32) (n : Fin 12) : Vec F S2x32x8192 .i32 := fun i => W (wIx n i)
/-- The scale scratch with block `n` landed, in either slot. -/
def Gs (S : Vec F S96x2x8192 .f32) (n : Fin 12) : Vec F S2x2x8x8192 .f32 := fun i => S (sIx n i)

/-- The matched index of a row in a rank-3 window of one row. -/
theorem rs3 (y : S8192.Idx) (h) : (Shape.reshapeEquiv (s := S1x1x8192) (s' := S8192) h y) = (fun | 0 => ⟨0, by decide⟩ | 1 => ⟨0, by decide⟩ | 2 => ⟨(y 0).val, (y 0).isLt⟩ : S1x1x8192.Idx) := by
  apply Shape.reshapeEquiv_eq_of_rowMajor
  rw [Shape.rowMajor_val_three, Shape.rowMajor_val_one]
  show (0 * 1 + 0) * 8192 + (y 0).val = (y 0).val
  omega
/-- The matched index of a row in a rank-4 window of one row. -/
theorem rs4 (y : S8192.Idx) (h) : (Shape.reshapeEquiv (s := S1x1x1x8192) (s' := S8192) h y) = (fun | 0 => ⟨0, by decide⟩ | 1 => ⟨0, by decide⟩ | 2 => ⟨0, by decide⟩ | 3 => ⟨(y 0).val, (y 0).isLt⟩ : S1x1x1x8192.Idx) := by
  apply Shape.reshapeEquiv_eq_of_rowMajor
  rw [Shape.rowMajor_val_four, Shape.rowMajor_val_one]
  show ((0 * 1 + 0) * 1 + 0) * 8192 + (y 0).val = (y 0).val
  omega

theorem w_emb (k : Fin 2) (n : Fin 12) (p : Fin 32) (y : S8192.Idx) : wIx n ((wRow k p).view.emb y) = (wSrc n p).view.emb y := by
  have e1 : (wRow k p).view.emb y = (Rect.unit (s := S2x32x8192) (wOff k p) S1x1x8192.size (wOff_inb k p)).emb (Shape.reshapeEquiv (s := S1x1x8192) (s' := S8192) squeezes_S1x1x8192_S8192.numel_eq y) := rfl
  have e2 : (wSrc n p).view.emb y = (Rect.unit (s := S96x2x2x8192) (wFrom n p) S1x1x1x8192.size (wFrom_inb n p)).emb (Shape.reshapeEquiv (s := S1x1x1x8192) (s' := S8192) squeezes_S1x1x1x8192_S8192.numel_eq y) := rfl
  rw [e1, e2, rs3, rs4]
  funext a; apply Fin.ext; fin_cases a
  · show 8 * n.val + ((p.val % 2) * 16 + p.val / 2 + 1 * 0) % 16 / 2 = 8 * n.val + p.val / 4 + 1 * 0
    rcases Nat.mod_two_eq_zero_or_one p.val with h | h <;> rw [h] <;> omega
  · show ((p.val % 2) * 16 + p.val / 2 + 1 * 0) % 2 = (p.val / 2) % 2 + 1 * 0
    rcases Nat.mod_two_eq_zero_or_one p.val with h | h <;> rw [h] <;> omega
  · show ((p.val % 2) * 16 + p.val / 2 + 1 * 0) / 16 = p.val % 2 + 1 * 0
    rcases Nat.mod_two_eq_zero_or_one p.val with h | h <;> rw [h] <;> omega
  · rfl
theorem s_emb (k : Fin 2) (n : Fin 12) (q : Fin 16) (y : S8192.Idx) : sIx n ((sRow k q).view.emb y) = (sSrc n q).view.emb y := by
  have e1 : (sRow k q).view.emb y = (Rect.unit (s := S2x2x8x8192) (sOff k q) S1x1x1x8192.size (sOff_inb k q)).emb (Shape.reshapeEquiv (s := S1x1x1x8192) (s' := S8192) squeezes_S1x1x1x8192_S8192.numel_eq y) := rfl
  have e2 : (sSrc n q).view.emb y = (Rect.unit (s := S96x2x8192) (sFrom n q) S1x1x8192.size (sFrom_inb n q)).emb (Shape.reshapeEquiv (s := S1x1x8192) (s' := S8192) squeezes_S1x1x8192_S8192.numel_eq y) := rfl
  rw [e1, e2, rs3, rs4]
  funext a; apply Fin.ext; fin_cases a
  · show 8 * n.val + (q.val / 2 + 1 * 0) = 8 * n.val + q.val / 2 + 1 * 0
    omega
  · rfl
  · rfl

theorem w_land (W : Vec F S96x2x2x8192 .i32) (f : Vec F S2x32x8192 .i32) (k : Fin 2) (n : Fin 12) (p : Fin 32) :
    ∀ i ∈ (wRow k p).view.set, ((wRow k p).view.write (Elt F) f (ReadAs.same.apply ((wSrc n p).view.read (Elt F) W)) Finset.univ : Vec F S2x32x8192 .i32) i = Gw W n i := by
  intro i hi
  obtain ⟨y, -, rfl⟩ := Finset.mem_map.mp hi
  refine ((wRow k p).view.write_emb_of_mem f _ (Finset.mem_univ y)).trans ?_
  show W ((wSrc n p).view.emb y) = W (wIx n ((wRow k p).view.emb y))
  rw [w_emb]
theorem s_land (S : Vec F S96x2x8192 .f32) (f : Vec F S2x2x8x8192 .f32) (k : Fin 2) (n : Fin 12) (q : Fin 16) :
    ∀ i ∈ (sRow k q).view.set, ((sRow k q).view.write (Elt F) f (ReadAs.same.apply ((sSrc n q).view.read (Elt F) S)) Finset.univ : Vec F S2x2x8x8192 .f32) i = Gs S n i := by
  intro i hi
  obtain ⟨y, -, rfl⟩ := Finset.mem_map.mp hi
  refine ((sRow k q).view.write_emb_of_mem f _ (Finset.mem_univ y)).trans ?_
  show S ((sSrc n q).view.emb y) = S (sIx n ((sRow k q).view.emb y))
  rw [s_emb]

/-! ## The flights -/

/-- Ownership of part of an array can be kept in an invariant. -/
theorem storable_pt {nD' : ℕ} {τ' : Topo} {sg : RefSig} {Ix' : Type} {Val' : EltTy → Type} {Name' U' Lvl' : Type} [DecidableEq Ix'] [DecidableEq Name'] [URA U'] [Preorder Lvl']
    (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance

/-- One word row's credit, and one scale row's. -/
def NW : ℕ := (wRow 0 0).view.dmaCredit
def NS : ℕ := (sRow 0 0).view.dmaCredit
theorem NW_pos : 0 < NW := View.dmaCredit_pos _ (by decide)
theorem NS_pos : 0 < NS := View.dmaCredit_pos _ (by decide)

abbrev wArr (c : Dev nD) : Loc nD τ sig := (c : Thread nD τ).loc main_arg2
abbrev sArr (c : Dev nD) : Loc nD τ sig := (c : Thread nD τ).loc main_arg3
abbrev wBuf (c : Dev nD) : Loc nD τ sig := (c : Thread nD τ).loc cc0_scratch0
abbrev sBuf (c : Dev nD) : Loc nD τ sig := (c : Thread nD τ).loc cc0_scratch1

section Flights
variable (c : Dev nD) (W : Vec F S96x2x2x8192 .i32) (S : Vec F S96x2x8192 .f32) (q : PosShare TreeShare) (k : Fin 2) (n : Fin 12)

/-- What word row `p`'s copy delivers. -/
def dW (p : Fin 32) : sProp (MM F) := iprop((wBuf c ↦[(wRow k p).view.set]{fullShare} Gw W n) ∗ (wArr c ↦[(wSrc n p).view.set]{q} W))
def dS (p : Fin 16) : sProp (MM F) := iprop((sBuf c ↦[(sRow k p).view.set]{fullShare} Gs S n) ∗ (sArr c ↦[(sSrc n p).view.set]{q} S))
/-- What word row `p`'s copy takes. -/
def tW (f : Vec F S2x32x8192 .i32) (p : Fin 32) : sProp (MM F) := iprop((wBuf c ↦[(wRow k p).view.set]{fullShare} f) ∗ (wArr c ↦[(wSrc n p).view.set]{q} W))
def tS (f : Vec F S2x2x8x8192 .f32) (p : Fin 16) : sProp (MM F) := iprop((sBuf c ↦[(sRow k p).view.set]{fullShare} f) ∗ (sArr c ↦[(sSrc n p).view.set]{q} S))

theorem dW_storable : ∀ p, Storable (upEmb : UEmb _ (MM F)) (dW c W q k n p) := fun p => @Storable.sep _ _ _ _ _ _ _ _ (storable_pt _ _ _ _) (storable_pt _ _ _ _)
theorem dS_storable : ∀ p, Storable (upEmb : UEmb _ (MM F)) (dS c S q k n p) := fun p => @Storable.sep _ _ _ _ _ _ _ _ (storable_pt _ _ _ _) (storable_pt _ _ _ _)

/-- The word copies with the first `p` issued and none waited. -/
def flyW (f : Vec F S2x32x8192 .i32) (p : ℕ) : sProp (MM F) :=
  iprop(Transfers.Batch countersEmb (c : Thread nD τ) (cellW k) () NW (dW c W q k n) p 0 ∗ bigSep (Transfers.pending p) (tW c W q k n f))
def flyS (f : Vec F S2x2x8x8192 .f32) (p : ℕ) : sProp (MM F) :=
  iprop(Transfers.Batch countersEmb (c : Thread nD τ) (cellS k) () NS (dS c S q k n) p 0 ∗ bigSep (Transfers.pending p) (tS c S q k n f))

/-- One word copy issued. -/
theorem issueW {f : Vec F S2x32x8192 .i32} (p : ℕ) (hp : p < 32) {oc : Fin 1 → ℕ} {od : Fin 3 → ℕ} {os : Fin 4 → ℕ} (hc : oc = ![k.val]) (hd : od = wOff k ⟨p, hp⟩) (hs : os = wFrom n ⟨p, hp⟩)
    {h1 h2 h3} {e1 e2 e3} {α : Type} {K : PUnit → Prog (TpuEff nD τ sig (Elt F) Λ₀ .tc) α} {Q : α → sProp (MM F)} :
    flyW c W q k n f p ⊢ iprop((flyW c W q k n f (p + 1) -∗ wp frame (wpE (defs₀ (F := F)) Variants.none c none) Set.univ (K ⟨⟩) Q)
      -∗ wp frame (wpE (defs₀ (F := F)) Variants.none c none) Set.univ
        (.op (.enqueueDmaAs
          (((Memref.whole main_arg2 : Memref sig .tc .hbm S96x2x2x8192 .i32).slice (Rect.unit (s := S96x2x2x8192) os S1x1x1x8192.size h1) (fun _ => rfl)).squeeze S8192 squeezes_S1x1x1x8192_S8192)
          (.here (((Memref.whole cc0_scratch0 : Memref sig .tc .vmem S2x32x8192 .i32).slice (Rect.unit (s := S2x32x8192) od S1x1x8192.size h2) (fun _ => rfl)).squeeze S8192 squeezes_S1x1x8192_S8192))
          .same (.dma ((cc0_scratch3.slice (Rect.unit (s := S2) oc S1.size h3)).squeeze S_ squeezes_S1_S_).sem) e1 e2 e3) K) Q) := by
  subst hc; subst hd; subst hs
  unfold flyW
  rw [Transfers.bigSep_pending_step _ p hp]
  iintro ⟨HB, ⟨HT, HR⟩⟩ HK
  unfold tW
  icases HT with ⟨Hd, Hs⟩
  iapply (Transfers.wp_dmaBatch countersEmb Variants.none (c : Thread nD τ) none (src := wSrc n ⟨p, hp⟩) (dst := wRow k ⟨p, hp⟩) (via := .same) (sm := cellW k) () NW rfl subset_rfl
    (D := dW c W q k n) (j := p) (u := 0) hp (Nat.zero_le _) (by
      unfold dW
      exact sep_mono (Entails.of_eq (pointsTo_congr (w_land W f k n ⟨p, hp⟩))) .rfl)) $$ [Hs Hd HB]
  · isplitl [Hs]; · iexact Hs
    isplitl [Hd]; · iexact Hd
    iexact HB
  iintro HB
  iapply HK
  isplitl [HB]; · iexact HB
  iexact HR

/-- One scale copy issued. -/
theorem issueS {f : Vec F S2x2x8x8192 .f32} (p : ℕ) (hp : p < 16) {oc : Fin 1 → ℕ} {od : Fin 4 → ℕ} {os : Fin 3 → ℕ} (hc : oc = ![k.val]) (hd : od = sOff k ⟨p, hp⟩) (hs : os = sFrom n ⟨p, hp⟩)
    {h1 h2 h3} {e1 e2 e3} {α : Type} {K : PUnit → Prog (TpuEff nD τ sig (Elt F) Λ₀ .tc) α} {Q : α → sProp (MM F)} :
    flyS c S q k n f p ⊢ iprop((flyS c S q k n f (p + 1) -∗ wp frame (wpE (defs₀ (F := F)) Variants.none c none) Set.univ (K ⟨⟩) Q)
      -∗ wp frame (wpE (defs₀ (F := F)) Variants.none c none) Set.univ
        (.op (.enqueueDmaAs
          (((Memref.whole main_arg3 : Memref sig .tc .hbm S96x2x8192 .f32).slice (Rect.unit (s := S96x2x8192) os S1x1x8192.size h1) (fun _ => rfl)).squeeze S8192 squeezes_S1x1x8192_S8192)
          (.here (((Memref.whole cc0_scratch1 : Memref sig .tc .vmem S2x2x8x8192 .f32).slice (Rect.unit (s := S2x2x8x8192) od S1x1x1x8192.size h2) (fun _ => rfl)).squeeze S8192 squeezes_S1x1x1x8192_S8192))
          .same (.dma ((cc0_scratch4.slice (Rect.unit (s := S2) oc S1.size h3)).squeeze S_ squeezes_S1_S_).sem) e1 e2 e3) K) Q) := by
  subst hc; subst hd; subst hs
  unfold flyS
  rw [Transfers.bigSep_pending_step _ p hp]
  iintro ⟨HB, ⟨HT, HR⟩⟩ HK
  unfold tS
  icases HT with ⟨Hd, Hs⟩
  iapply (Transfers.wp_dmaBatch countersEmb Variants.none (c : Thread nD τ) none (src := sSrc n ⟨p, hp⟩) (dst := sRow k ⟨p, hp⟩) (via := .same) (sm := cellS k) () NS rfl subset_rfl
    (D := dS c S q k n) (j := p) (u := 0) hp (Nat.zero_le _) (by
      unfold dS
      exact sep_mono (Entails.of_eq (pointsTo_congr (s_land S f k n ⟨p, hp⟩))) .rfl)) $$ [Hs Hd HB]
  · isplitl [Hs]; · iexact Hs
    isplitl [Hd]; · iexact Hd
    iexact HB
  iintro HB
  iapply HK
  isplitl [HB]; · iexact HB
  iexact HR

/-- The word copies all issued, `p` waited. -/
def landW (p : ℕ) : sProp (MM F) := Transfers.Batch countersEmb (c : Thread nD τ) (cellW k) () NW (dW c W q k n) 32 (p * NW)
/-- The scale copies all issued, `p` waited. -/
def landS (p : ℕ) : sProp (MM F) := Transfers.Batch countersEmb (c : Thread nD τ) (cellS k) () NS (dS c S q k n) 16 (p * NS)
/-- The waits the thread has recorded. -/
def owed : sProp (MM F) := iprop(∃ X : Waits sig Unit, owes (c : Thread nD τ) 0 X)

/-- One word wait that is not the last. -/
theorem waitW (p : ℕ) (hp : p + 1 < 32) {oc : Fin 1 → ℕ} {od : Fin 3 → ℕ} {os : Fin 4 → ℕ} (hc : oc = ![k.val])
    {h1 h2 h3} {e1 e2} {α : Type} {K : PUnit → Prog (TpuEff nD τ sig (Elt F) Λ₀ .tc) α} {Q : α → sProp (MM F)} :
    iprop(landW c W q k n p ∗ owed c) ⊢
      iprop((iprop(landW c W q k n (p + 1) ∗ owed c) -∗ wp frame (wpE (defs₀ (F := F)) Variants.none c none) Set.univ (K ⟨⟩) Q)
      -∗ wp frame (wpE (defs₀ (F := F)) Variants.none c none) Set.univ
        (.op (.waitDma2 ((cc0_scratch3.slice (Rect.unit (s := S2) oc S1.size h3)).squeeze S_ squeezes_S1_S_).sem
          (((Memref.whole main_arg2 : Memref sig .tc .hbm S96x2x2x8192 .i32).slice (Rect.unit (s := S96x2x2x8192) os S1x1x1x8192.size h1) (fun _ => rfl)).squeeze S8192 squeezes_S1x1x1x8192_S8192)
          (((Memref.whole cc0_scratch0 : Memref sig .tc .vmem S2x32x8192 .i32).slice (Rect.unit (s := S2x32x8192) od S1x1x8192.size h2) (fun _ => rfl)).squeeze S8192 squeezes_S1x1x8192_S8192)
          e1 e2) K) Q) := by
  subst hc
  unfold landW owed
  iintro ⟨HB, ⟨%X, HO⟩⟩ HK
  iapply (Transfers.wp_waitBatch countersEmb Variants.none (c : Thread nD τ) none (srcw := ((Memref.whole main_arg2 : Memref sig .tc .hbm S96x2x2x8192 .i32).slice (Rect.unit (s := S96x2x2x8192) os S1x1x1x8192.size h1) (fun _ => rfl)).squeeze S8192 squeezes_S1x1x1x8192_S8192) (dstw := ((Memref.whole cc0_scratch0 : Memref sig .tc .vmem S2x32x8192 .i32).slice (Rect.unit (s := S2x32x8192) od S1x1x8192.size h2) (fun _ => rfl)).squeeze S8192 squeezes_S1x1x8192_S8192) (hsrc := e1) (hdst := e2) () (N := NW) rfl (D := dW c W q k n) (u := p * NW) (W := X)
    (by have h := Nat.mul_lt_mul_of_pos_right hp NW_pos; rw [Nat.succ_mul, Nat.mul_comm 32] at h; exact h)) $$ [HB HO]
  · isplitl [HB]; · iexact HB
    iexact HO
  iintro ⟨HB, HO⟩
  iapply HK
  isplitl [HB]
  · rw [Nat.succ_mul]; iexact HB
  · iexists _; iexact HO
/-- The last word wait. -/
theorem lastW {oc : Fin 1 → ℕ} {od : Fin 3 → ℕ} {os : Fin 4 → ℕ} (hc : oc = ![k.val])
    {h1 h2 h3} {e1 e2} {α : Type} {K : PUnit → Prog (TpuEff nD τ sig (Elt F) Λ₀ .tc) α} {Q : α → sProp (MM F)} :
    iprop(landW c W q k n 31 ∗ owed c) ⊢
      iprop((iprop((bigSep Finset.univ (dW c W q k n) ∗ semVal ((c : Thread nD τ), cellW k) 0) ∗ owed c) -∗ wp frame (wpE (defs₀ (F := F)) Variants.none c none) Set.univ (K ⟨⟩) Q)
      -∗ wp frame (wpE (defs₀ (F := F)) Variants.none c none) Set.univ
        (.op (.waitDma2 ((cc0_scratch3.slice (Rect.unit (s := S2) oc S1.size h3)).squeeze S_ squeezes_S1_S_).sem
          (((Memref.whole main_arg2 : Memref sig .tc .hbm S96x2x2x8192 .i32).slice (Rect.unit (s := S96x2x2x8192) os S1x1x1x8192.size h1) (fun _ => rfl)).squeeze S8192 squeezes_S1x1x1x8192_S8192)
          (((Memref.whole cc0_scratch0 : Memref sig .tc .vmem S2x32x8192 .i32).slice (Rect.unit (s := S2x32x8192) od S1x1x8192.size h2) (fun _ => rfl)).squeeze S8192 squeezes_S1x1x8192_S8192)
          e1 e2) K) Q) := by
  subst hc
  unfold landW owed
  iintro ⟨HB, ⟨%X, HO⟩⟩ HK
  iapply (Transfers.wp_waitBatchLast countersEmb Variants.none (c : Thread nD τ) none (srcw := ((Memref.whole main_arg2 : Memref sig .tc .hbm S96x2x2x8192 .i32).slice (Rect.unit (s := S96x2x2x8192) os S1x1x1x8192.size h1) (fun _ => rfl)).squeeze S8192 squeezes_S1x1x1x8192_S8192) (dstw := ((Memref.whole cc0_scratch0 : Memref sig .tc .vmem S2x32x8192 .i32).slice (Rect.unit (s := S2x32x8192) od S1x1x8192.size h2) (fun _ => rfl)).squeeze S8192 squeezes_S1x1x8192_S8192) (hsrc := e1) (hdst := e2) () (N := NW) rfl NW_pos (D := dW c W q k n) (u := 31 * NW) (W := X) (by omega)) $$ [HB HO]
  · isplitl [HB]; · iexact HB
    iexact HO
  iintro ⟨HB, HV, HO⟩
  iapply HK
  isplitr [HO]
  · isplitl [HB]; · iexact HB
    iexact HV
  · iexists _; iexact HO

/-- One scale wait that is not the last. -/
theorem waitS (p : ℕ) (hp : p + 1 < 16) {oc : Fin 1 → ℕ} {od : Fin 4 → ℕ} {os : Fin 3 → ℕ} (hc : oc = ![k.val])
    {h1 h2 h3} {e1 e2} {α : Type} {K : PUnit → Prog (TpuEff nD τ sig (Elt F) Λ₀ .tc) α} {Q : α → sProp (MM F)} :
    iprop(landS c S q k n p ∗ owed c) ⊢
      iprop((iprop(landS c S q k n (p + 1) ∗ owed c) -∗ wp frame (wpE (defs₀ (F := F)) Variants.none c none) Set.univ (K ⟨⟩) Q)
      -∗ wp frame (wpE (defs₀ (F := F)) Variants.none c none) Set.univ
        (.op (.waitDma2 ((cc0_scratch4.slice (Rect.unit (s := S2) oc S1.size h3)).squeeze S_ squeezes_S1_S_).sem
          (((Memref.whole main_arg3 : Memref sig .tc .hbm S96x2x8192 .f32).slice (Rect.unit (s := S96x2x8192) os S1x1x8192.size h1) (fun _ => rfl)).squeeze S8192 squeezes_S1x1x8192_S8192)
          (((Memref.whole cc0_scratch1 : Memref sig .tc .vmem S2x2x8x8192 .f32).slice (Rect.unit (s := S2x2x8x8192) od S1x1x1x8192.size h2) (fun _ => rfl)).squeeze S8192 squeezes_S1x1x1x8192_S8192)
          e1 e2) K) Q) := by
  subst hc
  unfold landS owed
  iintro ⟨HB, ⟨%X, HO⟩⟩ HK
  iapply (Transfers.wp_waitBatch countersEmb Variants.none (c : Thread nD τ) none (srcw := ((Memref.whole main_arg3 : Memref sig .tc .hbm S96x2x8192 .f32).slice (Rect.unit (s := S96x2x8192) os S1x1x8192.size h1) (fun _ => rfl)).squeeze S8192 squeezes_S1x1x8192_S8192) (dstw := ((Memref.whole cc0_scratch1 : Memref sig .tc .vmem S2x2x8x8192 .f32).slice (Rect.unit (s := S2x2x8x8192) od S1x1x1x8192.size h2) (fun _ => rfl)).squeeze S8192 squeezes_S1x1x1x8192_S8192) (hsrc := e1) (hdst := e2) () (N := NS) rfl (D := dS c S q k n) (u := p * NS) (W := X)
    (by have h := Nat.mul_lt_mul_of_pos_right hp NS_pos; rw [Nat.succ_mul, Nat.mul_comm 16] at h; exact h)) $$ [HB HO]
  · isplitl [HB]; · iexact HB
    iexact HO
  iintro ⟨HB, HO⟩
  iapply HK
  isplitl [HB]
  · rw [Nat.succ_mul]; iexact HB
  · iexists _; iexact HO
/-- The last scale wait. -/
theorem lastS {oc : Fin 1 → ℕ} {od : Fin 4 → ℕ} {os : Fin 3 → ℕ} (hc : oc = ![k.val])
    {h1 h2 h3} {e1 e2} {α : Type} {K : PUnit → Prog (TpuEff nD τ sig (Elt F) Λ₀ .tc) α} {Q : α → sProp (MM F)} :
    iprop(landS c S q k n 15 ∗ owed c) ⊢
      iprop((iprop((bigSep Finset.univ (dS c S q k n) ∗ semVal ((c : Thread nD τ), cellS k) 0) ∗ owed c) -∗ wp frame (wpE (defs₀ (F := F)) Variants.none c none) Set.univ (K ⟨⟩) Q)
      -∗ wp frame (wpE (defs₀ (F := F)) Variants.none c none) Set.univ
        (.op (.waitDma2 ((cc0_scratch4.slice (Rect.unit (s := S2) oc S1.size h3)).squeeze S_ squeezes_S1_S_).sem
          (((Memref.whole main_arg3 : Memref sig .tc .hbm S96x2x8192 .f32).slice (Rect.unit (s := S96x2x8192) os S1x1x8192.size h1) (fun _ => rfl)).squeeze S8192 squeezes_S1x1x8192_S8192)
          (((Memref.whole cc0_scratch1 : Memref sig .tc .vmem S2x2x8x8192 .f32).slice (Rect.unit (s := S2x2x8x8192) od S1x1x1x8192.size h2) (fun _ => rfl)).squeeze S8192 squeezes_S1x1x1x8192_S8192)
          e1 e2) K) Q) := by
  subst hc
  unfold landS owed
  iintro ⟨HB, ⟨%X, HO⟩⟩ HK
  iapply (Transfers.wp_waitBatchLast countersEmb Variants.none (c : Thread nD τ) none (srcw := ((Memref.whole main_arg3 : Memref sig .tc .hbm S96x2x8192 .f32).slice (Rect.unit (s := S96x2x8192) os S1x1x8192.size h1) (fun _ => rfl)).squeeze S8192 squeezes_S1x1x8192_S8192) (dstw := ((Memref.whole cc0_scratch1 : Memref sig .tc .vmem S2x2x8x8192 .f32).slice (Rect.unit (s := S2x2x8x8192) od S1x1x1x8192.size h2) (fun _ => rfl)).squeeze S8192 squeezes_S1x1x1x8192_S8192) (hsrc := e1) (hdst := e2) () (N := NS) rfl NS_pos (D := dS c S q k n) (u := 15 * NS) (W := X) (by omega)) $$ [HB HO]
  · isplitl [HB]; · iexact HB
    iexact HO
  iintro ⟨HB, HV, HO⟩
  iapply HK
  isplitr [HO]
  · isplitl [HB]; · iexact HB
    iexact HV
  · iexists _; iexact HO

/-- All issued, none waited. -/
theorem flyW_land (f : Vec F S2x32x8192 .i32) : flyW c W q k n f 32 ⊢ landW c W q k n 0 := by
  unfold flyW landW
  rw [Nat.zero_mul]
  iintro ⟨HB, -⟩
  iexact HB
theorem flyS_land (f : Vec F S2x2x8x8192 .f32) : flyS c S q k n f 16 ⊢ landS c S q k n 0 := by
  unfold flyS landS
  rw [Nat.zero_mul]
  iintro ⟨HB, -⟩
  iexact HB
end Flights

end Cert.Label.Hand

end
-- ==== Proof.LabelIssue.lean ====
module

public import proofs.«01_k».proof.Proof.LabelRing
public import proofs.«01_k».proof.Proof.Gen.Label.Skeleton
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The copies started, part by part -/

/-- The slot of point `t`, the slot of the next point, and the next point's block. -/
def sl (t : Fin cfg0.N) : Fin 2 := ⟨t.val % 2, by omega⟩
def sn (t : Fin cfg0.N) : Fin 2 := ⟨(t.val + 1) % 2, by omega⟩
def bn (t : Fin cfg0.N) : Fin 12 := ⟨(t.val + 1) % 12, by omega⟩

variable (c : Dev nD) (W : Vec F S96x2x2x8192 .i32) (S : Vec F S96x2x8192 .f32) (qw qs : PosShare TreeShare) (fw : Vec F S2x32x8192 .i32) (fs : Vec F S2x2x8x8192 .f32)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)

/-- A finished operation hands its value on. -/
theorem ret_bind {E : Type → Type} {α β : Type} (a : α) (k : α → Prog E β) : (Prog.ret a).bind k = k a := rfl

theorem iss1 (i : grid0.Coords) {Q : PUnit → sProp (MM F)} :
    iprop(flyW c W qw 0 0 fw 0 ∗ flyS c S qs 0 0 fs 0 ∗ (iprop(flyW c W qw 0 0 fw 2 ∗ flyS c S qs 0 0 fs 2) -∗ Q ⟨⟩)) ⊢ wp frame (wpE (defs₀ (F := F)) Variants.none c none) Set.univ (k0_part1 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part1_eq_skeleton]; unfold k0_part1_skel
  iintro ⟨HW, HS, HK⟩
  iapply (issueS c S qs 0 0 0 (by decide) (oc := ![0]) (od := ![0, 0, 0, 0]) (os := ![0, 0, 0])  (by decide) (by decide) (by decide)) $$ HS
  iintro HS
  simp only [ret_bind]
  iapply (issueW c W qw 0 0 0 (by decide) (oc := ![0]) (od := ![0, 0, 0]) (os := ![0, 0, 0, 0])  (by decide) (by decide) (by decide)) $$ HW
  iintro HW
  simp only [ret_bind]
  iapply (issueW c W qw 0 0 1 (by decide) (oc := ![0]) (od := ![0, 16, 0]) (os := ![0, 0, 1, 0])  (by decide) (by decide) (by decide)) $$ HW
  iintro HW
  simp only [ret_bind]
  iapply (issueS c S qs 0 0 1 (by decide) (oc := ![0]) (od := ![0, 1, 0, 0]) (os := ![0, 1, 0])  (by decide) (by decide) (by decide)) $$ HS
  iintro HS
  simp only [ret_bind]
  rw [wp_pure]
  imodintro
  iapply HK
  isplitl [HW]; · iexact HW
  iexact HS

theorem iss2 (i : grid0.Coords) {Q : PUnit → sProp (MM F)} :
    iprop(flyW c W qw 0 0 fw 2 ∗ flyS c S qs 0 0 fs 2 ∗ (iprop(flyW c W qw 0 0 fw 5 ∗ flyS c S qs 0 0 fs 3) -∗ Q ⟨⟩)) ⊢ wp frame (wpE (defs₀ (F := F)) Variants.none c none) Set.univ (k0_part2 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part2_eq_skeleton]; unfold k0_part2_skel
  iintro ⟨HW, HS, HK⟩
  iapply (issueW c W qw 0 0 2 (by decide) (oc := ![0]) (od := ![0, 1, 0]) (os := ![0, 1, 0, 0])  (by decide) (by decide) (by decide)) $$ HW
  iintro HW
  simp only [ret_bind]
  iapply (issueW c W qw 0 0 3 (by decide) (oc := ![0]) (od := ![0, 17, 0]) (os := ![0, 1, 1, 0])  (by decide) (by decide) (by decide)) $$ HW
  iintro HW
  simp only [ret_bind]
  iapply (issueS c S qs 0 0 2 (by decide) (oc := ![0]) (od := ![0, 0, 1, 0]) (os := ![1, 0, 0])  (by decide) (by decide) (by decide)) $$ HS
  iintro HS
  simp only [ret_bind]
  iapply (issueW c W qw 0 0 4 (by decide) (oc := ![0]) (od := ![0, 2, 0]) (os := ![1, 0, 0, 0])  (by decide) (by decide) (by decide)) $$ HW
  iintro HW
  simp only [ret_bind]
  rw [wp_pure]
  imodintro
  iapply HK
  isplitl [HW]; · iexact HW
  iexact HS

theorem iss3 (i : grid0.Coords) {Q : PUnit → sProp (MM F)} :
    iprop(flyW c W qw 0 0 fw 5 ∗ flyS c S qs 0 0 fs 3 ∗ (iprop(flyW c W qw 0 0 fw 8 ∗ flyS c S qs 0 0 fs 4) -∗ Q ⟨⟩)) ⊢ wp frame (wpE (defs₀ (F := F)) Variants.none c none) Set.univ (k0_part3 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part3_eq_skeleton]; unfold k0_part3_skel
  iintro ⟨HW, HS, HK⟩
  iapply (issueW c W qw 0 0 5 (by decide) (oc := ![0]) (od := ![0, 18, 0]) (os := ![1, 0, 1, 0])  (by decide) (by decide) (by decide)) $$ HW
  iintro HW
  simp only [ret_bind]
  iapply (issueS c S qs 0 0 3 (by decide) (oc := ![0]) (od := ![0, 1, 1, 0]) (os := ![1, 1, 0])  (by decide) (by decide) (by decide)) $$ HS
  iintro HS
  simp only [ret_bind]
  iapply (issueW c W qw 0 0 6 (by decide) (oc := ![0]) (od := ![0, 3, 0]) (os := ![1, 1, 0, 0])  (by decide) (by decide) (by decide)) $$ HW
  iintro HW
  simp only [ret_bind]
  iapply (issueW c W qw 0 0 7 (by decide) (oc := ![0]) (od := ![0, 19, 0]) (os := ![1, 1, 1, 0])  (by decide) (by decide) (by decide)) $$ HW
  iintro HW
  simp only [ret_bind]
  rw [wp_pure]
  imodintro
  iapply HK
  isplitl [HW]; · iexact HW
  iexact HS

theorem iss4 (i : grid0.Coords) {Q : PUnit → sProp (MM F)} :
    iprop(flyW c W qw 0 0 fw 8 ∗ flyS c S qs 0 0 fs 4 ∗ (iprop(flyW c W qw 0 0 fw 10 ∗ flyS c S qs 0 0 fs 6) -∗ Q ⟨⟩)) ⊢ wp frame (wpE (defs₀ (F := F)) Variants.none c none) Set.univ (k0_part4 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part4_eq_skeleton]; unfold k0_part4_skel
  iintro ⟨HW, HS, HK⟩
  iapply (issueS c S qs 0 0 4 (by decide) (oc := ![0]) (od := ![0, 0, 2, 0]) (os := ![2, 0, 0])  (by decide) (by decide) (by decide)) $$ HS
  iintro HS
  simp only [ret_bind]
  iapply (issueW c W qw 0 0 8 (by decide) (oc := ![0]) (od := ![0, 4, 0]) (os := ![2, 0, 0, 0])  (by decide) (by decide) (by decide)) $$ HW
  iintro HW
  simp only [ret_bind]
  iapply (issueW c W qw 0 0 9 (by decide) (oc := ![0]) (od := ![0, 20, 0]) (os := ![2, 0, 1, 0])  (by decide) (by decide) (by decide)) $$ HW
  iintro HW
  simp only [ret_bind]
  iapply (issueS c S qs 0 0 5 (by decide) (oc := ![0]) (od := ![0, 1, 2, 0]) (os := ![2, 1, 0])  (by decide) (by decide) (by decide)) $$ HS
  iintro HS
  simp only [ret_bind]
  rw [wp_pure]
  imodintro
  iapply HK
  isplitl [HW]; · iexact HW
  iexact HS

theorem iss5 (i : grid0.Coords) {Q : PUnit → sProp (MM F)} :
    iprop(flyW c W qw 0 0 fw 10 ∗ flyS c S qs 0 0 fs 6 ∗ (iprop(flyW c W qw 0 0 fw 13 ∗ flyS c S qs 0 0 fs 7) -∗ Q ⟨⟩)) ⊢ wp frame (wpE (defs₀ (F := F)) Variants.none c none) Set.univ (k0_part5 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part5_eq_skeleton]; unfold k0_part5_skel
  iintro ⟨HW, HS, HK⟩
  iapply (issueW c W qw 0 0 10 (by decide) (oc := ![0]) (od := ![0, 5, 0]) (os := ![2, 1, 0, 0])  (by decide) (by decide) (by decide)) $$ HW
  iintro HW
  simp only [ret_bind]
  iapply (issueW c W qw 0 0 11 (by decide) (oc := ![0]) (od := ![0, 21, 0]) (os := ![2, 1, 1, 0])  (by decide) (by decide) (by decide)) $$ HW
  iintro HW
  simp only [ret_bind]
  iapply (issueS c S qs 0 0 6 (by decide) (oc := ![0]) (od := ![0, 0, 3, 0]) (os := ![3, 0, 0])  (by decide) (by decide) (by decide)) $$ HS
  iintro HS
  simp only [ret_bind]
  iapply (issueW c W qw 0 0 12 (by decide) (oc := ![0]) (od := ![0, 6, 0]) (os := ![3, 0, 0, 0])  (by decide) (by decide) (by decide)) $$ HW
  iintro HW
  simp only [ret_bind]
  rw [wp_pure]
  imodintro
  iapply HK
  isplitl [HW]; · iexact HW
  iexact HS

theorem iss6 (i : grid0.Coords) {Q : PUnit → sProp (MM F)} :
    iprop(flyW c W qw 0 0 fw 13 ∗ flyS c S qs 0 0 fs 7 ∗ (iprop(flyW c W qw 0 0 fw 16 ∗ flyS c S qs 0 0 fs 8) -∗ Q ⟨⟩)) ⊢ wp frame (wpE (defs₀ (F := F)) Variants.none c none) Set.univ (k0_part6 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part6_eq_skeleton]; unfold k0_part6_skel
  iintro ⟨HW, HS, HK⟩
  iapply (issueW c W qw 0 0 13 (by decide) (oc := ![0]) (od := ![0, 22, 0]) (os := ![3, 0, 1, 0])  (by decide) (by decide) (by decide)) $$ HW
  iintro HW
  simp only [ret_bind]
  iapply (issueS c S qs 0 0 7 (by decide) (oc := ![0]) (od := ![0, 1, 3, 0]) (os := ![3, 1, 0])  (by decide) (by decide) (by decide)) $$ HS
  iintro HS
  simp only [ret_bind]
  iapply (issueW c W qw 0 0 14 (by decide) (oc := ![0]) (od := ![0, 7, 0]) (os := ![3, 1, 0, 0])  (by decide) (by decide) (by decide)) $$ HW
  iintro HW
  simp only [ret_bind]
  iapply (issueW c W qw 0 0 15 (by decide) (oc := ![0]) (od := ![0, 23, 0]) (os := ![3, 1, 1, 0])  (by decide) (by decide) (by decide)) $$ HW
  iintro HW
  simp only [ret_bind]
  rw [wp_pure]
  imodintro
  iapply HK
  isplitl [HW]; · iexact HW
  iexact HS

theorem iss7 (i : grid0.Coords) {Q : PUnit → sProp (MM F)} :
    iprop(flyW c W qw 0 0 fw 16 ∗ flyS c S qs 0 0 fs 8 ∗ (iprop(flyW c W qw 0 0 fw 18 ∗ flyS c S qs 0 0 fs 10) -∗ Q ⟨⟩)) ⊢ wp frame (wpE (defs₀ (F := F)) Variants.none c none) Set.univ (k0_part7 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part7_eq_skeleton]; unfold k0_part7_skel
  iintro ⟨HW, HS, HK⟩
  iapply (issueS c S qs 0 0 8 (by decide) (oc := ![0]) (od := ![0, 0, 4, 0]) (os := ![4, 0, 0])  (by decide) (by decide) (by decide)) $$ HS
  iintro HS
  simp only [ret_bind]
  iapply (issueW c W qw 0 0 16 (by decide) (oc := ![0]) (od := ![0, 8, 0]) (os := ![4, 0, 0, 0])  (by decide) (by decide) (by decide)) $$ HW
  iintro HW
  simp only [ret_bind]
  iapply (issueW c W qw 0 0 17 (by decide) (oc := ![0]) (od := ![0, 24, 0]) (os := ![4, 0, 1, 0])  (by decide) (by decide) (by decide)) $$ HW
  iintro HW
  simp only [ret_bind]
  iapply (issueS c S qs 0 0 9 (by decide) (oc := ![0]) (od := ![0, 1, 4, 0]) (os := ![4, 1, 0])  (by decide) (by decide) (by decide)) $$ HS
  iintro HS
  simp only [ret_bind]
  rw [wp_pure]
  imodintro
  iapply HK
  isplitl [HW]; · iexact HW
  iexact HS

theorem iss8 (i : grid0.Coords) {Q : PUnit → sProp (MM F)} :
    iprop(flyW c W qw 0 0 fw 18 ∗ flyS c S qs 0 0 fs 10 ∗ (iprop(flyW c W qw 0 0 fw 21 ∗ flyS c S qs 0 0 fs 11) -∗ Q ⟨⟩)) ⊢ wp frame (wpE (defs₀ (F := F)) Variants.none c none) Set.univ (k0_part8 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part8_eq_skeleton]; unfold k0_part8_skel
  iintro ⟨HW, HS, HK⟩
  iapply (issueW c W qw 0 0 18 (by decide) (oc := ![0]) (od := ![0, 9, 0]) (os := ![4, 1, 0, 0])  (by decide) (by decide) (by decide)) $$ HW
  iintro HW
  simp only [ret_bind]
  iapply (issueW c W qw 0 0 19 (by decide) (oc := ![0]) (od := ![0, 25, 0]) (os := ![4, 1, 1, 0])  (by decide) (by decide) (by decide)) $$ HW
  iintro HW
  simp only [ret_bind]
  iapply (issueS c S qs 0 0 10 (by decide) (oc := ![0]) (od := ![0, 0, 5, 0]) (os := ![5, 0, 0])  (by decide) (by decide) (by decide)) $$ HS
  iintro HS
  simp only [ret_bind]
  iapply (issueW c W qw 0 0 20 (by decide) (oc := ![0]) (od := ![0, 10, 0]) (os := ![5, 0, 0, 0])  (by decide) (by decide) (by decide)) $$ HW
  iintro HW
  simp only [ret_bind]
  rw [wp_pure]
  imodintro
  iapply HK
  isplitl [HW]; · iexact HW
  iexact HS

theorem iss9 (i : grid0.Coords) {Q : PUnit → sProp (MM F)} :
    iprop(flyW c W qw 0 0 fw 21 ∗ flyS c S qs 0 0 fs 11 ∗ (iprop(flyW c W qw 0 0 fw 24 ∗ flyS c S qs 0 0 fs 12) -∗ Q ⟨⟩)) ⊢ wp frame (wpE (defs₀ (F := F)) Variants.none c none) Set.univ (k0_part9 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part9_eq_skeleton]; unfold k0_part9_skel
  iintro ⟨HW, HS, HK⟩
  iapply (issueW c W qw 0 0 21 (by decide) (oc := ![0]) (od := ![0, 26, 0]) (os := ![5, 0, 1, 0])  (by decide) (by decide) (by decide)) $$ HW
  iintro HW
  simp only [ret_bind]
  iapply (issueS c S qs 0 0 11 (by decide) (oc := ![0]) (od := ![0, 1, 5, 0]) (os := ![5, 1, 0])  (by decide) (by decide) (by decide)) $$ HS
  iintro HS
  simp only [ret_bind]
  iapply (issueW c W qw 0 0 22 (by decide) (oc := ![0]) (od := ![0, 11, 0]) (os := ![5, 1, 0, 0])  (by decide) (by decide) (by decide)) $$ HW
  iintro HW
  simp only [ret_bind]
  iapply (issueW c W qw 0 0 23 (by decide) (oc := ![0]) (od := ![0, 27, 0]) (os := ![5, 1, 1, 0])  (by decide) (by decide) (by decide)) $$ HW
  iintro HW
  simp only [ret_bind]
  rw [wp_pure]
  imodintro
  iapply HK
  isplitl [HW]; · iexact HW
  iexact HS

theorem iss10 (i : grid0.Coords) {Q : PUnit → sProp (MM F)} :
    iprop(flyW c W qw 0 0 fw 24 ∗ flyS c S qs 0 0 fs 12 ∗ (iprop(flyW c W qw 0 0 fw 26 ∗ flyS c S qs 0 0 fs 14) -∗ Q ⟨⟩)) ⊢ wp frame (wpE (defs₀ (F := F)) Variants.none c none) Set.univ (k0_part10 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part10_eq_skeleton]; unfold k0_part10_skel
  iintro ⟨HW, HS, HK⟩
  iapply (issueS c S qs 0 0 12 (by decide) (oc := ![0]) (od := ![0, 0, 6, 0]) (os := ![6, 0, 0])  (by decide) (by decide) (by decide)) $$ HS
  iintro HS
  simp only [ret_bind]
  iapply (issueW c W qw 0 0 24 (by decide) (oc := ![0]) (od := ![0, 12, 0]) (os := ![6, 0, 0, 0])  (by decide) (by decide) (by decide)) $$ HW
  iintro HW
  simp only [ret_bind]
  iapply (issueW c W qw 0 0 25 (by decide) (oc := ![0]) (od := ![0, 28, 0]) (os := ![6, 0, 1, 0])  (by decide) (by decide) (by decide)) $$ HW
  iintro HW
  simp only [ret_bind]
  iapply (issueS c S qs 0 0 13 (by decide) (oc := ![0]) (od := ![0, 1, 6, 0]) (os := ![6, 1, 0])  (by decide) (by decide) (by decide)) $$ HS
  iintro HS
  simp only [ret_bind]
  rw [wp_pure]
  imodintro
  iapply HK
  isplitl [HW]; · iexact HW
  iexact HS

theorem iss11 (i : grid0.Coords) {Q : PUnit → sProp (MM F)} :
    iprop(flyW c W qw 0 0 fw 26 ∗ flyS c S qs 0 0 fs 14 ∗ (iprop(flyW c W qw 0 0 fw 29 ∗ flyS c S qs 0 0 fs 15) -∗ Q ⟨⟩)) ⊢ wp frame (wpE (defs₀ (F := F)) Variants.none c none) Set.univ (k0_part11 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part11_eq_skeleton]; unfold k0_part11_skel
  iintro ⟨HW, HS, HK⟩
  iapply (issueW c W qw 0 0 26 (by decide) (oc := ![0]) (od := ![0, 13, 0]) (os := ![6, 1, 0, 0])  (by decide) (by decide) (by decide)) $$ HW
  iintro HW
  simp only [ret_bind]
  iapply (issueW c W qw 0 0 27 (by decide) (oc := ![0]) (od := ![0, 29, 0]) (os := ![6, 1, 1, 0])  (by decide) (by decide) (by decide)) $$ HW
  iintro HW
  simp only [ret_bind]
  iapply (issueS c S qs 0 0 14 (by decide) (oc := ![0]) (od := ![0, 0, 7, 0]) (os := ![7, 0, 0])  (by decide) (by decide) (by decide)) $$ HS
  iintro HS
  simp only [ret_bind]
  iapply (issueW c W qw 0 0 28 (by decide) (oc := ![0]) (od := ![0, 14, 0]) (os := ![7, 0, 0, 0])  (by decide) (by decide) (by decide)) $$ HW
  iintro HW
  simp only [ret_bind]
  rw [wp_pure]
  imodintro
  iapply HK
  isplitl [HW]; · iexact HW
  iexact HS

theorem iss12 (i : grid0.Coords) {Q : PUnit → sProp (MM F)} :
    iprop(flyW c W qw 0 0 fw 29 ∗ flyS c S qs 0 0 fs 15 ∗ (iprop(flyW c W qw 0 0 fw 32 ∗ flyS c S qs 0 0 fs 16) -∗ Q ⟨⟩)) ⊢ wp frame (wpE (defs₀ (F := F)) Variants.none c none) Set.univ (k0_part12 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part12_eq_skeleton]; unfold k0_part12_skel
  iintro ⟨HW, HS, HK⟩
  iapply (issueW c W qw 0 0 29 (by decide) (oc := ![0]) (od := ![0, 30, 0]) (os := ![7, 0, 1, 0])  (by decide) (by decide) (by decide)) $$ HW
  iintro HW
  simp only [ret_bind]
  iapply (issueS c S qs 0 0 15 (by decide) (oc := ![0]) (od := ![0, 1, 7, 0]) (os := ![7, 1, 0])  (by decide) (by decide) (by decide)) $$ HS
  iintro HS
  simp only [ret_bind]
  iapply (issueW c W qw 0 0 30 (by decide) (oc := ![0]) (od := ![0, 15, 0]) (os := ![7, 1, 0, 0])  (by decide) (by decide) (by decide)) $$ HW
  iintro HW
  simp only [ret_bind]
  iapply (issueW c W qw 0 0 31 (by decide) (oc := ![0]) (od := ![0, 31, 0]) (os := ![7, 1, 1, 0])  (by decide) (by decide) (by decide)) $$ HW
  iintro HW
  simp only [ret_bind]
  rw [wp_pure]
  imodintro
  iapply HK
  isplitl [HW]; · iexact HW
  iexact HS

theorem of0 : ∀ t : Fin cfg0.N, k0_cond2 (grid0.coords t) = 1#1 → k0_off1 (grid0.coords t) = ![(sn t).val] := by decide +kernel
theorem of1 : ∀ t : Fin cfg0.N, k0_cond2 (grid0.coords t) = 1#1 → k0_off2 (grid0.coords t) = sOff (sn t) ⟨0, by decide⟩ := by decide +kernel
theorem of2 : ∀ t : Fin cfg0.N, k0_cond2 (grid0.coords t) = 1#1 → k0_off3 (grid0.coords t) 0#32 = sFrom (bn t) ⟨0, by decide⟩ := by decide +kernel
theorem of3 : ∀ t : Fin cfg0.N, k0_cond2 (grid0.coords t) = 1#1 → k0_off4 (grid0.coords t) = wOff (sn t) ⟨0, by decide⟩ := by decide +kernel
theorem of4 : ∀ t : Fin cfg0.N, k0_cond2 (grid0.coords t) = 1#1 → k0_off5 (grid0.coords t) 0#32 = wFrom (bn t) ⟨0, by decide⟩ := by decide +kernel
theorem of5 : ∀ t : Fin cfg0.N, k0_cond2 (grid0.coords t) = 1#1 → k0_off6 (grid0.coords t) = wOff (sn t) ⟨1, by decide⟩ := by decide +kernel
theorem of6 : ∀ t : Fin cfg0.N, k0_cond2 (grid0.coords t) = 1#1 → k0_off7 (grid0.coords t) 0#32 = wFrom (bn t) ⟨1, by decide⟩ := by decide +kernel
theorem iss16 (t : Fin cfg0.N) (h2 : k0_cond2 (grid0.coords t) = 1#1) (v : BitVec 32) {Q : PUnit → sProp (MM F)} :
    iprop(flyW c W qw (sn t) (bn t) fw 0 ∗ flyS c S qs (sn t) (bn t) fs 0 ∗ (iprop(flyW c W qw (sn t) (bn t) fw 2 ∗ flyS c S qs (sn t) (bn t) fs 1) -∗ Q ⟨⟩)) ⊢ wp frame (wpE (defs₀ (F := F)) Variants.none c none) Set.univ (k0_part16 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2 v) Q := by
  rw [k0_part16_eq_skeleton]; unfold k0_part16_skel
  iintro ⟨HW, HS, HK⟩
  iapply (issueS c S qs (sn t) (bn t) 0 (by decide) (of0 t h2) (of1 t h2) (of2 t h2)) $$ HS
  iintro HS
  simp only [ret_bind]
  iapply (issueW c W qw (sn t) (bn t) 0 (by decide) (of0 t h2) (of3 t h2) (of4 t h2)) $$ HW
  iintro HW
  simp only [ret_bind]
  iapply (issueW c W qw (sn t) (bn t) 1 (by decide) (of0 t h2) (of5 t h2) (of6 t h2)) $$ HW
  iintro HW
  simp only [ret_bind]
  rw [wp_pure]
  imodintro
  iapply HK
  isplitl [HW]; · iexact HW
  iexact HS

theorem of7 : ∀ t : Fin cfg0.N, k0_cond2 (grid0.coords t) = 1#1 → k0_off8 (grid0.coords t) = sOff (sn t) ⟨1, by decide⟩ := by decide +kernel
theorem of8 : ∀ t : Fin cfg0.N, k0_cond2 (grid0.coords t) = 1#1 → k0_off9 (grid0.coords t) 0#32 = sFrom (bn t) ⟨1, by decide⟩ := by decide +kernel
theorem of9 : ∀ t : Fin cfg0.N, k0_cond2 (grid0.coords t) = 1#1 → k0_off10 (grid0.coords t) = wOff (sn t) ⟨2, by decide⟩ := by decide +kernel
theorem of10 : ∀ t : Fin cfg0.N, k0_cond2 (grid0.coords t) = 1#1 → k0_off11 (grid0.coords t) 0#32 = wFrom (bn t) ⟨2, by decide⟩ := by decide +kernel
theorem of11 : ∀ t : Fin cfg0.N, k0_cond2 (grid0.coords t) = 1#1 → k0_off12 (grid0.coords t) = wOff (sn t) ⟨3, by decide⟩ := by decide +kernel
theorem of12 : ∀ t : Fin cfg0.N, k0_cond2 (grid0.coords t) = 1#1 → k0_off13 (grid0.coords t) 0#32 = wFrom (bn t) ⟨3, by decide⟩ := by decide +kernel
theorem of13 : ∀ t : Fin cfg0.N, k0_cond2 (grid0.coords t) = 1#1 → k0_off14 (grid0.coords t) = sOff (sn t) ⟨2, by decide⟩ := by decide +kernel
theorem of14 : ∀ t : Fin cfg0.N, k0_cond2 (grid0.coords t) = 1#1 → k0_off3 (grid0.coords t) 1#32 = sFrom (bn t) ⟨2, by decide⟩ := by decide +kernel
theorem of15 : ∀ t : Fin cfg0.N, k0_cond2 (grid0.coords t) = 1#1 → k0_off15 (grid0.coords t) = wOff (sn t) ⟨4, by decide⟩ := by decide +kernel
theorem of16 : ∀ t : Fin cfg0.N, k0_cond2 (grid0.coords t) = 1#1 → k0_off5 (grid0.coords t) 1#32 = wFrom (bn t) ⟨4, by decide⟩ := by decide +kernel
theorem iss17 (t : Fin cfg0.N) (h2 : k0_cond2 (grid0.coords t) = 1#1) {Q : PUnit → sProp (MM F)} :
    iprop(flyW c W qw (sn t) (bn t) fw 2 ∗ flyS c S qs (sn t) (bn t) fs 1 ∗ (iprop(flyW c W qw (sn t) (bn t) fw 5 ∗ flyS c S qs (sn t) (bn t) fs 3) -∗ Q ⟨⟩)) ⊢ wp frame (wpE (defs₀ (F := F)) Variants.none c none) Set.univ (k0_part17 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part17_eq_skeleton]; unfold k0_part17_skel
  iintro ⟨HW, HS, HK⟩
  iapply (issueS c S qs (sn t) (bn t) 1 (by decide) (of0 t h2) (of7 t h2) (of8 t h2)) $$ HS
  iintro HS
  simp only [ret_bind]
  iapply (issueW c W qw (sn t) (bn t) 2 (by decide) (of0 t h2) (of9 t h2) (of10 t h2)) $$ HW
  iintro HW
  simp only [ret_bind]
  iapply (issueW c W qw (sn t) (bn t) 3 (by decide) (of0 t h2) (of11 t h2) (of12 t h2)) $$ HW
  iintro HW
  simp only [ret_bind]
  iapply (issueS c S qs (sn t) (bn t) 2 (by decide) (of0 t h2) (of13 t h2) (of14 t h2)) $$ HS
  iintro HS
  simp only [ret_bind]
  iapply (issueW c W qw (sn t) (bn t) 4 (by decide) (of0 t h2) (of15 t h2) (of16 t h2)) $$ HW
  iintro HW
  simp only [ret_bind]
  rw [wp_pure]
  imodintro
  iapply HK
  isplitl [HW]; · iexact HW
  iexact HS

theorem of17 : ∀ t : Fin cfg0.N, k0_cond2 (grid0.coords t) = 1#1 → k0_off16 (grid0.coords t) = wOff (sn t) ⟨5, by decide⟩ := by decide +kernel
theorem of18 : ∀ t : Fin cfg0.N, k0_cond2 (grid0.coords t) = 1#1 → k0_off7 (grid0.coords t) 1#32 = wFrom (bn t) ⟨5, by decide⟩ := by decide +kernel
theorem of19 : ∀ t : Fin cfg0.N, k0_cond2 (grid0.coords t) = 1#1 → k0_off17 (grid0.coords t) = sOff (sn t) ⟨3, by decide⟩ := by decide +kernel
theorem of20 : ∀ t : Fin cfg0.N, k0_cond2 (grid0.coords t) = 1#1 → k0_off9 (grid0.coords t) 1#32 = sFrom (bn t) ⟨3, by decide⟩ := by decide +kernel
theorem of21 : ∀ t : Fin cfg0.N, k0_cond2 (grid0.coords t) = 1#1 → k0_off18 (grid0.coords t) = wOff (sn t) ⟨6, by decide⟩ := by decide +kernel
theorem of22 : ∀ t : Fin cfg0.N, k0_cond2 (grid0.coords t) = 1#1 → k0_off11 (grid0.coords t) 1#32 = wFrom (bn t) ⟨6, by decide⟩ := by decide +kernel
theorem of23 : ∀ t : Fin cfg0.N, k0_cond2 (grid0.coords t) = 1#1 → k0_off19 (grid0.coords t) = wOff (sn t) ⟨7, by decide⟩ := by decide +kernel
theorem of24 : ∀ t : Fin cfg0.N, k0_cond2 (grid0.coords t) = 1#1 → k0_off13 (grid0.coords t) 1#32 = wFrom (bn t) ⟨7, by decide⟩ := by decide +kernel
theorem of25 : ∀ t : Fin cfg0.N, k0_cond2 (grid0.coords t) = 1#1 → k0_off20 (grid0.coords t) = sOff (sn t) ⟨4, by decide⟩ := by decide +kernel
theorem of26 : ∀ t : Fin cfg0.N, k0_cond2 (grid0.coords t) = 1#1 → k0_off3 (grid0.coords t) 2#32 = sFrom (bn t) ⟨4, by decide⟩ := by decide +kernel
theorem iss18 (t : Fin cfg0.N) (h2 : k0_cond2 (grid0.coords t) = 1#1) {Q : PUnit → sProp (MM F)} :
    iprop(flyW c W qw (sn t) (bn t) fw 5 ∗ flyS c S qs (sn t) (bn t) fs 3 ∗ (iprop(flyW c W qw (sn t) (bn t) fw 8 ∗ flyS c S qs (sn t) (bn t) fs 5) -∗ Q ⟨⟩)) ⊢ wp frame (wpE (defs₀ (F := F)) Variants.none c none) Set.univ (k0_part18 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part18_eq_skeleton]; unfold k0_part18_skel
  iintro ⟨HW, HS, HK⟩
  iapply (issueW c W qw (sn t) (bn t) 5 (by decide) (of0 t h2) (of17 t h2) (of18 t h2)) $$ HW
  iintro HW
  simp only [ret_bind]
  iapply (issueS c S qs (sn t) (bn t) 3 (by decide) (of0 t h2) (of19 t h2) (of20 t h2)) $$ HS
  iintro HS
  simp only [ret_bind]
  iapply (issueW c W qw (sn t) (bn t) 6 (by decide) (of0 t h2) (of21 t h2) (of22 t h2)) $$ HW
  iintro HW
  simp only [ret_bind]
  iapply (issueW c W qw (sn t) (bn t) 7 (by decide) (of0 t h2) (of23 t h2) (of24 t h2)) $$ HW
  iintro HW
  simp only [ret_bind]
  iapply (issueS c S qs (sn t) (bn t) 4 (by decide) (of0 t h2) (of25 t h2) (of26 t h2)) $$ HS
  iintro HS
  simp only [ret_bind]
  rw [wp_pure]
  imodintro
  iapply HK
  isplitl [HW]; · iexact HW
  iexact HS

theorem of27 : ∀ t : Fin cfg0.N, k0_cond2 (grid0.coords t) = 1#1 → k0_off21 (grid0.coords t) = wOff (sn t) ⟨8, by decide⟩ := by decide +kernel
theorem of28 : ∀ t : Fin cfg0.N, k0_cond2 (grid0.coords t) = 1#1 → k0_off5 (grid0.coords t) 2#32 = wFrom (bn t) ⟨8, by decide⟩ := by decide +kernel
theorem of29 : ∀ t : Fin cfg0.N, k0_cond2 (grid0.coords t) = 1#1 → k0_off22 (grid0.coords t) = wOff (sn t) ⟨9, by decide⟩ := by decide +kernel
theorem of30 : ∀ t : Fin cfg0.N, k0_cond2 (grid0.coords t) = 1#1 → k0_off7 (grid0.coords t) 2#32 = wFrom (bn t) ⟨9, by decide⟩ := by decide +kernel
theorem of31 : ∀ t : Fin cfg0.N, k0_cond2 (grid0.coords t) = 1#1 → k0_off23 (grid0.coords t) = sOff (sn t) ⟨5, by decide⟩ := by decide +kernel
theorem of32 : ∀ t : Fin cfg0.N, k0_cond2 (grid0.coords t) = 1#1 → k0_off9 (grid0.coords t) 2#32 = sFrom (bn t) ⟨5, by decide⟩ := by decide +kernel
theorem of33 : ∀ t : Fin cfg0.N, k0_cond2 (grid0.coords t) = 1#1 → k0_off24 (grid0.coords t) = wOff (sn t) ⟨10, by decide⟩ := by decide +kernel
theorem of34 : ∀ t : Fin cfg0.N, k0_cond2 (grid0.coords t) = 1#1 → k0_off11 (grid0.coords t) 2#32 = wFrom (bn t) ⟨10, by decide⟩ := by decide +kernel
theorem of35 : ∀ t : Fin cfg0.N, k0_cond2 (grid0.coords t) = 1#1 → k0_off25 (grid0.coords t) = wOff (sn t) ⟨11, by decide⟩ := by decide +kernel
theorem of36 : ∀ t : Fin cfg0.N, k0_cond2 (grid0.coords t) = 1#1 → k0_off13 (grid0.coords t) 2#32 = wFrom (bn t) ⟨11, by decide⟩ := by decide +kernel
theorem iss19 (t : Fin cfg0.N) (h2 : k0_cond2 (grid0.coords t) = 1#1) {Q : PUnit → sProp (MM F)} :
    iprop(flyW c W qw (sn t) (bn t) fw 8 ∗ flyS c S qs (sn t) (bn t) fs 5 ∗ (iprop(flyW c W qw (sn t) (bn t) fw 12 ∗ flyS c S qs (sn t) (bn t) fs 6) -∗ Q ⟨⟩)) ⊢ wp frame (wpE (defs₀ (F := F)) Variants.none c none) Set.univ (k0_part19 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part19_eq_skeleton]; unfold k0_part19_skel
  iintro ⟨HW, HS, HK⟩
  iapply (issueW c W qw (sn t) (bn t) 8 (by decide) (of0 t h2) (of27 t h2) (of28 t h2)) $$ HW
  iintro HW
  simp only [ret_bind]
  iapply (issueW c W qw (sn t) (bn t) 9 (by decide) (of0 t h2) (of29 t h2) (of30 t h2)) $$ HW
  iintro HW
  simp only [ret_bind]
  iapply (issueS c S qs (sn t) (bn t) 5 (by decide) (of0 t h2) (of31 t h2) (of32 t h2)) $$ HS
  iintro HS
  simp only [ret_bind]
  iapply (issueW c W qw (sn t) (bn t) 10 (by decide) (of0 t h2) (of33 t h2) (of34 t h2)) $$ HW
  iintro HW
  simp only [ret_bind]
  iapply (issueW c W qw (sn t) (bn t) 11 (by decide) (of0 t h2) (of35 t h2) (of36 t h2)) $$ HW
  iintro HW
  simp only [ret_bind]
  rw [wp_pure]
  imodintro
  iapply HK
  isplitl [HW]; · iexact HW
  iexact HS

theorem of37 : ∀ t : Fin cfg0.N, k0_cond2 (grid0.coords t) = 1#1 → k0_off26 (grid0.coords t) = sOff (sn t) ⟨6, by decide⟩ := by decide +kernel
theorem of38 : ∀ t : Fin cfg0.N, k0_cond2 (grid0.coords t) = 1#1 → k0_off3 (grid0.coords t) 3#32 = sFrom (bn t) ⟨6, by decide⟩ := by decide +kernel
theorem of39 : ∀ t : Fin cfg0.N, k0_cond2 (grid0.coords t) = 1#1 → k0_off27 (grid0.coords t) = wOff (sn t) ⟨12, by decide⟩ := by decide +kernel
theorem of40 : ∀ t : Fin cfg0.N, k0_cond2 (grid0.coords t) = 1#1 → k0_off5 (grid0.coords t) 3#32 = wFrom (bn t) ⟨12, by decide⟩ := by decide +kernel
theorem of41 : ∀ t : Fin cfg0.N, k0_cond2 (grid0.coords t) = 1#1 → k0_off28 (grid0.coords t) = wOff (sn t) ⟨13, by decide⟩ := by decide +kernel
theorem of42 : ∀ t : Fin cfg0.N, k0_cond2 (grid0.coords t) = 1#1 → k0_off7 (grid0.coords t) 3#32 = wFrom (bn t) ⟨13, by decide⟩ := by decide +kernel
theorem of43 : ∀ t : Fin cfg0.N, k0_cond2 (grid0.coords t) = 1#1 → k0_off29 (grid0.coords t) = sOff (sn t) ⟨7, by decide⟩ := by decide +kernel
theorem of44 : ∀ t : Fin cfg0.N, k0_cond2 (grid0.coords t) = 1#1 → k0_off9 (grid0.coords t) 3#32 = sFrom (bn t) ⟨7, by decide⟩ := by decide +kernel
theorem of45 : ∀ t : Fin cfg0.N, k0_cond2 (grid0.coords t) = 1#1 → k0_off30 (grid0.coords t) = wOff (sn t) ⟨14, by decide⟩ := by decide +kernel
theorem of46 : ∀ t : Fin cfg0.N, k0_cond2 (grid0.coords t) = 1#1 → k0_off11 (grid0.coords t) 3#32 = wFrom (bn t) ⟨14, by decide⟩ := by decide +kernel
theorem iss20 (t : Fin cfg0.N) (h2 : k0_cond2 (grid0.coords t) = 1#1) {Q : PUnit → sProp (MM F)} :
    iprop(flyW c W qw (sn t) (bn t) fw 12 ∗ flyS c S qs (sn t) (bn t) fs 6 ∗ (iprop(flyW c W qw (sn t) (bn t) fw 15 ∗ flyS c S qs (sn t) (bn t) fs 8) -∗ Q ⟨⟩)) ⊢ wp frame (wpE (defs₀ (F := F)) Variants.none c none) Set.univ (k0_part20 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part20_eq_skeleton]; unfold k0_part20_skel
  iintro ⟨HW, HS, HK⟩
  iapply (issueS c S qs (sn t) (bn t) 6 (by decide) (of0 t h2) (of37 t h2) (of38 t h2)) $$ HS
  iintro HS
  simp only [ret_bind]
  iapply (issueW c W qw (sn t) (bn t) 12 (by decide) (of0 t h2) (of39 t h2) (of40 t h2)) $$ HW
  iintro HW
  simp only [ret_bind]
  iapply (issueW c W qw (sn t) (bn t) 13 (by decide) (of0 t h2) (of41 t h2) (of42 t h2)) $$ HW
  iintro HW
  simp only [ret_bind]
  iapply (issueS c S qs (sn t) (bn t) 7 (by decide) (of0 t h2) (of43 t h2) (of44 t h2)) $$ HS
  iintro HS
  simp only [ret_bind]
  iapply (issueW c W qw (sn t) (bn t) 14 (by decide) (of0 t h2) (of45 t h2) (of46 t h2)) $$ HW
  iintro HW
  simp only [ret_bind]
  rw [wp_pure]
  imodintro
  iapply HK
  isplitl [HW]; · iexact HW
  iexact HS

theorem of47 : ∀ t : Fin cfg0.N, k0_cond2 (grid0.coords t) = 1#1 → k0_off31 (grid0.coords t) = wOff (sn t) ⟨15, by decide⟩ := by decide +kernel
theorem of48 : ∀ t : Fin cfg0.N, k0_cond2 (grid0.coords t) = 1#1 → k0_off13 (grid0.coords t) 3#32 = wFrom (bn t) ⟨15, by decide⟩ := by decide +kernel
theorem of49 : ∀ t : Fin cfg0.N, k0_cond2 (grid0.coords t) = 1#1 → k0_off32 (grid0.coords t) = sOff (sn t) ⟨8, by decide⟩ := by decide +kernel
theorem of50 : ∀ t : Fin cfg0.N, k0_cond2 (grid0.coords t) = 1#1 → k0_off3 (grid0.coords t) 4#32 = sFrom (bn t) ⟨8, by decide⟩ := by decide +kernel
theorem of51 : ∀ t : Fin cfg0.N, k0_cond2 (grid0.coords t) = 1#1 → k0_off33 (grid0.coords t) = wOff (sn t) ⟨16, by decide⟩ := by decide +kernel
theorem of52 : ∀ t : Fin cfg0.N, k0_cond2 (grid0.coords t) = 1#1 → k0_off5 (grid0.coords t) 4#32 = wFrom (bn t) ⟨16, by decide⟩ := by decide +kernel
theorem of53 : ∀ t : Fin cfg0.N, k0_cond2 (grid0.coords t) = 1#1 → k0_off34 (grid0.coords t) = wOff (sn t) ⟨17, by decide⟩ := by decide +kernel
theorem of54 : ∀ t : Fin cfg0.N, k0_cond2 (grid0.coords t) = 1#1 → k0_off7 (grid0.coords t) 4#32 = wFrom (bn t) ⟨17, by decide⟩ := by decide +kernel
theorem of55 : ∀ t : Fin cfg0.N, k0_cond2 (grid0.coords t) = 1#1 → k0_off35 (grid0.coords t) = sOff (sn t) ⟨9, by decide⟩ := by decide +kernel
theorem of56 : ∀ t : Fin cfg0.N, k0_cond2 (grid0.coords t) = 1#1 → k0_off9 (grid0.coords t) 4#32 = sFrom (bn t) ⟨9, by decide⟩ := by decide +kernel
theorem iss21 (t : Fin cfg0.N) (h2 : k0_cond2 (grid0.coords t) = 1#1) {Q : PUnit → sProp (MM F)} :
    iprop(flyW c W qw (sn t) (bn t) fw 15 ∗ flyS c S qs (sn t) (bn t) fs 8 ∗ (iprop(flyW c W qw (sn t) (bn t) fw 18 ∗ flyS c S qs (sn t) (bn t) fs 10) -∗ Q ⟨⟩)) ⊢ wp frame (wpE (defs₀ (F := F)) Variants.none c none) Set.univ (k0_part21 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part21_eq_skeleton]; unfold k0_part21_skel
  iintro ⟨HW, HS, HK⟩
  iapply (issueW c W qw (sn t) (bn t) 15 (by decide) (of0 t h2) (of47 t h2) (of48 t h2)) $$ HW
  iintro HW
  simp only [ret_bind]
  iapply (issueS c S qs (sn t) (bn t) 8 (by decide) (of0 t h2) (of49 t h2) (of50 t h2)) $$ HS
  iintro HS
  simp only [ret_bind]
  iapply (issueW c W qw (sn t) (bn t) 16 (by decide) (of0 t h2) (of51 t h2) (of52 t h2)) $$ HW
  iintro HW
  simp only [ret_bind]
  iapply (issueW c W qw (sn t) (bn t) 17 (by decide) (of0 t h2) (of53 t h2) (of54 t h2)) $$ HW
  iintro HW
  simp only [ret_bind]
  iapply (issueS c S qs (sn t) (bn t) 9 (by decide) (of0 t h2) (of55 t h2) (of56 t h2)) $$ HS
  iintro HS
  simp only [ret_bind]
  rw [wp_pure]
  imodintro
  iapply HK
  isplitl [HW]; · iexact HW
  iexact HS

theorem of57 : ∀ t : Fin cfg0.N, k0_cond2 (grid0.coords t) = 1#1 → k0_off36 (grid0.coords t) = wOff (sn t) ⟨18, by decide⟩ := by decide +kernel
theorem of58 : ∀ t : Fin cfg0.N, k0_cond2 (grid0.coords t) = 1#1 → k0_off11 (grid0.coords t) 4#32 = wFrom (bn t) ⟨18, by decide⟩ := by decide +kernel
theorem of59 : ∀ t : Fin cfg0.N, k0_cond2 (grid0.coords t) = 1#1 → k0_off37 (grid0.coords t) = wOff (sn t) ⟨19, by decide⟩ := by decide +kernel
theorem of60 : ∀ t : Fin cfg0.N, k0_cond2 (grid0.coords t) = 1#1 → k0_off13 (grid0.coords t) 4#32 = wFrom (bn t) ⟨19, by decide⟩ := by decide +kernel
theorem of61 : ∀ t : Fin cfg0.N, k0_cond2 (grid0.coords t) = 1#1 → k0_off38 (grid0.coords t) = sOff (sn t) ⟨10, by decide⟩ := by decide +kernel
theorem of62 : ∀ t : Fin cfg0.N, k0_cond2 (grid0.coords t) = 1#1 → k0_off3 (grid0.coords t) 5#32 = sFrom (bn t) ⟨10, by decide⟩ := by decide +kernel
theorem of63 : ∀ t : Fin cfg0.N, k0_cond2 (grid0.coords t) = 1#1 → k0_off39 (grid0.coords t) = wOff (sn t) ⟨20, by decide⟩ := by decide +kernel
theorem of64 : ∀ t : Fin cfg0.N, k0_cond2 (grid0.coords t) = 1#1 → k0_off5 (grid0.coords t) 5#32 = wFrom (bn t) ⟨20, by decide⟩ := by decide +kernel
theorem of65 : ∀ t : Fin cfg0.N, k0_cond2 (grid0.coords t) = 1#1 → k0_off40 (grid0.coords t) = wOff (sn t) ⟨21, by decide⟩ := by decide +kernel
theorem of66 : ∀ t : Fin cfg0.N, k0_cond2 (grid0.coords t) = 1#1 → k0_off7 (grid0.coords t) 5#32 = wFrom (bn t) ⟨21, by decide⟩ := by decide +kernel
theorem iss22 (t : Fin cfg0.N) (h2 : k0_cond2 (grid0.coords t) = 1#1) {Q : PUnit → sProp (MM F)} :
    iprop(flyW c W qw (sn t) (bn t) fw 18 ∗ flyS c S qs (sn t) (bn t) fs 10 ∗ (iprop(flyW c W qw (sn t) (bn t) fw 22 ∗ flyS c S qs (sn t) (bn t) fs 11) -∗ Q ⟨⟩)) ⊢ wp frame (wpE (defs₀ (F := F)) Variants.none c none) Set.univ (k0_part22 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part22_eq_skeleton]; unfold k0_part22_skel
  iintro ⟨HW, HS, HK⟩
  iapply (issueW c W qw (sn t) (bn t) 18 (by decide) (of0 t h2) (of57 t h2) (of58 t h2)) $$ HW
  iintro HW
  simp only [ret_bind]
  iapply (issueW c W qw (sn t) (bn t) 19 (by decide) (of0 t h2) (of59 t h2) (of60 t h2)) $$ HW
  iintro HW
  simp only [ret_bind]
  iapply (issueS c S qs (sn t) (bn t) 10 (by decide) (of0 t h2) (of61 t h2) (of62 t h2)) $$ HS
  iintro HS
  simp only [ret_bind]
  iapply (issueW c W qw (sn t) (bn t) 20 (by decide) (of0 t h2) (of63 t h2) (of64 t h2)) $$ HW
  iintro HW
  simp only [ret_bind]
  iapply (issueW c W qw (sn t) (bn t) 21 (by decide) (of0 t h2) (of65 t h2) (of66 t h2)) $$ HW
  iintro HW
  simp only [ret_bind]
  rw [wp_pure]
  imodintro
  iapply HK
  isplitl [HW]; · iexact HW
  iexact HS

theorem of67 : ∀ t : Fin cfg0.N, k0_cond2 (grid0.coords t) = 1#1 → k0_off41 (grid0.coords t) = sOff (sn t) ⟨11, by decide⟩ := by decide +kernel
theorem of68 : ∀ t : Fin cfg0.N, k0_cond2 (grid0.coords t) = 1#1 → k0_off9 (grid0.coords t) 5#32 = sFrom (bn t) ⟨11, by decide⟩ := by decide +kernel
theorem of69 : ∀ t : Fin cfg0.N, k0_cond2 (grid0.coords t) = 1#1 → k0_off42 (grid0.coords t) = wOff (sn t) ⟨22, by decide⟩ := by decide +kernel
theorem of70 : ∀ t : Fin cfg0.N, k0_cond2 (grid0.coords t) = 1#1 → k0_off11 (grid0.coords t) 5#32 = wFrom (bn t) ⟨22, by decide⟩ := by decide +kernel
theorem of71 : ∀ t : Fin cfg0.N, k0_cond2 (grid0.coords t) = 1#1 → k0_off43 (grid0.coords t) = wOff (sn t) ⟨23, by decide⟩ := by decide +kernel
theorem of72 : ∀ t : Fin cfg0.N, k0_cond2 (grid0.coords t) = 1#1 → k0_off13 (grid0.coords t) 5#32 = wFrom (bn t) ⟨23, by decide⟩ := by decide +kernel
theorem of73 : ∀ t : Fin cfg0.N, k0_cond2 (grid0.coords t) = 1#1 → k0_off44 (grid0.coords t) = sOff (sn t) ⟨12, by decide⟩ := by decide +kernel
theorem of74 : ∀ t : Fin cfg0.N, k0_cond2 (grid0.coords t) = 1#1 → k0_off3 (grid0.coords t) 6#32 = sFrom (bn t) ⟨12, by decide⟩ := by decide +kernel
theorem of75 : ∀ t : Fin cfg0.N, k0_cond2 (grid0.coords t) = 1#1 → k0_off45 (grid0.coords t) = wOff (sn t) ⟨24, by decide⟩ := by decide +kernel
theorem of76 : ∀ t : Fin cfg0.N, k0_cond2 (grid0.coords t) = 1#1 → k0_off5 (grid0.coords t) 6#32 = wFrom (bn t) ⟨24, by decide⟩ := by decide +kernel
theorem iss23 (t : Fin cfg0.N) (h2 : k0_cond2 (grid0.coords t) = 1#1) {Q : PUnit → sProp (MM F)} :
    iprop(flyW c W qw (sn t) (bn t) fw 22 ∗ flyS c S qs (sn t) (bn t) fs 11 ∗ (iprop(flyW c W qw (sn t) (bn t) fw 25 ∗ flyS c S qs (sn t) (bn t) fs 13) -∗ Q ⟨⟩)) ⊢ wp frame (wpE (defs₀ (F := F)) Variants.none c none) Set.univ (k0_part23 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part23_eq_skeleton]; unfold k0_part23_skel
  iintro ⟨HW, HS, HK⟩
  iapply (issueS c S qs (sn t) (bn t) 11 (by decide) (of0 t h2) (of67 t h2) (of68 t h2)) $$ HS
  iintro HS
  simp only [ret_bind]
  iapply (issueW c W qw (sn t) (bn t) 22 (by decide) (of0 t h2) (of69 t h2) (of70 t h2)) $$ HW
  iintro HW
  simp only [ret_bind]
  iapply (issueW c W qw (sn t) (bn t) 23 (by decide) (of0 t h2) (of71 t h2) (of72 t h2)) $$ HW
  iintro HW
  simp only [ret_bind]
  iapply (issueS c S qs (sn t) (bn t) 12 (by decide) (of0 t h2) (of73 t h2) (of74 t h2)) $$ HS
  iintro HS
  simp only [ret_bind]
  iapply (issueW c W qw (sn t) (bn t) 24 (by decide) (of0 t h2) (of75 t h2) (of76 t h2)) $$ HW
  iintro HW
  simp only [ret_bind]
  rw [wp_pure]
  imodintro
  iapply HK
  isplitl [HW]; · iexact HW
  iexact HS

theorem of77 : ∀ t : Fin cfg0.N, k0_cond2 (grid0.coords t) = 1#1 → k0_off46 (grid0.coords t) = wOff (sn t) ⟨25, by decide⟩ := by decide +kernel
theorem of78 : ∀ t : Fin cfg0.N, k0_cond2 (grid0.coords t) = 1#1 → k0_off7 (grid0.coords t) 6#32 = wFrom (bn t) ⟨25, by decide⟩ := by decide +kernel
theorem of79 : ∀ t : Fin cfg0.N, k0_cond2 (grid0.coords t) = 1#1 → k0_off47 (grid0.coords t) = sOff (sn t) ⟨13, by decide⟩ := by decide +kernel
theorem of80 : ∀ t : Fin cfg0.N, k0_cond2 (grid0.coords t) = 1#1 → k0_off9 (grid0.coords t) 6#32 = sFrom (bn t) ⟨13, by decide⟩ := by decide +kernel
theorem of81 : ∀ t : Fin cfg0.N, k0_cond2 (grid0.coords t) = 1#1 → k0_off48 (grid0.coords t) = wOff (sn t) ⟨26, by decide⟩ := by decide +kernel
theorem of82 : ∀ t : Fin cfg0.N, k0_cond2 (grid0.coords t) = 1#1 → k0_off11 (grid0.coords t) 6#32 = wFrom (bn t) ⟨26, by decide⟩ := by decide +kernel
theorem of83 : ∀ t : Fin cfg0.N, k0_cond2 (grid0.coords t) = 1#1 → k0_off49 (grid0.coords t) = wOff (sn t) ⟨27, by decide⟩ := by decide +kernel
theorem of84 : ∀ t : Fin cfg0.N, k0_cond2 (grid0.coords t) = 1#1 → k0_off13 (grid0.coords t) 6#32 = wFrom (bn t) ⟨27, by decide⟩ := by decide +kernel
theorem of85 : ∀ t : Fin cfg0.N, k0_cond2 (grid0.coords t) = 1#1 → k0_off50 (grid0.coords t) = sOff (sn t) ⟨14, by decide⟩ := by decide +kernel
theorem of86 : ∀ t : Fin cfg0.N, k0_cond2 (grid0.coords t) = 1#1 → k0_off3 (grid0.coords t) 7#32 = sFrom (bn t) ⟨14, by decide⟩ := by decide +kernel
theorem iss24 (t : Fin cfg0.N) (h2 : k0_cond2 (grid0.coords t) = 1#1) {Q : PUnit → sProp (MM F)} :
    iprop(flyW c W qw (sn t) (bn t) fw 25 ∗ flyS c S qs (sn t) (bn t) fs 13 ∗ (iprop(flyW c W qw (sn t) (bn t) fw 28 ∗ flyS c S qs (sn t) (bn t) fs 15) -∗ Q ⟨⟩)) ⊢ wp frame (wpE (defs₀ (F := F)) Variants.none c none) Set.univ (k0_part24 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part24_eq_skeleton]; unfold k0_part24_skel
  iintro ⟨HW, HS, HK⟩
  iapply (issueW c W qw (sn t) (bn t) 25 (by decide) (of0 t h2) (of77 t h2) (of78 t h2)) $$ HW
  iintro HW
  simp only [ret_bind]
  iapply (issueS c S qs (sn t) (bn t) 13 (by decide) (of0 t h2) (of79 t h2) (of80 t h2)) $$ HS
  iintro HS
  simp only [ret_bind]
  iapply (issueW c W qw (sn t) (bn t) 26 (by decide) (of0 t h2) (of81 t h2) (of82 t h2)) $$ HW
  iintro HW
  simp only [ret_bind]
  iapply (issueW c W qw (sn t) (bn t) 27 (by decide) (of0 t h2) (of83 t h2) (of84 t h2)) $$ HW
  iintro HW
  simp only [ret_bind]
  iapply (issueS c S qs (sn t) (bn t) 14 (by decide) (of0 t h2) (of85 t h2) (of86 t h2)) $$ HS
  iintro HS
  simp only [ret_bind]
  rw [wp_pure]
  imodintro
  iapply HK
  isplitl [HW]; · iexact HW
  iexact HS

end Cert.Label.Hand

end
-- ==== Proof.LabelWaits.lean ====
module

public import proofs.«01_k».proof.Proof.LabelIssue
public import proofs.«01_k».proof.Proof.Gen.Label.Skeleton
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The copies waited for, part by part -/

variable (c : Dev nD) (W : Vec F S96x2x2x8192 .i32) (S : Vec F S96x2x8192 .f32) (qw qs : PosShare TreeShare) (n : Fin 12)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)

/-- The cell waited on at point `t`. -/
theorem of_cell : ∀ t : Fin cfg0.N, k0_off57 (grid0.coords t) = ![(sl t).val] := by decide +kernel

theorem wt45 (t : Fin cfg0.N) (v v1 : BitVec 32) {Q : PUnit → sProp (MM F)} :
    iprop(landW c W qw (sl t) n 0 ∗ landS c S qs (sl t) n 0 ∗ owed c ∗ (iprop(landW c W qw (sl t) n 2 ∗ landS c S qs (sl t) n 1 ∗ owed c) -∗ Q ⟨⟩)) ⊢ wp frame (wpE (defs₀ (F := F)) Variants.none c none) Set.univ (k0_part45 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v v1) Q := by
  rw [k0_part45_eq_skeleton]; unfold k0_part45_skel
  iintro ⟨HW, HS, HO, HK⟩
  iapply (waitS c S qs (sl t) n 0 (by decide) (of_cell t)) $$ [HS HO]
  · isplitl [HS]; · iexact HS
    iexact HO
  iintro ⟨HS, HO⟩
  simp only [ret_bind]
  iapply (waitW c W qw (sl t) n 0 (by decide) (of_cell t)) $$ [HW HO]
  · isplitl [HW]; · iexact HW
    iexact HO
  iintro ⟨HW, HO⟩
  simp only [ret_bind]
  iapply (waitW c W qw (sl t) n 1 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt46 (t : Fin cfg0.N) {Q : PUnit → sProp (MM F)} :
    iprop(landW c W qw (sl t) n 2 ∗ landS c S qs (sl t) n 1 ∗ owed c ∗ (iprop(landW c W qw (sl t) n 5 ∗ landS c S qs (sl t) n 3 ∗ owed c) -∗ Q ⟨⟩)) ⊢ wp frame (wpE (defs₀ (F := F)) Variants.none c none) Set.univ (k0_part46 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part46_eq_skeleton]; unfold k0_part46_skel
  iintro ⟨HW, HS, HO, HK⟩
  iapply (waitS c S qs (sl t) n 1 (by decide) (of_cell t)) $$ [HS HO]
  · isplitl [HS]; · iexact HS
    iexact HO
  iintro ⟨HS, HO⟩
  simp only [ret_bind]
  iapply (waitW c W qw (sl t) n 2 (by decide) (of_cell t)) $$ [HW HO]
  · isplitl [HW]; · iexact HW
    iexact HO
  iintro ⟨HW, HO⟩
  simp only [ret_bind]
  iapply (waitW c W qw (sl t) n 3 (by decide) (of_cell t)) $$ [HW HO]
  · isplitl [HW]; · iexact HW
    iexact HO
  iintro ⟨HW, HO⟩
  simp only [ret_bind]
  iapply (waitS c S qs (sl t) n 2 (by decide) (of_cell t)) $$ [HS HO]
  · isplitl [HS]; · iexact HS
    iexact HO
  iintro ⟨HS, HO⟩
  simp only [ret_bind]
  iapply (waitW c W qw (sl t) n 4 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt47 (t : Fin cfg0.N) {Q : PUnit → sProp (MM F)} :
    iprop(landW c W qw (sl t) n 5 ∗ landS c S qs (sl t) n 3 ∗ owed c ∗ (iprop(landW c W qw (sl t) n 8 ∗ landS c S qs (sl t) n 5 ∗ owed c) -∗ Q ⟨⟩)) ⊢ wp frame (wpE (defs₀ (F := F)) Variants.none c none) Set.univ (k0_part47 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part47_eq_skeleton]; unfold k0_part47_skel
  iintro ⟨HW, HS, HO, HK⟩
  iapply (waitW c W qw (sl t) n 5 (by decide) (of_cell t)) $$ [HW HO]
  · isplitl [HW]; · iexact HW
    iexact HO
  iintro ⟨HW, HO⟩
  simp only [ret_bind]
  iapply (waitS c S qs (sl t) n 3 (by decide) (of_cell t)) $$ [HS HO]
  · isplitl [HS]; · iexact HS
    iexact HO
  iintro ⟨HS, HO⟩
  simp only [ret_bind]
  iapply (waitW c W qw (sl t) n 6 (by decide) (of_cell t)) $$ [HW HO]
  · isplitl [HW]; · iexact HW
    iexact HO
  iintro ⟨HW, HO⟩
  simp only [ret_bind]
  iapply (waitW c W qw (sl t) n 7 (by decide) (of_cell t)) $$ [HW HO]
  · isplitl [HW]; · iexact HW
    iexact HO
  iintro ⟨HW, HO⟩
  simp only [ret_bind]
  iapply (waitS c S qs (sl t) n 4 (by decide) (of_cell t)) $$ [HS HO]
  · isplitl [HS]; · iexact HS
    iexact HO
  iintro ⟨HS, HO⟩
  simp only [ret_bind]
  rw [wp_pure]
  imodintro
  iapply HK
  isplitl [HW]; · iexact HW
  isplitl [HS]; · iexact HS
  iexact HO

theorem wt48 (t : Fin cfg0.N) {Q : PUnit → sProp (MM F)} :
    iprop(landW c W qw (sl t) n 8 ∗ landS c S qs (sl t) n 5 ∗ owed c ∗ (iprop(landW c W qw (sl t) n 12 ∗ landS c S qs (sl t) n 6 ∗ owed c) -∗ Q ⟨⟩)) ⊢ wp frame (wpE (defs₀ (F := F)) Variants.none c none) Set.univ (k0_part48 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part48_eq_skeleton]; unfold k0_part48_skel
  iintro ⟨HW, HS, HO, HK⟩
  iapply (waitW c W qw (sl t) n 8 (by decide) (of_cell t)) $$ [HW HO]
  · isplitl [HW]; · iexact HW
    iexact HO
  iintro ⟨HW, HO⟩
  simp only [ret_bind]
  iapply (waitW c W qw (sl t) n 9 (by decide) (of_cell t)) $$ [HW HO]
  · isplitl [HW]; · iexact HW
    iexact HO
  iintro ⟨HW, HO⟩
  simp only [ret_bind]
  iapply (waitS c S qs (sl t) n 5 (by decide) (of_cell t)) $$ [HS HO]
  · isplitl [HS]; · iexact HS
    iexact HO
  iintro ⟨HS, HO⟩
  simp only [ret_bind]
  iapply (waitW c W qw (sl t) n 10 (by decide) (of_cell t)) $$ [HW HO]
  · isplitl [HW]; · iexact HW
    iexact HO
  iintro ⟨HW, HO⟩
  simp only [ret_bind]
  iapply (waitW c W qw (sl t) n 11 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt49 (t : Fin cfg0.N) {Q : PUnit → sProp (MM F)} :
    iprop(landW c W qw (sl t) n 12 ∗ landS c S qs (sl t) n 6 ∗ owed c ∗ (iprop(landW c W qw (sl t) n 15 ∗ landS c S qs (sl t) n 8 ∗ owed c) -∗ Q ⟨⟩)) ⊢ wp frame (wpE (defs₀ (F := F)) Variants.none c none) Set.univ (k0_part49 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part49_eq_skeleton]; unfold k0_part49_skel
  iintro ⟨HW, HS, HO, HK⟩
  iapply (waitS c S qs (sl t) n 6 (by decide) (of_cell t)) $$ [HS HO]
  · isplitl [HS]; · iexact HS
    iexact HO
  iintro ⟨HS, HO⟩
  simp only [ret_bind]
  iapply (waitW c W qw (sl t) n 12 (by decide) (of_cell t)) $$ [HW HO]
  · isplitl [HW]; · iexact HW
    iexact HO
  iintro ⟨HW, HO⟩
  simp only [ret_bind]
  iapply (waitW c W qw (sl t) n 13 (by decide) (of_cell t)) $$ [HW HO]
  · isplitl [HW]; · iexact HW
    iexact HO
  iintro ⟨HW, HO⟩
  simp only [ret_bind]
  iapply (waitS c S qs (sl t) n 7 (by decide) (of_cell t)) $$ [HS HO]
  · isplitl [HS]; · iexact HS
    iexact HO
  iintro ⟨HS, HO⟩
  simp only [ret_bind]
  iapply (waitW c W qw (sl t) n 14 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt50 (t : Fin cfg0.N) {Q : PUnit → sProp (MM F)} :
    iprop(landW c W qw (sl t) n 15 ∗ landS c S qs (sl t) n 8 ∗ owed c ∗ (iprop(landW c W qw (sl t) n 18 ∗ landS c S qs (sl t) n 10 ∗ owed c) -∗ Q ⟨⟩)) ⊢ wp frame (wpE (defs₀ (F := F)) Variants.none c none) Set.univ (k0_part50 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part50_eq_skeleton]; unfold k0_part50_skel
  iintro ⟨HW, HS, HO, HK⟩
  iapply (waitW c W qw (sl t) n 15 (by decide) (of_cell t)) $$ [HW HO]
  · isplitl [HW]; · iexact HW
    iexact HO
  iintro ⟨HW, HO⟩
  simp only [ret_bind]
  iapply (waitS c S qs (sl t) n 8 (by decide) (of_cell t)) $$ [HS HO]
  · isplitl [HS]; · iexact HS
    iexact HO
  iintro ⟨HS, HO⟩
  simp only [ret_bind]
  iapply (waitW c W qw (sl t) n 16 (by decide) (of_cell t)) $$ [HW HO]
  · isplitl [HW]; · iexact HW
    iexact HO
  iintro ⟨HW, HO⟩
  simp only [ret_bind]
  iapply (waitW c W qw (sl t) n 17 (by decide) (of_cell t)) $$ [HW HO]
  · isplitl [HW]; · iexact HW
    iexact HO
  iintro ⟨HW, HO⟩
  simp only [ret_bind]
  iapply (waitS c S qs (sl t) n 9 (by decide) (of_cell t)) $$ [HS HO]
  · isplitl [HS]; · iexact HS
    iexact HO
  iintro ⟨HS, HO⟩
  simp only [ret_bind]
  rw [wp_pure]
  imodintro
  iapply HK
  isplitl [HW]; · iexact HW
  isplitl [HS]; · iexact HS
  iexact HO

theorem wt51 (t : Fin cfg0.N) {Q : PUnit → sProp (MM F)} :
    iprop(landW c W qw (sl t) n 18 ∗ landS c S qs (sl t) n 10 ∗ owed c ∗ (iprop(landW c W qw (sl t) n 22 ∗ landS c S qs (sl t) n 11 ∗ owed c) -∗ Q ⟨⟩)) ⊢ wp frame (wpE (defs₀ (F := F)) Variants.none c none) Set.univ (k0_part51 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part51_eq_skeleton]; unfold k0_part51_skel
  iintro ⟨HW, HS, HO, HK⟩
  iapply (waitW c W qw (sl t) n 18 (by decide) (of_cell t)) $$ [HW HO]
  · isplitl [HW]; · iexact HW
    iexact HO
  iintro ⟨HW, HO⟩
  simp only [ret_bind]
  iapply (waitW c W qw (sl t) n 19 (by decide) (of_cell t)) $$ [HW HO]
  · isplitl [HW]; · iexact HW
    iexact HO
  iintro ⟨HW, HO⟩
  simp only [ret_bind]
  iapply (waitS c S qs (sl t) n 10 (by decide) (of_cell t)) $$ [HS HO]
  · isplitl [HS]; · iexact HS
    iexact HO
  iintro ⟨HS, HO⟩
  simp only [ret_bind]
  iapply (waitW c W qw (sl t) n 20 (by decide) (of_cell t)) $$ [HW HO]
  · isplitl [HW]; · iexact HW
    iexact HO
  iintro ⟨HW, HO⟩
  simp only [ret_bind]
  iapply (waitW c W qw (sl t) n 21 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt52 (t : Fin cfg0.N) {Q : PUnit → sProp (MM F)} :
    iprop(landW c W qw (sl t) n 22 ∗ landS c S qs (sl t) n 11 ∗ owed c ∗ (iprop(landW c W qw (sl t) n 25 ∗ landS c S qs (sl t) n 13 ∗ owed c) -∗ Q ⟨⟩)) ⊢ wp frame (wpE (defs₀ (F := F)) Variants.none c none) Set.univ (k0_part52 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part52_eq_skeleton]; unfold k0_part52_skel
  iintro ⟨HW, HS, HO, HK⟩
  iapply (waitS c S qs (sl t) n 11 (by decide) (of_cell t)) $$ [HS HO]
  · isplitl [HS]; · iexact HS
    iexact HO
  iintro ⟨HS, HO⟩
  simp only [ret_bind]
  iapply (waitW c W qw (sl t) n 22 (by decide) (of_cell t)) $$ [HW HO]
  · isplitl [HW]; · iexact HW
    iexact HO
  iintro ⟨HW, HO⟩
  simp only [ret_bind]
  iapply (waitW c W qw (sl t) n 23 (by decide) (of_cell t)) $$ [HW HO]
  · isplitl [HW]; · iexact HW
    iexact HO
  iintro ⟨HW, HO⟩
  simp only [ret_bind]
  iapply (waitS c S qs (sl t) n 12 (by decide) (of_cell t)) $$ [HS HO]
  · isplitl [HS]; · iexact HS
    iexact HO
  iintro ⟨HS, HO⟩
  simp only [ret_bind]
  iapply (waitW c W qw (sl t) n 24 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt53 (t : Fin cfg0.N) {Q : PUnit → sProp (MM F)} :
    iprop(landW c W qw (sl t) n 25 ∗ landS c S qs (sl t) n 13 ∗ owed c ∗ (iprop(landW c W qw (sl t) n 28 ∗ landS c S qs (sl t) n 15 ∗ owed c) -∗ Q ⟨⟩)) ⊢ wp frame (wpE (defs₀ (F := F)) Variants.none c none) Set.univ (k0_part53 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part53_eq_skeleton]; unfold k0_part53_skel
  iintro ⟨HW, HS, HO, HK⟩
  iapply (waitW c W qw (sl t) n 25 (by decide) (of_cell t)) $$ [HW HO]
  · isplitl [HW]; · iexact HW
    iexact HO
  iintro ⟨HW, HO⟩
  simp only [ret_bind]
  iapply (waitS c S qs (sl t) n 13 (by decide) (of_cell t)) $$ [HS HO]
  · isplitl [HS]; · iexact HS
    iexact HO
  iintro ⟨HS, HO⟩
  simp only [ret_bind]
  iapply (waitW c W qw (sl t) n 26 (by decide) (of_cell t)) $$ [HW HO]
  · isplitl [HW]; · iexact HW
    iexact HO
  iintro ⟨HW, HO⟩
  simp only [ret_bind]
  iapply (waitW c W qw (sl t) n 27 (by decide) (of_cell t)) $$ [HW HO]
  · isplitl [HW]; · iexact HW
    iexact HO
  iintro ⟨HW, HO⟩
  simp only [ret_bind]
  iapply (waitS c S qs (sl t) n 14 (by decide) (of_cell t)) $$ [HS HO]
  · isplitl [HS]; · iexact HS
    iexact HO
  iintro ⟨HS, HO⟩
  simp only [ret_bind]
  rw [wp_pure]
  imodintro
  iapply HK
  isplitl [HW]; · iexact HW
  isplitl [HS]; · iexact HS
  iexact HO

end Cert.Label.Hand

end
-- ==== Proof.LabelMid.lean ====
module

public import proofs.«01_k».proof.Proof.LabelWaits
public import proofs.«01_k».proof.Proof.Gen.Label.Skeleton
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The values a step computes from its own blocks -/

/-- A load of one element reads that element. -/
theorem ld_first {sp : Space} {s : Shape} {e : EltTy} (m : Memref sig .tc sp s e) (hm : m.IsWhole) (x : Vec F s e) (r : Rect s) (h) :
    View.readAt (Elt F) m.view r.toLoadRect (hm.unread x) (Shape.Idx.first h) = x (r.emb (Shape.Idx.first h)) := congrFun (hm.read_unread x) _

/-- Word `b` of row `a` of the channel table. -/
def chx (chan : Vec F S2x16 .i32) (a : Fin 2) (b : Fin 16) : Elt F .i32 := chan (fun | 0 => a | 1 => b)
/-- Length `r` of point `i`'s rows. -/
def lnx (lens : Vec F S96 .i32) (i : grid0.Coords) (r : Fin 8) : Elt F .i32 := lens (fun | 0 => ⟨8 * (i 0).val + r.val, by have : (i 0).val < 12 := (i 0).isLt; show _ < 96; omega⟩)

def u0 : BitVec 32 := 0#32
/-- The lane numbers. -/
abbrev lanes : IVec S1x256 32 := iota .tc S1x256 32 [1] iota_S1x256_d1_w32
/-- Which bit-field a lane reads, which code row, and which channel slot: the step's index vectors. -/
def u72 : IVec S1x256 32 := k0_pay33 (Scalar.select (Scalar.cmpi .eq 64#32 0#32) 1#32 64#32) k0_pay31 k0_pay32 0#32
def u118 : IVec S1x256 32 := k0_pay37 k0_pay30 u72 (Scalar.select (Scalar.cmpi .eq 2#32 0#32) 1#32 2#32) (k0_pay34 lanes) (k0_pay35 lanes) (k0_pay36 lanes)
def u158 : IVec S1x256 32 := k0_pay40 u72 2#32 (k0_pay38 u72) (k0_pay39 u72) (Scalar.extui (Scalar.cmpi .sgt 2#32 0#32)) (Scalar.cmpi .slt 2#32 0#32)
def u174 : IVec S1x256 32 := k0_pay41 u72

/-- The channel choice of each lane, built up over the table's 32 entries. -/
def g5 (chan : Vec F S2x16 .i32) : IVec S1x256 32 := k0_pay5 u118 u174 (chx chan 0 0) (chx chan 0 1) (chx chan 0 2) (chx chan 0 3)
def g7 (chan : Vec F S2x16 .i32) : IVec S1x256 32 := k0_pay7 u118 u174 (g5 chan) (k0_pay6 u118 u174) (chx chan 0 4) (chx chan 0 5) (chx chan 0 6) (chx chan 0 7) (chx chan 0 8)
def g9 (chan : Vec F S2x16 .i32) : IVec S1x256 32 := k0_pay9 u118 u174 (g7 chan) (k0_pay8 u118 u174) (chx chan 0 9) (chx chan 0 10) (chx chan 0 11) (chx chan 0 12) (chx chan 0 13)
def g11 (chan : Vec F S2x16 .i32) : IVec S1x256 32 := k0_pay11 u118 u174 (g9 chan) (k0_pay10 u118 u174) (chx chan 0 14) (chx chan 0 15) (chx chan 1 0) (chx chan 1 1) (chx chan 1 2)
def g13 (chan : Vec F S2x16 .i32) : IVec S1x256 32 := k0_pay13 u118 u174 (g11 chan) (k0_pay12 u118 u174) (chx chan 1 3) (chx chan 1 4) (chx chan 1 5) (chx chan 1 6) (chx chan 1 7)
def g15 (chan : Vec F S2x16 .i32) : IVec S1x256 32 := k0_pay15 u118 u174 (g13 chan) (k0_pay14 u118 u174) (chx chan 1 8) (chx chan 1 9) (chx chan 1 10) (chx chan 1 11) (chx chan 1 12)
/-- The one-hot choice of channels. -/
def PK (chan : Vec F S2x16 .i32) : Vec F S128x256 .bf16 := k0_pay42 u118 u174 (g15 chan) (k0_pay16 u118 u174) (chx chan 1 13) (chx chan 1 14) (chx chan 1 15)
/-- The rows the step multiplies the codes by. -/
def V246 (chan : Vec F S2x16 .i32) (x : Vec F S8x1536 .bf16) : FVec F S96x256 .bf16 := k0_pay47 u174 (k0_pay43 x (PK chan)) (iota .tc S96x1 32 [0] iota_S96x1_d0_w32) (k0_pay44 u158) 48#32 k0_pay45 k0_pay46
abbrev rows8 : IVec S8x1 32 := iota .tc S8x1 32 [0] iota_S8x1_d0_w32
/-- The lengths of the step's rows, in a column. -/
def V312 (lens : Vec F S96 .i32) (i : grid0.Coords) : IVec S8x1 32 :=
  k0_pay52 (k0_pay50 rows8 (k0_pay48 (lnx lens i 0) (lnx lens i 1)) k0_pay49 (lnx lens i 2) (lnx lens i 3) (lnx lens i 4) (lnx lens i 5) (lnx lens i 6)) (k0_pay51 rows8) (lnx lens i 7)

/-- A whole rectangle of rank two reads and writes the whole memref. -/
theorem emb_all {a b : ℕ} (off : Fin 2 → ℕ) (hoff : off = ![0, 0]) (h) (y : (⟨2, ![a, b]⟩ : Shape).Idx) :
    (Rect.unit (s := ⟨2, ![a, b]⟩) off ![a, b] h).emb y = y := by
  subst hoff
  funext k; apply Fin.ext
  show ![0, 0] k + 1 * (y k).val = (y k).val
  fin_cases k <;> simp
theorem rd_all {a b : ℕ} {sp : Space} {e : EltTy} (m : Memref sig .tc sp ⟨2, ![a, b]⟩ e) (f : m.view.ty.Contents (Elt F)) (off : Fin 2 → ℕ) (hoff : off = ![0, 0]) (h) :
    View.readAt (Elt F) m.view (Rect.unit (s := ⟨2, ![a, b]⟩) off ![a, b] h).toLoadRect f = View.read (Elt F) m.view f := by
  funext y
  show View.read (Elt F) m.view f ((Rect.unit (s := ⟨2, ![a, b]⟩) off ![a, b] h).emb y) = _
  rw [emb_all off hoff h y]
theorem ld_all {a b : ℕ} {sp : Space} {e : EltTy} (m : Memref sig .tc sp ⟨2, ![a, b]⟩ e) (x : Vec F ⟨2, ![a, b]⟩ e) (hm : m.IsWhole) (off : Fin 2 → ℕ) (hoff : off = ![0, 0]) (h) :
    View.readAt (Elt F) m.view (Rect.unit (s := ⟨2, ![a, b]⟩) off ![a, b] h).toLoadRect (hm.unread x) = x := by
  rw [rd_all m _ off hoff, hm.read_unread]
theorem wr_all {a b : ℕ} {sp : Space} {e : EltTy} (m : Memref sig .tc sp ⟨2, ![a, b]⟩ e) (f : m.view.ty.Contents (Elt F)) (off : Fin 2 → ℕ) (hoff : off = ![0, 0]) (h) (w : Vec F ⟨2, ![a, b]⟩ e) :
    View.read (Elt F) m.view (m.view.writes (Elt F) f [⟨Rect.unit (s := ⟨2, ![a, b]⟩) off ![a, b] h, w⟩]) = w := by
  funext y
  exact View.read_writes_cons_unit_of_mem m.view f h w [] y y hoff (fun k => by fin_cases k <;> exact (Nat.zero_add _).symm)
theorem rc_all {a b : ℕ} {sp : Space} {e : EltTy} {m : Memref sig .tc sp ⟨2, ![a, b]⟩ e} (w : Vec F ⟨2, ![a, b]⟩ e) (off : Fin 2 → ℕ) (hoff : off = ![0, 0]) (h) :
    m.view.readCov [⟨Rect.unit (s := ⟨2, ![a, b]⟩) off ![a, b] h, w⟩] (Rect.unit (s := ⟨2, ![a, b]⟩) off ![a, b] h).toLoadRect = w := by
  unfold View.readCov
  rw [rd_all m _ off hoff, wr_all m _ off hoff]

variable (c : Dev nD)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)
theorem md36 (i : grid0.Coords) (v8 : IVec S1x256 32) (v34 : BitVec 32) (v36 : IVec S1x256 32) (v38 : IVec S1x256 1) (c0_i32_12 : BitVec 32) {Q : (Σ' (v72 : IVec S1x256 32) (v74 : BitVec 32) (v76 : IVec S1x256 32) (v78 : IVec S1x256 1), IVec S1x256 1) → sProp (MM F)} :
    Q ⟨k0_pay33 v34 v36 v38 c0_i32_12, Scalar.select (Scalar.cmpi .eq 2#32 0#32) 1#32 2#32, k0_pay34 v8, k0_pay35 v8, k0_pay36 v8⟩ ⊢ wp frame (wpE (defs₀ (F := F)) Variants.none c none) Set.univ (k0_part36 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v8 v34 v36 v38 c0_i32_12) Q := by
  rw [k0_part36_eq_skeleton]; unfold k0_part36_skel
  rw [wp_pure]
  iintro H
  imodintro
  iexact H

theorem md37 (i : grid0.Coords) (v32 : IVec S1x256 32) (v72 : IVec S1x256 32) (v74 : BitVec 32) (v76 : IVec S1x256 32) (v78 : IVec S1x256 1) (v84 : IVec S1x256 1) {Q : (Σ' (v118 : IVec S1x256 32) (c2_i32_33 : BitVec 32) (v120 : IVec S1x256 32) (v127 : IVec S1x256 32) (v129 : BitVec 32), BitVec 1) → sProp (MM F)} :
    Q ⟨k0_pay37 v32 v72 v74 v76 v78 v84, 2#32, k0_pay38 v72, k0_pay39 v72, Scalar.extui (Scalar.cmpi .sgt 2#32 0#32), Scalar.cmpi .slt 2#32 0#32⟩ ⊢ wp frame (wpE (defs₀ (F := F)) Variants.none c none) Set.univ (k0_part37 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v32 v72 v74 v76 v78 v84) Q := by
  rw [k0_part37_eq_skeleton]; unfold k0_part37_skel
  rw [wp_pure]
  iintro H
  imodintro
  iexact H

theorem md38 (i : grid0.Coords) (arg0 : BitVec 32) (v72 : IVec S1x256 32) (c2_i32_33 : BitVec 32) (v120 : IVec S1x256 32) (v127 : IVec S1x256 32) (v129 : BitVec 32) (v130 : BitVec 1) {Q : (Σ' (v158 : IVec S1x256 32) (v174 : IVec S1x256 32), BitVec 1) → sProp (MM F)} :
    Q ⟨k0_pay40 v72 c2_i32_33 v120 v127 v129 v130, k0_pay41 v72, Scalar.cmpi .eq arg0 0#32⟩ ⊢ wp frame (wpE (defs₀ (F := F)) Variants.none c none) Set.univ (k0_part38 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 v72 c2_i32_33 v120 v127 v129 v130) Q := by
  rw [k0_part38_eq_skeleton]; unfold k0_part38_skel
  rw [wp_pure]
  iintro H
  imodintro
  iexact H

theorem md43 (i : grid0.Coords) (arg0 : BitVec 32) (c8_i32_119 : BitVec 32) {Q : (BitVec 32) → sProp (MM F)} :
    Q 8#32 ⊢ wp frame (wpE (defs₀ (F := F)) Variants.none c none) Set.univ (k0_part43 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 c8_i32_119) Q := by
  rw [k0_part43_eq_skeleton]; unfold k0_part43_skel
  rw [wp_pure]
  iintro H
  imodintro
  iexact H

theorem md44 (i : grid0.Coords) (arg0 : BitVec 32) (c8_i32_149 : BitVec 32) {Q : (BitVec 32) → sProp (MM F)} :
    Q 8#32 ⊢ wp frame (wpE (defs₀ (F := F)) Variants.none c none) Set.univ (k0_part44 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 c8_i32_149) Q := by
  rw [k0_part44_eq_skeleton]; unfold k0_part44_skel
  rw [wp_pure]
  iintro H
  imodintro
  iexact H

theorem len_off0 : ∀ t : Fin cfg0.N, k0_off56 (grid0.coords t) 0#32 = ![8 * ((grid0.coords t) 0).val + 0] := by decide +kernel
theorem len_off1 : ∀ t : Fin cfg0.N, k0_off56 (grid0.coords t) 1#32 = ![8 * ((grid0.coords t) 0).val + 1] := by decide +kernel
theorem len_off2 : ∀ t : Fin cfg0.N, k0_off56 (grid0.coords t) 2#32 = ![8 * ((grid0.coords t) 0).val + 2] := by decide +kernel
theorem len_off3 : ∀ t : Fin cfg0.N, k0_off56 (grid0.coords t) 3#32 = ![8 * ((grid0.coords t) 0).val + 3] := by decide +kernel
theorem len_off4 : ∀ t : Fin cfg0.N, k0_off56 (grid0.coords t) 4#32 = ![8 * ((grid0.coords t) 0).val + 4] := by decide +kernel
theorem len_off5 : ∀ t : Fin cfg0.N, k0_off56 (grid0.coords t) 5#32 = ![8 * ((grid0.coords t) 0).val + 5] := by decide +kernel
theorem len_off6 : ∀ t : Fin cfg0.N, k0_off56 (grid0.coords t) 6#32 = ![8 * ((grid0.coords t) 0).val + 6] := by decide +kernel
theorem len_off7 : ∀ t : Fin cfg0.N, k0_off56 (grid0.coords t) 7#32 = ![8 * ((grid0.coords t) 0).val + 7] := by decide +kernel

theorem ld_len (t : Fin cfg0.N) (lens : Vec F S96 .i32) (r : Fin 8) {of : Fin 1 → ℕ} (hof : of = ![8 * ((grid0.coords t) 0).val + r.val]) (h1 h2) :
    View.readAt (Elt F) arg1.view (Rect.unit (s := S96) of S1.size h1).toLoadRect (harg1.unread lens) (Shape.Idx.first h2) = lnx lens (grid0.coords t) r := by
  rw [ld_first]
  unfold lnx
  congr 1
  subst hof
  funext a
  apply Fin.ext
  fin_cases a
  rfl

theorem ld_ch (chan : Vec F S2x16 .i32) (a : Fin 2) (b : Fin 16) {of : Fin 2 → ℕ} (hof : of = ![a.val, b.val]) (h1 h2) :
    View.readAt (Elt F) arg2.view (Rect.unit (s := S2x16) of S1x1.size h1).toLoadRect (harg2.unread chan) (Shape.Idx.first h2) = chx chan a b := by
  rw [ld_first]
  unfold chx
  congr 1
  subst hof
  funext a
  apply Fin.ext
  fin_cases a <;> rfl

theorem md40 (t : Fin cfg0.N) (lens : Vec F S96 .i32) (arg0 : BitVec 32) (v174 : IVec S1x256 32) (v195 : FVec F S96x256 .f32) (v196 : IVec S96x1 32) (v215 : IVec S96x256 1) (c48_i32 : BitVec 32) (v217 : IVec S96x1 32) (v220 : IVec S96x1 32) {Q : (Σ' (v246 : FVec F S96x256 .bf16) (v247 : IVec S8x1 32) (v264 : IVec S8x1 32), IVec S8x1 1) → sProp (MM F)} :
    iprop(owns (Val := Elt F) (c : Thread nD τ) arg1 fullShare lens ∗ (owns (Val := Elt F) (c : Thread nD τ) arg1 fullShare lens -∗ Q ⟨k0_pay47 v174 v195 v196 v215 c48_i32 v217 v220, rows8, k0_pay48 (lnx lens (grid0.coords t) 0) (lnx lens (grid0.coords t) 1), k0_pay49⟩)) ⊢ wp frame (wpE (defs₀ (F := F)) Variants.none c none) Set.univ (k0_part40 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 v174 v195 v196 v215 c48_i32 v217 v220) Q := by
  rw [k0_part40_eq_skeleton]; unfold k0_part40_skel
  unfold owns
  iintro ⟨⟨%f0, %hf0, H0⟩, HK⟩
  obtain rfl := harg1.eq_unread hf0
  sl_exec
  unfold md40.sl.v247 md40.sl.r md40.sl.r_1
  rw [ld_len arg1 harg1 t lens 0 (len_off0 t), ld_len arg1 harg1 t lens 1 (len_off1 t)]
  rw [wp_ret]
  imodintro
  iapply HK
  iexists _; isplitr
  · ipureintro; exact harg1.read_unread _
  iexact H0

theorem md41 (t : Fin cfg0.N) (lens : Vec F S96 .i32) (arg0 : BitVec 32) (v247 : IVec S8x1 32) (v264 : IVec S8x1 32) (v266 : IVec S8x1 1) {Q : (Σ' (v304 : IVec S8x1 32), IVec S8x1 1) → sProp (MM F)} :
    iprop(owns (Val := Elt F) (c : Thread nD τ) arg1 fullShare lens ∗ (owns (Val := Elt F) (c : Thread nD τ) arg1 fullShare lens -∗ Q ⟨k0_pay50 v247 v264 v266 (lnx lens (grid0.coords t) 2) (lnx lens (grid0.coords t) 3) (lnx lens (grid0.coords t) 4) (lnx lens (grid0.coords t) 5) (lnx lens (grid0.coords t) 6), k0_pay51 v247⟩)) ⊢ wp frame (wpE (defs₀ (F := F)) Variants.none c none) Set.univ (k0_part41 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 v247 v264 v266) Q := by
  rw [k0_part41_eq_skeleton]; unfold k0_part41_skel
  unfold owns
  iintro ⟨⟨%f0, %hf0, H0⟩, HK⟩
  obtain rfl := harg1.eq_unread hf0
  sl_exec
  unfold md41.sl.r md41.sl.r_1 md41.sl.r_2 md41.sl.r_3 md41.sl.r_4
  rw [ld_len arg1 harg1 t lens 2 (len_off2 t), ld_len arg1 harg1 t lens 3 (len_off3 t), ld_len arg1 harg1 t lens 4 (len_off4 t), ld_len arg1 harg1 t lens 5 (len_off5 t), ld_len arg1 harg1 t lens 6 (len_off6 t)]
  rw [wp_ret]
  imodintro
  iapply HK
  iexists _; isplitr
  · ipureintro; exact harg1.read_unread _
  iexact H0

theorem md42 (t : Fin cfg0.N) (lens : Vec F S96 .i32) (arg0 : BitVec 32) (v304 : IVec S8x1 32) (v306 : IVec S8x1 1) {Q : (Σ' (v312 : IVec S8x1 32), BitVec 32) → sProp (MM F)} :
    iprop(owns (Val := Elt F) (c : Thread nD τ) arg1 fullShare lens ∗ (owns (Val := Elt F) (c : Thread nD τ) arg1 fullShare lens -∗ Q ⟨k0_pay52 v304 v306 (lnx lens (grid0.coords t) 7), 8#32⟩)) ⊢ wp frame (wpE (defs₀ (F := F)) Variants.none c none) Set.univ (k0_part42 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 v304 v306) Q := by
  rw [k0_part42_eq_skeleton]; unfold k0_part42_skel
  unfold owns
  iintro ⟨⟨%f0, %hf0, H0⟩, HK⟩
  obtain rfl := harg1.eq_unread hf0
  sl_exec
  unfold md42.sl.r
  rw [ld_len arg1 harg1 t lens 7 (len_off7 t)]
  rw [wp_ret]
  imodintro
  iapply HK
  iexists _; isplitr
  · ipureintro; exact harg1.read_unread _
  iexact H0

theorem md39A (i : grid0.Coords) (chan : Vec F S2x16 .i32) (x : Vec F S8x1536 .bf16) (v158 : IVec S1x256 32) {Q : (Σ' (v195 : FVec F S96x256 .f32) (v196 : IVec S96x1 32) (v215 : IVec S96x256 1) (c48_i32 : BitVec 32) (v217 : IVec S96x1 32), IVec S96x1 32) → sProp (MM F)} :
    iprop(owns (Val := Elt F) (c : Thread nD τ) arg2 fullShare chan ∗ owns (Val := Elt F) (c : Thread nD τ) arg5 fullShare x ∗ (∃ d, owns (Val := Elt F) (c : Thread nD τ) (Memref.whole cc0_scratch2 : Memref sig .tc .vmem S128x256 .bf16) fullShare d) ∗ (owns (Val := Elt F) (c : Thread nD τ) arg2 fullShare chan -∗ owns (Val := Elt F) (c : Thread nD τ) arg5 fullShare x -∗ owns (Val := Elt F) (c : Thread nD τ) (Memref.whole cc0_scratch2 : Memref sig .tc .vmem S128x256 .bf16) fullShare (PK chan) -∗ Q ⟨k0_pay43 x (PK chan), iota .tc S96x1 32 [0] iota_S96x1_d0_w32, k0_pay44 v158, 48#32, k0_pay45, k0_pay46⟩)) ⊢ wp frame (wpE (defs₀ (F := F)) Variants.none c none) Set.univ (k0_part39 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 u118 v158 u174 1#1) Q := by
  rw [k0_part39_eq_skeleton]; unfold k0_part39_skel
  simp only [k0_part26_eq_skeleton, k0_part27_eq_skeleton, k0_part28_eq_skeleton, k0_part29_eq_skeleton, k0_part30_eq_skeleton, k0_part31_eq_skeleton]
  unfold owns
  iintro ⟨⟨%f0, %hf0, H0⟩, ⟨%f1, %hf1, H1⟩, ⟨%d2, %f2, %hf2, H2⟩, HK⟩
  obtain rfl := harg2.eq_unread hf0
  obtain rfl := harg5.eq_unread hf1
  sl_exec
  have hl0 : md39A.sl.r c arg2 harg2 chan = chx chan 0 0 := ld_ch arg2 harg2 chan 0 0 rfl _ _
  have hl1 : md39A.sl.r_1 c arg2 harg2 chan = chx chan 0 1 := ld_ch arg2 harg2 chan 0 1 rfl _ _
  have hl2 : md39A.sl.r_2 c arg2 harg2 chan = chx chan 0 2 := ld_ch arg2 harg2 chan 0 2 rfl _ _
  have hl3 : md39A.sl.r_3 c arg2 harg2 chan = chx chan 0 3 := ld_ch arg2 harg2 chan 0 3 rfl _ _
  have hl4 : md39A.sl.r_4 c arg2 harg2 chan = chx chan 0 4 := ld_ch arg2 harg2 chan 0 4 rfl _ _
  have hp0 : md39A.sl.r_5 c arg2 harg2 chan = g5 chan := by
    unfold md39A.sl.r_5 g5
    rw [hl0, hl1, hl2, hl3]
  have hl5 : md39A.sl.r_6 c arg2 harg2 chan = chx chan 0 5 := ld_ch arg2 harg2 chan 0 5 rfl _ _
  have hl6 : md39A.sl.r_7 c arg2 harg2 chan = chx chan 0 6 := ld_ch arg2 harg2 chan 0 6 rfl _ _
  have hl7 : md39A.sl.r_8 c arg2 harg2 chan = chx chan 0 7 := ld_ch arg2 harg2 chan 0 7 rfl _ _
  have hl8 : md39A.sl.r_9 c arg2 harg2 chan = chx chan 0 8 := ld_ch arg2 harg2 chan 0 8 rfl _ _
  have hl9 : md39A.sl.r_10 c arg2 harg2 chan = chx chan 0 9 := ld_ch arg2 harg2 chan 0 9 rfl _ _
  have hp1 : md39A.sl.r_11 c arg2 harg2 chan = g7 chan := by
    unfold md39A.sl.r_11 g7
    rw [hp0, hl4, hl5, hl6, hl7, hl8]
  have hl10 : md39A.sl.r_12 c arg2 harg2 chan = chx chan 0 10 := ld_ch arg2 harg2 chan 0 10 rfl _ _
  have hl11 : md39A.sl.r_13 c arg2 harg2 chan = chx chan 0 11 := ld_ch arg2 harg2 chan 0 11 rfl _ _
  have hl12 : md39A.sl.r_14 c arg2 harg2 chan = chx chan 0 12 := ld_ch arg2 harg2 chan 0 12 rfl _ _
  have hl13 : md39A.sl.r_15 c arg2 harg2 chan = chx chan 0 13 := ld_ch arg2 harg2 chan 0 13 rfl _ _
  have hl14 : md39A.sl.r_16 c arg2 harg2 chan = chx chan 0 14 := ld_ch arg2 harg2 chan 0 14 rfl _ _
  have hp2 : md39A.sl.r_17 c arg2 harg2 chan = g9 chan := by
    unfold md39A.sl.r_17 g9
    rw [hp1, hl9, hl10, hl11, hl12, hl13]
  have hl15 : md39A.sl.r_18 c arg2 harg2 chan = chx chan 0 15 := ld_ch arg2 harg2 chan 0 15 rfl _ _
  have hl16 : md39A.sl.r_19 c arg2 harg2 chan = chx chan 1 0 := ld_ch arg2 harg2 chan 1 0 rfl _ _
  have hl17 : md39A.sl.r_20 c arg2 harg2 chan = chx chan 1 1 := ld_ch arg2 harg2 chan 1 1 rfl _ _
  have hl18 : md39A.sl.r_21 c arg2 harg2 chan = chx chan 1 2 := ld_ch arg2 harg2 chan 1 2 rfl _ _
  have hl19 : md39A.sl.r_22 c arg2 harg2 chan = chx chan 1 3 := ld_ch arg2 harg2 chan 1 3 rfl _ _
  have hp3 : md39A.sl.r_23 c arg2 harg2 chan = g11 chan := by
    unfold md39A.sl.r_23 g11
    rw [hp2, hl14, hl15, hl16, hl17, hl18]
  have hl20 : md39A.sl.r_24 c arg2 harg2 chan = chx chan 1 4 := ld_ch arg2 harg2 chan 1 4 rfl _ _
  have hl21 : md39A.sl.r_25 c arg2 harg2 chan = chx chan 1 5 := ld_ch arg2 harg2 chan 1 5 rfl _ _
  have hl22 : md39A.sl.r_26 c arg2 harg2 chan = chx chan 1 6 := ld_ch arg2 harg2 chan 1 6 rfl _ _
  have hl23 : md39A.sl.r_27 c arg2 harg2 chan = chx chan 1 7 := ld_ch arg2 harg2 chan 1 7 rfl _ _
  have hl24 : md39A.sl.r_28 c arg2 harg2 chan = chx chan 1 8 := ld_ch arg2 harg2 chan 1 8 rfl _ _
  have hp4 : md39A.sl.r_29 c arg2 harg2 chan = g13 chan := by
    unfold md39A.sl.r_29 g13
    rw [hp3, hl19, hl20, hl21, hl22, hl23]
  have hl25 : md39A.sl.r_30 c arg2 harg2 chan = chx chan 1 9 := ld_ch arg2 harg2 chan 1 9 rfl _ _
  have hl26 : md39A.sl.r_31 c arg2 harg2 chan = chx chan 1 10 := ld_ch arg2 harg2 chan 1 10 rfl _ _
  have hl27 : md39A.sl.r_32 c arg2 harg2 chan = chx chan 1 11 := ld_ch arg2 harg2 chan 1 11 rfl _ _
  have hl28 : md39A.sl.r_33 c arg2 harg2 chan = chx chan 1 12 := ld_ch arg2 harg2 chan 1 12 rfl _ _
  have hl29 : md39A.sl.r_34 c arg2 harg2 chan = chx chan 1 13 := ld_ch arg2 harg2 chan 1 13 rfl _ _
  have hp5 : md39A.sl.r_35 c arg2 harg2 chan = g15 chan := by
    unfold md39A.sl.r_35 g15
    rw [hp4, hl24, hl25, hl26, hl27, hl28]
  have hl30 : md39A.sl.r_36 c arg2 harg2 chan = chx chan 1 14 := ld_ch arg2 harg2 chan 1 14 rfl _ _
  have hl31 : md39A.sl.r_37 c arg2 harg2 chan = chx chan 1 15 := ld_ch arg2 harg2 chan 1 15 rfl _ _
  have hP : k0_pay42 (F := F) u118 u174 (md39A.sl.r_35 c arg2 harg2 chan) (k0_pay16 u118 u174) (md39A.sl.r_34 c arg2 harg2 chan) (md39A.sl.r_36 c arg2 harg2 chan) (md39A.sl.r_37 c arg2 harg2 chan) = PK chan := by
    unfold PK
    rw [hp5, hl29, hl30, hl31]
  unfold md39A.sl.v194 md39A.sl.H2_1
  rw [hP]
  rw [ld_all arg5 x harg5 ![0, 0] rfl]
  rw [rc_all _ ![0, 0] rfl]
  rw [wp_ret]
  imodintro
  iapply HK $$ [H0] [H1]
  · iexists _; isplitr
    · ipureintro; exact harg2.read_unread _
    iexact H0
  · iexists _; isplitr
    · ipureintro; exact harg5.read_unread _
    iexact H1
  iexists _; isplitr
  swap; · iexact H2
  ipureintro
  exact wr_all _ _ ![0, 0] rfl _ _

theorem md39B (i : grid0.Coords) (chan : Vec F S2x16 .i32) (x : Vec F S8x1536 .bf16) (v158 : IVec S1x256 32) {Q : (Σ' (v195 : FVec F S96x256 .f32) (v196 : IVec S96x1 32) (v215 : IVec S96x256 1) (c48_i32 : BitVec 32) (v217 : IVec S96x1 32), IVec S96x1 32) → sProp (MM F)} :
    iprop(owns (Val := Elt F) (c : Thread nD τ) arg2 fullShare chan ∗ owns (Val := Elt F) (c : Thread nD τ) arg5 fullShare x ∗ owns (Val := Elt F) (c : Thread nD τ) (Memref.whole cc0_scratch2 : Memref sig .tc .vmem S128x256 .bf16) fullShare (PK chan) ∗ (owns (Val := Elt F) (c : Thread nD τ) arg2 fullShare chan -∗ owns (Val := Elt F) (c : Thread nD τ) arg5 fullShare x -∗ owns (Val := Elt F) (c : Thread nD τ) (Memref.whole cc0_scratch2 : Memref sig .tc .vmem S128x256 .bf16) fullShare (PK chan) -∗ Q ⟨k0_pay43 x (PK chan), iota .tc S96x1 32 [0] iota_S96x1_d0_w32, k0_pay44 v158, 48#32, k0_pay45, k0_pay46⟩)) ⊢ wp frame (wpE (defs₀ (F := F)) Variants.none c none) Set.univ (k0_part39 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 u118 v158 u174 0#1) Q := by
  rw [k0_part39_eq_skeleton]; unfold k0_part39_skel
  simp only [k0_part26_eq_skeleton, k0_part27_eq_skeleton, k0_part28_eq_skeleton, k0_part29_eq_skeleton, k0_part30_eq_skeleton, k0_part31_eq_skeleton]
  unfold owns
  iintro ⟨⟨%f0, %hf0, H0⟩, ⟨%f1, %hf1, H1⟩, ⟨%f2, %hf2, H2⟩, HK⟩
  obtain rfl := harg2.eq_unread hf0
  obtain rfl := harg5.eq_unread hf1
  sl_exec
  rw [ld_all arg5 x harg5 ![0, 0] rfl]
  rw [rd_all _ _ ![0, 0] rfl, hf2]
  rw [wp_ret]
  imodintro
  iapply HK $$ [H0] [H1]
  · iexists _; isplitr
    · ipureintro; exact harg2.read_unread _
    iexact H0
  · iexists _; isplitr
    · ipureintro; exact harg5.read_unread _
    iexact H1
  iexists _; isplitr
  swap; · iexact H2
  ipureintro
  exact hf2

end Cert.Label.Hand

end
-- ==== Proof.LabelLoop.lean ====
module

public import proofs.«01_k».proof.Proof.LabelMid
public import proofs.«01_k».proof.Proof.Gen.Label.Skeleton
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The trips of a step -/

/-- The elements of a slot of the word scratch, and of the scale scratch. -/
def slotW (k : Fin 2) : Finset S2x32x8192.Idx := Finset.univ.filter fun i => (i 0).val = k.val
def slotS (k : Fin 2) : Finset S2x2x8x8192.Idx := Finset.univ.filter fun i => (i 0).val = k.val

theorem off112 : ∀ (t : Fin cfg0.N) (j : Fin k0_t1_loop.trips), k0_off112 (grid0.coords t) j = ![(sl t).val, 0, 1024 * j.val] := by decide +kernel
theorem off113 : ∀ (t : Fin cfg0.N) (j : Fin k0_t1_loop.trips), k0_off113 (grid0.coords t) j = ![(sl t).val, 0, 0, 1024 * j.val] := by decide +kernel
theorem off120 : ∀ (t : Fin cfg0.N) (j : Fin k0_t1_loop.trips), k0_off120 (grid0.coords t) j = ![(sl t).val, 1, 0, 1024 * j.val] := by decide +kernel

theorem ldW_sub (t : Fin cfg0.N) (j : Fin k0_t1_loop.trips) :
    (Memref.whole cc0_scratch0 : Memref sig .tc .vmem S2x32x8192 .i32).view.setOn (Rect.unit (s := S2x32x8192) (k0_off112 (grid0.coords t) j) S1x32x1024.size (k0_off112_inb (grid0.coords t) j)).toLoadRect.set ⊆ slotW (sl t) := by
  intro i hi
  obtain ⟨y, hy, rfl⟩ := Finset.mem_map.mp hi
  have h := Rect.mem_set_unit.mp (show y ∈ (Rect.unit (s := S2x32x8192) (k0_off112 (grid0.coords t) j) S1x32x1024.size (k0_off112_inb (grid0.coords t) j)).set from hy) 0
  rw [off112] at h
  refine Finset.mem_filter.mpr ⟨Finset.mem_univ _, ?_⟩
  show (y 0).val = (sl t).val
  have h1 : (sl t).val ≤ (y 0).val := h.1
  have h2 : (y 0).val < (sl t).val + 1 := h.2
  omega
theorem ldS_sub113 (t : Fin cfg0.N) (j : Fin k0_t1_loop.trips) :
    (Memref.whole cc0_scratch1 : Memref sig .tc .vmem S2x2x8x8192 .f32).view.setOn (Rect.unit (s := S2x2x8x8192) (k0_off113 (grid0.coords t) j) S1x1x8x1024.size (k0_off113_inb (grid0.coords t) j)).toLoadRect.set ⊆ slotS (sl t) := by
  intro i hi
  obtain ⟨y, hy, rfl⟩ := Finset.mem_map.mp hi
  have h := Rect.mem_set_unit.mp (show y ∈ (Rect.unit (s := S2x2x8x8192) (k0_off113 (grid0.coords t) j) S1x1x8x1024.size (k0_off113_inb (grid0.coords t) j)).set from hy) 0
  rw [off113] at h
  refine Finset.mem_filter.mpr ⟨Finset.mem_univ _, ?_⟩
  show (y 0).val = (sl t).val
  have h1 : (sl t).val ≤ (y 0).val := h.1
  have h2 : (y 0).val < (sl t).val + 1 := h.2
  omega
theorem ldS_sub120 (t : Fin cfg0.N) (j : Fin k0_t1_loop.trips) :
    (Memref.whole cc0_scratch1 : Memref sig .tc .vmem S2x2x8x8192 .f32).view.setOn (Rect.unit (s := S2x2x8x8192) (k0_off120 (grid0.coords t) j) S1x1x8x1024.size (k0_off120_inb (grid0.coords t) j)).toLoadRect.set ⊆ slotS (sl t) := by
  intro i hi
  obtain ⟨y, hy, rfl⟩ := Finset.mem_map.mp hi
  have h := Rect.mem_set_unit.mp (show y ∈ (Rect.unit (s := S2x2x8x8192) (k0_off120 (grid0.coords t) j) S1x1x8x1024.size (k0_off120_inb (grid0.coords t) j)).set from hy) 0
  rw [off120] at h
  refine Finset.mem_filter.mpr ⟨Finset.mem_univ _, ?_⟩
  show (y 0).val = (sl t).val
  have h1 : (sl t).val ≤ (y 0).val := h.1
  have h2 : (y 0).val < (sl t).val + 1 := h.2
  omega

/-- The words a trip loads, and its two scale blocks. -/
def ldW (W : Vec F S96x2x2x8192 .i32) (n : Fin 12) (i : grid0.Coords) (j : Fin k0_t1_loop.trips) : Vec F S1x32x1024 .i32 :=
  (Memref.whole cc0_scratch0 : Memref sig .tc .vmem S2x32x8192 .i32).view.readAt (Elt F) (Rect.unit (s := S2x32x8192) (k0_off112 i j) S1x32x1024.size (k0_off112_inb i j)).toLoadRect (Gw W n)
def ldS0 (S : Vec F S96x2x8192 .f32) (n : Fin 12) (i : grid0.Coords) (j : Fin k0_t1_loop.trips) : Vec F S1x1x8x1024 .f32 :=
  (Memref.whole cc0_scratch1 : Memref sig .tc .vmem S2x2x8x8192 .f32).view.readAt (Elt F) (Rect.unit (s := S2x2x8x8192) (k0_off113 i j) S1x1x8x1024.size (k0_off113_inb i j)).toLoadRect (Gs S n)
def ldS1 (S : Vec F S96x2x8192 .f32) (n : Fin 12) (i : grid0.Coords) (j : Fin k0_t1_loop.trips) : Vec F S1x1x8x1024 .f32 :=
  (Memref.whole cc0_scratch1 : Memref sig .tc .vmem S2x2x8x8192 .f32).view.readAt (Elt F) (Rect.unit (s := S2x2x8x8192) (k0_off120 i j) S1x1x8x1024.size (k0_off120_inb i j)).toLoadRect (Gs S n)

/-- The trip's number as the program counts it, and the columns' numbers. -/
def jv (j : Fin k0_t1_loop.trips) : BitVec 32 := Scalar.addi 0#32 (Scalar.muli (Scf.iv 0#32 1#32 j) 1#32)
abbrev cols : IVec S8x1024 32 := iota .tc S8x1024 32 [1] iota_S8x1024_d1_w32

section Pieces
variable (v246 : FVec F S96x256 .bf16) (v312 : IVec S8x1 32) (W : Vec F S96x2x2x8192 .i32) (S : Vec F S96x2x8192 .f32) (n : Fin 12) (i : grid0.Coords) (j : Fin k0_t1_loop.trips)
/-- The products, the mask and the scales of a trip. -/
def q737 : FVec F S96x1024 .f32 := k0_pay17 v246 (ldW W n i j)
def q743 : IVec S8x1024 1 := k0_pay18 v312 (jv j) cols
def q749 : FVec F S8x1024 .f32 := k0_pay19 (ldS0 S n i j)
def q777 : FVec F S8x1024 .f32 := k0_pay23 v312 (jv j) (q737 v246 W n i j) cols (ldS0 S n i j)
def q803 : FVec F S8x1024 .f32 := k0_pay27 (ldS1 S n i j)
/-- What a trip stores, last first. -/
def pcA : List (View.Piece (Elt F) S12x8x8192 .f32) := [⟨Rect.unit (s := S12x8x8192) (k0_off116 j) S1x8x1024.size (k0_off116_inb j), k0_pay22 v312 (jv j) (q737 v246 W n i j) cols (ldS0 S n i j)⟩,
  ⟨Rect.unit (s := S12x8x8192) (k0_off115 j) S1x8x1024.size (k0_off115_inb j), k0_pay21 v312 (jv j) (q737 v246 W n i j) cols (ldS0 S n i j)⟩,
  ⟨Rect.unit (s := S12x8x8192) (k0_off114 j) S1x8x1024.size (k0_off114_inb j), k0_pay20 v312 (jv j) (q737 v246 W n i j) cols (ldS0 S n i j)⟩]
def pcB : List (View.Piece (Elt F) S12x8x8192 .f32) := [⟨Rect.unit (s := S12x8x8192) (k0_off122 j) S1x8x1024.size (k0_off122_inb j), k0_pay29 (q737 v246 W n i j) (q743 v312 j) (ldS1 S n i j)⟩,
  ⟨Rect.unit (s := S12x8x8192) (k0_off121 j) S1x8x1024.size (k0_off121_inb j), k0_pay28 (q737 v246 W n i j) (q743 v312 j) (ldS1 S n i j)⟩,
  ⟨Rect.unit (s := S12x8x8192) (k0_off119 j) S1x8x1024.size (k0_off119_inb j), k0_pay26 (q737 v246 W n i j) (q743 v312 j) (q749 S n i j)⟩,
  ⟨Rect.unit (s := S12x8x8192) (k0_off118 j) S1x8x1024.size (k0_off118_inb j), k0_pay25 (q737 v246 W n i j) (q743 v312 j) (q749 S n i j)⟩,
  ⟨Rect.unit (s := S12x8x8192) (k0_off117 j) S1x8x1024.size (k0_off117_inb j), k0_pay24 (q777 v246 v312 W S n i j)⟩]
def pcC : List (View.Piece (Elt F) S12x8x8192 .f32) := [⟨Rect.unit (s := S12x8x8192) (k0_off126 j) S1x8x1024.size (k0_off126_inb j), k0_pay4 (q737 v246 W n i j) (q743 v312 j) (q803 S n i j)⟩,
  ⟨Rect.unit (s := S12x8x8192) (k0_off125 j) S1x8x1024.size (k0_off125_inb j), k0_pay3 (q737 v246 W n i j) (q743 v312 j) (q803 S n i j)⟩,
  ⟨Rect.unit (s := S12x8x8192) (k0_off124 j) S1x8x1024.size (k0_off124_inb j), k0_pay2 (q737 v246 W n i j) (q743 v312 j) (q803 S n i j)⟩,
  ⟨Rect.unit (s := S12x8x8192) (k0_off123 j) S1x8x1024.size (k0_off123_inb j), k0_pay1 (q737 v246 W n i j) (q743 v312 j) (q803 S n i j)⟩]
end Pieces

variable (c : Dev nD) (v246 : FVec F S96x256 .bf16) (v312 : IVec S8x1 32) (W : Vec F S96x2x2x8192 .i32) (S : Vec F S96x2x8192 .f32) (n : Fin 12)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)
/-- A store of a box of the output, and a load of one. -/
theorem st6 {g : Buf (Elt F) (arg6.view.loc (c : Thread nD τ))} {of : Fin 3 → ℕ} {h} {w : Vec F S1x8x1024 .f32} {hx hm} {α : Type} {K : PUnit → Prog (TpuEff nD τ sig (Elt F) Λ₀ .tc) α} {Q : α → sProp (MM F)} {L : List (View.Piece (Elt F) S12x8x8192 .f32)} :
    iprop(arg6.view.loc (c : Thread nD τ) ↦[arg6.view.set]{fullShare} (arg6.view.writes (Elt F) g L)) ⊢ iprop((iprop(arg6.view.loc (c : Thread nD τ) ↦[arg6.view.set]{fullShare} (arg6.view.writes (Elt F) g (⟨Rect.unit (s := S12x8x8192) of S1x8x1024.size h, w⟩ :: L))) -∗ wp frame (wpE (defs₀ (F := F)) Variants.none c none) Set.univ (K ⟨⟩) Q) -∗ wp frame (wpE (defs₀ (F := F)) Variants.none c none) Set.univ (.op (.store arg6 (Rect.unit (s := S12x8x8192) of S1x8x1024.size h) w Finset.univ hx hm) K) Q) := by
  exact wp_store (defs := defs₀ (F := F)) Variants.none (c : Thread nD τ) none Set.univ (m := arg6) (r := Rect.unit (s := S12x8x8192) of S1x8x1024.size h) (w := w) (Mk := Finset.univ) (hx := hx) (hm := hm) (k := K) (Q := Q)
    (S := arg6.view.set) (f := arg6.view.writes (Elt F) g L) (Memref.setOn_access_subset arg6 _ _)
theorem ld6 {g : Buf (Elt F) (arg6.view.loc (c : Thread nD τ))} {of : Fin 3 → ℕ} {h} {hl} {α : Type} {K : Vec F S1x8x1024 .f32 → Prog (TpuEff nD τ sig (Elt F) Λ₀ .tc) α} {Q : α → sProp (MM F)} :
    iprop(arg6.view.loc (c : Thread nD τ) ↦[arg6.view.set]{fullShare} g) ⊢ iprop((iprop(arg6.view.loc (c : Thread nD τ) ↦[arg6.view.set]{fullShare} g) -∗ wp frame (wpE (defs₀ (F := F)) Variants.none c none) Set.univ (K (arg6.view.readAt (Elt F) (Rect.unit (s := S12x8x8192) of S1x8x1024.size h).toLoadRect g)) Q) -∗ wp frame (wpE (defs₀ (F := F)) Variants.none c none) Set.univ (.op (.load arg6 (Rect.unit (s := S12x8x8192) of S1x8x1024.size h).toLoadRect hl) K) Q) :=
  wp_load Variants.none (c : Thread nD τ) none Set.univ (View.setOn_subset_set _ _)

theorem tr32 (t : Fin cfg0.N) (j : Fin k0_t1_loop.trips) (v0 : BitVec 32) {Q : (Σ' (v699 : BitVec 32) (v701 : BitVec 32) (v737 : FVec F S96x1024 .f32), IVec S8x1024 32) → sProp (MM F)} :
    iprop((wBuf c ↦[slotW (sl t)]{fullShare} Gw W n) ∗ ((wBuf c ↦[slotW (sl t)]{fullShare} Gw W n) -∗ Q ⟨jv j, Scalar.muli (jv j) 1024#32, q737 v246 W n (grid0.coords t) j, cols⟩)) ⊢ wp frame (wpE (defs₀ (F := F)) Variants.none c none) Set.univ (k0_part32 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v246 0#32 1#32 j) Q := by
  rw [k0_part32_eq_skeleton]; unfold k0_part32_skel
  unfold jv q737 ldW
  iintro ⟨HW, HK⟩
  iapply (wp_load Variants.none (c : Thread nD τ) none Set.univ (ldW_sub t j)) $$ HW
  iintro HW
  simp only [ret_bind]
  rw [wp_pure]
  imodintro
  iapply HK
  iexact HW

theorem tr33 (t : Fin cfg0.N) (j : Fin k0_t1_loop.trips) (v0 v701 : BitVec 32) (g : Buf (Elt F) (arg6.view.loc (c : Thread nD τ))) (L : List (View.Piece (Elt F) S12x8x8192 .f32)) {Q : (Σ' (v743 : IVec S8x1024 1) (v749 : FVec F S8x1024 .f32) (v777 : FVec F S8x1024 .f32), Vec F S1x8x1024 .f32) → sProp (MM F)} :
    iprop((sBuf c ↦[slotS (sl t)]{fullShare} Gs S n) ∗ (arg6.view.loc (c : Thread nD τ) ↦[arg6.view.set]{fullShare} arg6.view.writes (Elt F) g L) ∗ ((sBuf c ↦[slotS (sl t)]{fullShare} Gs S n) -∗ (arg6.view.loc (c : Thread nD τ) ↦[arg6.view.set]{fullShare} arg6.view.writes (Elt F) g (pcA v246 v312 W S n (grid0.coords t) j ++ L)) -∗ ∀ b, Q ⟨q743 v312 j, q749 S n (grid0.coords t) j, q777 v246 v312 W S n (grid0.coords t) j, b⟩)) ⊢ wp frame (wpE (defs₀ (F := F)) Variants.none c none) Set.univ (k0_part33 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v312 j (jv j) v701 (q737 v246 W n (grid0.coords t) j) cols) Q := by
  rw [k0_part33_eq_skeleton]; unfold k0_part33_skel
  unfold pcA q743 q749 q777 ldS0
  simp only [List.cons_append, List.nil_append]
  iintro ⟨HS, H6, HK⟩
  iapply (wp_load Variants.none (c : Thread nD τ) none Set.univ (ldS_sub113 t j)) $$ HS
  iintro HS
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  rw [wp_pure]
  imodintro
  ispecialize HK $$ HS
  ispecialize HK $$ H6
  iapply HK

theorem tr34 (t : Fin cfg0.N) (j : Fin k0_t1_loop.trips) (v0 v701 : BitVec 32) (b : Vec F S1x8x1024 .f32) (g : Buf (Elt F) (arg6.view.loc (c : Thread nD τ))) (L : List (View.Piece (Elt F) S12x8x8192 .f32)) {Q : (FVec F S8x1024 .f32) → sProp (MM F)} :
    iprop((sBuf c ↦[slotS (sl t)]{fullShare} Gs S n) ∗ (arg6.view.loc (c : Thread nD τ) ↦[arg6.view.set]{fullShare} arg6.view.writes (Elt F) g L) ∗ ((sBuf c ↦[slotS (sl t)]{fullShare} Gs S n) -∗ (arg6.view.loc (c : Thread nD τ) ↦[arg6.view.set]{fullShare} arg6.view.writes (Elt F) g (pcB v246 v312 W S n (grid0.coords t) j ++ L)) -∗ Q (q803 S n (grid0.coords t) j))) ⊢ wp frame (wpE (defs₀ (F := F)) Variants.none c none) Set.univ (k0_part34 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 j v701 (q737 v246 W n (grid0.coords t) j) (q743 v312 j) (q749 S n (grid0.coords t) j) (q777 v246 v312 W S n (grid0.coords t) j) b) Q := by
  rw [k0_part34_eq_skeleton]; unfold k0_part34_skel
  unfold pcB q803 ldS1
  simp only [List.cons_append, List.nil_append]
  iintro ⟨HS, H6, HK⟩
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (wp_load Variants.none (c : Thread nD τ) none Set.univ (ldS_sub120 t j)) $$ HS
  iintro HS
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  rw [wp_pure]
  imodintro
  ispecialize HK $$ HS
  iapply HK
  iexact H6

/-- All a trip stores, last first, and all the first `k` trips store. -/
def pcs (v246 : FVec F S96x256 .bf16) (v312 : IVec S8x1 32) (W : Vec F S96x2x2x8192 .i32) (S : Vec F S96x2x8192 .f32) (n : Fin 12) (i : grid0.Coords) (j : Fin k0_t1_loop.trips) : List (View.Piece (Elt F) S12x8x8192 .f32) :=
  pcC v246 v312 W S n i j ++ (pcB v246 v312 W S n i j ++ pcA v246 v312 W S n i j)
def pcsTo (v246 : FVec F S96x256 .bf16) (v312 : IVec S8x1 32) (W : Vec F S96x2x2x8192 .i32) (S : Vec F S96x2x8192 .f32) (n : Fin 12) (i : grid0.Coords) : ℕ → List (View.Piece (Elt F) S12x8x8192 .f32)
  | 0 => []
  | k + 1 => (if h : k < k0_t1_loop.trips then pcs v246 v312 W S n i ⟨k, h⟩ else []) ++ pcsTo v246 v312 W S n i k

theorem trip (t : Fin cfg0.N) (j : Fin k0_t1_loop.trips) (v0 : BitVec 32) (g : Buf (Elt F) (arg6.view.loc (c : Thread nD τ))) (L : List (View.Piece (Elt F) S12x8x8192 .f32)) {Q : Unit → sProp (MM F)} :
    iprop((wBuf c ↦[slotW (sl t)]{fullShare} Gw W n) ∗ (sBuf c ↦[slotS (sl t)]{fullShare} Gs S n) ∗ (arg6.view.loc (c : Thread nD τ) ↦[arg6.view.set]{fullShare} arg6.view.writes (Elt F) g L) ∗ ((wBuf c ↦[slotW (sl t)]{fullShare} Gw W n) -∗ (sBuf c ↦[slotS (sl t)]{fullShare} Gs S n) -∗ (arg6.view.loc (c : Thread nD τ) ↦[arg6.view.set]{fullShare} arg6.view.writes (Elt F) g (pcs v246 v312 W S n (grid0.coords t) j ++ L)) -∗ Q ⟨⟩)) ⊢ wp frame (wpE (defs₀ (F := F)) Variants.none c none) Set.univ (k0_t1_body (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v246 v312 j ⟨⟩) Q := by
  unfold k0_t1_body
  iintro ⟨HW, HS, H6, HK⟩
  rw [wp_bind]
  iapply (tr32 c v246 W n arg1 harg1 arg2 harg2 arg5 harg5 arg6 harg6 t j v0)
  isplitl [HW]; · iexact HW
  iintro HW
  dsimp only
  rw [wp_bind]
  iapply (tr33 c v246 v312 W S n arg1 harg1 arg2 harg2 arg5 harg5 arg6 harg6 t j v0 _ g L)
  isplitl [HS]; · iexact HS
  isplitl [H6]; · iexact H6
  iintro HS H6 %b
  dsimp only
  rw [wp_bind]
  iapply (tr34 c v246 v312 W S n arg1 harg1 arg2 harg2 arg5 harg5 arg6 harg6 t j v0 _ b g _)
  isplitl [HS]; · iexact HS
  isplitl [H6]; · iexact H6
  iintro HS H6
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  rw [wp_pure]
  imodintro
  ispecialize HK $$ HW
  ispecialize HK $$ HS
  iapply HK
  unfold pcs pcC
  rw [List.append_assoc, List.append_assoc]
  simp only [List.cons_append, List.nil_append]
  iexact H6

theorem loop (t : Fin cfg0.N) (v0 : BitVec 32) (g : Buf (Elt F) (arg6.view.loc (c : Thread nD τ))) {Q : Unit → sProp (MM F)} :
    iprop((wBuf c ↦[slotW (sl t)]{fullShare} Gw W n) ∗ (sBuf c ↦[slotS (sl t)]{fullShare} Gs S n) ∗ (arg6.view.loc (c : Thread nD τ) ↦[arg6.view.set]{fullShare} g) ∗ ((wBuf c ↦[slotW (sl t)]{fullShare} Gw W n) -∗ (sBuf c ↦[slotS (sl t)]{fullShare} Gs S n) -∗ (arg6.view.loc (c : Thread nD τ) ↦[arg6.view.set]{fullShare} arg6.view.writes (Elt F) g (pcsTo v246 v312 W S n (grid0.coords t) k0_t1_loop.trips)) -∗ Q ⟨⟩)) ⊢ wp frame (wpE (defs₀ (F := F)) Variants.none c none) Set.univ (Scf.Loop.for k0_t1_loop k0_t1_ok ⟨⟩ (k0_t1_body (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v246 v312)) Q := by
  have hb : ∀ (k : Fin k0_t1_loop.trips) (acc : Unit), iprop((wBuf c ↦[slotW (sl t)]{fullShare} Gw W n) ∗ (sBuf c ↦[slotS (sl t)]{fullShare} Gs S n) ∗ (arg6.view.loc (c : Thread nD τ) ↦[arg6.view.set]{fullShare} arg6.view.writes (Elt F) g (pcsTo v246 v312 W S n (grid0.coords t) k.val))) ⊢
      wp frame (wpE (defs₀ (F := F)) Variants.none c none) Set.univ (k0_t1_body (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v246 v312 k acc) ((fun _ => iprop((wBuf c ↦[slotW (sl t)]{fullShare} Gw W n) ∗ (sBuf c ↦[slotS (sl t)]{fullShare} Gs S n) ∗ (arg6.view.loc (c : Thread nD τ) ↦[arg6.view.set]{fullShare} arg6.view.writes (Elt F) g (pcsTo v246 v312 W S n (grid0.coords t) (k.val + 1))))) : Unit → sProp (MM F)) := by
    intro k acc
    iintro ⟨HW, HS, H6⟩
    iapply (trip c v246 v312 W S n arg1 harg1 arg2 harg2 arg5 harg5 arg6 harg6 t k v0 g _)
    isplitl [HW]; · iexact HW
    isplitl [HS]; · iexact HS
    isplitl [H6]; · iexact H6
    iintro HW HS H6
    isplitl [HW]; · iexact HW
    isplitl [HS]; · iexact HS
    rw [pcsTo, dif_pos k.isLt]
    iexact H6
  iintro ⟨HW, HS, H6, HK⟩
  iapply (Scf.wp_for frame (wpE (defs₀ (F := F)) Variants.none c none) Set.univ _ _ _ k0_t1_ok ⟨⟩ _
    (fun k (_ : Unit) => iprop((wBuf c ↦[slotW (sl t)]{fullShare} Gw W n) ∗ (sBuf c ↦[slotS (sl t)]{fullShare} Gs S n) ∗ (arg6.view.loc (c : Thread nD τ) ↦[arg6.view.set]{fullShare} arg6.view.writes (Elt F) g (pcsTo v246 v312 W S n (grid0.coords t) k)))) hb)
  isplitl [HW HS H6]
  · isplitl [HW]; · iexact HW
    isplitl [HS]; · iexact HS
    iexact H6
  · iintro %acc ⟨HW, HS, H6⟩
    ispecialize HK $$ HW
    ispecialize HK $$ HS
    iapply HK
    iexact H6

end Cert.Label.Hand

end
-- ==== Proof.LabelSlots.lean ====
module

public import proofs.«01_k».proof.Proof.LabelLoop
public import proofs.«01_k».proof.Proof.Gen.Label.Skeleton
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A slot and its rows -/

theorem mem_wRow (k : Fin 2) (p : Fin 32) (i : S2x32x8192.Idx) : i ∈ (wRow k p).view.set ↔ (i 0).val = k.val ∧ (i 1).val = (p.val % 2) * 16 + p.val / 2 := by
  have e : ((wRow k p).view.set : Finset S2x32x8192.Idx) = (Rect.unit (s := S2x32x8192) (wOff k p) S1x1x8192.size (wOff_inb k p)).set :=
    (View.set_reshape _ _).trans (View.set_slice_whole cc0_scratch0 _)
  refine (Eq.to_iff (congrArg (fun s : Finset S2x32x8192.Idx => i ∈ s) e)).trans (Rect.mem_set_unit.trans ?_)
  constructor
  · intro h
    have h0 : k.val ≤ (i 0).val ∧ (i 0).val < k.val + 1 := h 0
    have h1 : (p.val % 2) * 16 + p.val / 2 ≤ (i 1).val ∧ (i 1).val < (p.val % 2) * 16 + p.val / 2 + 1 := h 1
    omega
  · rintro ⟨h0, h1⟩ a; fin_cases a
    · show k.val ≤ (i 0).val ∧ (i 0).val < k.val + 1; omega
    · show (p.val % 2) * 16 + p.val / 2 ≤ (i 1).val ∧ (i 1).val < (p.val % 2) * 16 + p.val / 2 + 1; omega
    · exact ⟨Nat.zero_le _, lt_of_lt_of_eq (i 2).isLt (Nat.zero_add _).symm⟩
theorem mem_wSrc (n : Fin 12) (p : Fin 32) (i : S96x2x2x8192.Idx) : i ∈ (wSrc n p).view.set ↔ (i 0).val = 8 * n.val + p.val / 4 ∧ (i 1).val = (p.val / 2) % 2 ∧ (i 2).val = p.val % 2 := by
  have e : ((wSrc n p).view.set : Finset S96x2x2x8192.Idx) = (Rect.unit (s := S96x2x2x8192) (wFrom n p) S1x1x1x8192.size (wFrom_inb n p)).set :=
    (View.set_reshape _ _).trans (View.set_slice_whole main_arg2 _)
  refine (Eq.to_iff (congrArg (fun s : Finset S96x2x2x8192.Idx => i ∈ s) e)).trans (Rect.mem_set_unit.trans ?_)
  constructor
  · intro h
    have h0 : 8 * n.val + p.val / 4 ≤ (i 0).val ∧ (i 0).val < 8 * n.val + p.val / 4 + 1 := h 0
    have h1 : (p.val / 2) % 2 ≤ (i 1).val ∧ (i 1).val < (p.val / 2) % 2 + 1 := h 1
    have h2 : p.val % 2 ≤ (i 2).val ∧ (i 2).val < p.val % 2 + 1 := h 2
    exact ⟨by omega, by omega, by omega⟩
  · rintro ⟨h0, h1, h2⟩ a; fin_cases a
    · show 8 * n.val + p.val / 4 ≤ (i 0).val ∧ (i 0).val < 8 * n.val + p.val / 4 + 1; omega
    · show (p.val / 2) % 2 ≤ (i 1).val ∧ (i 1).val < (p.val / 2) % 2 + 1; omega
    · show p.val % 2 ≤ (i 2).val ∧ (i 2).val < p.val % 2 + 1; omega
    · exact ⟨Nat.zero_le _, lt_of_lt_of_eq (i 3).isLt (Nat.zero_add _).symm⟩
theorem mem_sRow (k : Fin 2) (p : Fin 16) (i : S2x2x8x8192.Idx) : i ∈ (sRow k p).view.set ↔ (i 0).val = k.val ∧ (i 1).val = p.val % 2 ∧ (i 2).val = p.val / 2 := by
  have e : ((sRow k p).view.set : Finset S2x2x8x8192.Idx) = (Rect.unit (s := S2x2x8x8192) (sOff k p) S1x1x1x8192.size (sOff_inb k p)).set :=
    (View.set_reshape _ _).trans (View.set_slice_whole cc0_scratch1 _)
  refine (Eq.to_iff (congrArg (fun s : Finset S2x2x8x8192.Idx => i ∈ s) e)).trans (Rect.mem_set_unit.trans ?_)
  constructor
  · intro h
    have h0 : k.val ≤ (i 0).val ∧ (i 0).val < k.val + 1 := h 0
    have h1 : p.val % 2 ≤ (i 1).val ∧ (i 1).val < p.val % 2 + 1 := h 1
    have h2 : p.val / 2 ≤ (i 2).val ∧ (i 2).val < p.val / 2 + 1 := h 2
    exact ⟨by omega, by omega, by omega⟩
  · rintro ⟨h0, h1, h2⟩ a; fin_cases a
    · show k.val ≤ (i 0).val ∧ (i 0).val < k.val + 1; omega
    · show p.val % 2 ≤ (i 1).val ∧ (i 1).val < p.val % 2 + 1; omega
    · show p.val / 2 ≤ (i 2).val ∧ (i 2).val < p.val / 2 + 1; omega
    · exact ⟨Nat.zero_le _, lt_of_lt_of_eq (i 3).isLt (Nat.zero_add _).symm⟩
theorem mem_sSrc (n : Fin 12) (p : Fin 16) (i : S96x2x8192.Idx) : i ∈ (sSrc n p).view.set ↔ (i 0).val = 8 * n.val + p.val / 2 ∧ (i 1).val = p.val % 2 := by
  have e : ((sSrc n p).view.set : Finset S96x2x8192.Idx) = (Rect.unit (s := S96x2x8192) (sFrom n p) S1x1x8192.size (sFrom_inb n p)).set :=
    (View.set_reshape _ _).trans (View.set_slice_whole main_arg3 _)
  refine (Eq.to_iff (congrArg (fun s : Finset S96x2x8192.Idx => i ∈ s) e)).trans (Rect.mem_set_unit.trans ?_)
  constructor
  · intro h
    have h0 : 8 * n.val + p.val / 2 ≤ (i 0).val ∧ (i 0).val < 8 * n.val + p.val / 2 + 1 := h 0
    have h1 : p.val % 2 ≤ (i 1).val ∧ (i 1).val < p.val % 2 + 1 := h 1
    exact ⟨by omega, by omega⟩
  · rintro ⟨h0, h1⟩ a; fin_cases a
    · show 8 * n.val + p.val / 2 ≤ (i 0).val ∧ (i 0).val < 8 * n.val + p.val / 2 + 1; omega
    · show p.val % 2 ≤ (i 1).val ∧ (i 1).val < p.val % 2 + 1; omega
    · exact ⟨Nat.zero_le _, lt_of_lt_of_eq (i 2).isLt (Nat.zero_add _).symm⟩

theorem two_row {a b : ℕ} (ha : a < 32) (hb : b < 32) (h : (a % 2) * 16 + a / 2 = (b % 2) * 16 + b / 2) : a = b := by
  rcases Nat.mod_two_eq_zero_or_one a with h1 | h1 <;> rcases Nat.mod_two_eq_zero_or_one b with h2 | h2 <;> rw [h1, h2] at h <;> omega

theorem wRow_disj (k : Fin 2) : ∀ p ∈ (Finset.univ : Finset (Fin 32)), ∀ p' ∈ (Finset.univ : Finset (Fin 32)), p ≠ p' → Disjoint (wRow k p).view.set (wRow k p').view.set := by
  intro p _ p' _ hne
  refine Finset.disjoint_left.mpr fun i h h' => hne (Fin.ext ?_)
  exact two_row p.isLt p'.isLt (((mem_wRow k p i).mp h).2.symm.trans ((mem_wRow k p' i).mp h').2)
theorem wSrc_disj (n : Fin 12) : ∀ p ∈ (Finset.univ : Finset (Fin 32)), ∀ p' ∈ (Finset.univ : Finset (Fin 32)), p ≠ p' → Disjoint (wSrc n p).view.set (wSrc n p').view.set := by
  intro p _ p' _ hne
  refine Finset.disjoint_left.mpr fun i h h' => hne (Fin.ext ?_)
  obtain ⟨a, b, d⟩ := (mem_wSrc n p i).mp h
  obtain ⟨a', b', d'⟩ := (mem_wSrc n p' i).mp h'
  omega
theorem sRow_disj (k : Fin 2) : ∀ p ∈ (Finset.univ : Finset (Fin 16)), ∀ p' ∈ (Finset.univ : Finset (Fin 16)), p ≠ p' → Disjoint (sRow k p).view.set (sRow k p').view.set := by
  intro p _ p' _ hne
  refine Finset.disjoint_left.mpr fun i h h' => hne (Fin.ext ?_)
  obtain ⟨a, b, d⟩ := (mem_sRow k p i).mp h
  obtain ⟨a', b', d'⟩ := (mem_sRow k p' i).mp h'
  omega
theorem sSrc_disj (n : Fin 12) : ∀ p ∈ (Finset.univ : Finset (Fin 16)), ∀ p' ∈ (Finset.univ : Finset (Fin 16)), p ≠ p' → Disjoint (sSrc n p).view.set (sSrc n p').view.set := by
  intro p _ p' _ hne
  refine Finset.disjoint_left.mpr fun i h h' => hne (Fin.ext ?_)
  obtain ⟨a, b⟩ := (mem_sSrc n p i).mp h
  obtain ⟨a', b'⟩ := (mem_sSrc n p' i).mp h'
  omega

theorem slotW_rows (k : Fin 2) : slotW k = Finset.univ.biUnion fun p => (wRow k p).view.set := by
  refine Finset.ext fun i => ⟨fun hi => ?_, fun hi => ?_⟩
  · have h : (i 0).val = k.val := (Finset.mem_filter.mp hi).2
    have hi : (i 1).val < 32 := (i 1).isLt
    refine Finset.mem_biUnion.mpr ⟨⟨2 * ((i 1).val % 16) + (i 1).val / 16, by omega⟩, Finset.mem_univ _, (mem_wRow _ _ _).mpr ⟨h, ?_⟩⟩
    show (i 1).val = (2 * ((i 1).val % 16) + (i 1).val / 16) % 2 * 16 + (2 * ((i 1).val % 16) + (i 1).val / 16) / 2
    rcases lt_or_ge (i 1).val 16 with hl | hl
    · have : (i 1).val / 16 = 0 := by omega
      rw [this]; omega
    · have : (i 1).val / 16 = 1 := by omega
      rw [this]; omega
  · obtain ⟨p, -, hp⟩ := Finset.mem_biUnion.mp hi
    exact Finset.mem_filter.mpr ⟨Finset.mem_univ _, ((mem_wRow k p i).mp hp).1⟩
theorem slotS_rows (k : Fin 2) : slotS k = Finset.univ.biUnion fun p => (sRow k p).view.set := by
  refine Finset.ext fun i => ⟨fun hi => ?_, fun hi => ?_⟩
  · have h : (i 0).val = k.val := (Finset.mem_filter.mp hi).2
    have h1 : (i 1).val < 2 := (i 1).isLt
    have h2 : (i 2).val < 8 := (i 2).isLt
    refine Finset.mem_biUnion.mpr ⟨⟨2 * (i 2).val + (i 1).val, by omega⟩, Finset.mem_univ _, (mem_sRow _ _ _).mpr ⟨h, ?_, ?_⟩⟩
    · show _ = (2 * (i 2).val + (i 1).val) % 2; omega
    · show _ = (2 * (i 2).val + (i 1).val) / 2; omega
  · obtain ⟨p, -, hp⟩ := Finset.mem_biUnion.mp hi
    exact Finset.mem_filter.mpr ⟨Finset.mem_univ _, ((mem_sRow k p i).mp hp).1⟩

/-- The array rows of block `n`. -/
def wRows (n : Fin 12) : Finset S96x2x2x8192.Idx := Finset.univ.biUnion fun p => (wSrc n p).view.set
def sRows (n : Fin 12) : Finset S96x2x8192.Idx := Finset.univ.biUnion fun p => (sSrc n p).view.set

section Slots
variable (c : Dev nD) (W : Vec F S96x2x2x8192 .i32) (S : Vec F S96x2x8192 .f32)

/-- A slot's rows and its block's array rows, taken row by row. -/
theorem tW_all (q : PosShare TreeShare) (k : Fin 2) (n : Fin 12) (f : Vec F S2x32x8192 .i32) :
    iprop((wBuf c ↦[slotW k]{fullShare} f) ∗ (wArr c ↦[wRows n]{q} W)) = (bigSep Finset.univ (tW c W q k n f) : sProp (MM F)) := by
  have e : (bigSep Finset.univ (tW c W q k n f) : sProp (MM F)) = _ := BI.bigSep_sep Finset.univ (fun p => (wBuf c ↦[(wRow k p).view.set]{fullShare} f : sProp (MM F))) (fun p => (wArr c ↦[(wSrc n p).view.set]{q} W : sProp (MM F)))
  rw [e, ← pointsTo_biUnion Finset.univ (ℓ := wBuf c) (fun p => (wRow k p).view.set) (wRow_disj k), ← pointsTo_biUnion Finset.univ (ℓ := wArr c) (fun p => (wSrc n p).view.set) (wSrc_disj n)]
  rw [slotW_rows]; rfl
theorem tS_all (q : PosShare TreeShare) (k : Fin 2) (n : Fin 12) (f : Vec F S2x2x8x8192 .f32) :
    iprop((sBuf c ↦[slotS k]{fullShare} f) ∗ (sArr c ↦[sRows n]{q} S)) = (bigSep Finset.univ (tS c S q k n f) : sProp (MM F)) := by
  have e : (bigSep Finset.univ (tS c S q k n f) : sProp (MM F)) = _ := BI.bigSep_sep Finset.univ (fun p => (sBuf c ↦[(sRow k p).view.set]{fullShare} f : sProp (MM F))) (fun p => (sArr c ↦[(sSrc n p).view.set]{q} S : sProp (MM F)))
  rw [e, ← pointsTo_biUnion Finset.univ (ℓ := sBuf c) (fun p => (sRow k p).view.set) (sRow_disj k), ← pointsTo_biUnion Finset.univ (ℓ := sArr c) (fun p => (sSrc n p).view.set) (sSrc_disj n)]
  rw [slotS_rows]; rfl

/-- The share of the arrays that slot `k`'s copies read through. -/
def hs (k : Fin 2) : PosShare TreeShare := if k.val = 0 then fullShare.left else fullShare.right

/-- Slot `k` with nothing in flight, its contents anything. -/
def free (k : Fin 2) : sProp (MM F) :=
  iprop((∃ f : Vec F S2x32x8192 .i32, wBuf c ↦[slotW k]{fullShare} f) ∗ (∃ f : Vec F S2x2x8x8192 .f32, sBuf c ↦[slotS k]{fullShare} f)
    ∗ semVal ((c : Thread nD τ), cellW k) 0 ∗ semVal ((c : Thread nD τ), cellS k) 0 ∗ (wArr c ↦{hs k} W) ∗ (sArr c ↦{hs k} S))
/-- What a flight of block `n` leaves of its share of the arrays. -/
def rest (k : Fin 2) (n : Fin 12) : sProp (MM F) := iprop((wArr c ↦[Finset.univ \ wRows n]{hs k} W) ∗ (sArr c ↦[Finset.univ \ sRows n]{hs k} S))
/-- Slot `k` with block `n` in flight. -/
def flight (k : Fin 2) (n : Fin 12) : sProp (MM F) := iprop(landW c W (hs k) k n 0 ∗ landS c S (hs k) k n 0 ∗ rest c W S k n)

/-- A free slot is one with no copy issued yet. -/
theorem free_start (k : Fin 2) (n : Fin 12) : free c W S k ⊢ |={Set.univ}=> iprop(∃ fw fs, flyW c W (hs k) k n fw 0 ∗ flyS c S (hs k) k n fs 0 ∗ rest c W S k n) := by
  unfold free
  iintro ⟨⟨%fw, Hw⟩, ⟨%fs, Hs⟩, Hcw, Hcs, HW, HS⟩
  haveI hD := dW_storable c W (hs k) k n
  haveI hE := dS_storable c S (hs k) k n
  imod (Transfers.batch_alloc' (Lvl := ℕ) countersEmb (c : Thread nD τ) () NW (dW c W (hs k) k n) (sm := cellW k) (E := Set.univ)) $$ Hcw with HBw
  imod (Transfers.batch_alloc' (Lvl := ℕ) countersEmb (c : Thread nD τ) () NS (dS c S (hs k) k n) (sm := cellS k) (E := Set.univ)) $$ Hcs with HBs
  imodintro
  ihave HW := (pointsTo_split_subset (ℓ := wArr c) (Finset.subset_univ (wRows n))).1 $$ HW
  icases HW with ⟨HW, HWr⟩
  ihave HS := (pointsTo_split_subset (ℓ := sArr c) (Finset.subset_univ (sRows n))).1 $$ HS
  icases HS with ⟨HS, HSr⟩
  iexists fw, fs
  unfold flyW flyS rest
  rw [← Transfers.bigSep_pending_zero, ← Transfers.bigSep_pending_zero, ← tW_all, ← tS_all]
  isplitl [HBw Hw HW]
  · isplitl [HBw]; · iexact HBw
    isplitl [Hw]; · iexact Hw
    iexact HW
  isplitl [HBs Hs HS]
  · isplitl [HBs]; · iexact HBs
    isplitl [Hs]; · iexact Hs
    iexact HS
  isplitl [HWr]; · iexact HWr
  iexact HSr

/-- All copies issued, the block is in flight. -/
theorem fly_flight (k : Fin 2) (n : Fin 12) (fw) (fs) : iprop(flyW c W (hs k) k n fw 32 ∗ flyS c S (hs k) k n fs 16 ∗ rest c W S k n) ⊢ flight c W S k n := by
  unfold flight
  iintro ⟨HW, HS, HR⟩
  isplitl [HW]; · iapply (flyW_land c W (hs k) k n fw); iexact HW
  isplitl [HS]; · iapply (flyS_land c S (hs k) k n fs); iexact HS
  iexact HR

/-- What the last wait hands back is the slot filled and the arrays' share whole. -/
theorem landed (k : Fin 2) (n : Fin 12) : iprop(bigSep Finset.univ (dW c W (hs k) k n) ∗ bigSep Finset.univ (dS c S (hs k) k n) ∗ rest c W S k n)
    ⊢ (iprop((wBuf c ↦[slotW k]{fullShare} Gw W n) ∗ (sBuf c ↦[slotS k]{fullShare} Gs S n) ∗ (wArr c ↦{hs k} W) ∗ (sArr c ↦{hs k} S)) : sProp (MM F)) := by
  have eW : (bigSep Finset.univ (dW c W (hs k) k n) : sProp (MM F)) = bigSep Finset.univ (tW c W (hs k) k n (Gw W n)) := rfl
  have eS : (bigSep Finset.univ (dS c S (hs k) k n) : sProp (MM F)) = bigSep Finset.univ (tS c S (hs k) k n (Gs S n)) := rfl
  rw [eW, eS, ← tW_all, ← tS_all]
  unfold rest
  iintro ⟨⟨Hw, HW⟩, ⟨Hs, HS⟩, HWr, HSr⟩
  isplitl [Hw]; · iexact Hw
  isplitl [Hs]; · iexact Hs
  isplitl [HW HWr]
  · iapply (pointsTo_split_subset (ℓ := wArr c) (Finset.subset_univ (wRows n))).2
    isplitl [HW]; · iexact HW
    iexact HWr
  iapply (pointsTo_split_subset (ℓ := sArr c) (Finset.subset_univ (sRows n))).2
  isplitl [HS]; · iexact HS
  iexact HSr

/-- The ring before point `m`. -/
def ringAt (m : ℕ) : sProp (MM F) :=
  if h : 0 < m ∧ m < 12 then iprop(flight c W S ⟨m % 2, by omega⟩ ⟨m, h.2⟩ ∗ free c W S ⟨(m + 1) % 2, by omega⟩) else iprop(free c W S 0 ∗ free c W S 1)

end Slots

end Cert.Label.Hand

end
-- ==== Proof.LabelStep.lean ====
module

public import proofs.«01_k».proof.Proof.LabelSlots
public import proofs.«01_k».proof.Proof.Gen.Label.Skeleton
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A point's waits, products and writes -/

/-- The block of point `t`. -/
def nb (t : Fin cfg0.N) : Fin 12 := ⟨t.val, lt_of_lt_of_eq t.isLt (show cfg0.N = 12 from N_0)⟩
theorem first_iff : ∀ t : Fin cfg0.N, Scalar.cmpi .ne (Scalar.extui (Scalar.cmpi .eq (BitVec.ofNat 32 (grid0.coords t 0).val) 0#32) : BitVec 32) 0#32 = 1#1 ↔ t.val = 0 := by decide +kernel
theorem more_iff : ∀ t : Fin cfg0.N, k0_cond2 (grid0.coords t) = 1#1 ↔ t.val + 1 < 12 := by decide +kernel

/-- The next point's slot after this point's copies are started. -/
def nextR (c : Dev nD) (W : Vec F S96x2x2x8192 .i32) (S : Vec F S96x2x8192 .f32) (t : Fin cfg0.N) : sProp (MM F) :=
  if t.val + 1 < 12 then flight c W S (sn t) (bn t) else free c W S (sn t)

variable (c : Dev nD) (W : Vec F S96x2x2x8192 .i32) (S : Vec F S96x2x8192 .f32) (qw qs : PosShare TreeShare) (fw : Vec F S2x32x8192 .i32) (fs : Vec F S2x2x8x8192 .f32)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)

theorem md13 (t : Fin cfg0.N) (a v : BitVec 32) {Q : BitVec 32 → sProp (MM F)} : Q (Scalar.addi a 1#32) ⊢ wp frame (wpE (defs₀ (F := F)) Variants.none c none) Set.univ (k0_part13 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 a v) Q := by
  rw [k0_part13_eq_skeleton]; unfold k0_part13_skel
  rw [wp_pure]
  iintro HK
  imodintro
  iexact HK

theorem md14 (t : Fin cfg0.N) (v : BitVec 32) {Q : PUnit → sProp (MM F)} : Q ⟨⟩ ⊢ wp frame (wpE (defs₀ (F := F)) Variants.none c none) Set.univ (k0_part14 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v) Q := by
  rw [k0_part14_eq_skeleton]; unfold k0_part14_skel
  rw [wp_pure]
  iintro HK
  imodintro
  iexact HK

theorem md15 (t : Fin cfg0.N) (v : BitVec 32) {Q : PUnit → sProp (MM F)} : Q ⟨⟩ ⊢ wp frame (wpE (defs₀ (F := F)) Variants.none c none) Set.univ (k0_part15 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v) Q := by
  rw [k0_part15_eq_skeleton]; unfold k0_part15_skel
  rw [wp_pure]
  iintro HK
  imodintro
  iexact HK

theorem st_c : ∀ t : Fin cfg0.N, k0_cond2 (grid0.coords t) = 1#1 → k0_off1 (grid0.coords t) = ![(sn t).val] := by decide +kernel
theorem stp0 : ∀ t : Fin cfg0.N, k0_cond2 (grid0.coords t) = 1#1 → k0_off51 (grid0.coords t) = wOff (sn t) ⟨28, by decide⟩ := by decide +kernel
theorem stp1 : ∀ t : Fin cfg0.N, k0_cond2 (grid0.coords t) = 1#1 → (k0_off5 (grid0.coords t) 7#32) = wFrom (bn t) ⟨28, by decide⟩ := by decide +kernel
theorem stp2 : ∀ t : Fin cfg0.N, k0_cond2 (grid0.coords t) = 1#1 → k0_off52 (grid0.coords t) = wOff (sn t) ⟨29, by decide⟩ := by decide +kernel
theorem stp3 : ∀ t : Fin cfg0.N, k0_cond2 (grid0.coords t) = 1#1 → (k0_off7 (grid0.coords t) 7#32) = wFrom (bn t) ⟨29, by decide⟩ := by decide +kernel
theorem stp4 : ∀ t : Fin cfg0.N, k0_cond2 (grid0.coords t) = 1#1 → k0_off53 (grid0.coords t) = sOff (sn t) ⟨15, by decide⟩ := by decide +kernel
theorem stp5 : ∀ t : Fin cfg0.N, k0_cond2 (grid0.coords t) = 1#1 → (k0_off9 (grid0.coords t) 7#32) = sFrom (bn t) ⟨15, by decide⟩ := by decide +kernel
theorem stp6 : ∀ t : Fin cfg0.N, k0_cond2 (grid0.coords t) = 1#1 → k0_off54 (grid0.coords t) = wOff (sn t) ⟨30, by decide⟩ := by decide +kernel
theorem stp7 : ∀ t : Fin cfg0.N, k0_cond2 (grid0.coords t) = 1#1 → (k0_off11 (grid0.coords t) 7#32) = wFrom (bn t) ⟨30, by decide⟩ := by decide +kernel

theorem md25 (t : Fin cfg0.N) (h2 : k0_cond2 (grid0.coords t) = 1#1) (a v : BitVec 32) {Q : PUnit → sProp (MM F)} :
    iprop(flyW c W qw (sn t) (bn t) fw 0 ∗ flyS c S qs (sn t) (bn t) fs 0 ∗ (iprop(flyW c W qw (sn t) (bn t) fw 31 ∗ flyS c S qs (sn t) (bn t) fs 16) -∗ Q ⟨⟩)) ⊢ wp frame (wpE (defs₀ (F := F)) Variants.none c none) Set.univ (k0_part25 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 a v h2) Q := by
  rw [k0_part25_eq_skeleton]; unfold k0_part25_skel
  iintro ⟨HW, HS, HK⟩
  rw [wp_bind]
  iapply (md13 c arg1 harg1 arg2 harg2 arg5 harg5 arg6 harg6 t)
  try dsimp only
  rw [wp_bind]
  iapply (md14 c arg1 harg1 arg2 harg2 arg5 harg5 arg6 harg6 t)
  try dsimp only
  rw [wp_bind]
  iapply (md15 c arg1 harg1 arg2 harg2 arg5 harg5 arg6 harg6 t)
  try dsimp only
  rw [wp_bind]
  iapply (iss16 c W S qw qs fw fs arg1 harg1 arg2 harg2 arg5 harg5 arg6 harg6 t h2 _)
  isplitl [HW]; · iexact HW
  isplitl [HS]; · iexact HS
  iintro ⟨HW, HS⟩
  try dsimp only
  rw [wp_bind]
  iapply (iss17 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss18 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss19 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss20 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss21 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss22 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss23 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss24 c W S qw qs fw fs arg1 harg1 arg2 harg2 arg5 harg5 arg6 harg6 t h2)
  isplitl [HW]; · iexact HW
  isplitl [HS]; · iexact HS
  iintro ⟨HW, HS⟩
  try dsimp only
  iapply (issueW c W qw (sn t) (bn t) 28 (by decide) (st_c t h2) (stp0 t h2) (stp1 t h2)) $$ HW
  iintro HW
  simp only [ret_bind]
  iapply (issueW c W qw (sn t) (bn t) 29 (by decide) (st_c t h2) (stp2 t h2) (stp3 t h2)) $$ HW
  iintro HW
  simp only [ret_bind]
  iapply (issueS c S qs (sn t) (bn t) 15 (by decide) (st_c t h2) (stp4 t h2) (stp5 t h2)) $$ HS
  iintro HS
  simp only [ret_bind]
  iapply (issueW c W qw (sn t) (bn t) 30 (by decide) (st_c t h2) (stp6 t h2) (stp7 t h2)) $$ HW
  iintro HW
  simp only [ret_bind]
  rw [wp_pure]
  imodintro
  iapply HK
  isplitl [HW]; · iexact HW
  iexact HS

theorem stp8 : ∀ t : Fin cfg0.N, k0_cond2 (grid0.coords t) = 1#1 → k0_off55 (grid0.coords t) = wOff (sn t) ⟨31, by decide⟩ := by decide +kernel
theorem stp9 : ∀ t : Fin cfg0.N, k0_cond2 (grid0.coords t) = 1#1 → (k0_off13 (grid0.coords t) 7#32) = wFrom (bn t) ⟨31, by decide⟩ := by decide +kernel

theorem ring_zero (t : Fin cfg0.N) (h0 : t.val = 0) : ringAt c W S t.val = iprop(free c W S 0 ∗ free c W S (sn t)) := by
  have e : sn t = 1 := Fin.ext (by show (t.val + 1) % 2 = 1; omega)
  unfold ringAt; rw [dif_neg (by omega), e]
theorem ring_pos (t : Fin cfg0.N) (h0 : ¬t.val = 0) : ringAt c W S t.val = iprop(flight c W S (sl t) (nb t) ∗ free c W S (sn t)) := by
  have hN : t.val < 12 := lt_of_lt_of_eq t.isLt (show cfg0.N = 12 from N_0)
  unfold ringAt; rw [dif_pos ⟨by omega, hN⟩]; rfl
theorem ring_succ (t : Fin cfg0.N) : iprop(nextR c W S t ∗ free c W S (sl t)) ⊢ ringAt c W S (t.val + 1) := by
  have hN : t.val < 12 := lt_of_lt_of_eq t.isLt (show cfg0.N = 12 from N_0)
  unfold nextR ringAt
  by_cases h : t.val + 1 < 12
  · rw [if_pos h, dif_pos ⟨by omega, h⟩]
    have e1 : bn t = ⟨t.val + 1, h⟩ := Fin.ext (Nat.mod_eq_of_lt h)
    have e2 : sl t = ⟨(t.val + 1 + 1) % 2, by omega⟩ := Fin.ext (by show t.val % 2 = (t.val + 1 + 1) % 2; omega)
    rw [e1, e2]
    exact .rfl
  · rw [if_neg h, dif_neg (by omega)]
    have e1 : sn t = 0 := Fin.ext (by show (t.val + 1) % 2 = 0; omega)
    have e2 : sl t = 1 := Fin.ext (by show t.val % 2 = 1; omega)
    rw [e1, e2]

theorem md35 (t : Fin cfg0.N) {Q : (Σ' (arg0 : BitVec 32) (v0 : BitVec 32) (v8 : IVec S1x256 32) (v32 : IVec S1x256 32) (v34 : BitVec 32) (v36 : IVec S1x256 32) (v38 : IVec S1x256 1), BitVec 32) → sProp (MM F)} :
    iprop(ringAt c W S t.val ∗ (iprop(flight c W S (sl t) (nb t) ∗ nextR c W S t) -∗ Q ⟨BitVec.ofNat 32 (grid0.coords t 0).val, Scalar.remsi (BitVec.ofNat 32 (grid0.coords t 0).val) 2#32, lanes, k0_pay30, Scalar.select (Scalar.cmpi .eq 64#32 0#32) 1#32 64#32, k0_pay31, k0_pay32, 0#32⟩)) ⊢ wp frame (wpE (defs₀ (F := F)) Variants.none c none) Set.univ (k0_part35 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  have hN : t.val < 12 := lt_of_lt_of_eq t.isLt (show cfg0.N = 12 from N_0)
  rw [k0_part35_eq_skeleton]; unfold k0_part35_skel
  by_cases h0 : t.val = 0
  · have h1 := (first_iff t).mpr h0
    have h2 := (more_iff t).mpr (by omega)
    have e1 : sl t = 0 := Fin.ext (by show t.val % 2 = 0; omega)
    have e2 : nb t = 0 := Fin.ext h0
    simp only [dif_pos h1, dif_pos h2]
    rw [ring_zero c W S t h0, e1, e2]
    unfold nextR
    rw [if_pos (show t.val + 1 < 12 by omega)]
    iintro ⟨⟨H0, H1⟩, HK⟩
    imod (free_start c W S 0 0) $$ H0 with ⟨%fw0, %fs0, HW, HS, HR0⟩
    rw [wp_bind]
    iapply (iss1 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss2 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss3 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss4 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss5 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss6 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss7 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss8 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss9 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss10 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss11 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss12 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    ihave H0 := (fly_flight c W S 0 0 fw0 fs0) $$ [HW HS HR0]
    · isplitl [HW]; · iexact HW
      isplitl [HS]; · iexact HS
      iexact HR0
    imod (free_start c W S (sn t) (bn t)) $$ H1 with ⟨%fw1, %fs1, HW, HS, HR1⟩
    rw [wp_bind]
    iapply (md25 c W S (hs (sn t)) (hs (sn t)) fw1 fs1 arg1 harg1 arg2 harg2 arg5 harg5 arg6 harg6 t h2)
    isplitl [HW]; · iexact HW
    isplitl [HS]; · iexact HS
    iintro ⟨HW, HS⟩
    try dsimp only
    iapply (issueW c W (hs (sn t)) (sn t) (bn t) 31 (by decide) (st_c t h2) (stp8 t h2) (stp9 t h2)) $$ HW
    iintro HW
    simp only [ret_bind]
    rw [wp_pure]
    imodintro
    iapply HK
    isplitl [H0]; · iexact H0
    iapply (fly_flight c W S (sn t) (bn t) fw1 fs1)
    isplitl [HW]; · iexact HW
    isplitl [HS]; · iexact HS
    iexact HR1
  have h1 : ¬_ := fun h => h0 ((first_iff t).mp h)
  rw [ring_pos c W S t h0]
  by_cases h : t.val + 1 < 12
  · have h2 := (more_iff t).mpr h
    simp only [dif_neg h1, dif_pos h2]
    unfold nextR
    rw [if_pos h]
    iintro ⟨⟨H0, H1⟩, HK⟩
    imod (free_start c W S (sn t) (bn t)) $$ H1 with ⟨%fw1, %fs1, HW, HS, HR1⟩
    rw [wp_bind]
    iapply (md25 c W S (hs (sn t)) (hs (sn t)) fw1 fs1 arg1 harg1 arg2 harg2 arg5 harg5 arg6 harg6 t h2)
    isplitl [HW]; · iexact HW
    isplitl [HS]; · iexact HS
    iintro ⟨HW, HS⟩
    try dsimp only
    iapply (issueW c W (hs (sn t)) (sn t) (bn t) 31 (by decide) (st_c t h2) (stp8 t h2) (stp9 t h2)) $$ HW
    iintro HW
    simp only [ret_bind]
    rw [wp_pure]
    imodintro
    iapply HK
    isplitl [H0]; · iexact H0
    iapply (fly_flight c W S (sn t) (bn t) fw1 fs1)
    isplitl [HW]; · iexact HW
    isplitl [HS]; · iexact HS
    iexact HR1
  · have h2 : ¬k0_cond2 (grid0.coords t) = 1#1 := fun h' => h ((more_iff t).mp h')
    simp only [dif_neg h1, dif_neg h2]
    unfold nextR
    rw [if_neg h]
    iintro ⟨⟨H0, H1⟩, HK⟩
    rw [wp_pure]
    imodintro
    iapply HK
    isplitl [H0]; · iexact H0
    iexact H1

end Cert.Label.Hand

end
-- ==== Proof.LabelBody.lean ====
module

public import proofs.«01_k».proof.Proof.LabelStep
public import proofs.«01_k».proof.Proof.Gen.Label.Skeleton
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A point -/

theorem one_at : ∀ t : Fin cfg0.N, t.val = 0 → Scalar.cmpi .eq (BitVec.ofNat 32 (grid0.coords t 0).val) 0#32 = 1#1 := by decide +kernel
theorem zero_at : ∀ t : Fin cfg0.N, ¬t.val = 0 → Scalar.cmpi .eq (BitVec.ofNat 32 (grid0.coords t 0).val) 0#32 = 0#1 := by decide +kernel

/-- The scratch the channel choice is kept in: anything at first, the choice from then on. -/
def pickAt (c : Dev nD) (chan : Vec F S2x16 .i32) (m : ℕ) : sProp (MM F) :=
  if m = 0 then iprop(∃ d, owns (Val := Elt F) (c : Thread nD τ) (Memref.whole cc0_scratch2 : Memref sig .tc .vmem S128x256 .bf16) fullShare d) else owns (Val := Elt F) (c : Thread nD τ) (Memref.whole cc0_scratch2 : Memref sig .tc .vmem S128x256 .bf16) fullShare (PK chan)

variable (c : Dev nD) (W : Vec F S96x2x2x8192 .i32) (S : Vec F S96x2x8192 .f32)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)

theorem md39 (t : Fin cfg0.N) (chan : Vec F S2x16 .i32) (x : Vec F S8x1536 .bf16) (v158 : IVec S1x256 32) {Q : (Σ' (v195 : FVec F S96x256 .f32) (v196 : IVec S96x1 32) (v215 : IVec S96x256 1) (c48_i32 : BitVec 32) (v217 : IVec S96x1 32), IVec S96x1 32) → sProp (MM F)} :
    iprop(owns (Val := Elt F) (c : Thread nD τ) arg2 fullShare chan ∗ owns (Val := Elt F) (c : Thread nD τ) arg5 fullShare x ∗ pickAt c chan t.val ∗ (owns (Val := Elt F) (c : Thread nD τ) arg2 fullShare chan -∗ owns (Val := Elt F) (c : Thread nD τ) arg5 fullShare x -∗ pickAt c chan (t.val + 1) -∗ Q ⟨k0_pay43 x (PK chan), iota .tc S96x1 32 [0] iota_S96x1_d0_w32, k0_pay44 v158, 48#32, k0_pay45, k0_pay46⟩)) ⊢ wp frame (wpE (defs₀ (F := F)) Variants.none c none) Set.univ (k0_part39 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 u118 v158 u174 (Scalar.cmpi .eq (BitVec.ofNat 32 (grid0.coords t 0).val) 0#32)) Q := by
  unfold pickAt
  rw [if_neg (Nat.succ_ne_zero t.val)]
  by_cases h0 : t.val = 0
  · rw [if_pos h0, one_at t h0]
    exact md39A c arg1 harg1 arg2 harg2 arg5 harg5 arg6 harg6 (grid0.coords t) chan x v158
  · rw [if_neg h0, zero_at t h0]
    exact md39B c arg1 harg1 arg2 harg2 arg5 harg5 arg6 harg6 (grid0.coords t) chan x v158

theorem md54 (t : Fin cfg0.N) (lens : Vec F S96 .i32) (chan : Vec F S2x16 .i32) (x : Vec F S8x1536 .bf16) {Q : (Σ' (v0 : BitVec 32) (v246 : FVec F S96x256 .bf16), IVec S8x1 32) → sProp (MM F)} :
    iprop(ringAt c W S t.val ∗ pickAt c chan t.val ∗ owns (Val := Elt F) (c : Thread nD τ) arg1 fullShare lens ∗ owns (Val := Elt F) (c : Thread nD τ) arg2 fullShare chan ∗ owns (Val := Elt F) (c : Thread nD τ) arg5 fullShare x ∗ owed c
      ∗ (landW c W (hs (sl t)) (sl t) (nb t) 31 -∗ bigSep Finset.univ (dS c S (hs (sl t)) (sl t) (nb t)) -∗ semVal ((c : Thread nD τ), cellS (sl t)) 0 -∗ rest c W S (sl t) (nb t) -∗ nextR c W S t -∗ pickAt c chan (t.val + 1)
        -∗ owns (Val := Elt F) (c : Thread nD τ) arg1 fullShare lens -∗ owns (Val := Elt F) (c : Thread nD τ) arg2 fullShare chan -∗ owns (Val := Elt F) (c : Thread nD τ) arg5 fullShare x -∗ owed c -∗ Q ⟨Scalar.remsi (BitVec.ofNat 32 (grid0.coords t 0).val) 2#32, V246 chan x, V312 lens (grid0.coords t)⟩)) ⊢ wp frame (wpE (defs₀ (F := F)) Variants.none c none) Set.univ (k0_part54 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part54_eq_skeleton]; unfold k0_part54_skel
  iintro ⟨HR, HP, H1, H2, H5, HO, HK⟩
  rw [wp_bind]
  iapply (md35 c W S arg1 harg1 arg2 harg2 arg5 harg5 arg6 harg6 t)
  isplitl [HR]; · iexact HR
  iintro ⟨HF, HN⟩
  try dsimp only
  rw [wp_bind]
  iapply (md36 c arg1 harg1 arg2 harg2 arg5 harg5 arg6 harg6 (grid0.coords t) _ _ _ _ _)
  try dsimp only
  rw [wp_bind]
  iapply (md37 c arg1 harg1 arg2 harg2 arg5 harg5 arg6 harg6 (grid0.coords t) _ _ _ _ _ _)
  try dsimp only
  rw [wp_bind]
  iapply (md38 c arg1 harg1 arg2 harg2 arg5 harg5 arg6 harg6 (grid0.coords t) _ _ _ _ _ _ _)
  try dsimp only
  rw [wp_bind]
  iapply (md39 c arg1 harg1 arg2 harg2 arg5 harg5 arg6 harg6 t chan x _)
  isplitl [H2]; · iexact H2
  isplitl [H5]; · iexact H5
  isplitl [HP]; · iexact HP
  iintro H2 H5 HP
  try dsimp only
  rw [wp_bind]
  iapply (md40 c arg1 harg1 arg2 harg2 arg5 harg5 arg6 harg6 t lens _ _ _ _ _ _ _ _)
  isplitl [H1]; · iexact H1
  iintro H1
  try dsimp only
  rw [wp_bind]
  iapply (md41 c arg1 harg1 arg2 harg2 arg5 harg5 arg6 harg6 t lens _ _ _ _)
  isplitl [H1]; · iexact H1
  iintro H1
  try dsimp only
  rw [wp_bind]
  iapply (md42 c arg1 harg1 arg2 harg2 arg5 harg5 arg6 harg6 t lens _ _ _)
  isplitl [H1]; · iexact H1
  iintro H1
  try dsimp only
  rw [wp_bind]
  iapply (md43 c arg1 harg1 arg2 harg2 arg5 harg5 arg6 harg6 (grid0.coords t) _ _)
  try dsimp only
  rw [wp_bind]
  iapply (md44 c arg1 harg1 arg2 harg2 arg5 harg5 arg6 harg6 (grid0.coords t) _ _)
  try dsimp only
  unfold flight
  icases HF with ⟨HW, HS, HRest⟩
  rw [wp_bind]
  iapply (wt45 c W S (hs (sl t)) (hs (sl t)) (nb t) arg1 harg1 arg2 harg2 arg5 harg5 arg6 harg6 t _ _)
  isplitl [HW]; · iexact HW
  isplitl [HS]; · iexact HS
  isplitl [HO]; · iexact HO
  iintro ⟨HW, HS, HO⟩
  try dsimp only
  rw [wp_bind]
  iapply (wt46 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt47 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt48 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt49 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt50 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt51 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt52 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt53 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  iapply (waitW c W (hs (sl t)) (sl t) (nb t) 28 (by decide) (of_cell t)) $$ [HW HO]
  · isplitl [HW]; · iexact HW
    iexact HO
  iintro ⟨HW, HO⟩
  simp only [ret_bind]
  iapply (waitW c W (hs (sl t)) (sl t) (nb t) 29 (by decide) (of_cell t)) $$ [HW HO]
  · isplitl [HW]; · iexact HW
    iexact HO
  iintro ⟨HW, HO⟩
  simp only [ret_bind]
  iapply (lastS c S (hs (sl t)) (sl t) (nb t) (of_cell t)) $$ [HS HO]
  · isplitl [HS]; · iexact HS
    iexact HO
  iintro ⟨⟨HS, HcS⟩, HO⟩
  simp only [ret_bind]
  iapply (waitW c W (hs (sl t)) (sl t) (nb t) 30 (by decide) (of_cell t)) $$ [HW HO]
  · isplitl [HW]; · iexact HW
    iexact HO
  iintro ⟨HW, HO⟩
  simp only [ret_bind]
  rw [wp_pure]
  imodintro
  ispecialize HK $$ HW
  ispecialize HK $$ HS
  ispecialize HK $$ HcS
  ispecialize HK $$ HRest
  ispecialize HK $$ HN
  ispecialize HK $$ HP
  ispecialize HK $$ H1
  ispecialize HK $$ H2
  ispecialize HK $$ H5
  ispecialize HK $$ HO
  unfold V246 V312 u158 u174 u72
  iexact HK

/-- One point: its block's copies finished and the next one's started, the output's memref written trip by trip. -/
theorem point (t : Fin cfg0.N) (lens : Vec F S96 .i32) (chan : Vec F S2x16 .i32) (x : Vec F S8x1536 .bf16) (g : Buf (Elt F) (arg6.view.loc (c : Thread nD τ))) {Q : PUnit → sProp (MM F)} :
    iprop(ringAt c W S t.val ∗ pickAt c chan t.val ∗ owns (Val := Elt F) (c : Thread nD τ) arg1 fullShare lens ∗ owns (Val := Elt F) (c : Thread nD τ) arg2 fullShare chan ∗ owns (Val := Elt F) (c : Thread nD τ) arg5 fullShare x ∗ (arg6.view.loc (c : Thread nD τ) ↦[arg6.view.set]{fullShare} g) ∗ owed c
      ∗ (ringAt c W S (t.val + 1) -∗ pickAt c chan (t.val + 1) -∗ owns (Val := Elt F) (c : Thread nD τ) arg1 fullShare lens -∗ owns (Val := Elt F) (c : Thread nD τ) arg2 fullShare chan -∗ owns (Val := Elt F) (c : Thread nD τ) arg5 fullShare x -∗ (arg6.view.loc (c : Thread nD τ) ↦[arg6.view.set]{fullShare} arg6.view.writes (Elt F) g (pcsTo (V246 chan x) (V312 lens (grid0.coords t)) W S (nb t) (grid0.coords t) k0_t1_loop.trips)) -∗ owed c -∗ Q ⟨⟩)) ⊢ wp frame (wpE (defs₀ (F := F)) Variants.none c none) Set.univ (cc0_label_scores (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [cc0_label_scores_eq_skeleton]; unfold cc0_label_scores_skel
  iintro ⟨HR, HP, H1, H2, H5, H6, HO, HK⟩
  rw [wp_bind]
  iapply (md54 c W S arg1 harg1 arg2 harg2 arg5 harg5 arg6 harg6 t lens chan x)
  isplitl [HR]; · iexact HR
  isplitl [HP]; · iexact HP
  isplitl [H1]; · iexact H1
  isplitl [H2]; · iexact H2
  isplitl [H5]; · iexact H5
  isplitl [HO]; · iexact HO
  iintro HW HS HcS HRest HN HP H1 H2 H5 HO
  try dsimp only
  iapply (lastW c W (hs (sl t)) (sl t) (nb t) (of_cell t)) $$ [HW HO]
  · isplitl [HW]; · iexact HW
    iexact HO
  iintro ⟨⟨HW, HcW⟩, HO⟩
  simp only [ret_bind]
  ihave HL := (landed c W S (sl t) (nb t)) $$ [HW HS HRest]
  · isplitl [HW]; · iexact HW
    isplitl [HS]; · iexact HS
    iexact HRest
  icases HL with ⟨HW, HS, HAW, HAS⟩
  rw [wp_bind]
  iapply (loop c (V246 chan x) (V312 lens (grid0.coords t)) W S (nb t) arg1 harg1 arg2 harg2 arg5 harg5 arg6 harg6 t _ g)
  isplitl [HW]; · iexact HW
  isplitl [HS]; · iexact HS
  isplitl [H6]; · iexact H6
  iintro HW HS H6
  try dsimp only
  rw [wp_pure]
  imodintro
  ihave HF := (ring_succ c W S t) $$ [HN HW HS HcW HcS HAW HAS]
  · isplitl [HN]; · iexact HN
    unfold free
    isplitl [HW]; · iexists _; iexact HW
    isplitl [HS]; · iexists _; iexact HS
    isplitl [HcW]; · iexact HcW
    isplitl [HcS]; · iexact HcS
    isplitl [HAW]; · iexact HAW
    iexact HAS
  ispecialize HK $$ HF
  ispecialize HK $$ HP
  ispecialize HK $$ H1
  ispecialize HK $$ H2
  ispecialize HK $$ H5
  ispecialize HK $$ H6
  ispecialize HK $$ HO
  iexact HK

end Cert.Label.Hand

end
-- ==== Proof.LabelRun.lean ====
module

public import proofs.«01_k».proof.Proof.LabelBody
public import proofs.«01_k».proof.Proof.Gen.Label.Skeleton
public import Idealize.ShloMosaic.Lib.Claim
public import Idealize.ShloMosaic.Lib.Batch
public import Idealize.ShloMosaic.Lib.WritesUnit

@[expose] public section

set_option maxRecDepth 16384

noncomputable section

namespace Cert.Label.Hand

open Cert.Label.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The whole run -/

set_option maxHeartbeats 800000 in
theorem hmainU (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl
theorem bef0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem bef1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem bef2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The semaphore cells of the kernel's own copies, and the arrays they read. -/
abbrev osem0 : Fin 4 → SemLoc sig := fun j => (![SemLoc.dma 6, .dma 7, .dma 8, .dma 9] : Fin 4 → SemLoc sig) j
theorem ownSemFacts0 : Pipeline.OwnSemFacts spec0 osem0 := by decide
theorem ownSems00_eq (c : Dev nD) : (Pipeline.ownSems0 (Ix := Unit) (Name := ℕ) (U := Pipeline.UD sig nD τ) (Lvl := ℕ) (Val := Elt F) (τ := τ) osem0 c)
    = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3] (by decide) (by decide)]; rfl
def H0 : Finset (Ref sig .tc) := {main_arg2, main_arg3}
theorem H0_sub : H0 ⊆ Pipeline.restRefs sig spec0 := by decide
theorem hbmPts0_eq (c : Dev nD) : (bigSep H0 fun b => (((c : Thread nD τ).loc b) ↦{fullShare} V m c b : sProp (MM F)))
    = iprop((wArr c ↦{fullShare} V m c main_arg2) ∗ (sArr c ↦{fullShare} V m c main_arg3)) := by
  rw [BI.bigSep_eq_bigSepL_of_eq [main_arg2, main_arg3] (by decide) (by decide)]; rfl
theorem PhiD0_eq (c : Dev nD) : (Pipeline.ΦD osem0 spec0 H0 (V m) c : sProp (MM F))
    = iprop(((∃ f : Vec F S2x32x8192 .i32, wBuf c ↦{fullShare} f) ∗ (∃ f : Vec F S2x2x8x8192 .f32, sBuf c ↦{fullShare} f) ∗ (∃ d, owns (Val := Elt F) (c : Thread nD τ) (Memref.whole cc0_scratch2 : Memref sig .tc .vmem S128x256 .bf16) fullShare d))
      ∗ (∃ r, prngReg c r)
      ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
      ∗ ((wArr c ↦{fullShare} V m c main_arg2) ∗ (sArr c ↦{fullShare} V m c main_arg3))) := by
  rw [Pipeline.ΦD_eq, scopedRest0_eq, ownSems00_eq, hbmPts0_eq]; simp only [owns_whole]; try rfl

/-- The channel table: the second window's block, the same at every point. -/
abbrev chanAt (c : Dev nD) : Vec F S2x16 .i32 := iblk m c 1 t0_0
theorem iblk1_eq (c : Dev nD) (t : Fin cfg0.N) : iblk m c 1 t = chanAt m c := rfl

/-- What a point leaves in the output's buffer. -/
abbrev outPcs (c : Dev nD) (t : Fin cfg0.N) : List (View.Piece (Elt F) S12x8x8192 .f32) :=
  pcsTo (V246 (chanAt m c) (iblk m c 2 t)) (V312 (iblk m c 0 t) (grid0.coords t)) (V m c main_arg2) (V m c main_arg3) (nb t) (grid0.coords t) k0_t1_loop.trips
def outAt (c : Dev nD) (t : Fin cfg0.N) : Vec F S12x8x8192 .f32 := View.canon (outPcs m c t)
theorem pcs_cover (v246 : FVec F S96x256 .bf16) (v312 : IVec S8x1 32) (W : Vec F S96x2x2x8192 .i32) (S : Vec F S96x2x8192 .f32) (n : Fin 12) (i : grid0.Coords) (y : S12x8x8192.Idx) :
    ∃ p ∈ pcsTo v246 v312 W S n i k0_t1_loop.trips, y ∈ p.1.set :=
  View.cover_of_tiledL (pcsTo v246 v312 W S n i k0_t1_loop.trips) S1x8x1024.size (by sl_kernel_rfl) y

/-- What holds between points. -/
def PhiR (c : Dev nD) (k : ℕ) : sProp (MM F) := iprop((∃ r, prngReg c r) ∗ ringAt c (V m c main_arg2) (V m c main_arg3) k ∗ pickAt c (chanAt m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiR m c t.val
  q _ := fullShare
  owed _ := 0
theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem before0_0 (c : Dev nD) (t : Fin cfg0.N) (d) : (dats m 0 c).before 0 t d = iblk m c 0 t := bef0 m (dats m 0 c) (A_eq m c 0) (after0_0 m c) t d
theorem before0_1 (c : Dev nD) (t : Fin cfg0.N) (d) : (dats m 0 c).before 1 t d = iblk m c 1 t := bef1 m (dats m 0 c) (A_eq m c 1) (after0_1 m c) t d
theorem before0_2 (c : Dev nD) (t : Fin cfg0.N) (d) : (dats m 0 c).before 2 t d = iblk m c 2 t := bef2 m (dats m 0 c) (A_eq m c 2) (after0_2 m c) t d

/-! ## A point -/

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The output's buffer, what it holds given up, and given back full. -/
theorem out_open (c : Dev nD) (a : Memref sig .tc .vmem S12x8x8192 .f32) (d : Vec F S12x8x8192 .f32) :
    (owns (Val := Elt F) (c : Thread nD τ) a fullShare d : sProp (MM F)) ⊢ iprop(∃ g : Buf (Elt F) (a.view.loc (c : Thread nD τ)), a.view.loc (c : Thread nD τ) ↦[a.view.set]{fullShare} g) := by
  unfold owns
  iintro ⟨%g, -, H⟩
  iexists g; iexact H
theorem out_close (c : Dev nD) (a : Memref sig .tc .vmem S12x8x8192 .f32) (t : Fin cfg0.N) (g : Buf (Elt F) (a.view.loc (c : Thread nD τ))) :
    iprop(a.view.loc (c : Thread nD τ) ↦[a.view.set]{fullShare} a.view.writes (Elt F) g (outPcs m c t)) ⊢ (owns (Val := Elt F) (c : Thread nD τ) a fullShare (outAt m c t) : sProp (MM F)) := by
  unfold owns
  iintro H
  iexists _; isplitr
  swap; · iexact H
  ipureintro; exact View.read_writes_eq_canon _ _ _ (pcs_cover _ _ _ _ _ _)

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR
  rw [iblk1_eq m c t]
  iintro ⟨⟨Hg, HR, HP⟩, ⟨%W, -, HW⟩, ⟨%d0, H0⟩, ⟨%d1, H1⟩, ⟨%d2, H2⟩, ⟨%d3, H3⟩⟩
  ihave H3 := (out_open c _ _) $$ H3
  icases H3 with ⟨%g, H3⟩
  iapply (point c (V m c main_arg2) (V m c main_arg3) _ _ _ _ _ _ _ _ t (iblk m c 0 t) (chanAt m c) (iblk m c 2 t) g)
  isplitl [HR]; · iexact HR
  isplitl [HP]; · iexact HP
  isplitl [H0]; · iexact H0
  isplitl [H1]; · iexact H1
  isplitl [H2]; · iexact H2
  isplitl [H3]; · iexact H3
  isplitl [HW]; · unfold owed; iexists W; iexact HW
  iintro HR HP H0 H1 H2 H3 HW
  isplitl [Hg HR HP]
  · isplitl [Hg]; · iexact Hg
    isplitl [HR]; · iexact HR
    iexact HP
  isplitl [HW]
  · unfold owed
    icases HW with ⟨%W', HW⟩
    iexists W'; isplitr; · ipureintro; exact fun _ _ => Or.inl trivial
    iexact HW
  isplitl [H0]; · iexact H0
  isplitl [H1]; · iexact H1
  isplitl [H2]; · iexact H2
  iapply (out_close m c _ t g) $$ H3

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The start and the end -/

theorem slotW_un : (slotW 0 ∪ slotW 1 : Finset S2x32x8192.Idx) = Finset.univ := Finset.ext fun i => ⟨fun _ => Finset.mem_univ _, fun _ => by
  have h : (i 0).val < 2 := (i 0).isLt
  rcases Nat.lt_or_ge (i 0).val 1 with h0 | h1
  · exact Finset.mem_union_left _ (Finset.mem_filter.mpr ⟨Finset.mem_univ _, by show (i 0).val = 0; omega⟩)
  · exact Finset.mem_union_right _ (Finset.mem_filter.mpr ⟨Finset.mem_univ _, by show (i 0).val = 1; omega⟩)⟩
theorem slotW_dj : Disjoint (slotW 0) (slotW 1) := Finset.disjoint_left.mpr fun i h0 h1 => by
  have a : (i 0).val = 0 := (Finset.mem_filter.mp h0).2
  have b : (i 0).val = 1 := (Finset.mem_filter.mp h1).2
  omega
theorem slotS_un : (slotS 0 ∪ slotS 1 : Finset S2x2x8x8192.Idx) = Finset.univ := Finset.ext fun i => ⟨fun _ => Finset.mem_univ _, fun _ => by
  have h : (i 0).val < 2 := (i 0).isLt
  rcases Nat.lt_or_ge (i 0).val 1 with h0 | h1
  · exact Finset.mem_union_left _ (Finset.mem_filter.mpr ⟨Finset.mem_univ _, by show (i 0).val = 0; omega⟩)
  · exact Finset.mem_union_right _ (Finset.mem_filter.mpr ⟨Finset.mem_univ _, by show (i 0).val = 1; omega⟩)⟩
theorem slotS_dj : Disjoint (slotS 0) (slotS 1) := Finset.disjoint_left.mpr fun i h0 h1 => by
  have a : (i 0).val = 0 := (Finset.mem_filter.mp h0).2
  have b : (i 0).val = 1 := (Finset.mem_filter.mp h1).2
  omega

/-- Both slots free: the buffers whole at anything, the cells at zero, the arrays whole. -/
theorem free_both (c : Dev nD) (W : Vec F S96x2x2x8192 .i32) (S : Vec F S96x2x8192 .f32) :
    iprop((∃ f : Vec F S2x32x8192 .i32, wBuf c ↦{fullShare} f) ∗ (∃ f : Vec F S2x2x8x8192 .f32, sBuf c ↦{fullShare} f)
      ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
      ∗ (wArr c ↦{fullShare} W) ∗ (sArr c ↦{fullShare} S)) ⊢ (iprop(free c W S 0 ∗ free c W S 1) : sProp (MM F)) := by
  unfold free
  have hw (f : Vec F S2x32x8192 .i32) : (iprop(wBuf c ↦{fullShare} f) : sProp (MM F)) ⊢ iprop((wBuf c ↦[slotW 0]{fullShare} f) ∗ wBuf c ↦[slotW 1]{fullShare} f) :=
    (Entails.of_eq (congrArg (fun I => (pointsTo (wBuf c) I fullShare f : sProp (MM F))) slotW_un.symm)).trans (pointsTo_union (ℓ := wBuf c) slotW_dj).1
  have hs' (f : Vec F S2x2x8x8192 .f32) : (iprop(sBuf c ↦{fullShare} f) : sProp (MM F)) ⊢ iprop((sBuf c ↦[slotS 0]{fullShare} f) ∗ sBuf c ↦[slotS 1]{fullShare} f) :=
    (Entails.of_eq (congrArg (fun I => (pointsTo (sBuf c) I fullShare f : sProp (MM F))) slotS_un.symm)).trans (pointsTo_union (ℓ := sBuf c) slotS_dj).1
  iintro ⟨⟨%fw, Hw⟩, ⟨%fs, Hs⟩, ⟨H6, H7, H8, H9⟩, HW, HS⟩
  ihave Hw := (hw fw) $$ Hw
  icases Hw with ⟨Hw0, Hw1⟩
  ihave Hs := (hs' fs) $$ Hs
  icases Hs with ⟨Hs0, Hs1⟩
  ihave HW := (pointsTo_share (PosShare.mem_left_op_right fullShare)).1 $$ HW
  icases HW with ⟨HW0, HW1⟩
  ihave HS := (pointsTo_share (PosShare.mem_left_op_right fullShare)).1 $$ HS
  icases HS with ⟨HS0, HS1⟩
  isplitl [Hw0 Hs0 H6 H8 HW0 HS0]
  · isplitl [Hw0]; · iexists fw; iexact Hw0
    isplitl [Hs0]; · iexists fs; iexact Hs0
    isplitl [H6]; · iexact H6
    isplitl [H8]; · iexact H8
    isplitl [HW0]; · iexact HW0
    iexact HS0
  isplitl [Hw1]; · iexists fw; iexact Hw1
  isplitl [Hs1]; · iexists fs; iexact Hs1
  isplitl [H7]; · iexact H7
  isplitl [H9]; · iexact H9
  isplitl [HW1]; · iexact HW1
  iexact HS1
theorem free_whole (c : Dev nD) (W : Vec F S96x2x2x8192 .i32) (S : Vec F S96x2x8192 .f32) :
    (iprop(free c W S 0 ∗ free c W S 1) : sProp (MM F)) ⊢ iprop((∃ f : Vec F S2x32x8192 .i32, wBuf c ↦{fullShare} f) ∗ (∃ f : Vec F S2x2x8x8192 .f32, sBuf c ↦{fullShare} f)
      ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
      ∗ (wArr c ↦{fullShare} W) ∗ (sArr c ↦{fullShare} S)) := by
  unfold free
  have hw (f g : Vec F S2x32x8192 .i32) : iprop((wBuf c ↦[slotW 0]{fullShare} f) ∗ wBuf c ↦[slotW 1]{fullShare} g) ⊢ (iprop(∃ e : Vec F S2x32x8192 .i32, wBuf c ↦{fullShare} e) : sProp (MM F)) := by
    refine ((pointsTo_join (ℓ := wBuf c) slotW_dj).trans (Entails.of_eq (congrArg (fun I => (pointsTo (wBuf c) I fullShare _ : sProp (MM F))) slotW_un))).trans ?_
    iintro H
    iexists _; iexact H
  have hs' (f g : Vec F S2x2x8x8192 .f32) : iprop((sBuf c ↦[slotS 0]{fullShare} f) ∗ sBuf c ↦[slotS 1]{fullShare} g) ⊢ (iprop(∃ e : Vec F S2x2x8x8192 .f32, sBuf c ↦{fullShare} e) : sProp (MM F)) := by
    refine ((pointsTo_join (ℓ := sBuf c) slotS_dj).trans (Entails.of_eq (congrArg (fun I => (pointsTo (sBuf c) I fullShare _ : sProp (MM F))) slotS_un))).trans ?_
    iintro H
    iexists _; iexact H
  iintro ⟨⟨⟨%fw, Hw0⟩, ⟨%fs, Hs0⟩, H6, H8, HW0, HS0⟩, ⟨%gw, Hw1⟩, ⟨%gs, Hs1⟩, H7, H9, HW1, HS1⟩
  isplitl [Hw0 Hw1]
  · iapply (hw fw gw)
    isplitl [Hw0]; · iexact Hw0
    iexact Hw1
  isplitl [Hs0 Hs1]
  · iapply (hs' fs gs)
    isplitl [Hs0]; · iexact Hs0
    iexact Hs1
  isplitl [H6 H7 H8 H9]
  · isplitl [H6]; · iexact H6
    isplitl [H7]; · iexact H7
    isplitl [H8]; · iexact H8
    iexact H9
  isplitl [HW0 HW1]
  · iapply (pointsTo_share (PosShare.mem_left_op_right fullShare)).2
    isplitl [HW0]; · iexact HW0
    iexact HW1
  iapply (pointsTo_share (PosShare.mem_left_op_right fullShare)).2
  isplitl [HS0]; · iexact HS0
  iexact HS1

theorem ringAt_0 (c : Dev nD) (W : Vec F S96x2x2x8192 .i32) (S : Vec F S96x2x8192 .f32) : (ringAt c W S 0 : sProp (MM F)) = iprop(free c W S 0 ∗ free c W S 1) := dif_neg (by omega)
theorem ringAt_12 (c : Dev nD) (W : Vec F S96x2x2x8192 .i32) (S : Vec F S96x2x8192 .f32) : (ringAt c W S 12 : sProp (MM F)) = iprop(free c W S 0 ∗ free c W S 1) := dif_neg (by omega)

theorem hin (c : Dev nD) : Pipeline.ΦD osem0 spec0 H0 (V m) c ⊢ (dats m 0 c).Φ 0 := by
  rw [show (dats m 0 c).Φ 0 = PhiR m c 0 from rfl, PhiD0_eq]
  unfold PhiR
  rw [ringAt_0]
  unfold pickAt
  rw [if_pos rfl]
  iintro ⟨⟨Hw, Hs, Hp⟩, Hg, Hc, HW, HS⟩
  isplitl [Hg]; · iexact Hg
  isplitr [Hp]
  · iapply (free_both c (V m c main_arg2) (V m c main_arg3))
    isplitl [Hw]; · iexact Hw
    isplitl [Hs]; · iexact Hs
    isplitl [Hc]; · iexact Hc
    isplitl [HW]; · iexact HW
    iexact HS
  iexact Hp
theorem hout (c : Dev nD) : (dats m 0 c).Φ (Fin.last cfg0.N) ⊢ Pipeline.ΦD osem0 spec0 H0 (V m) c := by
  rw [show (dats m 0 c).Φ (Fin.last cfg0.N) = PhiR m c grid0.N from rfl, show grid0.N = 12 by rw [N_0], PhiD0_eq]
  unfold PhiR
  rw [ringAt_12]
  unfold pickAt
  rw [if_neg (by omega)]
  iintro ⟨Hg, HR, Hp⟩
  ihave H := (free_whole c (V m c main_arg2) (V m c main_arg3)) $$ HR
  icases H with ⟨Hw, Hs, Hc, HW, HS⟩
  isplitl [Hw Hs Hp]
  · isplitl [Hw]; · iexact Hw
    isplitl [Hs]; · iexact Hs
    iexists _; iexact Hp
  isplitl [Hg]; · iexact Hg
  isplitl [Hc]; · iexact Hc
  isplitl [HW]; · iexact HW
  iexact HS

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl) (howed := fun _ _ => rfl)
    (V := V m) (hmain := hmainU m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c)))⟩) (run_main m ρ)
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (run_main_quiescent m ρ))

end Cert.Label.Hand

end
-- ==== Proof.LabelIdealRing.lean ====
module

public import proofs.«01_k».proof.Proof.Gen.LabelIdeal.Frame
public import proofs.«01_k».proof.Proof.Gen.LabelIdeal.Skeleton
public import Idealize.ShloMosaic.Lib.Batch

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof. -/
abbrev MM (F : FTy → Type) : Type := MT nD τ sig Unit (Elt F) ℕ (Pipeline.UD sig nD τ) ℕ

/-! ## The rows a step copies -/

/-- Semaphore cell `k` of the word copies. -/
def cellW (k : Fin 2) : SemLoc sig :=
  .dma ((cc0_scratch3.slice (Rect.unit (s := S2) ![k.val] S1.size (by intro a; fin_cases a; show k.val + 1 ≤ 2; omega))).squeeze S_ squeezes_S1_S_).sem
/-- Semaphore cell `k` of the scale copies. -/
def cellS (k : Fin 2) : SemLoc sig :=
  .dma ((cc0_scratch4.slice (Rect.unit (s := S2) ![k.val] S1.size (by intro a; fin_cases a; show k.val + 1 ≤ 2; omega))).squeeze S_ squeezes_S1_S_).sem

/-- Where word row `p` of slot `k` lands. -/
def wOff (k : Fin 2) (p : Fin 32) : Fin 3 → ℕ := ![k.val, (p.val % 2) * 16 + p.val / 2, 0]
/-- Where word row `p` of block `n` comes from. -/
def wFrom (n : Fin 12) (p : Fin 32) : Fin 4 → ℕ := ![8 * n.val + p.val / 4, (p.val / 2) % 2, p.val % 2, 0]
/-- Where scale row `q` of slot `k` lands. -/
def sOff (k : Fin 2) (q : Fin 16) : Fin 4 → ℕ := ![k.val, q.val % 2, q.val / 2, 0]
/-- Where scale row `q` of block `n` comes from. -/
def sFrom (n : Fin 12) (q : Fin 16) : Fin 3 → ℕ := ![8 * n.val + q.val / 2, q.val % 2, 0]

theorem wOff_inb (k p) : ∀ a, wOff k p a + S1x1x8192.size a ≤ S2x32x8192.size a := by
  intro a; fin_cases a
  · show k.val + 1 ≤ 2; omega
  · show (p.val % 2) * 16 + p.val / 2 + 1 ≤ 32; omega
  · show 0 + 8192 ≤ 8192; omega
theorem wFrom_inb (n p) : ∀ a, wFrom n p a + S1x1x1x8192.size a ≤ S96x2x2x8192.size a := by
  intro a; fin_cases a
  · show 8 * n.val + p.val / 4 + 1 ≤ 96; omega
  · show (p.val / 2) % 2 + 1 ≤ 2; omega
  · show p.val % 2 + 1 ≤ 2; omega
  · show 0 + 8192 ≤ 8192; omega
theorem sOff_inb (k q) : ∀ a, sOff k q a + S1x1x1x8192.size a ≤ S2x2x8x8192.size a := by
  intro a; fin_cases a
  · show k.val + 1 ≤ 2; omega
  · show q.val % 2 + 1 ≤ 2; omega
  · show q.val / 2 + 1 ≤ 8; omega
  · show 0 + 8192 ≤ 8192; omega
theorem sFrom_inb (n q) : ∀ a, sFrom n q a + S1x1x8192.size a ≤ S96x2x8192.size a := by
  intro a; fin_cases a
  · show 8 * n.val + q.val / 2 + 1 ≤ 96; omega
  · show q.val % 2 + 1 ≤ 2; omega
  · show 0 + 8192 ≤ 8192; omega

/-- Word row `p` of slot `k`. -/
def wRow (k : Fin 2) (p : Fin 32) : Memref sig .tc .vmem S8192 .i32 :=
  ((Memref.whole cc0_scratch0 : Memref sig .tc .vmem S2x32x8192 .i32).slice (Rect.unit (s := S2x32x8192) (wOff k p) S1x1x8192.size (wOff_inb k p)) (fun _ => rfl)).squeeze S8192 squeezes_S1x1x8192_S8192
/-- Word row `p` of block `n` in the array. -/
def wSrc (n : Fin 12) (p : Fin 32) : Memref sig .tc .hbm S8192 .i32 :=
  ((Memref.whole main_arg2 : Memref sig .tc .hbm S96x2x2x8192 .i32).slice (Rect.unit (s := S96x2x2x8192) (wFrom n p) S1x1x1x8192.size (wFrom_inb n p)) (fun _ => rfl)).squeeze S8192 squeezes_S1x1x1x8192_S8192
/-- Scale row `q` of slot `k`. -/
def sRow (k : Fin 2) (q : Fin 16) : Memref sig .tc .vmem S8192 .f32 :=
  ((Memref.whole cc0_scratch1 : Memref sig .tc .vmem S2x2x8x8192 .f32).slice (Rect.unit (s := S2x2x8x8192) (sOff k q) S1x1x1x8192.size (sOff_inb k q)) (fun _ => rfl)).squeeze S8192 squeezes_S1x1x1x8192_S8192
/-- Scale row `q` of block `n` in the array. -/
def sSrc (n : Fin 12) (q : Fin 16) : Memref sig .tc .hbm S8192 .f32 :=
  ((Memref.whole main_arg3 : Memref sig .tc .hbm S96x2x8192 .f32).slice (Rect.unit (s := S96x2x8192) (sFrom n q) S1x1x8192.size (sFrom_inb n q)) (fun _ => rfl)).squeeze S8192 squeezes_S1x1x8192_S8192

/-! ## The landed contents -/

/-- The array element that lands at `i` of the word scratch from block `n`. -/
def wIx (n : Fin 12) (i : S2x32x8192.Idx) : S96x2x2x8192.Idx := fun
  | 0 => ⟨8 * n.val + ((i 1).val % 16) / 2, by have : (i 1).val < 32 := (i 1).isLt; show _ < 96; omega⟩
  | 1 => ⟨(i 1).val % 2, by show _ < 2; omega⟩
  | 2 => ⟨(i 1).val / 16, by have : (i 1).val < 32 := (i 1).isLt; show _ < 2; omega⟩
  | 3 => ⟨(i 2).val, (i 2).isLt⟩
/-- The array element that lands at `i` of the scale scratch from block `n`. -/
def sIx (n : Fin 12) (i : S2x2x8x8192.Idx) : S96x2x8192.Idx := fun
  | 0 => ⟨8 * n.val + (i 2).val, by have : (i 2).val < 8 := (i 2).isLt; show _ < 96; omega⟩
  | 1 => ⟨(i 1).val, (i 1).isLt⟩
  | 2 => ⟨(i 3).val, (i 3).isLt⟩
/-- The word scratch with block `n` landed, in either slot. -/
def Gw (W : Vec F S96x2x2x8192 .i32) (n : Fin 12) : Vec F S2x32x8192 .i32 := fun i => W (wIx n i)
/-- The scale scratch with block `n` landed, in either slot. -/
def Gs (S : Vec F S96x2x8192 .f32) (n : Fin 12) : Vec F S2x2x8x8192 .f32 := fun i => S (sIx n i)

/-- The matched index of a row in a rank-3 window of one row. -/
theorem rs3 (y : S8192.Idx) (h) : (Shape.reshapeEquiv (s := S1x1x8192) (s' := S8192) h y) = (fun | 0 => ⟨0, by decide⟩ | 1 => ⟨0, by decide⟩ | 2 => ⟨(y 0).val, (y 0).isLt⟩ : S1x1x8192.Idx) := by
  apply Shape.reshapeEquiv_eq_of_rowMajor
  rw [Shape.rowMajor_val_three, Shape.rowMajor_val_one]
  show (0 * 1 + 0) * 8192 + (y 0).val = (y 0).val
  omega
/-- The matched index of a row in a rank-4 window of one row. -/
theorem rs4 (y : S8192.Idx) (h) : (Shape.reshapeEquiv (s := S1x1x1x8192) (s' := S8192) h y) = (fun | 0 => ⟨0, by decide⟩ | 1 => ⟨0, by decide⟩ | 2 => ⟨0, by decide⟩ | 3 => ⟨(y 0).val, (y 0).isLt⟩ : S1x1x1x8192.Idx) := by
  apply Shape.reshapeEquiv_eq_of_rowMajor
  rw [Shape.rowMajor_val_four, Shape.rowMajor_val_one]
  show ((0 * 1 + 0) * 1 + 0) * 8192 + (y 0).val = (y 0).val
  omega

theorem w_emb (k : Fin 2) (n : Fin 12) (p : Fin 32) (y : S8192.Idx) : wIx n ((wRow k p).view.emb y) = (wSrc n p).view.emb y := by
  have e1 : (wRow k p).view.emb y = (Rect.unit (s := S2x32x8192) (wOff k p) S1x1x8192.size (wOff_inb k p)).emb (Shape.reshapeEquiv (s := S1x1x8192) (s' := S8192) squeezes_S1x1x8192_S8192.numel_eq y) := rfl
  have e2 : (wSrc n p).view.emb y = (Rect.unit (s := S96x2x2x8192) (wFrom n p) S1x1x1x8192.size (wFrom_inb n p)).emb (Shape.reshapeEquiv (s := S1x1x1x8192) (s' := S8192) squeezes_S1x1x1x8192_S8192.numel_eq y) := rfl
  rw [e1, e2, rs3, rs4]
  funext a; apply Fin.ext; fin_cases a
  · show 8 * n.val + ((p.val % 2) * 16 + p.val / 2 + 1 * 0) % 16 / 2 = 8 * n.val + p.val / 4 + 1 * 0
    rcases Nat.mod_two_eq_zero_or_one p.val with h | h <;> rw [h] <;> omega
  · show ((p.val % 2) * 16 + p.val / 2 + 1 * 0) % 2 = (p.val / 2) % 2 + 1 * 0
    rcases Nat.mod_two_eq_zero_or_one p.val with h | h <;> rw [h] <;> omega
  · show ((p.val % 2) * 16 + p.val / 2 + 1 * 0) / 16 = p.val % 2 + 1 * 0
    rcases Nat.mod_two_eq_zero_or_one p.val with h | h <;> rw [h] <;> omega
  · rfl
theorem s_emb (k : Fin 2) (n : Fin 12) (q : Fin 16) (y : S8192.Idx) : sIx n ((sRow k q).view.emb y) = (sSrc n q).view.emb y := by
  have e1 : (sRow k q).view.emb y = (Rect.unit (s := S2x2x8x8192) (sOff k q) S1x1x1x8192.size (sOff_inb k q)).emb (Shape.reshapeEquiv (s := S1x1x1x8192) (s' := S8192) squeezes_S1x1x1x8192_S8192.numel_eq y) := rfl
  have e2 : (sSrc n q).view.emb y = (Rect.unit (s := S96x2x8192) (sFrom n q) S1x1x8192.size (sFrom_inb n q)).emb (Shape.reshapeEquiv (s := S1x1x8192) (s' := S8192) squeezes_S1x1x8192_S8192.numel_eq y) := rfl
  rw [e1, e2, rs3, rs4]
  funext a; apply Fin.ext; fin_cases a
  · show 8 * n.val + (q.val / 2 + 1 * 0) = 8 * n.val + q.val / 2 + 1 * 0
    omega
  · rfl
  · rfl

theorem w_land (W : Vec F S96x2x2x8192 .i32) (f : Vec F S2x32x8192 .i32) (k : Fin 2) (n : Fin 12) (p : Fin 32) :
    ∀ i ∈ (wRow k p).view.set, ((wRow k p).view.write (Elt F) f (ReadAs.same.apply ((wSrc n p).view.read (Elt F) W)) Finset.univ : Vec F S2x32x8192 .i32) i = Gw W n i := by
  intro i hi
  obtain ⟨y, -, rfl⟩ := Finset.mem_map.mp hi
  refine ((wRow k p).view.write_emb_of_mem f _ (Finset.mem_univ y)).trans ?_
  show W ((wSrc n p).view.emb y) = W (wIx n ((wRow k p).view.emb y))
  rw [w_emb]
theorem s_land (S : Vec F S96x2x8192 .f32) (f : Vec F S2x2x8x8192 .f32) (k : Fin 2) (n : Fin 12) (q : Fin 16) :
    ∀ i ∈ (sRow k q).view.set, ((sRow k q).view.write (Elt F) f (ReadAs.same.apply ((sSrc n q).view.read (Elt F) S)) Finset.univ : Vec F S2x2x8x8192 .f32) i = Gs S n i := by
  intro i hi
  obtain ⟨y, -, rfl⟩ := Finset.mem_map.mp hi
  refine ((sRow k q).view.write_emb_of_mem f _ (Finset.mem_univ y)).trans ?_
  show S ((sSrc n q).view.emb y) = S (sIx n ((sRow k q).view.emb y))
  rw [s_emb]

/-! ## The flights -/

/-- Ownership of part of an array can be kept in an invariant. -/
theorem storable_pt {nD' : ℕ} {τ' : Topo} {sg : RefSig} {Ix' : Type} {Val' : EltTy → Type} {Name' U' Lvl' : Type} [DecidableEq Ix'] [DecidableEq Name'] [URA U'] [Preorder Lvl']
    (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance

/-- One word row's credit, and one scale row's. -/
def NW : ℕ := (wRow 0 0).view.dmaCredit
def NS : ℕ := (sRow 0 0).view.dmaCredit
theorem NW_pos : 0 < NW := View.dmaCredit_pos _ (by decide)
theorem NS_pos : 0 < NS := View.dmaCredit_pos _ (by decide)

abbrev wArr (c : Dev nD) : Loc nD τ sig := (c : Thread nD τ).loc main_arg2
abbrev sArr (c : Dev nD) : Loc nD τ sig := (c : Thread nD τ).loc main_arg3
abbrev wBuf (c : Dev nD) : Loc nD τ sig := (c : Thread nD τ).loc cc0_scratch0
abbrev sBuf (c : Dev nD) : Loc nD τ sig := (c : Thread nD τ).loc cc0_scratch1

section Flights
variable (c : Dev nD) (W : Vec F S96x2x2x8192 .i32) (S : Vec F S96x2x8192 .f32) (q : PosShare TreeShare) (k : Fin 2) (n : Fin 12)

/-- What word row `p`'s copy delivers. -/
def dW (p : Fin 32) : sProp (MM F) := iprop((wBuf c ↦[(wRow k p).view.set]{fullShare} Gw W n) ∗ (wArr c ↦[(wSrc n p).view.set]{q} W))
def dS (p : Fin 16) : sProp (MM F) := iprop((sBuf c ↦[(sRow k p).view.set]{fullShare} Gs S n) ∗ (sArr c ↦[(sSrc n p).view.set]{q} S))
/-- What word row `p`'s copy takes. -/
def tW (f : Vec F S2x32x8192 .i32) (p : Fin 32) : sProp (MM F) := iprop((wBuf c ↦[(wRow k p).view.set]{fullShare} f) ∗ (wArr c ↦[(wSrc n p).view.set]{q} W))
def tS (f : Vec F S2x2x8x8192 .f32) (p : Fin 16) : sProp (MM F) := iprop((sBuf c ↦[(sRow k p).view.set]{fullShare} f) ∗ (sArr c ↦[(sSrc n p).view.set]{q} S))

theorem dW_storable : ∀ p, Storable (upEmb : UEmb _ (MM F)) (dW c W q k n p) := fun p => @Storable.sep _ _ _ _ _ _ _ _ (storable_pt _ _ _ _) (storable_pt _ _ _ _)
theorem dS_storable : ∀ p, Storable (upEmb : UEmb _ (MM F)) (dS c S q k n p) := fun p => @Storable.sep _ _ _ _ _ _ _ _ (storable_pt _ _ _ _) (storable_pt _ _ _ _)

/-- The word copies with the first `p` issued and none waited. -/
def flyW (f : Vec F S2x32x8192 .i32) (p : ℕ) : sProp (MM F) :=
  iprop(Transfers.Batch countersEmb (c : Thread nD τ) (cellW k) () NW (dW c W q k n) p 0 ∗ bigSep (Transfers.pending p) (tW c W q k n f))
def flyS (f : Vec F S2x2x8x8192 .f32) (p : ℕ) : sProp (MM F) :=
  iprop(Transfers.Batch countersEmb (c : Thread nD τ) (cellS k) () NS (dS c S q k n) p 0 ∗ bigSep (Transfers.pending p) (tS c S q k n f))

/-- One word copy issued. -/
theorem issueW {f : Vec F S2x32x8192 .i32} (p : ℕ) (hp : p < 32) {oc : Fin 1 → ℕ} {od : Fin 3 → ℕ} {os : Fin 4 → ℕ} (hc : oc = ![k.val]) (hd : od = wOff k ⟨p, hp⟩) (hs : os = wFrom n ⟨p, hp⟩)
    {h1 h2 h3} {e1 e2 e3} {α : Type} {K : PUnit → Prog (TpuEff nD τ sig (Elt F) Λ₀ .tc) α} {Q : α → sProp (MM F)} :
    flyW c W q k n f p ⊢ iprop((flyW c W q k n f (p + 1) -∗ wp frame (wpE (defs₀ (F := F)) Variants.none c none) Set.univ (K ⟨⟩) Q)
      -∗ wp frame (wpE (defs₀ (F := F)) Variants.none c none) Set.univ
        (.op (.enqueueDmaAs
          (((Memref.whole main_arg2 : Memref sig .tc .hbm S96x2x2x8192 .i32).slice (Rect.unit (s := S96x2x2x8192) os S1x1x1x8192.size h1) (fun _ => rfl)).squeeze S8192 squeezes_S1x1x1x8192_S8192)
          (.here (((Memref.whole cc0_scratch0 : Memref sig .tc .vmem S2x32x8192 .i32).slice (Rect.unit (s := S2x32x8192) od S1x1x8192.size h2) (fun _ => rfl)).squeeze S8192 squeezes_S1x1x8192_S8192))
          .same (.dma ((cc0_scratch3.slice (Rect.unit (s := S2) oc S1.size h3)).squeeze S_ squeezes_S1_S_).sem) e1 e2 e3) K) Q) := by
  subst hc; subst hd; subst hs
  unfold flyW
  rw [Transfers.bigSep_pending_step _ p hp]
  iintro ⟨HB, ⟨HT, HR⟩⟩ HK
  unfold tW
  icases HT with ⟨Hd, Hs⟩
  iapply (Transfers.wp_dmaBatch countersEmb Variants.none (c : Thread nD τ) none (src := wSrc n ⟨p, hp⟩) (dst := wRow k ⟨p, hp⟩) (via := .same) (sm := cellW k) () NW rfl subset_rfl
    (D := dW c W q k n) (j := p) (u := 0) hp (Nat.zero_le _) (by
      unfold dW
      exact sep_mono (Entails.of_eq (pointsTo_congr (w_land W f k n ⟨p, hp⟩))) .rfl)) $$ [Hs Hd HB]
  · isplitl [Hs]; · iexact Hs
    isplitl [Hd]; · iexact Hd
    iexact HB
  iintro HB
  iapply HK
  isplitl [HB]; · iexact HB
  iexact HR

/-- One scale copy issued. -/
theorem issueS {f : Vec F S2x2x8x8192 .f32} (p : ℕ) (hp : p < 16) {oc : Fin 1 → ℕ} {od : Fin 4 → ℕ} {os : Fin 3 → ℕ} (hc : oc = ![k.val]) (hd : od = sOff k ⟨p, hp⟩) (hs : os = sFrom n ⟨p, hp⟩)
    {h1 h2 h3} {e1 e2 e3} {α : Type} {K : PUnit → Prog (TpuEff nD τ sig (Elt F) Λ₀ .tc) α} {Q : α → sProp (MM F)} :
    flyS c S q k n f p ⊢ iprop((flyS c S q k n f (p + 1) -∗ wp frame (wpE (defs₀ (F := F)) Variants.none c none) Set.univ (K ⟨⟩) Q)
      -∗ wp frame (wpE (defs₀ (F := F)) Variants.none c none) Set.univ
        (.op (.enqueueDmaAs
          (((Memref.whole main_arg3 : Memref sig .tc .hbm S96x2x8192 .f32).slice (Rect.unit (s := S96x2x8192) os S1x1x8192.size h1) (fun _ => rfl)).squeeze S8192 squeezes_S1x1x8192_S8192)
          (.here (((Memref.whole cc0_scratch1 : Memref sig .tc .vmem S2x2x8x8192 .f32).slice (Rect.unit (s := S2x2x8x8192) od S1x1x1x8192.size h2) (fun _ => rfl)).squeeze S8192 squeezes_S1x1x1x8192_S8192))
          .same (.dma ((cc0_scratch4.slice (Rect.unit (s := S2) oc S1.size h3)).squeeze S_ squeezes_S1_S_).sem) e1 e2 e3) K) Q) := by
  subst hc; subst hd; subst hs
  unfold flyS
  rw [Transfers.bigSep_pending_step _ p hp]
  iintro ⟨HB, ⟨HT, HR⟩⟩ HK
  unfold tS
  icases HT with ⟨Hd, Hs⟩
  iapply (Transfers.wp_dmaBatch countersEmb Variants.none (c : Thread nD τ) none (src := sSrc n ⟨p, hp⟩) (dst := sRow k ⟨p, hp⟩) (via := .same) (sm := cellS k) () NS rfl subset_rfl
    (D := dS c S q k n) (j := p) (u := 0) hp (Nat.zero_le _) (by
      unfold dS
      exact sep_mono (Entails.of_eq (pointsTo_congr (s_land S f k n ⟨p, hp⟩))) .rfl)) $$ [Hs Hd HB]
  · isplitl [Hs]; · iexact Hs
    isplitl [Hd]; · iexact Hd
    iexact HB
  iintro HB
  iapply HK
  isplitl [HB]; · iexact HB
  iexact HR

/-- The word copies all issued, `p` waited. -/
def landW (p : ℕ) : sProp (MM F) := Transfers.Batch countersEmb (c : Thread nD τ) (cellW k) () NW (dW c W q k n) 32 (p * NW)
/-- The scale copies all issued, `p` waited. -/
def landS (p : ℕ) : sProp (MM F) := Transfers.Batch countersEmb (c : Thread nD τ) (cellS k) () NS (dS c S q k n) 16 (p * NS)
/-- The waits the thread has recorded. -/
def owed : sProp (MM F) := iprop(∃ X : Waits sig Unit, owes (c : Thread nD τ) 0 X)

/-- One word wait that is not the last. -/
theorem waitW (p : ℕ) (hp : p + 1 < 32) {oc : Fin 1 → ℕ} {od : Fin 3 → ℕ} {os : Fin 4 → ℕ} (hc : oc = ![k.val])
    {h1 h2 h3} {e1 e2} {α : Type} {K : PUnit → Prog (TpuEff nD τ sig (Elt F) Λ₀ .tc) α} {Q : α → sProp (MM F)} :
    iprop(landW c W q k n p ∗ owed c) ⊢
      iprop((iprop(landW c W q k n (p + 1) ∗ owed c) -∗ wp frame (wpE (defs₀ (F := F)) Variants.none c none) Set.univ (K ⟨⟩) Q)
      -∗ wp frame (wpE (defs₀ (F := F)) Variants.none c none) Set.univ
        (.op (.waitDma2 ((cc0_scratch3.slice (Rect.unit (s := S2) oc S1.size h3)).squeeze S_ squeezes_S1_S_).sem
          (((Memref.whole main_arg2 : Memref sig .tc .hbm S96x2x2x8192 .i32).slice (Rect.unit (s := S96x2x2x8192) os S1x1x1x8192.size h1) (fun _ => rfl)).squeeze S8192 squeezes_S1x1x1x8192_S8192)
          (((Memref.whole cc0_scratch0 : Memref sig .tc .vmem S2x32x8192 .i32).slice (Rect.unit (s := S2x32x8192) od S1x1x8192.size h2) (fun _ => rfl)).squeeze S8192 squeezes_S1x1x8192_S8192)
          e1 e2) K) Q) := by
  subst hc
  unfold landW owed
  iintro ⟨HB, ⟨%X, HO⟩⟩ HK
  iapply (Transfers.wp_waitBatch countersEmb Variants.none (c : Thread nD τ) none (srcw := ((Memref.whole main_arg2 : Memref sig .tc .hbm S96x2x2x8192 .i32).slice (Rect.unit (s := S96x2x2x8192) os S1x1x1x8192.size h1) (fun _ => rfl)).squeeze S8192 squeezes_S1x1x1x8192_S8192) (dstw := ((Memref.whole cc0_scratch0 : Memref sig .tc .vmem S2x32x8192 .i32).slice (Rect.unit (s := S2x32x8192) od S1x1x8192.size h2) (fun _ => rfl)).squeeze S8192 squeezes_S1x1x8192_S8192) (hsrc := e1) (hdst := e2) () (N := NW) rfl (D := dW c W q k n) (u := p * NW) (W := X)
    (by have h := Nat.mul_lt_mul_of_pos_right hp NW_pos; rw [Nat.succ_mul, Nat.mul_comm 32] at h; exact h)) $$ [HB HO]
  · isplitl [HB]; · iexact HB
    iexact HO
  iintro ⟨HB, HO⟩
  iapply HK
  isplitl [HB]
  · rw [Nat.succ_mul]; iexact HB
  · iexists _; iexact HO
/-- The last word wait. -/
theorem lastW {oc : Fin 1 → ℕ} {od : Fin 3 → ℕ} {os : Fin 4 → ℕ} (hc : oc = ![k.val])
    {h1 h2 h3} {e1 e2} {α : Type} {K : PUnit → Prog (TpuEff nD τ sig (Elt F) Λ₀ .tc) α} {Q : α → sProp (MM F)} :
    iprop(landW c W q k n 31 ∗ owed c) ⊢
      iprop((iprop((bigSep Finset.univ (dW c W q k n) ∗ semVal ((c : Thread nD τ), cellW k) 0) ∗ owed c) -∗ wp frame (wpE (defs₀ (F := F)) Variants.none c none) Set.univ (K ⟨⟩) Q)
      -∗ wp frame (wpE (defs₀ (F := F)) Variants.none c none) Set.univ
        (.op (.waitDma2 ((cc0_scratch3.slice (Rect.unit (s := S2) oc S1.size h3)).squeeze S_ squeezes_S1_S_).sem
          (((Memref.whole main_arg2 : Memref sig .tc .hbm S96x2x2x8192 .i32).slice (Rect.unit (s := S96x2x2x8192) os S1x1x1x8192.size h1) (fun _ => rfl)).squeeze S8192 squeezes_S1x1x1x8192_S8192)
          (((Memref.whole cc0_scratch0 : Memref sig .tc .vmem S2x32x8192 .i32).slice (Rect.unit (s := S2x32x8192) od S1x1x8192.size h2) (fun _ => rfl)).squeeze S8192 squeezes_S1x1x8192_S8192)
          e1 e2) K) Q) := by
  subst hc
  unfold landW owed
  iintro ⟨HB, ⟨%X, HO⟩⟩ HK
  iapply (Transfers.wp_waitBatchLast countersEmb Variants.none (c : Thread nD τ) none (srcw := ((Memref.whole main_arg2 : Memref sig .tc .hbm S96x2x2x8192 .i32).slice (Rect.unit (s := S96x2x2x8192) os S1x1x1x8192.size h1) (fun _ => rfl)).squeeze S8192 squeezes_S1x1x1x8192_S8192) (dstw := ((Memref.whole cc0_scratch0 : Memref sig .tc .vmem S2x32x8192 .i32).slice (Rect.unit (s := S2x32x8192) od S1x1x8192.size h2) (fun _ => rfl)).squeeze S8192 squeezes_S1x1x8192_S8192) (hsrc := e1) (hdst := e2) () (N := NW) rfl NW_pos (D := dW c W q k n) (u := 31 * NW) (W := X) (by omega)) $$ [HB HO]
  · isplitl [HB]; · iexact HB
    iexact HO
  iintro ⟨HB, HV, HO⟩
  iapply HK
  isplitr [HO]
  · isplitl [HB]; · iexact HB
    iexact HV
  · iexists _; iexact HO

/-- One scale wait that is not the last. -/
theorem waitS (p : ℕ) (hp : p + 1 < 16) {oc : Fin 1 → ℕ} {od : Fin 4 → ℕ} {os : Fin 3 → ℕ} (hc : oc = ![k.val])
    {h1 h2 h3} {e1 e2} {α : Type} {K : PUnit → Prog (TpuEff nD τ sig (Elt F) Λ₀ .tc) α} {Q : α → sProp (MM F)} :
    iprop(landS c S q k n p ∗ owed c) ⊢
      iprop((iprop(landS c S q k n (p + 1) ∗ owed c) -∗ wp frame (wpE (defs₀ (F := F)) Variants.none c none) Set.univ (K ⟨⟩) Q)
      -∗ wp frame (wpE (defs₀ (F := F)) Variants.none c none) Set.univ
        (.op (.waitDma2 ((cc0_scratch4.slice (Rect.unit (s := S2) oc S1.size h3)).squeeze S_ squeezes_S1_S_).sem
          (((Memref.whole main_arg3 : Memref sig .tc .hbm S96x2x8192 .f32).slice (Rect.unit (s := S96x2x8192) os S1x1x8192.size h1) (fun _ => rfl)).squeeze S8192 squeezes_S1x1x8192_S8192)
          (((Memref.whole cc0_scratch1 : Memref sig .tc .vmem S2x2x8x8192 .f32).slice (Rect.unit (s := S2x2x8x8192) od S1x1x1x8192.size h2) (fun _ => rfl)).squeeze S8192 squeezes_S1x1x1x8192_S8192)
          e1 e2) K) Q) := by
  subst hc
  unfold landS owed
  iintro ⟨HB, ⟨%X, HO⟩⟩ HK
  iapply (Transfers.wp_waitBatch countersEmb Variants.none (c : Thread nD τ) none (srcw := ((Memref.whole main_arg3 : Memref sig .tc .hbm S96x2x8192 .f32).slice (Rect.unit (s := S96x2x8192) os S1x1x8192.size h1) (fun _ => rfl)).squeeze S8192 squeezes_S1x1x8192_S8192) (dstw := ((Memref.whole cc0_scratch1 : Memref sig .tc .vmem S2x2x8x8192 .f32).slice (Rect.unit (s := S2x2x8x8192) od S1x1x1x8192.size h2) (fun _ => rfl)).squeeze S8192 squeezes_S1x1x1x8192_S8192) (hsrc := e1) (hdst := e2) () (N := NS) rfl (D := dS c S q k n) (u := p * NS) (W := X)
    (by have h := Nat.mul_lt_mul_of_pos_right hp NS_pos; rw [Nat.succ_mul, Nat.mul_comm 16] at h; exact h)) $$ [HB HO]
  · isplitl [HB]; · iexact HB
    iexact HO
  iintro ⟨HB, HO⟩
  iapply HK
  isplitl [HB]
  · rw [Nat.succ_mul]; iexact HB
  · iexists _; iexact HO
/-- The last scale wait. -/
theorem lastS {oc : Fin 1 → ℕ} {od : Fin 4 → ℕ} {os : Fin 3 → ℕ} (hc : oc = ![k.val])
    {h1 h2 h3} {e1 e2} {α : Type} {K : PUnit → Prog (TpuEff nD τ sig (Elt F) Λ₀ .tc) α} {Q : α → sProp (MM F)} :
    iprop(landS c S q k n 15 ∗ owed c) ⊢
      iprop((iprop((bigSep Finset.univ (dS c S q k n) ∗ semVal ((c : Thread nD τ), cellS k) 0) ∗ owed c) -∗ wp frame (wpE (defs₀ (F := F)) Variants.none c none) Set.univ (K ⟨⟩) Q)
      -∗ wp frame (wpE (defs₀ (F := F)) Variants.none c none) Set.univ
        (.op (.waitDma2 ((cc0_scratch4.slice (Rect.unit (s := S2) oc S1.size h3)).squeeze S_ squeezes_S1_S_).sem
          (((Memref.whole main_arg3 : Memref sig .tc .hbm S96x2x8192 .f32).slice (Rect.unit (s := S96x2x8192) os S1x1x8192.size h1) (fun _ => rfl)).squeeze S8192 squeezes_S1x1x8192_S8192)
          (((Memref.whole cc0_scratch1 : Memref sig .tc .vmem S2x2x8x8192 .f32).slice (Rect.unit (s := S2x2x8x8192) od S1x1x1x8192.size h2) (fun _ => rfl)).squeeze S8192 squeezes_S1x1x1x8192_S8192)
          e1 e2) K) Q) := by
  subst hc
  unfold landS owed
  iintro ⟨HB, ⟨%X, HO⟩⟩ HK
  iapply (Transfers.wp_waitBatchLast countersEmb Variants.none (c : Thread nD τ) none (srcw := ((Memref.whole main_arg3 : Memref sig .tc .hbm S96x2x8192 .f32).slice (Rect.unit (s := S96x2x8192) os S1x1x8192.size h1) (fun _ => rfl)).squeeze S8192 squeezes_S1x1x8192_S8192) (dstw := ((Memref.whole cc0_scratch1 : Memref sig .tc .vmem S2x2x8x8192 .f32).slice (Rect.unit (s := S2x2x8x8192) od S1x1x1x8192.size h2) (fun _ => rfl)).squeeze S8192 squeezes_S1x1x1x8192_S8192) (hsrc := e1) (hdst := e2) () (N := NS) rfl NS_pos (D := dS c S q k n) (u := 15 * NS) (W := X) (by omega)) $$ [HB HO]
  · isplitl [HB]; · iexact HB
    iexact HO
  iintro ⟨HB, HV, HO⟩
  iapply HK
  isplitr [HO]
  · isplitl [HB]; · iexact HB
    iexact HV
  · iexists _; iexact HO

/-- All issued, none waited. -/
theorem flyW_land (f : Vec F S2x32x8192 .i32) : flyW c W q k n f 32 ⊢ landW c W q k n 0 := by
  unfold flyW landW
  rw [Nat.zero_mul]
  iintro ⟨HB, -⟩
  iexact HB
theorem flyS_land (f : Vec F S2x2x8x8192 .f32) : flyS c S q k n f 16 ⊢ landS c S q k n 0 := by
  unfold flyS landS
  rw [Nat.zero_mul]
  iintro ⟨HB, -⟩
  iexact HB
end Flights

end Cert.LabelIdeal.Hand

end
-- ==== Proof.LabelIdealIssue.lean ====
module

public import proofs.«01_k».proof.Proof.LabelIdealRing
public import proofs.«01_k».proof.Proof.Gen.LabelIdeal.Skeleton
public import Idealize.ShloMosaic.Lib.Batch

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The copies started, part by part -/

/-- The slot of point `t`, the slot of the next point, and the next point's block. -/
def sl (t : Fin cfg0.N) : Fin 2 := ⟨t.val % 2, by omega⟩
def sn (t : Fin cfg0.N) : Fin 2 := ⟨(t.val + 1) % 2, by omega⟩
def bn (t : Fin cfg0.N) : Fin 12 := ⟨(t.val + 1) % 12, by omega⟩

variable (c : Dev nD) (W : Vec F S96x2x2x8192 .i32) (S : Vec F S96x2x8192 .f32) (qw qs : PosShare TreeShare) (fw : Vec F S2x32x8192 .i32) (fs : Vec F S2x2x8x8192 .f32)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)

/-- A finished operation hands its value on. -/
theorem ret_bind {E : Type → Type} {α β : Type} (a : α) (k : α → Prog E β) : (Prog.ret a).bind k = k a := rfl

theorem iss1 (i : grid0.Coords) {Q : PUnit → sProp (MM F)} :
    iprop(flyW c W qw 0 0 fw 0 ∗ flyS c S qs 0 0 fs 0 ∗ (iprop(flyW c W qw 0 0 fw 2 ∗ flyS c S qs 0 0 fs 2) -∗ Q ⟨⟩)) ⊢ wp frame (wpE (defs₀ (F := F)) Variants.none c none) Set.univ (k0_part1 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part1_eq_skeleton]; unfold k0_part1_skel
  iintro ⟨HW, HS, HK⟩
  iapply (issueS c S qs 0 0 0 (by decide) (oc := ![0]) (od := ![0, 0, 0, 0]) (os := ![0, 0, 0])  (by decide) (by decide) (by decide)) $$ HS
  iintro HS
  simp only [ret_bind]
  iapply (issueW c W qw 0 0 0 (by decide) (oc := ![0]) (od := ![0, 0, 0]) (os := ![0, 0, 0, 0])  (by decide) (by decide) (by decide)) $$ HW
  iintro HW
  simp only [ret_bind]
  iapply (issueW c W qw 0 0 1 (by decide) (oc := ![0]) (od := ![0, 16, 0]) (os := ![0, 0, 1, 0])  (by decide) (by decide) (by decide)) $$ HW
  iintro HW
  simp only [ret_bind]
  iapply (issueS c S qs 0 0 1 (by decide) (oc := ![0]) (od := ![0, 1, 0, 0]) (os := ![0, 1, 0])  (by decide) (by decide) (by decide)) $$ HS
  iintro HS
  simp only [ret_bind]
  rw [wp_pure]
  imodintro
  iapply HK
  isplitl [HW]; · iexact HW
  iexact HS

theorem iss2 (i : grid0.Coords) {Q : PUnit → sProp (MM F)} :
    iprop(flyW c W qw 0 0 fw 2 ∗ flyS c S qs 0 0 fs 2 ∗ (iprop(flyW c W qw 0 0 fw 5 ∗ flyS c S qs 0 0 fs 3) -∗ Q ⟨⟩)) ⊢ wp frame (wpE (defs₀ (F := F)) Variants.none c none) Set.univ (k0_part2 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part2_eq_skeleton]; unfold k0_part2_skel
  iintro ⟨HW, HS, HK⟩
  iapply (issueW c W qw 0 0 2 (by decide) (oc := ![0]) (od := ![0, 1, 0]) (os := ![0, 1, 0, 0])  (by decide) (by decide) (by decide)) $$ HW
  iintro HW
  simp only [ret_bind]
  iapply (issueW c W qw 0 0 3 (by decide) (oc := ![0]) (od := ![0, 17, 0]) (os := ![0, 1, 1, 0])  (by decide) (by decide) (by decide)) $$ HW
  iintro HW
  simp only [ret_bind]
  iapply (issueS c S qs 0 0 2 (by decide) (oc := ![0]) (od := ![0, 0, 1, 0]) (os := ![1, 0, 0])  (by decide) (by decide) (by decide)) $$ HS
  iintro HS
  simp only [ret_bind]
  iapply (issueW c W qw 0 0 4 (by decide) (oc := ![0]) (od := ![0, 2, 0]) (os := ![1, 0, 0, 0])  (by decide) (by decide) (by decide)) $$ HW
  iintro HW
  simp only [ret_bind]
  rw [wp_pure]
  imodintro
  iapply HK
  isplitl [HW]; · iexact HW
  iexact HS

theorem iss3 (i : grid0.Coords) {Q : PUnit → sProp (MM F)} :
    iprop(flyW c W qw 0 0 fw 5 ∗ flyS c S qs 0 0 fs 3 ∗ (iprop(flyW c W qw 0 0 fw 8 ∗ flyS c S qs 0 0 fs 4) -∗ Q ⟨⟩)) ⊢ wp frame (wpE (defs₀ (F := F)) Variants.none c none) Set.univ (k0_part3 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part3_eq_skeleton]; unfold k0_part3_skel
  iintro ⟨HW, HS, HK⟩
  iapply (issueW c W qw 0 0 5 (by decide) (oc := ![0]) (od := ![0, 18, 0]) (os := ![1, 0, 1, 0])  (by decide) (by decide) (by decide)) $$ HW
  iintro HW
  simp only [ret_bind]
  iapply (issueS c S qs 0 0 3 (by decide) (oc := ![0]) (od := ![0, 1, 1, 0]) (os := ![1, 1, 0])  (by decide) (by decide) (by decide)) $$ HS
  iintro HS
  simp only [ret_bind]
  iapply (issueW c W qw 0 0 6 (by decide) (oc := ![0]) (od := ![0, 3, 0]) (os := ![1, 1, 0, 0])  (by decide) (by decide) (by decide)) $$ HW
  iintro HW
  simp only [ret_bind]
  iapply (issueW c W qw 0 0 7 (by decide) (oc := ![0]) (od := ![0, 19, 0]) (os := ![1, 1, 1, 0])  (by decide) (by decide) (by decide)) $$ HW
  iintro HW
  simp only [ret_bind]
  rw [wp_pure]
  imodintro
  iapply HK
  isplitl [HW]; · iexact HW
  iexact HS

theorem iss4 (i : grid0.Coords) {Q : PUnit → sProp (MM F)} :
    iprop(flyW c W qw 0 0 fw 8 ∗ flyS c S qs 0 0 fs 4 ∗ (iprop(flyW c W qw 0 0 fw 10 ∗ flyS c S qs 0 0 fs 6) -∗ Q ⟨⟩)) ⊢ wp frame (wpE (defs₀ (F := F)) Variants.none c none) Set.univ (k0_part4 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part4_eq_skeleton]; unfold k0_part4_skel
  iintro ⟨HW, HS, HK⟩
  iapply (issueS c S qs 0 0 4 (by decide) (oc := ![0]) (od := ![0, 0, 2, 0]) (os := ![2, 0, 0])  (by decide) (by decide) (by decide)) $$ HS
  iintro HS
  simp only [ret_bind]
  iapply (issueW c W qw 0 0 8 (by decide) (oc := ![0]) (od := ![0, 4, 0]) (os := ![2, 0, 0, 0])  (by decide) (by decide) (by decide)) $$ HW
  iintro HW
  simp only [ret_bind]
  iapply (issueW c W qw 0 0 9 (by decide) (oc := ![0]) (od := ![0, 20, 0]) (os := ![2, 0, 1, 0])  (by decide) (by decide) (by decide)) $$ HW
  iintro HW
  simp only [ret_bind]
  iapply (issueS c S qs 0 0 5 (by decide) (oc := ![0]) (od := ![0, 1, 2, 0]) (os := ![2, 1, 0])  (by decide) (by decide) (by decide)) $$ HS
  iintro HS
  simp only [ret_bind]
  rw [wp_pure]
  imodintro
  iapply HK
  isplitl [HW]; · iexact HW
  iexact HS

theorem iss5 (i : grid0.Coords) {Q : PUnit → sProp (MM F)} :
    iprop(flyW c W qw 0 0 fw 10 ∗ flyS c S qs 0 0 fs 6 ∗ (iprop(flyW c W qw 0 0 fw 13 ∗ flyS c S qs 0 0 fs 7) -∗ Q ⟨⟩)) ⊢ wp frame (wpE (defs₀ (F := F)) Variants.none c none) Set.univ (k0_part5 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part5_eq_skeleton]; unfold k0_part5_skel
  iintro ⟨HW, HS, HK⟩
  iapply (issueW c W qw 0 0 10 (by decide) (oc := ![0]) (od := ![0, 5, 0]) (os := ![2, 1, 0, 0])  (by decide) (by decide) (by decide)) $$ HW
  iintro HW
  simp only [ret_bind]
  iapply (issueW c W qw 0 0 11 (by decide) (oc := ![0]) (od := ![0, 21, 0]) (os := ![2, 1, 1, 0])  (by decide) (by decide) (by decide)) $$ HW
  iintro HW
  simp only [ret_bind]
  iapply (issueS c S qs 0 0 6 (by decide) (oc := ![0]) (od := ![0, 0, 3, 0]) (os := ![3, 0, 0])  (by decide) (by decide) (by decide)) $$ HS
  iintro HS
  simp only [ret_bind]
  iapply (issueW c W qw 0 0 12 (by decide) (oc := ![0]) (od := ![0, 6, 0]) (os := ![3, 0, 0, 0])  (by decide) (by decide) (by decide)) $$ HW
  iintro HW
  simp only [ret_bind]
  rw [wp_pure]
  imodintro
  iapply HK
  isplitl [HW]; · iexact HW
  iexact HS

theorem iss6 (i : grid0.Coords) {Q : PUnit → sProp (MM F)} :
    iprop(flyW c W qw 0 0 fw 13 ∗ flyS c S qs 0 0 fs 7 ∗ (iprop(flyW c W qw 0 0 fw 16 ∗ flyS c S qs 0 0 fs 8) -∗ Q ⟨⟩)) ⊢ wp frame (wpE (defs₀ (F := F)) Variants.none c none) Set.univ (k0_part6 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part6_eq_skeleton]; unfold k0_part6_skel
  iintro ⟨HW, HS, HK⟩
  iapply (issueW c W qw 0 0 13 (by decide) (oc := ![0]) (od := ![0, 22, 0]) (os := ![3, 0, 1, 0])  (by decide) (by decide) (by decide)) $$ HW
  iintro HW
  simp only [ret_bind]
  iapply (issueS c S qs 0 0 7 (by decide) (oc := ![0]) (od := ![0, 1, 3, 0]) (os := ![3, 1, 0])  (by decide) (by decide) (by decide)) $$ HS
  iintro HS
  simp only [ret_bind]
  iapply (issueW c W qw 0 0 14 (by decide) (oc := ![0]) (od := ![0, 7, 0]) (os := ![3, 1, 0, 0])  (by decide) (by decide) (by decide)) $$ HW
  iintro HW
  simp only [ret_bind]
  iapply (issueW c W qw 0 0 15 (by decide) (oc := ![0]) (od := ![0, 23, 0]) (os := ![3, 1, 1, 0])  (by decide) (by decide) (by decide)) $$ HW
  iintro HW
  simp only [ret_bind]
  rw [wp_pure]
  imodintro
  iapply HK
  isplitl [HW]; · iexact HW
  iexact HS

theorem iss7 (i : grid0.Coords) {Q : PUnit → sProp (MM F)} :
    iprop(flyW c W qw 0 0 fw 16 ∗ flyS c S qs 0 0 fs 8 ∗ (iprop(flyW c W qw 0 0 fw 18 ∗ flyS c S qs 0 0 fs 10) -∗ Q ⟨⟩)) ⊢ wp frame (wpE (defs₀ (F := F)) Variants.none c none) Set.univ (k0_part7 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part7_eq_skeleton]; unfold k0_part7_skel
  iintro ⟨HW, HS, HK⟩
  iapply (issueS c S qs 0 0 8 (by decide) (oc := ![0]) (od := ![0, 0, 4, 0]) (os := ![4, 0, 0])  (by decide) (by decide) (by decide)) $$ HS
  iintro HS
  simp only [ret_bind]
  iapply (issueW c W qw 0 0 16 (by decide) (oc := ![0]) (od := ![0, 8, 0]) (os := ![4, 0, 0, 0])  (by decide) (by decide) (by decide)) $$ HW
  iintro HW
  simp only [ret_bind]
  iapply (issueW c W qw 0 0 17 (by decide) (oc := ![0]) (od := ![0, 24, 0]) (os := ![4, 0, 1, 0])  (by decide) (by decide) (by decide)) $$ HW
  iintro HW
  simp only [ret_bind]
  iapply (issueS c S qs 0 0 9 (by decide) (oc := ![0]) (od := ![0, 1, 4, 0]) (os := ![4, 1, 0])  (by decide) (by decide) (by decide)) $$ HS
  iintro HS
  simp only [ret_bind]
  rw [wp_pure]
  imodintro
  iapply HK
  isplitl [HW]; · iexact HW
  iexact HS

theorem iss8 (i : grid0.Coords) {Q : PUnit → sProp (MM F)} :
    iprop(flyW c W qw 0 0 fw 18 ∗ flyS c S qs 0 0 fs 10 ∗ (iprop(flyW c W qw 0 0 fw 21 ∗ flyS c S qs 0 0 fs 11) -∗ Q ⟨⟩)) ⊢ wp frame (wpE (defs₀ (F := F)) Variants.none c none) Set.univ (k0_part8 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part8_eq_skeleton]; unfold k0_part8_skel
  iintro ⟨HW, HS, HK⟩
  iapply (issueW c W qw 0 0 18 (by decide) (oc := ![0]) (od := ![0, 9, 0]) (os := ![4, 1, 0, 0])  (by decide) (by decide) (by decide)) $$ HW
  iintro HW
  simp only [ret_bind]
  iapply (issueW c W qw 0 0 19 (by decide) (oc := ![0]) (od := ![0, 25, 0]) (os := ![4, 1, 1, 0])  (by decide) (by decide) (by decide)) $$ HW
  iintro HW
  simp only [ret_bind]
  iapply (issueS c S qs 0 0 10 (by decide) (oc := ![0]) (od := ![0, 0, 5, 0]) (os := ![5, 0, 0])  (by decide) (by decide) (by decide)) $$ HS
  iintro HS
  simp only [ret_bind]
  iapply (issueW c W qw 0 0 20 (by decide) (oc := ![0]) (od := ![0, 10, 0]) (os := ![5, 0, 0, 0])  (by decide) (by decide) (by decide)) $$ HW
  iintro HW
  simp only [ret_bind]
  rw [wp_pure]
  imodintro
  iapply HK
  isplitl [HW]; · iexact HW
  iexact HS

theorem iss9 (i : grid0.Coords) {Q : PUnit → sProp (MM F)} :
    iprop(flyW c W qw 0 0 fw 21 ∗ flyS c S qs 0 0 fs 11 ∗ (iprop(flyW c W qw 0 0 fw 24 ∗ flyS c S qs 0 0 fs 12) -∗ Q ⟨⟩)) ⊢ wp frame (wpE (defs₀ (F := F)) Variants.none c none) Set.univ (k0_part9 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part9_eq_skeleton]; unfold k0_part9_skel
  iintro ⟨HW, HS, HK⟩
  iapply (issueW c W qw 0 0 21 (by decide) (oc := ![0]) (od := ![0, 26, 0]) (os := ![5, 0, 1, 0])  (by decide) (by decide) (by decide)) $$ HW
  iintro HW
  simp only [ret_bind]
  iapply (issueS c S qs 0 0 11 (by decide) (oc := ![0]) (od := ![0, 1, 5, 0]) (os := ![5, 1, 0])  (by decide) (by decide) (by decide)) $$ HS
  iintro HS
  simp only [ret_bind]
  iapply (issueW c W qw 0 0 22 (by decide) (oc := ![0]) (od := ![0, 11, 0]) (os := ![5, 1, 0, 0])  (by decide) (by decide) (by decide)) $$ HW
  iintro HW
  simp only [ret_bind]
  iapply (issueW c W qw 0 0 23 (by decide) (oc := ![0]) (od := ![0, 27, 0]) (os := ![5, 1, 1, 0])  (by decide) (by decide) (by decide)) $$ HW
  iintro HW
  simp only [ret_bind]
  rw [wp_pure]
  imodintro
  iapply HK
  isplitl [HW]; · iexact HW
  iexact HS

theorem iss10 (i : grid0.Coords) {Q : PUnit → sProp (MM F)} :
    iprop(flyW c W qw 0 0 fw 24 ∗ flyS c S qs 0 0 fs 12 ∗ (iprop(flyW c W qw 0 0 fw 26 ∗ flyS c S qs 0 0 fs 14) -∗ Q ⟨⟩)) ⊢ wp frame (wpE (defs₀ (F := F)) Variants.none c none) Set.univ (k0_part10 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part10_eq_skeleton]; unfold k0_part10_skel
  iintro ⟨HW, HS, HK⟩
  iapply (issueS c S qs 0 0 12 (by decide) (oc := ![0]) (od := ![0, 0, 6, 0]) (os := ![6, 0, 0])  (by decide) (by decide) (by decide)) $$ HS
  iintro HS
  simp only [ret_bind]
  iapply (issueW c W qw 0 0 24 (by decide) (oc := ![0]) (od := ![0, 12, 0]) (os := ![6, 0, 0, 0])  (by decide) (by decide) (by decide)) $$ HW
  iintro HW
  simp only [ret_bind]
  iapply (issueW c W qw 0 0 25 (by decide) (oc := ![0]) (od := ![0, 28, 0]) (os := ![6, 0, 1, 0])  (by decide) (by decide) (by decide)) $$ HW
  iintro HW
  simp only [ret_bind]
  iapply (issueS c S qs 0 0 13 (by decide) (oc := ![0]) (od := ![0, 1, 6, 0]) (os := ![6, 1, 0])  (by decide) (by decide) (by decide)) $$ HS
  iintro HS
  simp only [ret_bind]
  rw [wp_pure]
  imodintro
  iapply HK
  isplitl [HW]; · iexact HW
  iexact HS

theorem iss11 (i : grid0.Coords) {Q : PUnit → sProp (MM F)} :
    iprop(flyW c W qw 0 0 fw 26 ∗ flyS c S qs 0 0 fs 14 ∗ (iprop(flyW c W qw 0 0 fw 29 ∗ flyS c S qs 0 0 fs 15) -∗ Q ⟨⟩)) ⊢ wp frame (wpE (defs₀ (F := F)) Variants.none c none) Set.univ (k0_part11 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part11_eq_skeleton]; unfold k0_part11_skel
  iintro ⟨HW, HS, HK⟩
  iapply (issueW c W qw 0 0 26 (by decide) (oc := ![0]) (od := ![0, 13, 0]) (os := ![6, 1, 0, 0])  (by decide) (by decide) (by decide)) $$ HW
  iintro HW
  simp only [ret_bind]
  iapply (issueW c W qw 0 0 27 (by decide) (oc := ![0]) (od := ![0, 29, 0]) (os := ![6, 1, 1, 0])  (by decide) (by decide) (by decide)) $$ HW
  iintro HW
  simp only [ret_bind]
  iapply (issueS c S qs 0 0 14 (by decide) (oc := ![0]) (od := ![0, 0, 7, 0]) (os := ![7, 0, 0])  (by decide) (by decide) (by decide)) $$ HS
  iintro HS
  simp only [ret_bind]
  iapply (issueW c W qw 0 0 28 (by decide) (oc := ![0]) (od := ![0, 14, 0]) (os := ![7, 0, 0, 0])  (by decide) (by decide) (by decide)) $$ HW
  iintro HW
  simp only [ret_bind]
  rw [wp_pure]
  imodintro
  iapply HK
  isplitl [HW]; · iexact HW
  iexact HS

theorem iss12 (i : grid0.Coords) {Q : PUnit → sProp (MM F)} :
    iprop(flyW c W qw 0 0 fw 29 ∗ flyS c S qs 0 0 fs 15 ∗ (iprop(flyW c W qw 0 0 fw 32 ∗ flyS c S qs 0 0 fs 16) -∗ Q ⟨⟩)) ⊢ wp frame (wpE (defs₀ (F := F)) Variants.none c none) Set.univ (k0_part12 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part12_eq_skeleton]; unfold k0_part12_skel
  iintro ⟨HW, HS, HK⟩
  iapply (issueW c W qw 0 0 29 (by decide) (oc := ![0]) (od := ![0, 30, 0]) (os := ![7, 0, 1, 0])  (by decide) (by decide) (by decide)) $$ HW
  iintro HW
  simp only [ret_bind]
  iapply (issueS c S qs 0 0 15 (by decide) (oc := ![0]) (od := ![0, 1, 7, 0]) (os := ![7, 1, 0])  (by decide) (by decide) (by decide)) $$ HS
  iintro HS
  simp only [ret_bind]
  iapply (issueW c W qw 0 0 30 (by decide) (oc := ![0]) (od := ![0, 15, 0]) (os := ![7, 1, 0, 0])  (by decide) (by decide) (by decide)) $$ HW
  iintro HW
  simp only [ret_bind]
  iapply (issueW c W qw 0 0 31 (by decide) (oc := ![0]) (od := ![0, 31, 0]) (os := ![7, 1, 1, 0])  (by decide) (by decide) (by decide)) $$ HW
  iintro HW
  simp only [ret_bind]
  rw [wp_pure]
  imodintro
  iapply HK
  isplitl [HW]; · iexact HW
  iexact HS

theorem of0 : ∀ t : Fin cfg0.N, k0_cond2 (grid0.coords t) = 1#1 → k0_off1 (grid0.coords t) = ![(sn t).val] := by decide +kernel
theorem of1 : ∀ t : Fin cfg0.N, k0_cond2 (grid0.coords t) = 1#1 → k0_off2 (grid0.coords t) = sOff (sn t) ⟨0, by decide⟩ := by decide +kernel
theorem of2 : ∀ t : Fin cfg0.N, k0_cond2 (grid0.coords t) = 1#1 → k0_off3 (grid0.coords t) 0#32 = sFrom (bn t) ⟨0, by decide⟩ := by decide +kernel
theorem of3 : ∀ t : Fin cfg0.N, k0_cond2 (grid0.coords t) = 1#1 → k0_off4 (grid0.coords t) = wOff (sn t) ⟨0, by decide⟩ := by decide +kernel
theorem of4 : ∀ t : Fin cfg0.N, k0_cond2 (grid0.coords t) = 1#1 → k0_off5 (grid0.coords t) 0#32 = wFrom (bn t) ⟨0, by decide⟩ := by decide +kernel
theorem of5 : ∀ t : Fin cfg0.N, k0_cond2 (grid0.coords t) = 1#1 → k0_off6 (grid0.coords t) = wOff (sn t) ⟨1, by decide⟩ := by decide +kernel
theorem of6 : ∀ t : Fin cfg0.N, k0_cond2 (grid0.coords t) = 1#1 → k0_off7 (grid0.coords t) 0#32 = wFrom (bn t) ⟨1, by decide⟩ := by decide +kernel
theorem iss16 (t : Fin cfg0.N) (h2 : k0_cond2 (grid0.coords t) = 1#1) (v : BitVec 32) {Q : PUnit → sProp (MM F)} :
    iprop(flyW c W qw (sn t) (bn t) fw 0 ∗ flyS c S qs (sn t) (bn t) fs 0 ∗ (iprop(flyW c W qw (sn t) (bn t) fw 2 ∗ flyS c S qs (sn t) (bn t) fs 1) -∗ Q ⟨⟩)) ⊢ wp frame (wpE (defs₀ (F := F)) Variants.none c none) Set.univ (k0_part16 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2 v) Q := by
  rw [k0_part16_eq_skeleton]; unfold k0_part16_skel
  iintro ⟨HW, HS, HK⟩
  iapply (issueS c S qs (sn t) (bn t) 0 (by decide) (of0 t h2) (of1 t h2) (of2 t h2)) $$ HS
  iintro HS
  simp only [ret_bind]
  iapply (issueW c W qw (sn t) (bn t) 0 (by decide) (of0 t h2) (of3 t h2) (of4 t h2)) $$ HW
  iintro HW
  simp only [ret_bind]
  iapply (issueW c W qw (sn t) (bn t) 1 (by decide) (of0 t h2) (of5 t h2) (of6 t h2)) $$ HW
  iintro HW
  simp only [ret_bind]
  rw [wp_pure]
  imodintro
  iapply HK
  isplitl [HW]; · iexact HW
  iexact HS

theorem of7 : ∀ t : Fin cfg0.N, k0_cond2 (grid0.coords t) = 1#1 → k0_off8 (grid0.coords t) = sOff (sn t) ⟨1, by decide⟩ := by decide +kernel
theorem of8 : ∀ t : Fin cfg0.N, k0_cond2 (grid0.coords t) = 1#1 → k0_off9 (grid0.coords t) 0#32 = sFrom (bn t) ⟨1, by decide⟩ := by decide +kernel
theorem of9 : ∀ t : Fin cfg0.N, k0_cond2 (grid0.coords t) = 1#1 → k0_off10 (grid0.coords t) = wOff (sn t) ⟨2, by decide⟩ := by decide +kernel
theorem of10 : ∀ t : Fin cfg0.N, k0_cond2 (grid0.coords t) = 1#1 → k0_off11 (grid0.coords t) 0#32 = wFrom (bn t) ⟨2, by decide⟩ := by decide +kernel
theorem of11 : ∀ t : Fin cfg0.N, k0_cond2 (grid0.coords t) = 1#1 → k0_off12 (grid0.coords t) = wOff (sn t) ⟨3, by decide⟩ := by decide +kernel
theorem of12 : ∀ t : Fin cfg0.N, k0_cond2 (grid0.coords t) = 1#1 → k0_off13 (grid0.coords t) 0#32 = wFrom (bn t) ⟨3, by decide⟩ := by decide +kernel
theorem of13 : ∀ t : Fin cfg0.N, k0_cond2 (grid0.coords t) = 1#1 → k0_off14 (grid0.coords t) = sOff (sn t) ⟨2, by decide⟩ := by decide +kernel
theorem of14 : ∀ t : Fin cfg0.N, k0_cond2 (grid0.coords t) = 1#1 → k0_off3 (grid0.coords t) 1#32 = sFrom (bn t) ⟨2, by decide⟩ := by decide +kernel
theorem of15 : ∀ t : Fin cfg0.N, k0_cond2 (grid0.coords t) = 1#1 → k0_off15 (grid0.coords t) = wOff (sn t) ⟨4, by decide⟩ := by decide +kernel
theorem of16 : ∀ t : Fin cfg0.N, k0_cond2 (grid0.coords t) = 1#1 → k0_off5 (grid0.coords t) 1#32 = wFrom (bn t) ⟨4, by decide⟩ := by decide +kernel
theorem iss17 (t : Fin cfg0.N) (h2 : k0_cond2 (grid0.coords t) = 1#1) {Q : PUnit → sProp (MM F)} :
    iprop(flyW c W qw (sn t) (bn t) fw 2 ∗ flyS c S qs (sn t) (bn t) fs 1 ∗ (iprop(flyW c W qw (sn t) (bn t) fw 5 ∗ flyS c S qs (sn t) (bn t) fs 3) -∗ Q ⟨⟩)) ⊢ wp frame (wpE (defs₀ (F := F)) Variants.none c none) Set.univ (k0_part17 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part17_eq_skeleton]; unfold k0_part17_skel
  iintro ⟨HW, HS, HK⟩
  iapply (issueS c S qs (sn t) (bn t) 1 (by decide) (of0 t h2) (of7 t h2) (of8 t h2)) $$ HS
  iintro HS
  simp only [ret_bind]
  iapply (issueW c W qw (sn t) (bn t) 2 (by decide) (of0 t h2) (of9 t h2) (of10 t h2)) $$ HW
  iintro HW
  simp only [ret_bind]
  iapply (issueW c W qw (sn t) (bn t) 3 (by decide) (of0 t h2) (of11 t h2) (of12 t h2)) $$ HW
  iintro HW
  simp only [ret_bind]
  iapply (issueS c S qs (sn t) (bn t) 2 (by decide) (of0 t h2) (of13 t h2) (of14 t h2)) $$ HS
  iintro HS
  simp only [ret_bind]
  iapply (issueW c W qw (sn t) (bn t) 4 (by decide) (of0 t h2) (of15 t h2) (of16 t h2)) $$ HW
  iintro HW
  simp only [ret_bind]
  rw [wp_pure]
  imodintro
  iapply HK
  isplitl [HW]; · iexact HW
  iexact HS

theorem of17 : ∀ t : Fin cfg0.N, k0_cond2 (grid0.coords t) = 1#1 → k0_off16 (grid0.coords t) = wOff (sn t) ⟨5, by decide⟩ := by decide +kernel
theorem of18 : ∀ t : Fin cfg0.N, k0_cond2 (grid0.coords t) = 1#1 → k0_off7 (grid0.coords t) 1#32 = wFrom (bn t) ⟨5, by decide⟩ := by decide +kernel
theorem of19 : ∀ t : Fin cfg0.N, k0_cond2 (grid0.coords t) = 1#1 → k0_off17 (grid0.coords t) = sOff (sn t) ⟨3, by decide⟩ := by decide +kernel
theorem of20 : ∀ t : Fin cfg0.N, k0_cond2 (grid0.coords t) = 1#1 → k0_off9 (grid0.coords t) 1#32 = sFrom (bn t) ⟨3, by decide⟩ := by decide +kernel
theorem of21 : ∀ t : Fin cfg0.N, k0_cond2 (grid0.coords t) = 1#1 → k0_off18 (grid0.coords t) = wOff (sn t) ⟨6, by decide⟩ := by decide +kernel
theorem of22 : ∀ t : Fin cfg0.N, k0_cond2 (grid0.coords t) = 1#1 → k0_off11 (grid0.coords t) 1#32 = wFrom (bn t) ⟨6, by decide⟩ := by decide +kernel
theorem of23 : ∀ t : Fin cfg0.N, k0_cond2 (grid0.coords t) = 1#1 → k0_off19 (grid0.coords t) = wOff (sn t) ⟨7, by decide⟩ := by decide +kernel
theorem of24 : ∀ t : Fin cfg0.N, k0_cond2 (grid0.coords t) = 1#1 → k0_off13 (grid0.coords t) 1#32 = wFrom (bn t) ⟨7, by decide⟩ := by decide +kernel
theorem of25 : ∀ t : Fin cfg0.N, k0_cond2 (grid0.coords t) = 1#1 → k0_off20 (grid0.coords t) = sOff (sn t) ⟨4, by decide⟩ := by decide +kernel
theorem of26 : ∀ t : Fin cfg0.N, k0_cond2 (grid0.coords t) = 1#1 → k0_off3 (grid0.coords t) 2#32 = sFrom (bn t) ⟨4, by decide⟩ := by decide +kernel
theorem iss18 (t : Fin cfg0.N) (h2 : k0_cond2 (grid0.coords t) = 1#1) {Q : PUnit → sProp (MM F)} :
    iprop(flyW c W qw (sn t) (bn t) fw 5 ∗ flyS c S qs (sn t) (bn t) fs 3 ∗ (iprop(flyW c W qw (sn t) (bn t) fw 8 ∗ flyS c S qs (sn t) (bn t) fs 5) -∗ Q ⟨⟩)) ⊢ wp frame (wpE (defs₀ (F := F)) Variants.none c none) Set.univ (k0_part18 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part18_eq_skeleton]; unfold k0_part18_skel
  iintro ⟨HW, HS, HK⟩
  iapply (issueW c W qw (sn t) (bn t) 5 (by decide) (of0 t h2) (of17 t h2) (of18 t h2)) $$ HW
  iintro HW
  simp only [ret_bind]
  iapply (issueS c S qs (sn t) (bn t) 3 (by decide) (of0 t h2) (of19 t h2) (of20 t h2)) $$ HS
  iintro HS
  simp only [ret_bind]
  iapply (issueW c W qw (sn t) (bn t) 6 (by decide) (of0 t h2) (of21 t h2) (of22 t h2)) $$ HW
  iintro HW
  simp only [ret_bind]
  iapply (issueW c W qw (sn t) (bn t) 7 (by decide) (of0 t h2) (of23 t h2) (of24 t h2)) $$ HW
  iintro HW
  simp only [ret_bind]
  iapply (issueS c S qs (sn t) (bn t) 4 (by decide) (of0 t h2) (of25 t h2) (of26 t h2)) $$ HS
  iintro HS
  simp only [ret_bind]
  rw [wp_pure]
  imodintro
  iapply HK
  isplitl [HW]; · iexact HW
  iexact HS

theorem of27 : ∀ t : Fin cfg0.N, k0_cond2 (grid0.coords t) = 1#1 → k0_off21 (grid0.coords t) = wOff (sn t) ⟨8, by decide⟩ := by decide +kernel
theorem of28 : ∀ t : Fin cfg0.N, k0_cond2 (grid0.coords t) = 1#1 → k0_off5 (grid0.coords t) 2#32 = wFrom (bn t) ⟨8, by decide⟩ := by decide +kernel
theorem of29 : ∀ t : Fin cfg0.N, k0_cond2 (grid0.coords t) = 1#1 → k0_off22 (grid0.coords t) = wOff (sn t) ⟨9, by decide⟩ := by decide +kernel
theorem of30 : ∀ t : Fin cfg0.N, k0_cond2 (grid0.coords t) = 1#1 → k0_off7 (grid0.coords t) 2#32 = wFrom (bn t) ⟨9, by decide⟩ := by decide +kernel
theorem of31 : ∀ t : Fin cfg0.N, k0_cond2 (grid0.coords t) = 1#1 → k0_off23 (grid0.coords t) = sOff (sn t) ⟨5, by decide⟩ := by decide +kernel
theorem of32 : ∀ t : Fin cfg0.N, k0_cond2 (grid0.coords t) = 1#1 → k0_off9 (grid0.coords t) 2#32 = sFrom (bn t) ⟨5, by decide⟩ := by decide +kernel
theorem of33 : ∀ t : Fin cfg0.N, k0_cond2 (grid0.coords t) = 1#1 → k0_off24 (grid0.coords t) = wOff (sn t) ⟨10, by decide⟩ := by decide +kernel
theorem of34 : ∀ t : Fin cfg0.N, k0_cond2 (grid0.coords t) = 1#1 → k0_off11 (grid0.coords t) 2#32 = wFrom (bn t) ⟨10, by decide⟩ := by decide +kernel
theorem of35 : ∀ t : Fin cfg0.N, k0_cond2 (grid0.coords t) = 1#1 → k0_off25 (grid0.coords t) = wOff (sn t) ⟨11, by decide⟩ := by decide +kernel
theorem of36 : ∀ t : Fin cfg0.N, k0_cond2 (grid0.coords t) = 1#1 → k0_off13 (grid0.coords t) 2#32 = wFrom (bn t) ⟨11, by decide⟩ := by decide +kernel
theorem iss19 (t : Fin cfg0.N) (h2 : k0_cond2 (grid0.coords t) = 1#1) {Q : PUnit → sProp (MM F)} :
    iprop(flyW c W qw (sn t) (bn t) fw 8 ∗ flyS c S qs (sn t) (bn t) fs 5 ∗ (iprop(flyW c W qw (sn t) (bn t) fw 12 ∗ flyS c S qs (sn t) (bn t) fs 6) -∗ Q ⟨⟩)) ⊢ wp frame (wpE (defs₀ (F := F)) Variants.none c none) Set.univ (k0_part19 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part19_eq_skeleton]; unfold k0_part19_skel
  iintro ⟨HW, HS, HK⟩
  iapply (issueW c W qw (sn t) (bn t) 8 (by decide) (of0 t h2) (of27 t h2) (of28 t h2)) $$ HW
  iintro HW
  simp only [ret_bind]
  iapply (issueW c W qw (sn t) (bn t) 9 (by decide) (of0 t h2) (of29 t h2) (of30 t h2)) $$ HW
  iintro HW
  simp only [ret_bind]
  iapply (issueS c S qs (sn t) (bn t) 5 (by decide) (of0 t h2) (of31 t h2) (of32 t h2)) $$ HS
  iintro HS
  simp only [ret_bind]
  iapply (issueW c W qw (sn t) (bn t) 10 (by decide) (of0 t h2) (of33 t h2) (of34 t h2)) $$ HW
  iintro HW
  simp only [ret_bind]
  iapply (issueW c W qw (sn t) (bn t) 11 (by decide) (of0 t h2) (of35 t h2) (of36 t h2)) $$ HW
  iintro HW
  simp only [ret_bind]
  rw [wp_pure]
  imodintro
  iapply HK
  isplitl [HW]; · iexact HW
  iexact HS

theorem of37 : ∀ t : Fin cfg0.N, k0_cond2 (grid0.coords t) = 1#1 → k0_off26 (grid0.coords t) = sOff (sn t) ⟨6, by decide⟩ := by decide +kernel
theorem of38 : ∀ t : Fin cfg0.N, k0_cond2 (grid0.coords t) = 1#1 → k0_off3 (grid0.coords t) 3#32 = sFrom (bn t) ⟨6, by decide⟩ := by decide +kernel
theorem of39 : ∀ t : Fin cfg0.N, k0_cond2 (grid0.coords t) = 1#1 → k0_off27 (grid0.coords t) = wOff (sn t) ⟨12, by decide⟩ := by decide +kernel
theorem of40 : ∀ t : Fin cfg0.N, k0_cond2 (grid0.coords t) = 1#1 → k0_off5 (grid0.coords t) 3#32 = wFrom (bn t) ⟨12, by decide⟩ := by decide +kernel
theorem of41 : ∀ t : Fin cfg0.N, k0_cond2 (grid0.coords t) = 1#1 → k0_off28 (grid0.coords t) = wOff (sn t) ⟨13, by decide⟩ := by decide +kernel
theorem of42 : ∀ t : Fin cfg0.N, k0_cond2 (grid0.coords t) = 1#1 → k0_off7 (grid0.coords t) 3#32 = wFrom (bn t) ⟨13, by decide⟩ := by decide +kernel
theorem of43 : ∀ t : Fin cfg0.N, k0_cond2 (grid0.coords t) = 1#1 → k0_off29 (grid0.coords t) = sOff (sn t) ⟨7, by decide⟩ := by decide +kernel
theorem of44 : ∀ t : Fin cfg0.N, k0_cond2 (grid0.coords t) = 1#1 → k0_off9 (grid0.coords t) 3#32 = sFrom (bn t) ⟨7, by decide⟩ := by decide +kernel
theorem of45 : ∀ t : Fin cfg0.N, k0_cond2 (grid0.coords t) = 1#1 → k0_off30 (grid0.coords t) = wOff (sn t) ⟨14, by decide⟩ := by decide +kernel
theorem of46 : ∀ t : Fin cfg0.N, k0_cond2 (grid0.coords t) = 1#1 → k0_off11 (grid0.coords t) 3#32 = wFrom (bn t) ⟨14, by decide⟩ := by decide +kernel
theorem iss20 (t : Fin cfg0.N) (h2 : k0_cond2 (grid0.coords t) = 1#1) {Q : PUnit → sProp (MM F)} :
    iprop(flyW c W qw (sn t) (bn t) fw 12 ∗ flyS c S qs (sn t) (bn t) fs 6 ∗ (iprop(flyW c W qw (sn t) (bn t) fw 15 ∗ flyS c S qs (sn t) (bn t) fs 8) -∗ Q ⟨⟩)) ⊢ wp frame (wpE (defs₀ (F := F)) Variants.none c none) Set.univ (k0_part20 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part20_eq_skeleton]; unfold k0_part20_skel
  iintro ⟨HW, HS, HK⟩
  iapply (issueS c S qs (sn t) (bn t) 6 (by decide) (of0 t h2) (of37 t h2) (of38 t h2)) $$ HS
  iintro HS
  simp only [ret_bind]
  iapply (issueW c W qw (sn t) (bn t) 12 (by decide) (of0 t h2) (of39 t h2) (of40 t h2)) $$ HW
  iintro HW
  simp only [ret_bind]
  iapply (issueW c W qw (sn t) (bn t) 13 (by decide) (of0 t h2) (of41 t h2) (of42 t h2)) $$ HW
  iintro HW
  simp only [ret_bind]
  iapply (issueS c S qs (sn t) (bn t) 7 (by decide) (of0 t h2) (of43 t h2) (of44 t h2)) $$ HS
  iintro HS
  simp only [ret_bind]
  iapply (issueW c W qw (sn t) (bn t) 14 (by decide) (of0 t h2) (of45 t h2) (of46 t h2)) $$ HW
  iintro HW
  simp only [ret_bind]
  rw [wp_pure]
  imodintro
  iapply HK
  isplitl [HW]; · iexact HW
  iexact HS

theorem of47 : ∀ t : Fin cfg0.N, k0_cond2 (grid0.coords t) = 1#1 → k0_off31 (grid0.coords t) = wOff (sn t) ⟨15, by decide⟩ := by decide +kernel
theorem of48 : ∀ t : Fin cfg0.N, k0_cond2 (grid0.coords t) = 1#1 → k0_off13 (grid0.coords t) 3#32 = wFrom (bn t) ⟨15, by decide⟩ := by decide +kernel
theorem of49 : ∀ t : Fin cfg0.N, k0_cond2 (grid0.coords t) = 1#1 → k0_off32 (grid0.coords t) = sOff (sn t) ⟨8, by decide⟩ := by decide +kernel
theorem of50 : ∀ t : Fin cfg0.N, k0_cond2 (grid0.coords t) = 1#1 → k0_off3 (grid0.coords t) 4#32 = sFrom (bn t) ⟨8, by decide⟩ := by decide +kernel
theorem of51 : ∀ t : Fin cfg0.N, k0_cond2 (grid0.coords t) = 1#1 → k0_off33 (grid0.coords t) = wOff (sn t) ⟨16, by decide⟩ := by decide +kernel
theorem of52 : ∀ t : Fin cfg0.N, k0_cond2 (grid0.coords t) = 1#1 → k0_off5 (grid0.coords t) 4#32 = wFrom (bn t) ⟨16, by decide⟩ := by decide +kernel
theorem of53 : ∀ t : Fin cfg0.N, k0_cond2 (grid0.coords t) = 1#1 → k0_off34 (grid0.coords t) = wOff (sn t) ⟨17, by decide⟩ := by decide +kernel
theorem of54 : ∀ t : Fin cfg0.N, k0_cond2 (grid0.coords t) = 1#1 → k0_off7 (grid0.coords t) 4#32 = wFrom (bn t) ⟨17, by decide⟩ := by decide +kernel
theorem of55 : ∀ t : Fin cfg0.N, k0_cond2 (grid0.coords t) = 1#1 → k0_off35 (grid0.coords t) = sOff (sn t) ⟨9, by decide⟩ := by decide +kernel
theorem of56 : ∀ t : Fin cfg0.N, k0_cond2 (grid0.coords t) = 1#1 → k0_off9 (grid0.coords t) 4#32 = sFrom (bn t) ⟨9, by decide⟩ := by decide +kernel
theorem iss21 (t : Fin cfg0.N) (h2 : k0_cond2 (grid0.coords t) = 1#1) {Q : PUnit → sProp (MM F)} :
    iprop(flyW c W qw (sn t) (bn t) fw 15 ∗ flyS c S qs (sn t) (bn t) fs 8 ∗ (iprop(flyW c W qw (sn t) (bn t) fw 18 ∗ flyS c S qs (sn t) (bn t) fs 10) -∗ Q ⟨⟩)) ⊢ wp frame (wpE (defs₀ (F := F)) Variants.none c none) Set.univ (k0_part21 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part21_eq_skeleton]; unfold k0_part21_skel
  iintro ⟨HW, HS, HK⟩
  iapply (issueW c W qw (sn t) (bn t) 15 (by decide) (of0 t h2) (of47 t h2) (of48 t h2)) $$ HW
  iintro HW
  simp only [ret_bind]
  iapply (issueS c S qs (sn t) (bn t) 8 (by decide) (of0 t h2) (of49 t h2) (of50 t h2)) $$ HS
  iintro HS
  simp only [ret_bind]
  iapply (issueW c W qw (sn t) (bn t) 16 (by decide) (of0 t h2) (of51 t h2) (of52 t h2)) $$ HW
  iintro HW
  simp only [ret_bind]
  iapply (issueW c W qw (sn t) (bn t) 17 (by decide) (of0 t h2) (of53 t h2) (of54 t h2)) $$ HW
  iintro HW
  simp only [ret_bind]
  iapply (issueS c S qs (sn t) (bn t) 9 (by decide) (of0 t h2) (of55 t h2) (of56 t h2)) $$ HS
  iintro HS
  simp only [ret_bind]
  rw [wp_pure]
  imodintro
  iapply HK
  isplitl [HW]; · iexact HW
  iexact HS

theorem of57 : ∀ t : Fin cfg0.N, k0_cond2 (grid0.coords t) = 1#1 → k0_off36 (grid0.coords t) = wOff (sn t) ⟨18, by decide⟩ := by decide +kernel
theorem of58 : ∀ t : Fin cfg0.N, k0_cond2 (grid0.coords t) = 1#1 → k0_off11 (grid0.coords t) 4#32 = wFrom (bn t) ⟨18, by decide⟩ := by decide +kernel
theorem of59 : ∀ t : Fin cfg0.N, k0_cond2 (grid0.coords t) = 1#1 → k0_off37 (grid0.coords t) = wOff (sn t) ⟨19, by decide⟩ := by decide +kernel
theorem of60 : ∀ t : Fin cfg0.N, k0_cond2 (grid0.coords t) = 1#1 → k0_off13 (grid0.coords t) 4#32 = wFrom (bn t) ⟨19, by decide⟩ := by decide +kernel
theorem of61 : ∀ t : Fin cfg0.N, k0_cond2 (grid0.coords t) = 1#1 → k0_off38 (grid0.coords t) = sOff (sn t) ⟨10, by decide⟩ := by decide +kernel
theorem of62 : ∀ t : Fin cfg0.N, k0_cond2 (grid0.coords t) = 1#1 → k0_off3 (grid0.coords t) 5#32 = sFrom (bn t) ⟨10, by decide⟩ := by decide +kernel
theorem of63 : ∀ t : Fin cfg0.N, k0_cond2 (grid0.coords t) = 1#1 → k0_off39 (grid0.coords t) = wOff (sn t) ⟨20, by decide⟩ := by decide +kernel
theorem of64 : ∀ t : Fin cfg0.N, k0_cond2 (grid0.coords t) = 1#1 → k0_off5 (grid0.coords t) 5#32 = wFrom (bn t) ⟨20, by decide⟩ := by decide +kernel
theorem of65 : ∀ t : Fin cfg0.N, k0_cond2 (grid0.coords t) = 1#1 → k0_off40 (grid0.coords t) = wOff (sn t) ⟨21, by decide⟩ := by decide +kernel
theorem of66 : ∀ t : Fin cfg0.N, k0_cond2 (grid0.coords t) = 1#1 → k0_off7 (grid0.coords t) 5#32 = wFrom (bn t) ⟨21, by decide⟩ := by decide +kernel
theorem iss22 (t : Fin cfg0.N) (h2 : k0_cond2 (grid0.coords t) = 1#1) {Q : PUnit → sProp (MM F)} :
    iprop(flyW c W qw (sn t) (bn t) fw 18 ∗ flyS c S qs (sn t) (bn t) fs 10 ∗ (iprop(flyW c W qw (sn t) (bn t) fw 22 ∗ flyS c S qs (sn t) (bn t) fs 11) -∗ Q ⟨⟩)) ⊢ wp frame (wpE (defs₀ (F := F)) Variants.none c none) Set.univ (k0_part22 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part22_eq_skeleton]; unfold k0_part22_skel
  iintro ⟨HW, HS, HK⟩
  iapply (issueW c W qw (sn t) (bn t) 18 (by decide) (of0 t h2) (of57 t h2) (of58 t h2)) $$ HW
  iintro HW
  simp only [ret_bind]
  iapply (issueW c W qw (sn t) (bn t) 19 (by decide) (of0 t h2) (of59 t h2) (of60 t h2)) $$ HW
  iintro HW
  simp only [ret_bind]
  iapply (issueS c S qs (sn t) (bn t) 10 (by decide) (of0 t h2) (of61 t h2) (of62 t h2)) $$ HS
  iintro HS
  simp only [ret_bind]
  iapply (issueW c W qw (sn t) (bn t) 20 (by decide) (of0 t h2) (of63 t h2) (of64 t h2)) $$ HW
  iintro HW
  simp only [ret_bind]
  iapply (issueW c W qw (sn t) (bn t) 21 (by decide) (of0 t h2) (of65 t h2) (of66 t h2)) $$ HW
  iintro HW
  simp only [ret_bind]
  rw [wp_pure]
  imodintro
  iapply HK
  isplitl [HW]; · iexact HW
  iexact HS

theorem of67 : ∀ t : Fin cfg0.N, k0_cond2 (grid0.coords t) = 1#1 → k0_off41 (grid0.coords t) = sOff (sn t) ⟨11, by decide⟩ := by decide +kernel
theorem of68 : ∀ t : Fin cfg0.N, k0_cond2 (grid0.coords t) = 1#1 → k0_off9 (grid0.coords t) 5#32 = sFrom (bn t) ⟨11, by decide⟩ := by decide +kernel
theorem of69 : ∀ t : Fin cfg0.N, k0_cond2 (grid0.coords t) = 1#1 → k0_off42 (grid0.coords t) = wOff (sn t) ⟨22, by decide⟩ := by decide +kernel
theorem of70 : ∀ t : Fin cfg0.N, k0_cond2 (grid0.coords t) = 1#1 → k0_off11 (grid0.coords t) 5#32 = wFrom (bn t) ⟨22, by decide⟩ := by decide +kernel
theorem of71 : ∀ t : Fin cfg0.N, k0_cond2 (grid0.coords t) = 1#1 → k0_off43 (grid0.coords t) = wOff (sn t) ⟨23, by decide⟩ := by decide +kernel
theorem of72 : ∀ t : Fin cfg0.N, k0_cond2 (grid0.coords t) = 1#1 → k0_off13 (grid0.coords t) 5#32 = wFrom (bn t) ⟨23, by decide⟩ := by decide +kernel
theorem of73 : ∀ t : Fin cfg0.N, k0_cond2 (grid0.coords t) = 1#1 → k0_off44 (grid0.coords t) = sOff (sn t) ⟨12, by decide⟩ := by decide +kernel
theorem of74 : ∀ t : Fin cfg0.N, k0_cond2 (grid0.coords t) = 1#1 → k0_off3 (grid0.coords t) 6#32 = sFrom (bn t) ⟨12, by decide⟩ := by decide +kernel
theorem of75 : ∀ t : Fin cfg0.N, k0_cond2 (grid0.coords t) = 1#1 → k0_off45 (grid0.coords t) = wOff (sn t) ⟨24, by decide⟩ := by decide +kernel
theorem of76 : ∀ t : Fin cfg0.N, k0_cond2 (grid0.coords t) = 1#1 → k0_off5 (grid0.coords t) 6#32 = wFrom (bn t) ⟨24, by decide⟩ := by decide +kernel
theorem iss23 (t : Fin cfg0.N) (h2 : k0_cond2 (grid0.coords t) = 1#1) {Q : PUnit → sProp (MM F)} :
    iprop(flyW c W qw (sn t) (bn t) fw 22 ∗ flyS c S qs (sn t) (bn t) fs 11 ∗ (iprop(flyW c W qw (sn t) (bn t) fw 25 ∗ flyS c S qs (sn t) (bn t) fs 13) -∗ Q ⟨⟩)) ⊢ wp frame (wpE (defs₀ (F := F)) Variants.none c none) Set.univ (k0_part23 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part23_eq_skeleton]; unfold k0_part23_skel
  iintro ⟨HW, HS, HK⟩
  iapply (issueS c S qs (sn t) (bn t) 11 (by decide) (of0 t h2) (of67 t h2) (of68 t h2)) $$ HS
  iintro HS
  simp only [ret_bind]
  iapply (issueW c W qw (sn t) (bn t) 22 (by decide) (of0 t h2) (of69 t h2) (of70 t h2)) $$ HW
  iintro HW
  simp only [ret_bind]
  iapply (issueW c W qw (sn t) (bn t) 23 (by decide) (of0 t h2) (of71 t h2) (of72 t h2)) $$ HW
  iintro HW
  simp only [ret_bind]
  iapply (issueS c S qs (sn t) (bn t) 12 (by decide) (of0 t h2) (of73 t h2) (of74 t h2)) $$ HS
  iintro HS
  simp only [ret_bind]
  iapply (issueW c W qw (sn t) (bn t) 24 (by decide) (of0 t h2) (of75 t h2) (of76 t h2)) $$ HW
  iintro HW
  simp only [ret_bind]
  rw [wp_pure]
  imodintro
  iapply HK
  isplitl [HW]; · iexact HW
  iexact HS

theorem of77 : ∀ t : Fin cfg0.N, k0_cond2 (grid0.coords t) = 1#1 → k0_off46 (grid0.coords t) = wOff (sn t) ⟨25, by decide⟩ := by decide +kernel
theorem of78 : ∀ t : Fin cfg0.N, k0_cond2 (grid0.coords t) = 1#1 → k0_off7 (grid0.coords t) 6#32 = wFrom (bn t) ⟨25, by decide⟩ := by decide +kernel
theorem of79 : ∀ t : Fin cfg0.N, k0_cond2 (grid0.coords t) = 1#1 → k0_off47 (grid0.coords t) = sOff (sn t) ⟨13, by decide⟩ := by decide +kernel
theorem of80 : ∀ t : Fin cfg0.N, k0_cond2 (grid0.coords t) = 1#1 → k0_off9 (grid0.coords t) 6#32 = sFrom (bn t) ⟨13, by decide⟩ := by decide +kernel
theorem of81 : ∀ t : Fin cfg0.N, k0_cond2 (grid0.coords t) = 1#1 → k0_off48 (grid0.coords t) = wOff (sn t) ⟨26, by decide⟩ := by decide +kernel
theorem of82 : ∀ t : Fin cfg0.N, k0_cond2 (grid0.coords t) = 1#1 → k0_off11 (grid0.coords t) 6#32 = wFrom (bn t) ⟨26, by decide⟩ := by decide +kernel
theorem of83 : ∀ t : Fin cfg0.N, k0_cond2 (grid0.coords t) = 1#1 → k0_off49 (grid0.coords t) = wOff (sn t) ⟨27, by decide⟩ := by decide +kernel
theorem of84 : ∀ t : Fin cfg0.N, k0_cond2 (grid0.coords t) = 1#1 → k0_off13 (grid0.coords t) 6#32 = wFrom (bn t) ⟨27, by decide⟩ := by decide +kernel
theorem of85 : ∀ t : Fin cfg0.N, k0_cond2 (grid0.coords t) = 1#1 → k0_off50 (grid0.coords t) = sOff (sn t) ⟨14, by decide⟩ := by decide +kernel
theorem of86 : ∀ t : Fin cfg0.N, k0_cond2 (grid0.coords t) = 1#1 → k0_off3 (grid0.coords t) 7#32 = sFrom (bn t) ⟨14, by decide⟩ := by decide +kernel
theorem iss24 (t : Fin cfg0.N) (h2 : k0_cond2 (grid0.coords t) = 1#1) {Q : PUnit → sProp (MM F)} :
    iprop(flyW c W qw (sn t) (bn t) fw 25 ∗ flyS c S qs (sn t) (bn t) fs 13 ∗ (iprop(flyW c W qw (sn t) (bn t) fw 28 ∗ flyS c S qs (sn t) (bn t) fs 15) -∗ Q ⟨⟩)) ⊢ wp frame (wpE (defs₀ (F := F)) Variants.none c none) Set.univ (k0_part24 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 h2) Q := by
  rw [k0_part24_eq_skeleton]; unfold k0_part24_skel
  iintro ⟨HW, HS, HK⟩
  iapply (issueW c W qw (sn t) (bn t) 25 (by decide) (of0 t h2) (of77 t h2) (of78 t h2)) $$ HW
  iintro HW
  simp only [ret_bind]
  iapply (issueS c S qs (sn t) (bn t) 13 (by decide) (of0 t h2) (of79 t h2) (of80 t h2)) $$ HS
  iintro HS
  simp only [ret_bind]
  iapply (issueW c W qw (sn t) (bn t) 26 (by decide) (of0 t h2) (of81 t h2) (of82 t h2)) $$ HW
  iintro HW
  simp only [ret_bind]
  iapply (issueW c W qw (sn t) (bn t) 27 (by decide) (of0 t h2) (of83 t h2) (of84 t h2)) $$ HW
  iintro HW
  simp only [ret_bind]
  iapply (issueS c S qs (sn t) (bn t) 14 (by decide) (of0 t h2) (of85 t h2) (of86 t h2)) $$ HS
  iintro HS
  simp only [ret_bind]
  rw [wp_pure]
  imodintro
  iapply HK
  isplitl [HW]; · iexact HW
  iexact HS

end Cert.LabelIdeal.Hand

end
-- ==== Proof.LabelIdealWaits.lean ====
module

public import proofs.«01_k».proof.Proof.LabelIdealIssue
public import proofs.«01_k».proof.Proof.Gen.LabelIdeal.Skeleton
public import Idealize.ShloMosaic.Lib.Batch

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The copies waited for, part by part -/

variable (c : Dev nD) (W : Vec F S96x2x2x8192 .i32) (S : Vec F S96x2x8192 .f32) (qw qs : PosShare TreeShare) (n : Fin 12)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)

/-- The cell waited on at point `t`. -/
theorem of_cell : ∀ t : Fin cfg0.N, k0_off57 (grid0.coords t) = ![(sl t).val] := by decide +kernel

theorem wt45 (t : Fin cfg0.N) (v v1 : BitVec 32) {Q : PUnit → sProp (MM F)} :
    iprop(landW c W qw (sl t) n 0 ∗ landS c S qs (sl t) n 0 ∗ owed c ∗ (iprop(landW c W qw (sl t) n 2 ∗ landS c S qs (sl t) n 1 ∗ owed c) -∗ Q ⟨⟩)) ⊢ wp frame (wpE (defs₀ (F := F)) Variants.none c none) Set.univ (k0_part45 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v v1) Q := by
  rw [k0_part45_eq_skeleton]; unfold k0_part45_skel
  iintro ⟨HW, HS, HO, HK⟩
  iapply (waitS c S qs (sl t) n 0 (by decide) (of_cell t)) $$ [HS HO]
  · isplitl [HS]; · iexact HS
    iexact HO
  iintro ⟨HS, HO⟩
  simp only [ret_bind]
  iapply (waitW c W qw (sl t) n 0 (by decide) (of_cell t)) $$ [HW HO]
  · isplitl [HW]; · iexact HW
    iexact HO
  iintro ⟨HW, HO⟩
  simp only [ret_bind]
  iapply (waitW c W qw (sl t) n 1 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt46 (t : Fin cfg0.N) {Q : PUnit → sProp (MM F)} :
    iprop(landW c W qw (sl t) n 2 ∗ landS c S qs (sl t) n 1 ∗ owed c ∗ (iprop(landW c W qw (sl t) n 5 ∗ landS c S qs (sl t) n 3 ∗ owed c) -∗ Q ⟨⟩)) ⊢ wp frame (wpE (defs₀ (F := F)) Variants.none c none) Set.univ (k0_part46 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part46_eq_skeleton]; unfold k0_part46_skel
  iintro ⟨HW, HS, HO, HK⟩
  iapply (waitS c S qs (sl t) n 1 (by decide) (of_cell t)) $$ [HS HO]
  · isplitl [HS]; · iexact HS
    iexact HO
  iintro ⟨HS, HO⟩
  simp only [ret_bind]
  iapply (waitW c W qw (sl t) n 2 (by decide) (of_cell t)) $$ [HW HO]
  · isplitl [HW]; · iexact HW
    iexact HO
  iintro ⟨HW, HO⟩
  simp only [ret_bind]
  iapply (waitW c W qw (sl t) n 3 (by decide) (of_cell t)) $$ [HW HO]
  · isplitl [HW]; · iexact HW
    iexact HO
  iintro ⟨HW, HO⟩
  simp only [ret_bind]
  iapply (waitS c S qs (sl t) n 2 (by decide) (of_cell t)) $$ [HS HO]
  · isplitl [HS]; · iexact HS
    iexact HO
  iintro ⟨HS, HO⟩
  simp only [ret_bind]
  iapply (waitW c W qw (sl t) n 4 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt47 (t : Fin cfg0.N) {Q : PUnit → sProp (MM F)} :
    iprop(landW c W qw (sl t) n 5 ∗ landS c S qs (sl t) n 3 ∗ owed c ∗ (iprop(landW c W qw (sl t) n 8 ∗ landS c S qs (sl t) n 5 ∗ owed c) -∗ Q ⟨⟩)) ⊢ wp frame (wpE (defs₀ (F := F)) Variants.none c none) Set.univ (k0_part47 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part47_eq_skeleton]; unfold k0_part47_skel
  iintro ⟨HW, HS, HO, HK⟩
  iapply (waitW c W qw (sl t) n 5 (by decide) (of_cell t)) $$ [HW HO]
  · isplitl [HW]; · iexact HW
    iexact HO
  iintro ⟨HW, HO⟩
  simp only [ret_bind]
  iapply (waitS c S qs (sl t) n 3 (by decide) (of_cell t)) $$ [HS HO]
  · isplitl [HS]; · iexact HS
    iexact HO
  iintro ⟨HS, HO⟩
  simp only [ret_bind]
  iapply (waitW c W qw (sl t) n 6 (by decide) (of_cell t)) $$ [HW HO]
  · isplitl [HW]; · iexact HW
    iexact HO
  iintro ⟨HW, HO⟩
  simp only [ret_bind]
  iapply (waitW c W qw (sl t) n 7 (by decide) (of_cell t)) $$ [HW HO]
  · isplitl [HW]; · iexact HW
    iexact HO
  iintro ⟨HW, HO⟩
  simp only [ret_bind]
  iapply (waitS c S qs (sl t) n 4 (by decide) (of_cell t)) $$ [HS HO]
  · isplitl [HS]; · iexact HS
    iexact HO
  iintro ⟨HS, HO⟩
  simp only [ret_bind]
  rw [wp_pure]
  imodintro
  iapply HK
  isplitl [HW]; · iexact HW
  isplitl [HS]; · iexact HS
  iexact HO

theorem wt48 (t : Fin cfg0.N) {Q : PUnit → sProp (MM F)} :
    iprop(landW c W qw (sl t) n 8 ∗ landS c S qs (sl t) n 5 ∗ owed c ∗ (iprop(landW c W qw (sl t) n 12 ∗ landS c S qs (sl t) n 6 ∗ owed c) -∗ Q ⟨⟩)) ⊢ wp frame (wpE (defs₀ (F := F)) Variants.none c none) Set.univ (k0_part48 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part48_eq_skeleton]; unfold k0_part48_skel
  iintro ⟨HW, HS, HO, HK⟩
  iapply (waitW c W qw (sl t) n 8 (by decide) (of_cell t)) $$ [HW HO]
  · isplitl [HW]; · iexact HW
    iexact HO
  iintro ⟨HW, HO⟩
  simp only [ret_bind]
  iapply (waitW c W qw (sl t) n 9 (by decide) (of_cell t)) $$ [HW HO]
  · isplitl [HW]; · iexact HW
    iexact HO
  iintro ⟨HW, HO⟩
  simp only [ret_bind]
  iapply (waitS c S qs (sl t) n 5 (by decide) (of_cell t)) $$ [HS HO]
  · isplitl [HS]; · iexact HS
    iexact HO
  iintro ⟨HS, HO⟩
  simp only [ret_bind]
  iapply (waitW c W qw (sl t) n 10 (by decide) (of_cell t)) $$ [HW HO]
  · isplitl [HW]; · iexact HW
    iexact HO
  iintro ⟨HW, HO⟩
  simp only [ret_bind]
  iapply (waitW c W qw (sl t) n 11 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt49 (t : Fin cfg0.N) {Q : PUnit → sProp (MM F)} :
    iprop(landW c W qw (sl t) n 12 ∗ landS c S qs (sl t) n 6 ∗ owed c ∗ (iprop(landW c W qw (sl t) n 15 ∗ landS c S qs (sl t) n 8 ∗ owed c) -∗ Q ⟨⟩)) ⊢ wp frame (wpE (defs₀ (F := F)) Variants.none c none) Set.univ (k0_part49 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part49_eq_skeleton]; unfold k0_part49_skel
  iintro ⟨HW, HS, HO, HK⟩
  iapply (waitS c S qs (sl t) n 6 (by decide) (of_cell t)) $$ [HS HO]
  · isplitl [HS]; · iexact HS
    iexact HO
  iintro ⟨HS, HO⟩
  simp only [ret_bind]
  iapply (waitW c W qw (sl t) n 12 (by decide) (of_cell t)) $$ [HW HO]
  · isplitl [HW]; · iexact HW
    iexact HO
  iintro ⟨HW, HO⟩
  simp only [ret_bind]
  iapply (waitW c W qw (sl t) n 13 (by decide) (of_cell t)) $$ [HW HO]
  · isplitl [HW]; · iexact HW
    iexact HO
  iintro ⟨HW, HO⟩
  simp only [ret_bind]
  iapply (waitS c S qs (sl t) n 7 (by decide) (of_cell t)) $$ [HS HO]
  · isplitl [HS]; · iexact HS
    iexact HO
  iintro ⟨HS, HO⟩
  simp only [ret_bind]
  iapply (waitW c W qw (sl t) n 14 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt50 (t : Fin cfg0.N) {Q : PUnit → sProp (MM F)} :
    iprop(landW c W qw (sl t) n 15 ∗ landS c S qs (sl t) n 8 ∗ owed c ∗ (iprop(landW c W qw (sl t) n 18 ∗ landS c S qs (sl t) n 10 ∗ owed c) -∗ Q ⟨⟩)) ⊢ wp frame (wpE (defs₀ (F := F)) Variants.none c none) Set.univ (k0_part50 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part50_eq_skeleton]; unfold k0_part50_skel
  iintro ⟨HW, HS, HO, HK⟩
  iapply (waitW c W qw (sl t) n 15 (by decide) (of_cell t)) $$ [HW HO]
  · isplitl [HW]; · iexact HW
    iexact HO
  iintro ⟨HW, HO⟩
  simp only [ret_bind]
  iapply (waitS c S qs (sl t) n 8 (by decide) (of_cell t)) $$ [HS HO]
  · isplitl [HS]; · iexact HS
    iexact HO
  iintro ⟨HS, HO⟩
  simp only [ret_bind]
  iapply (waitW c W qw (sl t) n 16 (by decide) (of_cell t)) $$ [HW HO]
  · isplitl [HW]; · iexact HW
    iexact HO
  iintro ⟨HW, HO⟩
  simp only [ret_bind]
  iapply (waitW c W qw (sl t) n 17 (by decide) (of_cell t)) $$ [HW HO]
  · isplitl [HW]; · iexact HW
    iexact HO
  iintro ⟨HW, HO⟩
  simp only [ret_bind]
  iapply (waitS c S qs (sl t) n 9 (by decide) (of_cell t)) $$ [HS HO]
  · isplitl [HS]; · iexact HS
    iexact HO
  iintro ⟨HS, HO⟩
  simp only [ret_bind]
  rw [wp_pure]
  imodintro
  iapply HK
  isplitl [HW]; · iexact HW
  isplitl [HS]; · iexact HS
  iexact HO

theorem wt51 (t : Fin cfg0.N) {Q : PUnit → sProp (MM F)} :
    iprop(landW c W qw (sl t) n 18 ∗ landS c S qs (sl t) n 10 ∗ owed c ∗ (iprop(landW c W qw (sl t) n 22 ∗ landS c S qs (sl t) n 11 ∗ owed c) -∗ Q ⟨⟩)) ⊢ wp frame (wpE (defs₀ (F := F)) Variants.none c none) Set.univ (k0_part51 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part51_eq_skeleton]; unfold k0_part51_skel
  iintro ⟨HW, HS, HO, HK⟩
  iapply (waitW c W qw (sl t) n 18 (by decide) (of_cell t)) $$ [HW HO]
  · isplitl [HW]; · iexact HW
    iexact HO
  iintro ⟨HW, HO⟩
  simp only [ret_bind]
  iapply (waitW c W qw (sl t) n 19 (by decide) (of_cell t)) $$ [HW HO]
  · isplitl [HW]; · iexact HW
    iexact HO
  iintro ⟨HW, HO⟩
  simp only [ret_bind]
  iapply (waitS c S qs (sl t) n 10 (by decide) (of_cell t)) $$ [HS HO]
  · isplitl [HS]; · iexact HS
    iexact HO
  iintro ⟨HS, HO⟩
  simp only [ret_bind]
  iapply (waitW c W qw (sl t) n 20 (by decide) (of_cell t)) $$ [HW HO]
  · isplitl [HW]; · iexact HW
    iexact HO
  iintro ⟨HW, HO⟩
  simp only [ret_bind]
  iapply (waitW c W qw (sl t) n 21 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt52 (t : Fin cfg0.N) {Q : PUnit → sProp (MM F)} :
    iprop(landW c W qw (sl t) n 22 ∗ landS c S qs (sl t) n 11 ∗ owed c ∗ (iprop(landW c W qw (sl t) n 25 ∗ landS c S qs (sl t) n 13 ∗ owed c) -∗ Q ⟨⟩)) ⊢ wp frame (wpE (defs₀ (F := F)) Variants.none c none) Set.univ (k0_part52 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part52_eq_skeleton]; unfold k0_part52_skel
  iintro ⟨HW, HS, HO, HK⟩
  iapply (waitS c S qs (sl t) n 11 (by decide) (of_cell t)) $$ [HS HO]
  · isplitl [HS]; · iexact HS
    iexact HO
  iintro ⟨HS, HO⟩
  simp only [ret_bind]
  iapply (waitW c W qw (sl t) n 22 (by decide) (of_cell t)) $$ [HW HO]
  · isplitl [HW]; · iexact HW
    iexact HO
  iintro ⟨HW, HO⟩
  simp only [ret_bind]
  iapply (waitW c W qw (sl t) n 23 (by decide) (of_cell t)) $$ [HW HO]
  · isplitl [HW]; · iexact HW
    iexact HO
  iintro ⟨HW, HO⟩
  simp only [ret_bind]
  iapply (waitS c S qs (sl t) n 12 (by decide) (of_cell t)) $$ [HS HO]
  · isplitl [HS]; · iexact HS
    iexact HO
  iintro ⟨HS, HO⟩
  simp only [ret_bind]
  iapply (waitW c W qw (sl t) n 24 (by decide) (of_cell t)) $$ [HW HO]
  · isplitl [HW]; · iexact HW
    iexact HO
  iintro ⟨HW, HO⟩
  simp only [ret_bind]
  rw [wp_pure]
  imodintro
  iapply HK
  isplitl [HW]; · iexact HW
  isplitl [HS]; · iexact HS
  iexact HO

theorem wt53 (t : Fin cfg0.N) {Q : PUnit → sProp (MM F)} :
    iprop(landW c W qw (sl t) n 25 ∗ landS c S qs (sl t) n 13 ∗ owed c ∗ (iprop(landW c W qw (sl t) n 28 ∗ landS c S qs (sl t) n 15 ∗ owed c) -∗ Q ⟨⟩)) ⊢ wp frame (wpE (defs₀ (F := F)) Variants.none c none) Set.univ (k0_part53 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part53_eq_skeleton]; unfold k0_part53_skel
  iintro ⟨HW, HS, HO, HK⟩
  iapply (waitW c W qw (sl t) n 25 (by decide) (of_cell t)) $$ [HW HO]
  · isplitl [HW]; · iexact HW
    iexact HO
  iintro ⟨HW, HO⟩
  simp only [ret_bind]
  iapply (waitS c S qs (sl t) n 13 (by decide) (of_cell t)) $$ [HS HO]
  · isplitl [HS]; · iexact HS
    iexact HO
  iintro ⟨HS, HO⟩
  simp only [ret_bind]
  iapply (waitW c W qw (sl t) n 26 (by decide) (of_cell t)) $$ [HW HO]
  · isplitl [HW]; · iexact HW
    iexact HO
  iintro ⟨HW, HO⟩
  simp only [ret_bind]
  iapply (waitW c W qw (sl t) n 27 (by decide) (of_cell t)) $$ [HW HO]
  · isplitl [HW]; · iexact HW
    iexact HO
  iintro ⟨HW, HO⟩
  simp only [ret_bind]
  iapply (waitS c S qs (sl t) n 14 (by decide) (of_cell t)) $$ [HS HO]
  · isplitl [HS]; · iexact HS
    iexact HO
  iintro ⟨HS, HO⟩
  simp only [ret_bind]
  rw [wp_pure]
  imodintro
  iapply HK
  isplitl [HW]; · iexact HW
  isplitl [HS]; · iexact HS
  iexact HO

end Cert.LabelIdeal.Hand

end
-- ==== Proof.LabelIdealMid.lean ====
module

public import proofs.«01_k».proof.Proof.LabelIdealWaits
public import proofs.«01_k».proof.Proof.Gen.LabelIdeal.Skeleton
public import Idealize.ShloMosaic.Lib.Batch
public import Idealize.ShloMosaic.Lib.WritesUnit

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The values a step computes from its own blocks -/

/-- A load of one element reads that element. -/
theorem ld_first {sp : Space} {s : Shape} {e : EltTy} (m : Memref sig .tc sp s e) (hm : m.IsWhole) (x : Vec F s e) (r : Rect s) (h) :
    View.readAt (Elt F) m.view r.toLoadRect (hm.unread x) (Shape.Idx.first h) = x (r.emb (Shape.Idx.first h)) := congrFun (hm.read_unread x) _

/-- Word `b` of row `a` of the channel table. -/
def chx (chan : Vec F S2x16 .i32) (a : Fin 2) (b : Fin 16) : Elt F .i32 := chan (fun | 0 => a | 1 => b)
/-- Length `r` of point `i`'s rows. -/
def lnx (lens : Vec F S96 .i32) (i : grid0.Coords) (r : Fin 8) : Elt F .i32 := lens (fun | 0 => ⟨8 * (i 0).val + r.val, by have : (i 0).val < 12 := (i 0).isLt; show _ < 96; omega⟩)

def u0 : BitVec 32 := 0#32
/-- The lane numbers. -/
abbrev lanes : IVec S1x256 32 := iota .tc S1x256 32 [1] iota_S1x256_d1_w32
/-- Which bit-field a lane reads, which code row, and which channel slot: the step's index vectors. -/
def u72 : IVec S1x256 32 := k0_pay33 (Scalar.select (Scalar.cmpi .eq 64#32 0#32) 1#32 64#32) k0_pay31 k0_pay32 0#32
def u118 : IVec S1x256 32 := k0_pay37 k0_pay30 u72 (Scalar.select (Scalar.cmpi .eq 2#32 0#32) 1#32 2#32) (k0_pay34 lanes) (k0_pay35 lanes) (k0_pay36 lanes)
def u158 : IVec S1x256 32 := k0_pay40 u72 2#32 (k0_pay38 u72) (k0_pay39 u72) (Scalar.extui (Scalar.cmpi .sgt 2#32 0#32)) (Scalar.cmpi .slt 2#32 0#32)
def u174 : IVec S1x256 32 := k0_pay41 u72

/-- The channel choice of each lane, built up over the table's 32 entries. -/
def g5 (chan : Vec F S2x16 .i32) : IVec S1x256 32 := k0_pay5 u118 u174 (chx chan 0 0) (chx chan 0 1) (chx chan 0 2) (chx chan 0 3)
def g7 (chan : Vec F S2x16 .i32) : IVec S1x256 32 := k0_pay7 u118 u174 (g5 chan) (k0_pay6 u118 u174) (chx chan 0 4) (chx chan 0 5) (chx chan 0 6) (chx chan 0 7) (chx chan 0 8)
def g9 (chan : Vec F S2x16 .i32) : IVec S1x256 32 := k0_pay9 u118 u174 (g7 chan) (k0_pay8 u118 u174) (chx chan 0 9) (chx chan 0 10) (chx chan 0 11) (chx chan 0 12) (chx chan 0 13)
def g11 (chan : Vec F S2x16 .i32) : IVec S1x256 32 := k0_pay11 u118 u174 (g9 chan) (k0_pay10 u118 u174) (chx chan 0 14) (chx chan 0 15) (chx chan 1 0) (chx chan 1 1) (chx chan 1 2)
def g13 (chan : Vec F S2x16 .i32) : IVec S1x256 32 := k0_pay13 u118 u174 (g11 chan) (k0_pay12 u118 u174) (chx chan 1 3) (chx chan 1 4) (chx chan 1 5) (chx chan 1 6) (chx chan 1 7)
def g15 (chan : Vec F S2x16 .i32) : IVec S1x256 32 := k0_pay15 u118 u174 (g13 chan) (k0_pay14 u118 u174) (chx chan 1 8) (chx chan 1 9) (chx chan 1 10) (chx chan 1 11) (chx chan 1 12)
/-- The one-hot choice of channels. -/
def PK (chan : Vec F S2x16 .i32) : Vec F S128x256 .bf16 := k0_pay42 u118 u174 (g15 chan) (k0_pay16 u118 u174) (chx chan 1 13) (chx chan 1 14) (chx chan 1 15)
/-- The rows the step multiplies the codes by. -/
def V246 (chan : Vec F S2x16 .i32) (x : Vec F S8x1536 .bf16) : FVec F S96x256 .bf16 := k0_pay47 u174 (k0_pay43 x (PK chan)) (iota .tc S96x1 32 [0] iota_S96x1_d0_w32) (k0_pay44 u158) 48#32 k0_pay45 k0_pay46
abbrev rows8 : IVec S8x1 32 := iota .tc S8x1 32 [0] iota_S8x1_d0_w32
/-- The lengths of the step's rows, in a column. -/
def V312 (lens : Vec F S96 .i32) (i : grid0.Coords) : IVec S8x1 32 :=
  k0_pay52 (k0_pay50 rows8 (k0_pay48 (lnx lens i 0) (lnx lens i 1)) k0_pay49 (lnx lens i 2) (lnx lens i 3) (lnx lens i 4) (lnx lens i 5) (lnx lens i 6)) (k0_pay51 rows8) (lnx lens i 7)

/-- A whole rectangle of rank two reads and writes the whole memref. -/
theorem emb_all {a b : ℕ} (off : Fin 2 → ℕ) (hoff : off = ![0, 0]) (h) (y : (⟨2, ![a, b]⟩ : Shape).Idx) :
    (Rect.unit (s := ⟨2, ![a, b]⟩) off ![a, b] h).emb y = y := by
  subst hoff
  funext k; apply Fin.ext
  show ![0, 0] k + 1 * (y k).val = (y k).val
  fin_cases k <;> simp
theorem rd_all {a b : ℕ} {sp : Space} {e : EltTy} (m : Memref sig .tc sp ⟨2, ![a, b]⟩ e) (f : m.view.ty.Contents (Elt F)) (off : Fin 2 → ℕ) (hoff : off = ![0, 0]) (h) :
    View.readAt (Elt F) m.view (Rect.unit (s := ⟨2, ![a, b]⟩) off ![a, b] h).toLoadRect f = View.read (Elt F) m.view f := by
  funext y
  show View.read (Elt F) m.view f ((Rect.unit (s := ⟨2, ![a, b]⟩) off ![a, b] h).emb y) = _
  rw [emb_all off hoff h y]
theorem ld_all {a b : ℕ} {sp : Space} {e : EltTy} (m : Memref sig .tc sp ⟨2, ![a, b]⟩ e) (x : Vec F ⟨2, ![a, b]⟩ e) (hm : m.IsWhole) (off : Fin 2 → ℕ) (hoff : off = ![0, 0]) (h) :
    View.readAt (Elt F) m.view (Rect.unit (s := ⟨2, ![a, b]⟩) off ![a, b] h).toLoadRect (hm.unread x) = x := by
  rw [rd_all m _ off hoff, hm.read_unread]
theorem wr_all {a b : ℕ} {sp : Space} {e : EltTy} (m : Memref sig .tc sp ⟨2, ![a, b]⟩ e) (f : m.view.ty.Contents (Elt F)) (off : Fin 2 → ℕ) (hoff : off = ![0, 0]) (h) (w : Vec F ⟨2, ![a, b]⟩ e) :
    View.read (Elt F) m.view (m.view.writes (Elt F) f [⟨Rect.unit (s := ⟨2, ![a, b]⟩) off ![a, b] h, w⟩]) = w := by
  funext y
  exact View.read_writes_cons_unit_of_mem m.view f h w [] y y hoff (fun k => by fin_cases k <;> exact (Nat.zero_add _).symm)
theorem rc_all {a b : ℕ} {sp : Space} {e : EltTy} {m : Memref sig .tc sp ⟨2, ![a, b]⟩ e} (w : Vec F ⟨2, ![a, b]⟩ e) (off : Fin 2 → ℕ) (hoff : off = ![0, 0]) (h) :
    m.view.readCov [⟨Rect.unit (s := ⟨2, ![a, b]⟩) off ![a, b] h, w⟩] (Rect.unit (s := ⟨2, ![a, b]⟩) off ![a, b] h).toLoadRect = w := by
  unfold View.readCov
  rw [rd_all m _ off hoff, wr_all m _ off hoff]

variable (c : Dev nD)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)
theorem md36 (i : grid0.Coords) (v8 : IVec S1x256 32) (v34 : BitVec 32) (v36 : IVec S1x256 32) (v38 : IVec S1x256 1) (c0_i32_12 : BitVec 32) {Q : (Σ' (v72 : IVec S1x256 32) (v74 : BitVec 32) (v76 : IVec S1x256 32) (v78 : IVec S1x256 1), IVec S1x256 1) → sProp (MM F)} :
    Q ⟨k0_pay33 v34 v36 v38 c0_i32_12, Scalar.select (Scalar.cmpi .eq 2#32 0#32) 1#32 2#32, k0_pay34 v8, k0_pay35 v8, k0_pay36 v8⟩ ⊢ wp frame (wpE (defs₀ (F := F)) Variants.none c none) Set.univ (k0_part36 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v8 v34 v36 v38 c0_i32_12) Q := by
  rw [k0_part36_eq_skeleton]; unfold k0_part36_skel
  rw [wp_pure]
  iintro H
  imodintro
  iexact H

theorem md37 (i : grid0.Coords) (v32 : IVec S1x256 32) (v72 : IVec S1x256 32) (v74 : BitVec 32) (v76 : IVec S1x256 32) (v78 : IVec S1x256 1) (v84 : IVec S1x256 1) {Q : (Σ' (v118 : IVec S1x256 32) (c2_i32_33 : BitVec 32) (v120 : IVec S1x256 32) (v127 : IVec S1x256 32) (v129 : BitVec 32), BitVec 1) → sProp (MM F)} :
    Q ⟨k0_pay37 v32 v72 v74 v76 v78 v84, 2#32, k0_pay38 v72, k0_pay39 v72, Scalar.extui (Scalar.cmpi .sgt 2#32 0#32), Scalar.cmpi .slt 2#32 0#32⟩ ⊢ wp frame (wpE (defs₀ (F := F)) Variants.none c none) Set.univ (k0_part37 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v32 v72 v74 v76 v78 v84) Q := by
  rw [k0_part37_eq_skeleton]; unfold k0_part37_skel
  rw [wp_pure]
  iintro H
  imodintro
  iexact H

theorem md38 (i : grid0.Coords) (arg0 : BitVec 32) (v72 : IVec S1x256 32) (c2_i32_33 : BitVec 32) (v120 : IVec S1x256 32) (v127 : IVec S1x256 32) (v129 : BitVec 32) (v130 : BitVec 1) {Q : (Σ' (v158 : IVec S1x256 32) (v174 : IVec S1x256 32), BitVec 1) → sProp (MM F)} :
    Q ⟨k0_pay40 v72 c2_i32_33 v120 v127 v129 v130, k0_pay41 v72, Scalar.cmpi .eq arg0 0#32⟩ ⊢ wp frame (wpE (defs₀ (F := F)) Variants.none c none) Set.univ (k0_part38 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 v72 c2_i32_33 v120 v127 v129 v130) Q := by
  rw [k0_part38_eq_skeleton]; unfold k0_part38_skel
  rw [wp_pure]
  iintro H
  imodintro
  iexact H

theorem md43 (i : grid0.Coords) (arg0 : BitVec 32) (c8_i32_119 : BitVec 32) {Q : (BitVec 32) → sProp (MM F)} :
    Q 8#32 ⊢ wp frame (wpE (defs₀ (F := F)) Variants.none c none) Set.univ (k0_part43 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 c8_i32_119) Q := by
  rw [k0_part43_eq_skeleton]; unfold k0_part43_skel
  rw [wp_pure]
  iintro H
  imodintro
  iexact H

theorem md44 (i : grid0.Coords) (arg0 : BitVec 32) (c8_i32_149 : BitVec 32) {Q : (BitVec 32) → sProp (MM F)} :
    Q 8#32 ⊢ wp frame (wpE (defs₀ (F := F)) Variants.none c none) Set.univ (k0_part44 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 c8_i32_149) Q := by
  rw [k0_part44_eq_skeleton]; unfold k0_part44_skel
  rw [wp_pure]
  iintro H
  imodintro
  iexact H

theorem len_off0 : ∀ t : Fin cfg0.N, k0_off56 (grid0.coords t) 0#32 = ![8 * ((grid0.coords t) 0).val + 0] := by decide +kernel
theorem len_off1 : ∀ t : Fin cfg0.N, k0_off56 (grid0.coords t) 1#32 = ![8 * ((grid0.coords t) 0).val + 1] := by decide +kernel
theorem len_off2 : ∀ t : Fin cfg0.N, k0_off56 (grid0.coords t) 2#32 = ![8 * ((grid0.coords t) 0).val + 2] := by decide +kernel
theorem len_off3 : ∀ t : Fin cfg0.N, k0_off56 (grid0.coords t) 3#32 = ![8 * ((grid0.coords t) 0).val + 3] := by decide +kernel
theorem len_off4 : ∀ t : Fin cfg0.N, k0_off56 (grid0.coords t) 4#32 = ![8 * ((grid0.coords t) 0).val + 4] := by decide +kernel
theorem len_off5 : ∀ t : Fin cfg0.N, k0_off56 (grid0.coords t) 5#32 = ![8 * ((grid0.coords t) 0).val + 5] := by decide +kernel
theorem len_off6 : ∀ t : Fin cfg0.N, k0_off56 (grid0.coords t) 6#32 = ![8 * ((grid0.coords t) 0).val + 6] := by decide +kernel
theorem len_off7 : ∀ t : Fin cfg0.N, k0_off56 (grid0.coords t) 7#32 = ![8 * ((grid0.coords t) 0).val + 7] := by decide +kernel

theorem ld_len (t : Fin cfg0.N) (lens : Vec F S96 .i32) (r : Fin 8) {of : Fin 1 → ℕ} (hof : of = ![8 * ((grid0.coords t) 0).val + r.val]) (h1 h2) :
    View.readAt (Elt F) arg1.view (Rect.unit (s := S96) of S1.size h1).toLoadRect (harg1.unread lens) (Shape.Idx.first h2) = lnx lens (grid0.coords t) r := by
  rw [ld_first]
  unfold lnx
  congr 1
  subst hof
  funext a
  apply Fin.ext
  fin_cases a
  rfl

theorem ld_ch (chan : Vec F S2x16 .i32) (a : Fin 2) (b : Fin 16) {of : Fin 2 → ℕ} (hof : of = ![a.val, b.val]) (h1 h2) :
    View.readAt (Elt F) arg2.view (Rect.unit (s := S2x16) of S1x1.size h1).toLoadRect (harg2.unread chan) (Shape.Idx.first h2) = chx chan a b := by
  rw [ld_first]
  unfold chx
  congr 1
  subst hof
  funext a
  apply Fin.ext
  fin_cases a <;> rfl

theorem md40 (t : Fin cfg0.N) (lens : Vec F S96 .i32) (arg0 : BitVec 32) (v174 : IVec S1x256 32) (v195 : FVec F S96x256 .f32) (v196 : IVec S96x1 32) (v215 : IVec S96x256 1) (c48_i32 : BitVec 32) (v217 : IVec S96x1 32) (v220 : IVec S96x1 32) {Q : (Σ' (v246 : FVec F S96x256 .bf16) (v247 : IVec S8x1 32) (v264 : IVec S8x1 32), IVec S8x1 1) → sProp (MM F)} :
    iprop(owns (Val := Elt F) (c : Thread nD τ) arg1 fullShare lens ∗ (owns (Val := Elt F) (c : Thread nD τ) arg1 fullShare lens -∗ Q ⟨k0_pay47 v174 v195 v196 v215 c48_i32 v217 v220, rows8, k0_pay48 (lnx lens (grid0.coords t) 0) (lnx lens (grid0.coords t) 1), k0_pay49⟩)) ⊢ wp frame (wpE (defs₀ (F := F)) Variants.none c none) Set.univ (k0_part40 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 v174 v195 v196 v215 c48_i32 v217 v220) Q := by
  rw [k0_part40_eq_skeleton]; unfold k0_part40_skel
  unfold owns
  iintro ⟨⟨%f0, %hf0, H0⟩, HK⟩
  obtain rfl := harg1.eq_unread hf0
  sl_exec
  unfold md40.sl.v247 md40.sl.r md40.sl.r_1
  rw [ld_len arg1 harg1 t lens 0 (len_off0 t), ld_len arg1 harg1 t lens 1 (len_off1 t)]
  rw [wp_ret]
  imodintro
  iapply HK
  iexists _; isplitr
  · ipureintro; exact harg1.read_unread _
  iexact H0

theorem md41 (t : Fin cfg0.N) (lens : Vec F S96 .i32) (arg0 : BitVec 32) (v247 : IVec S8x1 32) (v264 : IVec S8x1 32) (v266 : IVec S8x1 1) {Q : (Σ' (v304 : IVec S8x1 32), IVec S8x1 1) → sProp (MM F)} :
    iprop(owns (Val := Elt F) (c : Thread nD τ) arg1 fullShare lens ∗ (owns (Val := Elt F) (c : Thread nD τ) arg1 fullShare lens -∗ Q ⟨k0_pay50 v247 v264 v266 (lnx lens (grid0.coords t) 2) (lnx lens (grid0.coords t) 3) (lnx lens (grid0.coords t) 4) (lnx lens (grid0.coords t) 5) (lnx lens (grid0.coords t) 6), k0_pay51 v247⟩)) ⊢ wp frame (wpE (defs₀ (F := F)) Variants.none c none) Set.univ (k0_part41 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 v247 v264 v266) Q := by
  rw [k0_part41_eq_skeleton]; unfold k0_part41_skel
  unfold owns
  iintro ⟨⟨%f0, %hf0, H0⟩, HK⟩
  obtain rfl := harg1.eq_unread hf0
  sl_exec
  unfold md41.sl.r md41.sl.r_1 md41.sl.r_2 md41.sl.r_3 md41.sl.r_4
  rw [ld_len arg1 harg1 t lens 2 (len_off2 t), ld_len arg1 harg1 t lens 3 (len_off3 t), ld_len arg1 harg1 t lens 4 (len_off4 t), ld_len arg1 harg1 t lens 5 (len_off5 t), ld_len arg1 harg1 t lens 6 (len_off6 t)]
  rw [wp_ret]
  imodintro
  iapply HK
  iexists _; isplitr
  · ipureintro; exact harg1.read_unread _
  iexact H0

theorem md42 (t : Fin cfg0.N) (lens : Vec F S96 .i32) (arg0 : BitVec 32) (v304 : IVec S8x1 32) (v306 : IVec S8x1 1) {Q : (Σ' (v312 : IVec S8x1 32), BitVec 32) → sProp (MM F)} :
    iprop(owns (Val := Elt F) (c : Thread nD τ) arg1 fullShare lens ∗ (owns (Val := Elt F) (c : Thread nD τ) arg1 fullShare lens -∗ Q ⟨k0_pay52 v304 v306 (lnx lens (grid0.coords t) 7), 8#32⟩)) ⊢ wp frame (wpE (defs₀ (F := F)) Variants.none c none) Set.univ (k0_part42 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 arg0 v304 v306) Q := by
  rw [k0_part42_eq_skeleton]; unfold k0_part42_skel
  unfold owns
  iintro ⟨⟨%f0, %hf0, H0⟩, HK⟩
  obtain rfl := harg1.eq_unread hf0
  sl_exec
  unfold md42.sl.r
  rw [ld_len arg1 harg1 t lens 7 (len_off7 t)]
  rw [wp_ret]
  imodintro
  iapply HK
  iexists _; isplitr
  · ipureintro; exact harg1.read_unread _
  iexact H0

theorem md39A (i : grid0.Coords) (chan : Vec F S2x16 .i32) (x : Vec F S8x1536 .bf16) (v158 : IVec S1x256 32) {Q : (Σ' (v195 : FVec F S96x256 .f32) (v196 : IVec S96x1 32) (v215 : IVec S96x256 1) (c48_i32 : BitVec 32) (v217 : IVec S96x1 32), IVec S96x1 32) → sProp (MM F)} :
    iprop(owns (Val := Elt F) (c : Thread nD τ) arg2 fullShare chan ∗ owns (Val := Elt F) (c : Thread nD τ) arg5 fullShare x ∗ (∃ d, owns (Val := Elt F) (c : Thread nD τ) (Memref.whole cc0_scratch2 : Memref sig .tc .vmem S128x256 .bf16) fullShare d) ∗ (owns (Val := Elt F) (c : Thread nD τ) arg2 fullShare chan -∗ owns (Val := Elt F) (c : Thread nD τ) arg5 fullShare x -∗ owns (Val := Elt F) (c : Thread nD τ) (Memref.whole cc0_scratch2 : Memref sig .tc .vmem S128x256 .bf16) fullShare (PK chan) -∗ Q ⟨k0_pay43 x (PK chan), iota .tc S96x1 32 [0] iota_S96x1_d0_w32, k0_pay44 v158, 48#32, k0_pay45, k0_pay46⟩)) ⊢ wp frame (wpE (defs₀ (F := F)) Variants.none c none) Set.univ (k0_part39 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 u118 v158 u174 1#1) Q := by
  rw [k0_part39_eq_skeleton]; unfold k0_part39_skel
  simp only [k0_part26_eq_skeleton, k0_part27_eq_skeleton, k0_part28_eq_skeleton, k0_part29_eq_skeleton, k0_part30_eq_skeleton, k0_part31_eq_skeleton]
  unfold owns
  iintro ⟨⟨%f0, %hf0, H0⟩, ⟨%f1, %hf1, H1⟩, ⟨%d2, %f2, %hf2, H2⟩, HK⟩
  obtain rfl := harg2.eq_unread hf0
  obtain rfl := harg5.eq_unread hf1
  sl_exec
  have hl0 : md39A.sl.r c arg2 harg2 chan = chx chan 0 0 := ld_ch arg2 harg2 chan 0 0 rfl _ _
  have hl1 : md39A.sl.r_1 c arg2 harg2 chan = chx chan 0 1 := ld_ch arg2 harg2 chan 0 1 rfl _ _
  have hl2 : md39A.sl.r_2 c arg2 harg2 chan = chx chan 0 2 := ld_ch arg2 harg2 chan 0 2 rfl _ _
  have hl3 : md39A.sl.r_3 c arg2 harg2 chan = chx chan 0 3 := ld_ch arg2 harg2 chan 0 3 rfl _ _
  have hl4 : md39A.sl.r_4 c arg2 harg2 chan = chx chan 0 4 := ld_ch arg2 harg2 chan 0 4 rfl _ _
  have hp0 : md39A.sl.r_5 c arg2 harg2 chan = g5 chan := by
    unfold md39A.sl.r_5 g5
    rw [hl0, hl1, hl2, hl3]
  have hl5 : md39A.sl.r_6 c arg2 harg2 chan = chx chan 0 5 := ld_ch arg2 harg2 chan 0 5 rfl _ _
  have hl6 : md39A.sl.r_7 c arg2 harg2 chan = chx chan 0 6 := ld_ch arg2 harg2 chan 0 6 rfl _ _
  have hl7 : md39A.sl.r_8 c arg2 harg2 chan = chx chan 0 7 := ld_ch arg2 harg2 chan 0 7 rfl _ _
  have hl8 : md39A.sl.r_9 c arg2 harg2 chan = chx chan 0 8 := ld_ch arg2 harg2 chan 0 8 rfl _ _
  have hl9 : md39A.sl.r_10 c arg2 harg2 chan = chx chan 0 9 := ld_ch arg2 harg2 chan 0 9 rfl _ _
  have hp1 : md39A.sl.r_11 c arg2 harg2 chan = g7 chan := by
    unfold md39A.sl.r_11 g7
    rw [hp0, hl4, hl5, hl6, hl7, hl8]
  have hl10 : md39A.sl.r_12 c arg2 harg2 chan = chx chan 0 10 := ld_ch arg2 harg2 chan 0 10 rfl _ _
  have hl11 : md39A.sl.r_13 c arg2 harg2 chan = chx chan 0 11 := ld_ch arg2 harg2 chan 0 11 rfl _ _
  have hl12 : md39A.sl.r_14 c arg2 harg2 chan = chx chan 0 12 := ld_ch arg2 harg2 chan 0 12 rfl _ _
  have hl13 : md39A.sl.r_15 c arg2 harg2 chan = chx chan 0 13 := ld_ch arg2 harg2 chan 0 13 rfl _ _
  have hl14 : md39A.sl.r_16 c arg2 harg2 chan = chx chan 0 14 := ld_ch arg2 harg2 chan 0 14 rfl _ _
  have hp2 : md39A.sl.r_17 c arg2 harg2 chan = g9 chan := by
    unfold md39A.sl.r_17 g9
    rw [hp1, hl9, hl10, hl11, hl12, hl13]
  have hl15 : md39A.sl.r_18 c arg2 harg2 chan = chx chan 0 15 := ld_ch arg2 harg2 chan 0 15 rfl _ _
  have hl16 : md39A.sl.r_19 c arg2 harg2 chan = chx chan 1 0 := ld_ch arg2 harg2 chan 1 0 rfl _ _
  have hl17 : md39A.sl.r_20 c arg2 harg2 chan = chx chan 1 1 := ld_ch arg2 harg2 chan 1 1 rfl _ _
  have hl18 : md39A.sl.r_21 c arg2 harg2 chan = chx chan 1 2 := ld_ch arg2 harg2 chan 1 2 rfl _ _
  have hl19 : md39A.sl.r_22 c arg2 harg2 chan = chx chan 1 3 := ld_ch arg2 harg2 chan 1 3 rfl _ _
  have hp3 : md39A.sl.r_23 c arg2 harg2 chan = g11 chan := by
    unfold md39A.sl.r_23 g11
    rw [hp2, hl14, hl15, hl16, hl17, hl18]
  have hl20 : md39A.sl.r_24 c arg2 harg2 chan = chx chan 1 4 := ld_ch arg2 harg2 chan 1 4 rfl _ _
  have hl21 : md39A.sl.r_25 c arg2 harg2 chan = chx chan 1 5 := ld_ch arg2 harg2 chan 1 5 rfl _ _
  have hl22 : md39A.sl.r_26 c arg2 harg2 chan = chx chan 1 6 := ld_ch arg2 harg2 chan 1 6 rfl _ _
  have hl23 : md39A.sl.r_27 c arg2 harg2 chan = chx chan 1 7 := ld_ch arg2 harg2 chan 1 7 rfl _ _
  have hl24 : md39A.sl.r_28 c arg2 harg2 chan = chx chan 1 8 := ld_ch arg2 harg2 chan 1 8 rfl _ _
  have hp4 : md39A.sl.r_29 c arg2 harg2 chan = g13 chan := by
    unfold md39A.sl.r_29 g13
    rw [hp3, hl19, hl20, hl21, hl22, hl23]
  have hl25 : md39A.sl.r_30 c arg2 harg2 chan = chx chan 1 9 := ld_ch arg2 harg2 chan 1 9 rfl _ _
  have hl26 : md39A.sl.r_31 c arg2 harg2 chan = chx chan 1 10 := ld_ch arg2 harg2 chan 1 10 rfl _ _
  have hl27 : md39A.sl.r_32 c arg2 harg2 chan = chx chan 1 11 := ld_ch arg2 harg2 chan 1 11 rfl _ _
  have hl28 : md39A.sl.r_33 c arg2 harg2 chan = chx chan 1 12 := ld_ch arg2 harg2 chan 1 12 rfl _ _
  have hl29 : md39A.sl.r_34 c arg2 harg2 chan = chx chan 1 13 := ld_ch arg2 harg2 chan 1 13 rfl _ _
  have hp5 : md39A.sl.r_35 c arg2 harg2 chan = g15 chan := by
    unfold md39A.sl.r_35 g15
    rw [hp4, hl24, hl25, hl26, hl27, hl28]
  have hl30 : md39A.sl.r_36 c arg2 harg2 chan = chx chan 1 14 := ld_ch arg2 harg2 chan 1 14 rfl _ _
  have hl31 : md39A.sl.r_37 c arg2 harg2 chan = chx chan 1 15 := ld_ch arg2 harg2 chan 1 15 rfl _ _
  have hP : k0_pay42 (F := F) u118 u174 (md39A.sl.r_35 c arg2 harg2 chan) (k0_pay16 u118 u174) (md39A.sl.r_34 c arg2 harg2 chan) (md39A.sl.r_36 c arg2 harg2 chan) (md39A.sl.r_37 c arg2 harg2 chan) = PK chan := by
    unfold PK
    rw [hp5, hl29, hl30, hl31]
  unfold md39A.sl.v194 md39A.sl.H2_1
  rw [hP]
  rw [ld_all arg5 x harg5 ![0, 0] rfl]
  rw [rc_all _ ![0, 0] rfl]
  rw [wp_ret]
  imodintro
  iapply HK $$ [H0] [H1]
  · iexists _; isplitr
    · ipureintro; exact harg2.read_unread _
    iexact H0
  · iexists _; isplitr
    · ipureintro; exact harg5.read_unread _
    iexact H1
  iexists _; isplitr
  swap; · iexact H2
  ipureintro
  exact wr_all _ _ ![0, 0] rfl _ _

theorem md39B (i : grid0.Coords) (chan : Vec F S2x16 .i32) (x : Vec F S8x1536 .bf16) (v158 : IVec S1x256 32) {Q : (Σ' (v195 : FVec F S96x256 .f32) (v196 : IVec S96x1 32) (v215 : IVec S96x256 1) (c48_i32 : BitVec 32) (v217 : IVec S96x1 32), IVec S96x1 32) → sProp (MM F)} :
    iprop(owns (Val := Elt F) (c : Thread nD τ) arg2 fullShare chan ∗ owns (Val := Elt F) (c : Thread nD τ) arg5 fullShare x ∗ owns (Val := Elt F) (c : Thread nD τ) (Memref.whole cc0_scratch2 : Memref sig .tc .vmem S128x256 .bf16) fullShare (PK chan) ∗ (owns (Val := Elt F) (c : Thread nD τ) arg2 fullShare chan -∗ owns (Val := Elt F) (c : Thread nD τ) arg5 fullShare x -∗ owns (Val := Elt F) (c : Thread nD τ) (Memref.whole cc0_scratch2 : Memref sig .tc .vmem S128x256 .bf16) fullShare (PK chan) -∗ Q ⟨k0_pay43 x (PK chan), iota .tc S96x1 32 [0] iota_S96x1_d0_w32, k0_pay44 v158, 48#32, k0_pay45, k0_pay46⟩)) ⊢ wp frame (wpE (defs₀ (F := F)) Variants.none c none) Set.univ (k0_part39 i arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 u118 v158 u174 0#1) Q := by
  rw [k0_part39_eq_skeleton]; unfold k0_part39_skel
  simp only [k0_part26_eq_skeleton, k0_part27_eq_skeleton, k0_part28_eq_skeleton, k0_part29_eq_skeleton, k0_part30_eq_skeleton, k0_part31_eq_skeleton]
  unfold owns
  iintro ⟨⟨%f0, %hf0, H0⟩, ⟨%f1, %hf1, H1⟩, ⟨%f2, %hf2, H2⟩, HK⟩
  obtain rfl := harg2.eq_unread hf0
  obtain rfl := harg5.eq_unread hf1
  sl_exec
  rw [ld_all arg5 x harg5 ![0, 0] rfl]
  rw [rd_all _ _ ![0, 0] rfl, hf2]
  rw [wp_ret]
  imodintro
  iapply HK $$ [H0] [H1]
  · iexists _; isplitr
    · ipureintro; exact harg2.read_unread _
    iexact H0
  · iexists _; isplitr
    · ipureintro; exact harg5.read_unread _
    iexact H1
  iexists _; isplitr
  swap; · iexact H2
  ipureintro
  exact hf2

end Cert.LabelIdeal.Hand

end
-- ==== Proof.LabelIdealLoop.lean ====
module

public import proofs.«01_k».proof.Proof.LabelIdealMid
public import proofs.«01_k».proof.Proof.Gen.LabelIdeal.Skeleton
public import Idealize.ShloMosaic.Lib.Batch
public import Idealize.ShloMosaic.Lib.WritesUnit

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The trips of a step -/

/-- The elements of a slot of the word scratch, and of the scale scratch. -/
def slotW (k : Fin 2) : Finset S2x32x8192.Idx := Finset.univ.filter fun i => (i 0).val = k.val
def slotS (k : Fin 2) : Finset S2x2x8x8192.Idx := Finset.univ.filter fun i => (i 0).val = k.val

theorem off112 : ∀ (t : Fin cfg0.N) (j : Fin k0_t1_loop.trips), k0_off112 (grid0.coords t) j = ![(sl t).val, 0, 1024 * j.val] := by decide +kernel
theorem off113 : ∀ (t : Fin cfg0.N) (j : Fin k0_t1_loop.trips), k0_off113 (grid0.coords t) j = ![(sl t).val, 0, 0, 1024 * j.val] := by decide +kernel
theorem off120 : ∀ (t : Fin cfg0.N) (j : Fin k0_t1_loop.trips), k0_off120 (grid0.coords t) j = ![(sl t).val, 1, 0, 1024 * j.val] := by decide +kernel

theorem ldW_sub (t : Fin cfg0.N) (j : Fin k0_t1_loop.trips) :
    (Memref.whole cc0_scratch0 : Memref sig .tc .vmem S2x32x8192 .i32).view.setOn (Rect.unit (s := S2x32x8192) (k0_off112 (grid0.coords t) j) S1x32x1024.size (k0_off112_inb (grid0.coords t) j)).toLoadRect.set ⊆ slotW (sl t) := by
  intro i hi
  obtain ⟨y, hy, rfl⟩ := Finset.mem_map.mp hi
  have h := Rect.mem_set_unit.mp (show y ∈ (Rect.unit (s := S2x32x8192) (k0_off112 (grid0.coords t) j) S1x32x1024.size (k0_off112_inb (grid0.coords t) j)).set from hy) 0
  rw [off112] at h
  refine Finset.mem_filter.mpr ⟨Finset.mem_univ _, ?_⟩
  show (y 0).val = (sl t).val
  have h1 : (sl t).val ≤ (y 0).val := h.1
  have h2 : (y 0).val < (sl t).val + 1 := h.2
  omega
theorem ldS_sub113 (t : Fin cfg0.N) (j : Fin k0_t1_loop.trips) :
    (Memref.whole cc0_scratch1 : Memref sig .tc .vmem S2x2x8x8192 .f32).view.setOn (Rect.unit (s := S2x2x8x8192) (k0_off113 (grid0.coords t) j) S1x1x8x1024.size (k0_off113_inb (grid0.coords t) j)).toLoadRect.set ⊆ slotS (sl t) := by
  intro i hi
  obtain ⟨y, hy, rfl⟩ := Finset.mem_map.mp hi
  have h := Rect.mem_set_unit.mp (show y ∈ (Rect.unit (s := S2x2x8x8192) (k0_off113 (grid0.coords t) j) S1x1x8x1024.size (k0_off113_inb (grid0.coords t) j)).set from hy) 0
  rw [off113] at h
  refine Finset.mem_filter.mpr ⟨Finset.mem_univ _, ?_⟩
  show (y 0).val = (sl t).val
  have h1 : (sl t).val ≤ (y 0).val := h.1
  have h2 : (y 0).val < (sl t).val + 1 := h.2
  omega
theorem ldS_sub120 (t : Fin cfg0.N) (j : Fin k0_t1_loop.trips) :
    (Memref.whole cc0_scratch1 : Memref sig .tc .vmem S2x2x8x8192 .f32).view.setOn (Rect.unit (s := S2x2x8x8192) (k0_off120 (grid0.coords t) j) S1x1x8x1024.size (k0_off120_inb (grid0.coords t) j)).toLoadRect.set ⊆ slotS (sl t) := by
  intro i hi
  obtain ⟨y, hy, rfl⟩ := Finset.mem_map.mp hi
  have h := Rect.mem_set_unit.mp (show y ∈ (Rect.unit (s := S2x2x8x8192) (k0_off120 (grid0.coords t) j) S1x1x8x1024.size (k0_off120_inb (grid0.coords t) j)).set from hy) 0
  rw [off120] at h
  refine Finset.mem_filter.mpr ⟨Finset.mem_univ _, ?_⟩
  show (y 0).val = (sl t).val
  have h1 : (sl t).val ≤ (y 0).val := h.1
  have h2 : (y 0).val < (sl t).val + 1 := h.2
  omega

/-- The words a trip loads, and its two scale blocks. -/
def ldW (W : Vec F S96x2x2x8192 .i32) (n : Fin 12) (i : grid0.Coords) (j : Fin k0_t1_loop.trips) : Vec F S1x32x1024 .i32 :=
  (Memref.whole cc0_scratch0 : Memref sig .tc .vmem S2x32x8192 .i32).view.readAt (Elt F) (Rect.unit (s := S2x32x8192) (k0_off112 i j) S1x32x1024.size (k0_off112_inb i j)).toLoadRect (Gw W n)
def ldS0 (S : Vec F S96x2x8192 .f32) (n : Fin 12) (i : grid0.Coords) (j : Fin k0_t1_loop.trips) : Vec F S1x1x8x1024 .f32 :=
  (Memref.whole cc0_scratch1 : Memref sig .tc .vmem S2x2x8x8192 .f32).view.readAt (Elt F) (Rect.unit (s := S2x2x8x8192) (k0_off113 i j) S1x1x8x1024.size (k0_off113_inb i j)).toLoadRect (Gs S n)
def ldS1 (S : Vec F S96x2x8192 .f32) (n : Fin 12) (i : grid0.Coords) (j : Fin k0_t1_loop.trips) : Vec F S1x1x8x1024 .f32 :=
  (Memref.whole cc0_scratch1 : Memref sig .tc .vmem S2x2x8x8192 .f32).view.readAt (Elt F) (Rect.unit (s := S2x2x8x8192) (k0_off120 i j) S1x1x8x1024.size (k0_off120_inb i j)).toLoadRect (Gs S n)

/-- The trip's number as the program counts it, and the columns' numbers. -/
def jv (j : Fin k0_t1_loop.trips) : BitVec 32 := Scalar.addi 0#32 (Scalar.muli (Scf.iv 0#32 1#32 j) 1#32)
abbrev cols : IVec S8x1024 32 := iota .tc S8x1024 32 [1] iota_S8x1024_d1_w32

section Pieces
variable (v246 : FVec F S96x256 .bf16) (v312 : IVec S8x1 32) (W : Vec F S96x2x2x8192 .i32) (S : Vec F S96x2x8192 .f32) (n : Fin 12) (i : grid0.Coords) (j : Fin k0_t1_loop.trips)
/-- The products, the mask and the scales of a trip. -/
def q737 : FVec F S96x1024 .f32 := k0_pay17 v246 (ldW W n i j)
def q743 : IVec S8x1024 1 := k0_pay18 v312 (jv j) cols
def q749 : FVec F S8x1024 .f32 := k0_pay19 (ldS0 S n i j)
def q777 : FVec F S8x1024 .f32 := k0_pay23 v312 (jv j) (q737 v246 W n i j) cols (ldS0 S n i j)
def q803 : FVec F S8x1024 .f32 := k0_pay27 (ldS1 S n i j)
/-- What a trip stores, last first. -/
def pcA : List (View.Piece (Elt F) S12x8x8192 .f32) := [⟨Rect.unit (s := S12x8x8192) (k0_off116 j) S1x8x1024.size (k0_off116_inb j), k0_pay22 v312 (jv j) (q737 v246 W n i j) cols (ldS0 S n i j)⟩,
  ⟨Rect.unit (s := S12x8x8192) (k0_off115 j) S1x8x1024.size (k0_off115_inb j), k0_pay21 v312 (jv j) (q737 v246 W n i j) cols (ldS0 S n i j)⟩,
  ⟨Rect.unit (s := S12x8x8192) (k0_off114 j) S1x8x1024.size (k0_off114_inb j), k0_pay20 v312 (jv j) (q737 v246 W n i j) cols (ldS0 S n i j)⟩]
def pcB : List (View.Piece (Elt F) S12x8x8192 .f32) := [⟨Rect.unit (s := S12x8x8192) (k0_off122 j) S1x8x1024.size (k0_off122_inb j), k0_pay29 (q737 v246 W n i j) (q743 v312 j) (ldS1 S n i j)⟩,
  ⟨Rect.unit (s := S12x8x8192) (k0_off121 j) S1x8x1024.size (k0_off121_inb j), k0_pay28 (q737 v246 W n i j) (q743 v312 j) (ldS1 S n i j)⟩,
  ⟨Rect.unit (s := S12x8x8192) (k0_off119 j) S1x8x1024.size (k0_off119_inb j), k0_pay26 (q737 v246 W n i j) (q743 v312 j) (q749 S n i j)⟩,
  ⟨Rect.unit (s := S12x8x8192) (k0_off118 j) S1x8x1024.size (k0_off118_inb j), k0_pay25 (q737 v246 W n i j) (q743 v312 j) (q749 S n i j)⟩,
  ⟨Rect.unit (s := S12x8x8192) (k0_off117 j) S1x8x1024.size (k0_off117_inb j), k0_pay24 (q777 v246 v312 W S n i j)⟩]
def pcC : List (View.Piece (Elt F) S12x8x8192 .f32) := [⟨Rect.unit (s := S12x8x8192) (k0_off126 j) S1x8x1024.size (k0_off126_inb j), k0_pay4 (q737 v246 W n i j) (q743 v312 j) (q803 S n i j)⟩,
  ⟨Rect.unit (s := S12x8x8192) (k0_off125 j) S1x8x1024.size (k0_off125_inb j), k0_pay3 (q737 v246 W n i j) (q743 v312 j) (q803 S n i j)⟩,
  ⟨Rect.unit (s := S12x8x8192) (k0_off124 j) S1x8x1024.size (k0_off124_inb j), k0_pay2 (q737 v246 W n i j) (q743 v312 j) (q803 S n i j)⟩,
  ⟨Rect.unit (s := S12x8x8192) (k0_off123 j) S1x8x1024.size (k0_off123_inb j), k0_pay1 (q737 v246 W n i j) (q743 v312 j) (q803 S n i j)⟩]
end Pieces

variable (c : Dev nD) (v246 : FVec F S96x256 .bf16) (v312 : IVec S8x1 32) (W : Vec F S96x2x2x8192 .i32) (S : Vec F S96x2x8192 .f32) (n : Fin 12)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)
/-- A store of a box of the output, and a load of one. -/
theorem st6 {g : Buf (Elt F) (arg6.view.loc (c : Thread nD τ))} {of : Fin 3 → ℕ} {h} {w : Vec F S1x8x1024 .f32} {hx hm} {α : Type} {K : PUnit → Prog (TpuEff nD τ sig (Elt F) Λ₀ .tc) α} {Q : α → sProp (MM F)} {L : List (View.Piece (Elt F) S12x8x8192 .f32)} :
    iprop(arg6.view.loc (c : Thread nD τ) ↦[arg6.view.set]{fullShare} (arg6.view.writes (Elt F) g L)) ⊢ iprop((iprop(arg6.view.loc (c : Thread nD τ) ↦[arg6.view.set]{fullShare} (arg6.view.writes (Elt F) g (⟨Rect.unit (s := S12x8x8192) of S1x8x1024.size h, w⟩ :: L))) -∗ wp frame (wpE (defs₀ (F := F)) Variants.none c none) Set.univ (K ⟨⟩) Q) -∗ wp frame (wpE (defs₀ (F := F)) Variants.none c none) Set.univ (.op (.store arg6 (Rect.unit (s := S12x8x8192) of S1x8x1024.size h) w Finset.univ hx hm) K) Q) := by
  exact wp_store (defs := defs₀ (F := F)) Variants.none (c : Thread nD τ) none Set.univ (m := arg6) (r := Rect.unit (s := S12x8x8192) of S1x8x1024.size h) (w := w) (Mk := Finset.univ) (hx := hx) (hm := hm) (k := K) (Q := Q)
    (S := arg6.view.set) (f := arg6.view.writes (Elt F) g L) (Memref.setOn_access_subset arg6 _ _)
theorem ld6 {g : Buf (Elt F) (arg6.view.loc (c : Thread nD τ))} {of : Fin 3 → ℕ} {h} {hl} {α : Type} {K : Vec F S1x8x1024 .f32 → Prog (TpuEff nD τ sig (Elt F) Λ₀ .tc) α} {Q : α → sProp (MM F)} :
    iprop(arg6.view.loc (c : Thread nD τ) ↦[arg6.view.set]{fullShare} g) ⊢ iprop((iprop(arg6.view.loc (c : Thread nD τ) ↦[arg6.view.set]{fullShare} g) -∗ wp frame (wpE (defs₀ (F := F)) Variants.none c none) Set.univ (K (arg6.view.readAt (Elt F) (Rect.unit (s := S12x8x8192) of S1x8x1024.size h).toLoadRect g)) Q) -∗ wp frame (wpE (defs₀ (F := F)) Variants.none c none) Set.univ (.op (.load arg6 (Rect.unit (s := S12x8x8192) of S1x8x1024.size h).toLoadRect hl) K) Q) :=
  wp_load Variants.none (c : Thread nD τ) none Set.univ (View.setOn_subset_set _ _)

theorem tr32 (t : Fin cfg0.N) (j : Fin k0_t1_loop.trips) (v0 : BitVec 32) {Q : (Σ' (v699 : BitVec 32) (v701 : BitVec 32) (v737 : FVec F S96x1024 .f32), IVec S8x1024 32) → sProp (MM F)} :
    iprop((wBuf c ↦[slotW (sl t)]{fullShare} Gw W n) ∗ ((wBuf c ↦[slotW (sl t)]{fullShare} Gw W n) -∗ Q ⟨jv j, Scalar.muli (jv j) 1024#32, q737 v246 W n (grid0.coords t) j, cols⟩)) ⊢ wp frame (wpE (defs₀ (F := F)) Variants.none c none) Set.univ (k0_part32 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v246 0#32 1#32 j) Q := by
  rw [k0_part32_eq_skeleton]; unfold k0_part32_skel
  unfold jv q737 ldW
  iintro ⟨HW, HK⟩
  iapply (wp_load Variants.none (c : Thread nD τ) none Set.univ (ldW_sub t j)) $$ HW
  iintro HW
  simp only [ret_bind]
  rw [wp_pure]
  imodintro
  iapply HK
  iexact HW

theorem tr33 (t : Fin cfg0.N) (j : Fin k0_t1_loop.trips) (v0 v701 : BitVec 32) (g : Buf (Elt F) (arg6.view.loc (c : Thread nD τ))) (L : List (View.Piece (Elt F) S12x8x8192 .f32)) {Q : (Σ' (v743 : IVec S8x1024 1) (v749 : FVec F S8x1024 .f32) (v777 : FVec F S8x1024 .f32), Vec F S1x8x1024 .f32) → sProp (MM F)} :
    iprop((sBuf c ↦[slotS (sl t)]{fullShare} Gs S n) ∗ (arg6.view.loc (c : Thread nD τ) ↦[arg6.view.set]{fullShare} arg6.view.writes (Elt F) g L) ∗ ((sBuf c ↦[slotS (sl t)]{fullShare} Gs S n) -∗ (arg6.view.loc (c : Thread nD τ) ↦[arg6.view.set]{fullShare} arg6.view.writes (Elt F) g (pcA v246 v312 W S n (grid0.coords t) j ++ L)) -∗ ∀ b, Q ⟨q743 v312 j, q749 S n (grid0.coords t) j, q777 v246 v312 W S n (grid0.coords t) j, b⟩)) ⊢ wp frame (wpE (defs₀ (F := F)) Variants.none c none) Set.univ (k0_part33 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v312 j (jv j) v701 (q737 v246 W n (grid0.coords t) j) cols) Q := by
  rw [k0_part33_eq_skeleton]; unfold k0_part33_skel
  unfold pcA q743 q749 q777 ldS0
  simp only [List.cons_append, List.nil_append]
  iintro ⟨HS, H6, HK⟩
  iapply (wp_load Variants.none (c : Thread nD τ) none Set.univ (ldS_sub113 t j)) $$ HS
  iintro HS
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  rw [wp_pure]
  imodintro
  ispecialize HK $$ HS
  ispecialize HK $$ H6
  iapply HK

theorem tr34 (t : Fin cfg0.N) (j : Fin k0_t1_loop.trips) (v0 v701 : BitVec 32) (b : Vec F S1x8x1024 .f32) (g : Buf (Elt F) (arg6.view.loc (c : Thread nD τ))) (L : List (View.Piece (Elt F) S12x8x8192 .f32)) {Q : (FVec F S8x1024 .f32) → sProp (MM F)} :
    iprop((sBuf c ↦[slotS (sl t)]{fullShare} Gs S n) ∗ (arg6.view.loc (c : Thread nD τ) ↦[arg6.view.set]{fullShare} arg6.view.writes (Elt F) g L) ∗ ((sBuf c ↦[slotS (sl t)]{fullShare} Gs S n) -∗ (arg6.view.loc (c : Thread nD τ) ↦[arg6.view.set]{fullShare} arg6.view.writes (Elt F) g (pcB v246 v312 W S n (grid0.coords t) j ++ L)) -∗ Q (q803 S n (grid0.coords t) j))) ⊢ wp frame (wpE (defs₀ (F := F)) Variants.none c none) Set.univ (k0_part34 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 j v701 (q737 v246 W n (grid0.coords t) j) (q743 v312 j) (q749 S n (grid0.coords t) j) (q777 v246 v312 W S n (grid0.coords t) j) b) Q := by
  rw [k0_part34_eq_skeleton]; unfold k0_part34_skel
  unfold pcB q803 ldS1
  simp only [List.cons_append, List.nil_append]
  iintro ⟨HS, H6, HK⟩
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (wp_load Variants.none (c : Thread nD τ) none Set.univ (ldS_sub120 t j)) $$ HS
  iintro HS
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  rw [wp_pure]
  imodintro
  ispecialize HK $$ HS
  iapply HK
  iexact H6

/-- All a trip stores, last first, and all the first `k` trips store. -/
def pcs (v246 : FVec F S96x256 .bf16) (v312 : IVec S8x1 32) (W : Vec F S96x2x2x8192 .i32) (S : Vec F S96x2x8192 .f32) (n : Fin 12) (i : grid0.Coords) (j : Fin k0_t1_loop.trips) : List (View.Piece (Elt F) S12x8x8192 .f32) :=
  pcC v246 v312 W S n i j ++ (pcB v246 v312 W S n i j ++ pcA v246 v312 W S n i j)
def pcsTo (v246 : FVec F S96x256 .bf16) (v312 : IVec S8x1 32) (W : Vec F S96x2x2x8192 .i32) (S : Vec F S96x2x8192 .f32) (n : Fin 12) (i : grid0.Coords) : ℕ → List (View.Piece (Elt F) S12x8x8192 .f32)
  | 0 => []
  | k + 1 => (if h : k < k0_t1_loop.trips then pcs v246 v312 W S n i ⟨k, h⟩ else []) ++ pcsTo v246 v312 W S n i k

theorem trip (t : Fin cfg0.N) (j : Fin k0_t1_loop.trips) (v0 : BitVec 32) (g : Buf (Elt F) (arg6.view.loc (c : Thread nD τ))) (L : List (View.Piece (Elt F) S12x8x8192 .f32)) {Q : Unit → sProp (MM F)} :
    iprop((wBuf c ↦[slotW (sl t)]{fullShare} Gw W n) ∗ (sBuf c ↦[slotS (sl t)]{fullShare} Gs S n) ∗ (arg6.view.loc (c : Thread nD τ) ↦[arg6.view.set]{fullShare} arg6.view.writes (Elt F) g L) ∗ ((wBuf c ↦[slotW (sl t)]{fullShare} Gw W n) -∗ (sBuf c ↦[slotS (sl t)]{fullShare} Gs S n) -∗ (arg6.view.loc (c : Thread nD τ) ↦[arg6.view.set]{fullShare} arg6.view.writes (Elt F) g (pcs v246 v312 W S n (grid0.coords t) j ++ L)) -∗ Q ⟨⟩)) ⊢ wp frame (wpE (defs₀ (F := F)) Variants.none c none) Set.univ (k0_t1_body (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v246 v312 j ⟨⟩) Q := by
  unfold k0_t1_body
  iintro ⟨HW, HS, H6, HK⟩
  rw [wp_bind]
  iapply (tr32 c v246 W n arg1 harg1 arg2 harg2 arg5 harg5 arg6 harg6 t j v0)
  isplitl [HW]; · iexact HW
  iintro HW
  dsimp only
  rw [wp_bind]
  iapply (tr33 c v246 v312 W S n arg1 harg1 arg2 harg2 arg5 harg5 arg6 harg6 t j v0 _ g L)
  isplitl [HS]; · iexact HS
  isplitl [H6]; · iexact H6
  iintro HS H6 %b
  dsimp only
  rw [wp_bind]
  iapply (tr34 c v246 v312 W S n arg1 harg1 arg2 harg2 arg5 harg5 arg6 harg6 t j v0 _ b g _)
  isplitl [HS]; · iexact HS
  isplitl [H6]; · iexact H6
  iintro HS H6
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  iapply (ld6 c arg6) $$ H6
  iintro H6
  simp only [ret_bind]
  iapply (st6 c arg6) $$ H6
  iintro H6
  simp only [ret_bind]
  rw [wp_pure]
  imodintro
  ispecialize HK $$ HW
  ispecialize HK $$ HS
  iapply HK
  unfold pcs pcC
  rw [List.append_assoc, List.append_assoc]
  simp only [List.cons_append, List.nil_append]
  iexact H6

theorem loop (t : Fin cfg0.N) (v0 : BitVec 32) (g : Buf (Elt F) (arg6.view.loc (c : Thread nD τ))) {Q : Unit → sProp (MM F)} :
    iprop((wBuf c ↦[slotW (sl t)]{fullShare} Gw W n) ∗ (sBuf c ↦[slotS (sl t)]{fullShare} Gs S n) ∗ (arg6.view.loc (c : Thread nD τ) ↦[arg6.view.set]{fullShare} g) ∗ ((wBuf c ↦[slotW (sl t)]{fullShare} Gw W n) -∗ (sBuf c ↦[slotS (sl t)]{fullShare} Gs S n) -∗ (arg6.view.loc (c : Thread nD τ) ↦[arg6.view.set]{fullShare} arg6.view.writes (Elt F) g (pcsTo v246 v312 W S n (grid0.coords t) k0_t1_loop.trips)) -∗ Q ⟨⟩)) ⊢ wp frame (wpE (defs₀ (F := F)) Variants.none c none) Set.univ (Scf.Loop.for k0_t1_loop k0_t1_ok ⟨⟩ (k0_t1_body (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v246 v312)) Q := by
  have hb : ∀ (k : Fin k0_t1_loop.trips) (acc : Unit), iprop((wBuf c ↦[slotW (sl t)]{fullShare} Gw W n) ∗ (sBuf c ↦[slotS (sl t)]{fullShare} Gs S n) ∗ (arg6.view.loc (c : Thread nD τ) ↦[arg6.view.set]{fullShare} arg6.view.writes (Elt F) g (pcsTo v246 v312 W S n (grid0.coords t) k.val))) ⊢
      wp frame (wpE (defs₀ (F := F)) Variants.none c none) Set.univ (k0_t1_body (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v0 v246 v312 k acc) ((fun _ => iprop((wBuf c ↦[slotW (sl t)]{fullShare} Gw W n) ∗ (sBuf c ↦[slotS (sl t)]{fullShare} Gs S n) ∗ (arg6.view.loc (c : Thread nD τ) ↦[arg6.view.set]{fullShare} arg6.view.writes (Elt F) g (pcsTo v246 v312 W S n (grid0.coords t) (k.val + 1))))) : Unit → sProp (MM F)) := by
    intro k acc
    iintro ⟨HW, HS, H6⟩
    iapply (trip c v246 v312 W S n arg1 harg1 arg2 harg2 arg5 harg5 arg6 harg6 t k v0 g _)
    isplitl [HW]; · iexact HW
    isplitl [HS]; · iexact HS
    isplitl [H6]; · iexact H6
    iintro HW HS H6
    isplitl [HW]; · iexact HW
    isplitl [HS]; · iexact HS
    rw [pcsTo, dif_pos k.isLt]
    iexact H6
  iintro ⟨HW, HS, H6, HK⟩
  iapply (Scf.wp_for frame (wpE (defs₀ (F := F)) Variants.none c none) Set.univ _ _ _ k0_t1_ok ⟨⟩ _
    (fun k (_ : Unit) => iprop((wBuf c ↦[slotW (sl t)]{fullShare} Gw W n) ∗ (sBuf c ↦[slotS (sl t)]{fullShare} Gs S n) ∗ (arg6.view.loc (c : Thread nD τ) ↦[arg6.view.set]{fullShare} arg6.view.writes (Elt F) g (pcsTo v246 v312 W S n (grid0.coords t) k)))) hb)
  isplitl [HW HS H6]
  · isplitl [HW]; · iexact HW
    isplitl [HS]; · iexact HS
    iexact H6
  · iintro %acc ⟨HW, HS, H6⟩
    ispecialize HK $$ HW
    ispecialize HK $$ HS
    iapply HK
    iexact H6

end Cert.LabelIdeal.Hand

end
-- ==== Proof.LabelIdealSlots.lean ====
module

public import proofs.«01_k».proof.Proof.LabelIdealLoop
public import proofs.«01_k».proof.Proof.Gen.LabelIdeal.Skeleton
public import Idealize.ShloMosaic.Lib.Batch
public import Idealize.ShloMosaic.Lib.WritesUnit

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A slot and its rows -/

theorem mem_wRow (k : Fin 2) (p : Fin 32) (i : S2x32x8192.Idx) : i ∈ (wRow k p).view.set ↔ (i 0).val = k.val ∧ (i 1).val = (p.val % 2) * 16 + p.val / 2 := by
  have e : ((wRow k p).view.set : Finset S2x32x8192.Idx) = (Rect.unit (s := S2x32x8192) (wOff k p) S1x1x8192.size (wOff_inb k p)).set :=
    (View.set_reshape _ _).trans (View.set_slice_whole cc0_scratch0 _)
  refine (Eq.to_iff (congrArg (fun s : Finset S2x32x8192.Idx => i ∈ s) e)).trans (Rect.mem_set_unit.trans ?_)
  constructor
  · intro h
    have h0 : k.val ≤ (i 0).val ∧ (i 0).val < k.val + 1 := h 0
    have h1 : (p.val % 2) * 16 + p.val / 2 ≤ (i 1).val ∧ (i 1).val < (p.val % 2) * 16 + p.val / 2 + 1 := h 1
    omega
  · rintro ⟨h0, h1⟩ a; fin_cases a
    · show k.val ≤ (i 0).val ∧ (i 0).val < k.val + 1; omega
    · show (p.val % 2) * 16 + p.val / 2 ≤ (i 1).val ∧ (i 1).val < (p.val % 2) * 16 + p.val / 2 + 1; omega
    · exact ⟨Nat.zero_le _, lt_of_lt_of_eq (i 2).isLt (Nat.zero_add _).symm⟩
theorem mem_wSrc (n : Fin 12) (p : Fin 32) (i : S96x2x2x8192.Idx) : i ∈ (wSrc n p).view.set ↔ (i 0).val = 8 * n.val + p.val / 4 ∧ (i 1).val = (p.val / 2) % 2 ∧ (i 2).val = p.val % 2 := by
  have e : ((wSrc n p).view.set : Finset S96x2x2x8192.Idx) = (Rect.unit (s := S96x2x2x8192) (wFrom n p) S1x1x1x8192.size (wFrom_inb n p)).set :=
    (View.set_reshape _ _).trans (View.set_slice_whole main_arg2 _)
  refine (Eq.to_iff (congrArg (fun s : Finset S96x2x2x8192.Idx => i ∈ s) e)).trans (Rect.mem_set_unit.trans ?_)
  constructor
  · intro h
    have h0 : 8 * n.val + p.val / 4 ≤ (i 0).val ∧ (i 0).val < 8 * n.val + p.val / 4 + 1 := h 0
    have h1 : (p.val / 2) % 2 ≤ (i 1).val ∧ (i 1).val < (p.val / 2) % 2 + 1 := h 1
    have h2 : p.val % 2 ≤ (i 2).val ∧ (i 2).val < p.val % 2 + 1 := h 2
    exact ⟨by omega, by omega, by omega⟩
  · rintro ⟨h0, h1, h2⟩ a; fin_cases a
    · show 8 * n.val + p.val / 4 ≤ (i 0).val ∧ (i 0).val < 8 * n.val + p.val / 4 + 1; omega
    · show (p.val / 2) % 2 ≤ (i 1).val ∧ (i 1).val < (p.val / 2) % 2 + 1; omega
    · show p.val % 2 ≤ (i 2).val ∧ (i 2).val < p.val % 2 + 1; omega
    · exact ⟨Nat.zero_le _, lt_of_lt_of_eq (i 3).isLt (Nat.zero_add _).symm⟩
theorem mem_sRow (k : Fin 2) (p : Fin 16) (i : S2x2x8x8192.Idx) : i ∈ (sRow k p).view.set ↔ (i 0).val = k.val ∧ (i 1).val = p.val % 2 ∧ (i 2).val = p.val / 2 := by
  have e : ((sRow k p).view.set : Finset S2x2x8x8192.Idx) = (Rect.unit (s := S2x2x8x8192) (sOff k p) S1x1x1x8192.size (sOff_inb k p)).set :=
    (View.set_reshape _ _).trans (View.set_slice_whole cc0_scratch1 _)
  refine (Eq.to_iff (congrArg (fun s : Finset S2x2x8x8192.Idx => i ∈ s) e)).trans (Rect.mem_set_unit.trans ?_)
  constructor
  · intro h
    have h0 : k.val ≤ (i 0).val ∧ (i 0).val < k.val + 1 := h 0
    have h1 : p.val % 2 ≤ (i 1).val ∧ (i 1).val < p.val % 2 + 1 := h 1
    have h2 : p.val / 2 ≤ (i 2).val ∧ (i 2).val < p.val / 2 + 1 := h 2
    exact ⟨by omega, by omega, by omega⟩
  · rintro ⟨h0, h1, h2⟩ a; fin_cases a
    · show k.val ≤ (i 0).val ∧ (i 0).val < k.val + 1; omega
    · show p.val % 2 ≤ (i 1).val ∧ (i 1).val < p.val % 2 + 1; omega
    · show p.val / 2 ≤ (i 2).val ∧ (i 2).val < p.val / 2 + 1; omega
    · exact ⟨Nat.zero_le _, lt_of_lt_of_eq (i 3).isLt (Nat.zero_add _).symm⟩
theorem mem_sSrc (n : Fin 12) (p : Fin 16) (i : S96x2x8192.Idx) : i ∈ (sSrc n p).view.set ↔ (i 0).val = 8 * n.val + p.val / 2 ∧ (i 1).val = p.val % 2 := by
  have e : ((sSrc n p).view.set : Finset S96x2x8192.Idx) = (Rect.unit (s := S96x2x8192) (sFrom n p) S1x1x8192.size (sFrom_inb n p)).set :=
    (View.set_reshape _ _).trans (View.set_slice_whole main_arg3 _)
  refine (Eq.to_iff (congrArg (fun s : Finset S96x2x8192.Idx => i ∈ s) e)).trans (Rect.mem_set_unit.trans ?_)
  constructor
  · intro h
    have h0 : 8 * n.val + p.val / 2 ≤ (i 0).val ∧ (i 0).val < 8 * n.val + p.val / 2 + 1 := h 0
    have h1 : p.val % 2 ≤ (i 1).val ∧ (i 1).val < p.val % 2 + 1 := h 1
    exact ⟨by omega, by omega⟩
  · rintro ⟨h0, h1⟩ a; fin_cases a
    · show 8 * n.val + p.val / 2 ≤ (i 0).val ∧ (i 0).val < 8 * n.val + p.val / 2 + 1; omega
    · show p.val % 2 ≤ (i 1).val ∧ (i 1).val < p.val % 2 + 1; omega
    · exact ⟨Nat.zero_le _, lt_of_lt_of_eq (i 2).isLt (Nat.zero_add _).symm⟩

theorem two_row {a b : ℕ} (ha : a < 32) (hb : b < 32) (h : (a % 2) * 16 + a / 2 = (b % 2) * 16 + b / 2) : a = b := by
  rcases Nat.mod_two_eq_zero_or_one a with h1 | h1 <;> rcases Nat.mod_two_eq_zero_or_one b with h2 | h2 <;> rw [h1, h2] at h <;> omega

theorem wRow_disj (k : Fin 2) : ∀ p ∈ (Finset.univ : Finset (Fin 32)), ∀ p' ∈ (Finset.univ : Finset (Fin 32)), p ≠ p' → Disjoint (wRow k p).view.set (wRow k p').view.set := by
  intro p _ p' _ hne
  refine Finset.disjoint_left.mpr fun i h h' => hne (Fin.ext ?_)
  exact two_row p.isLt p'.isLt (((mem_wRow k p i).mp h).2.symm.trans ((mem_wRow k p' i).mp h').2)
theorem wSrc_disj (n : Fin 12) : ∀ p ∈ (Finset.univ : Finset (Fin 32)), ∀ p' ∈ (Finset.univ : Finset (Fin 32)), p ≠ p' → Disjoint (wSrc n p).view.set (wSrc n p').view.set := by
  intro p _ p' _ hne
  refine Finset.disjoint_left.mpr fun i h h' => hne (Fin.ext ?_)
  obtain ⟨a, b, d⟩ := (mem_wSrc n p i).mp h
  obtain ⟨a', b', d'⟩ := (mem_wSrc n p' i).mp h'
  omega
theorem sRow_disj (k : Fin 2) : ∀ p ∈ (Finset.univ : Finset (Fin 16)), ∀ p' ∈ (Finset.univ : Finset (Fin 16)), p ≠ p' → Disjoint (sRow k p).view.set (sRow k p').view.set := by
  intro p _ p' _ hne
  refine Finset.disjoint_left.mpr fun i h h' => hne (Fin.ext ?_)
  obtain ⟨a, b, d⟩ := (mem_sRow k p i).mp h
  obtain ⟨a', b', d'⟩ := (mem_sRow k p' i).mp h'
  omega
theorem sSrc_disj (n : Fin 12) : ∀ p ∈ (Finset.univ : Finset (Fin 16)), ∀ p' ∈ (Finset.univ : Finset (Fin 16)), p ≠ p' → Disjoint (sSrc n p).view.set (sSrc n p').view.set := by
  intro p _ p' _ hne
  refine Finset.disjoint_left.mpr fun i h h' => hne (Fin.ext ?_)
  obtain ⟨a, b⟩ := (mem_sSrc n p i).mp h
  obtain ⟨a', b'⟩ := (mem_sSrc n p' i).mp h'
  omega

theorem slotW_rows (k : Fin 2) : slotW k = Finset.univ.biUnion fun p => (wRow k p).view.set := by
  refine Finset.ext fun i => ⟨fun hi => ?_, fun hi => ?_⟩
  · have h : (i 0).val = k.val := (Finset.mem_filter.mp hi).2
    have hi : (i 1).val < 32 := (i 1).isLt
    refine Finset.mem_biUnion.mpr ⟨⟨2 * ((i 1).val % 16) + (i 1).val / 16, by omega⟩, Finset.mem_univ _, (mem_wRow _ _ _).mpr ⟨h, ?_⟩⟩
    show (i 1).val = (2 * ((i 1).val % 16) + (i 1).val / 16) % 2 * 16 + (2 * ((i 1).val % 16) + (i 1).val / 16) / 2
    rcases lt_or_ge (i 1).val 16 with hl | hl
    · have : (i 1).val / 16 = 0 := by omega
      rw [this]; omega
    · have : (i 1).val / 16 = 1 := by omega
      rw [this]; omega
  · obtain ⟨p, -, hp⟩ := Finset.mem_biUnion.mp hi
    exact Finset.mem_filter.mpr ⟨Finset.mem_univ _, ((mem_wRow k p i).mp hp).1⟩
theorem slotS_rows (k : Fin 2) : slotS k = Finset.univ.biUnion fun p => (sRow k p).view.set := by
  refine Finset.ext fun i => ⟨fun hi => ?_, fun hi => ?_⟩
  · have h : (i 0).val = k.val := (Finset.mem_filter.mp hi).2
    have h1 : (i 1).val < 2 := (i 1).isLt
    have h2 : (i 2).val < 8 := (i 2).isLt
    refine Finset.mem_biUnion.mpr ⟨⟨2 * (i 2).val + (i 1).val, by omega⟩, Finset.mem_univ _, (mem_sRow _ _ _).mpr ⟨h, ?_, ?_⟩⟩
    · show _ = (2 * (i 2).val + (i 1).val) % 2; omega
    · show _ = (2 * (i 2).val + (i 1).val) / 2; omega
  · obtain ⟨p, -, hp⟩ := Finset.mem_biUnion.mp hi
    exact Finset.mem_filter.mpr ⟨Finset.mem_univ _, ((mem_sRow k p i).mp hp).1⟩

/-- The array rows of block `n`. -/
def wRows (n : Fin 12) : Finset S96x2x2x8192.Idx := Finset.univ.biUnion fun p => (wSrc n p).view.set
def sRows (n : Fin 12) : Finset S96x2x8192.Idx := Finset.univ.biUnion fun p => (sSrc n p).view.set

section Slots
variable (c : Dev nD) (W : Vec F S96x2x2x8192 .i32) (S : Vec F S96x2x8192 .f32)

/-- A slot's rows and its block's array rows, taken row by row. -/
theorem tW_all (q : PosShare TreeShare) (k : Fin 2) (n : Fin 12) (f : Vec F S2x32x8192 .i32) :
    iprop((wBuf c ↦[slotW k]{fullShare} f) ∗ (wArr c ↦[wRows n]{q} W)) = (bigSep Finset.univ (tW c W q k n f) : sProp (MM F)) := by
  have e : (bigSep Finset.univ (tW c W q k n f) : sProp (MM F)) = _ := BI.bigSep_sep Finset.univ (fun p => (wBuf c ↦[(wRow k p).view.set]{fullShare} f : sProp (MM F))) (fun p => (wArr c ↦[(wSrc n p).view.set]{q} W : sProp (MM F)))
  rw [e, ← pointsTo_biUnion Finset.univ (ℓ := wBuf c) (fun p => (wRow k p).view.set) (wRow_disj k), ← pointsTo_biUnion Finset.univ (ℓ := wArr c) (fun p => (wSrc n p).view.set) (wSrc_disj n)]
  rw [slotW_rows]; rfl
theorem tS_all (q : PosShare TreeShare) (k : Fin 2) (n : Fin 12) (f : Vec F S2x2x8x8192 .f32) :
    iprop((sBuf c ↦[slotS k]{fullShare} f) ∗ (sArr c ↦[sRows n]{q} S)) = (bigSep Finset.univ (tS c S q k n f) : sProp (MM F)) := by
  have e : (bigSep Finset.univ (tS c S q k n f) : sProp (MM F)) = _ := BI.bigSep_sep Finset.univ (fun p => (sBuf c ↦[(sRow k p).view.set]{fullShare} f : sProp (MM F))) (fun p => (sArr c ↦[(sSrc n p).view.set]{q} S : sProp (MM F)))
  rw [e, ← pointsTo_biUnion Finset.univ (ℓ := sBuf c) (fun p => (sRow k p).view.set) (sRow_disj k), ← pointsTo_biUnion Finset.univ (ℓ := sArr c) (fun p => (sSrc n p).view.set) (sSrc_disj n)]
  rw [slotS_rows]; rfl

/-- The share of the arrays that slot `k`'s copies read through. -/
def hs (k : Fin 2) : PosShare TreeShare := if k.val = 0 then fullShare.left else fullShare.right

/-- Slot `k` with nothing in flight, its contents anything. -/
def free (k : Fin 2) : sProp (MM F) :=
  iprop((∃ f : Vec F S2x32x8192 .i32, wBuf c ↦[slotW k]{fullShare} f) ∗ (∃ f : Vec F S2x2x8x8192 .f32, sBuf c ↦[slotS k]{fullShare} f)
    ∗ semVal ((c : Thread nD τ), cellW k) 0 ∗ semVal ((c : Thread nD τ), cellS k) 0 ∗ (wArr c ↦{hs k} W) ∗ (sArr c ↦{hs k} S))
/-- What a flight of block `n` leaves of its share of the arrays. -/
def rest (k : Fin 2) (n : Fin 12) : sProp (MM F) := iprop((wArr c ↦[Finset.univ \ wRows n]{hs k} W) ∗ (sArr c ↦[Finset.univ \ sRows n]{hs k} S))
/-- Slot `k` with block `n` in flight. -/
def flight (k : Fin 2) (n : Fin 12) : sProp (MM F) := iprop(landW c W (hs k) k n 0 ∗ landS c S (hs k) k n 0 ∗ rest c W S k n)

/-- A free slot is one with no copy issued yet. -/
theorem free_start (k : Fin 2) (n : Fin 12) : free c W S k ⊢ |={Set.univ}=> iprop(∃ fw fs, flyW c W (hs k) k n fw 0 ∗ flyS c S (hs k) k n fs 0 ∗ rest c W S k n) := by
  unfold free
  iintro ⟨⟨%fw, Hw⟩, ⟨%fs, Hs⟩, Hcw, Hcs, HW, HS⟩
  haveI hD := dW_storable c W (hs k) k n
  haveI hE := dS_storable c S (hs k) k n
  imod (Transfers.batch_alloc' (Lvl := ℕ) countersEmb (c : Thread nD τ) () NW (dW c W (hs k) k n) (sm := cellW k) (E := Set.univ)) $$ Hcw with HBw
  imod (Transfers.batch_alloc' (Lvl := ℕ) countersEmb (c : Thread nD τ) () NS (dS c S (hs k) k n) (sm := cellS k) (E := Set.univ)) $$ Hcs with HBs
  imodintro
  ihave HW := (pointsTo_split_subset (ℓ := wArr c) (Finset.subset_univ (wRows n))).1 $$ HW
  icases HW with ⟨HW, HWr⟩
  ihave HS := (pointsTo_split_subset (ℓ := sArr c) (Finset.subset_univ (sRows n))).1 $$ HS
  icases HS with ⟨HS, HSr⟩
  iexists fw, fs
  unfold flyW flyS rest
  rw [← Transfers.bigSep_pending_zero, ← Transfers.bigSep_pending_zero, ← tW_all, ← tS_all]
  isplitl [HBw Hw HW]
  · isplitl [HBw]; · iexact HBw
    isplitl [Hw]; · iexact Hw
    iexact HW
  isplitl [HBs Hs HS]
  · isplitl [HBs]; · iexact HBs
    isplitl [Hs]; · iexact Hs
    iexact HS
  isplitl [HWr]; · iexact HWr
  iexact HSr

/-- All copies issued, the block is in flight. -/
theorem fly_flight (k : Fin 2) (n : Fin 12) (fw) (fs) : iprop(flyW c W (hs k) k n fw 32 ∗ flyS c S (hs k) k n fs 16 ∗ rest c W S k n) ⊢ flight c W S k n := by
  unfold flight
  iintro ⟨HW, HS, HR⟩
  isplitl [HW]; · iapply (flyW_land c W (hs k) k n fw); iexact HW
  isplitl [HS]; · iapply (flyS_land c S (hs k) k n fs); iexact HS
  iexact HR

/-- What the last wait hands back is the slot filled and the arrays' share whole. -/
theorem landed (k : Fin 2) (n : Fin 12) : iprop(bigSep Finset.univ (dW c W (hs k) k n) ∗ bigSep Finset.univ (dS c S (hs k) k n) ∗ rest c W S k n)
    ⊢ (iprop((wBuf c ↦[slotW k]{fullShare} Gw W n) ∗ (sBuf c ↦[slotS k]{fullShare} Gs S n) ∗ (wArr c ↦{hs k} W) ∗ (sArr c ↦{hs k} S)) : sProp (MM F)) := by
  have eW : (bigSep Finset.univ (dW c W (hs k) k n) : sProp (MM F)) = bigSep Finset.univ (tW c W (hs k) k n (Gw W n)) := rfl
  have eS : (bigSep Finset.univ (dS c S (hs k) k n) : sProp (MM F)) = bigSep Finset.univ (tS c S (hs k) k n (Gs S n)) := rfl
  rw [eW, eS, ← tW_all, ← tS_all]
  unfold rest
  iintro ⟨⟨Hw, HW⟩, ⟨Hs, HS⟩, HWr, HSr⟩
  isplitl [Hw]; · iexact Hw
  isplitl [Hs]; · iexact Hs
  isplitl [HW HWr]
  · iapply (pointsTo_split_subset (ℓ := wArr c) (Finset.subset_univ (wRows n))).2
    isplitl [HW]; · iexact HW
    iexact HWr
  iapply (pointsTo_split_subset (ℓ := sArr c) (Finset.subset_univ (sRows n))).2
  isplitl [HS]; · iexact HS
  iexact HSr

/-- The ring before point `m`. -/
def ringAt (m : ℕ) : sProp (MM F) :=
  if h : 0 < m ∧ m < 12 then iprop(flight c W S ⟨m % 2, by omega⟩ ⟨m, h.2⟩ ∗ free c W S ⟨(m + 1) % 2, by omega⟩) else iprop(free c W S 0 ∗ free c W S 1)

end Slots

end Cert.LabelIdeal.Hand

end
-- ==== Proof.LabelIdealStep.lean ====
module

public import proofs.«01_k».proof.Proof.LabelIdealSlots
public import proofs.«01_k».proof.Proof.Gen.LabelIdeal.Skeleton
public import Idealize.ShloMosaic.Lib.Batch
public import Idealize.ShloMosaic.Lib.WritesUnit

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A point's waits, products and writes -/

/-- The block of point `t`. -/
def nb (t : Fin cfg0.N) : Fin 12 := ⟨t.val, lt_of_lt_of_eq t.isLt (show cfg0.N = 12 from N_0)⟩
theorem first_iff : ∀ t : Fin cfg0.N, Scalar.cmpi .ne (Scalar.extui (Scalar.cmpi .eq (BitVec.ofNat 32 (grid0.coords t 0).val) 0#32) : BitVec 32) 0#32 = 1#1 ↔ t.val = 0 := by decide +kernel
theorem more_iff : ∀ t : Fin cfg0.N, k0_cond2 (grid0.coords t) = 1#1 ↔ t.val + 1 < 12 := by decide +kernel

/-- The next point's slot after this point's copies are started. -/
def nextR (c : Dev nD) (W : Vec F S96x2x2x8192 .i32) (S : Vec F S96x2x8192 .f32) (t : Fin cfg0.N) : sProp (MM F) :=
  if t.val + 1 < 12 then flight c W S (sn t) (bn t) else free c W S (sn t)

variable (c : Dev nD) (W : Vec F S96x2x2x8192 .i32) (S : Vec F S96x2x8192 .f32) (qw qs : PosShare TreeShare) (fw : Vec F S2x32x8192 .i32) (fs : Vec F S2x2x8x8192 .f32)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)

theorem md13 (t : Fin cfg0.N) (a v : BitVec 32) {Q : BitVec 32 → sProp (MM F)} : Q (Scalar.addi a 1#32) ⊢ wp frame (wpE (defs₀ (F := F)) Variants.none c none) Set.univ (k0_part13 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 a v) Q := by
  rw [k0_part13_eq_skeleton]; unfold k0_part13_skel
  rw [wp_pure]
  iintro HK
  imodintro
  iexact HK

theorem md14 (t : Fin cfg0.N) (v : BitVec 32) {Q : PUnit → sProp (MM F)} : Q ⟨⟩ ⊢ wp frame (wpE (defs₀ (F := F)) Variants.none c none) Set.univ (k0_part14 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v) Q := by
  rw [k0_part14_eq_skeleton]; unfold k0_part14_skel
  rw [wp_pure]
  iintro HK
  imodintro
  iexact HK

theorem md15 (t : Fin cfg0.N) (v : BitVec 32) {Q : PUnit → sProp (MM F)} : Q ⟨⟩ ⊢ wp frame (wpE (defs₀ (F := F)) Variants.none c none) Set.univ (k0_part15 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 v) Q := by
  rw [k0_part15_eq_skeleton]; unfold k0_part15_skel
  rw [wp_pure]
  iintro HK
  imodintro
  iexact HK

theorem st_c : ∀ t : Fin cfg0.N, k0_cond2 (grid0.coords t) = 1#1 → k0_off1 (grid0.coords t) = ![(sn t).val] := by decide +kernel
theorem stp0 : ∀ t : Fin cfg0.N, k0_cond2 (grid0.coords t) = 1#1 → k0_off51 (grid0.coords t) = wOff (sn t) ⟨28, by decide⟩ := by decide +kernel
theorem stp1 : ∀ t : Fin cfg0.N, k0_cond2 (grid0.coords t) = 1#1 → (k0_off5 (grid0.coords t) 7#32) = wFrom (bn t) ⟨28, by decide⟩ := by decide +kernel
theorem stp2 : ∀ t : Fin cfg0.N, k0_cond2 (grid0.coords t) = 1#1 → k0_off52 (grid0.coords t) = wOff (sn t) ⟨29, by decide⟩ := by decide +kernel
theorem stp3 : ∀ t : Fin cfg0.N, k0_cond2 (grid0.coords t) = 1#1 → (k0_off7 (grid0.coords t) 7#32) = wFrom (bn t) ⟨29, by decide⟩ := by decide +kernel
theorem stp4 : ∀ t : Fin cfg0.N, k0_cond2 (grid0.coords t) = 1#1 → k0_off53 (grid0.coords t) = sOff (sn t) ⟨15, by decide⟩ := by decide +kernel
theorem stp5 : ∀ t : Fin cfg0.N, k0_cond2 (grid0.coords t) = 1#1 → (k0_off9 (grid0.coords t) 7#32) = sFrom (bn t) ⟨15, by decide⟩ := by decide +kernel
theorem stp6 : ∀ t : Fin cfg0.N, k0_cond2 (grid0.coords t) = 1#1 → k0_off54 (grid0.coords t) = wOff (sn t) ⟨30, by decide⟩ := by decide +kernel
theorem stp7 : ∀ t : Fin cfg0.N, k0_cond2 (grid0.coords t) = 1#1 → (k0_off11 (grid0.coords t) 7#32) = wFrom (bn t) ⟨30, by decide⟩ := by decide +kernel

theorem md25 (t : Fin cfg0.N) (h2 : k0_cond2 (grid0.coords t) = 1#1) (a v : BitVec 32) {Q : PUnit → sProp (MM F)} :
    iprop(flyW c W qw (sn t) (bn t) fw 0 ∗ flyS c S qs (sn t) (bn t) fs 0 ∗ (iprop(flyW c W qw (sn t) (bn t) fw 31 ∗ flyS c S qs (sn t) (bn t) fs 16) -∗ Q ⟨⟩)) ⊢ wp frame (wpE (defs₀ (F := F)) Variants.none c none) Set.univ (k0_part25 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 a v h2) Q := by
  rw [k0_part25_eq_skeleton]; unfold k0_part25_skel
  iintro ⟨HW, HS, HK⟩
  rw [wp_bind]
  iapply (md13 c arg1 harg1 arg2 harg2 arg5 harg5 arg6 harg6 t)
  try dsimp only
  rw [wp_bind]
  iapply (md14 c arg1 harg1 arg2 harg2 arg5 harg5 arg6 harg6 t)
  try dsimp only
  rw [wp_bind]
  iapply (md15 c arg1 harg1 arg2 harg2 arg5 harg5 arg6 harg6 t)
  try dsimp only
  rw [wp_bind]
  iapply (iss16 c W S qw qs fw fs arg1 harg1 arg2 harg2 arg5 harg5 arg6 harg6 t h2 _)
  isplitl [HW]; · iexact HW
  isplitl [HS]; · iexact HS
  iintro ⟨HW, HS⟩
  try dsimp only
  rw [wp_bind]
  iapply (iss17 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss18 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss19 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss20 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss21 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss22 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss23 c W S qw qs fw fs arg1 harg1 arg2 harg2 arg5 harg5 arg6 harg6 t h2)
  isplitl [HW]; · iexact HW
  isplitl [HS]; · iexact HS
  iintro ⟨HW, HS⟩
  try dsimp only
  rw [wp_bind]
  iapply (iss24 c W S qw qs fw fs arg1 harg1 arg2 harg2 arg5 harg5 arg6 harg6 t h2)
  isplitl [HW]; · iexact HW
  isplitl [HS]; · iexact HS
  iintro ⟨HW, HS⟩
  try dsimp only
  iapply (issueW c W qw (sn t) (bn t) 28 (by decide) (st_c t h2) (stp0 t h2) (stp1 t h2)) $$ HW
  iintro HW
  simp only [ret_bind]
  iapply (issueW c W qw (sn t) (bn t) 29 (by decide) (st_c t h2) (stp2 t h2) (stp3 t h2)) $$ HW
  iintro HW
  simp only [ret_bind]
  iapply (issueS c S qs (sn t) (bn t) 15 (by decide) (st_c t h2) (stp4 t h2) (stp5 t h2)) $$ HS
  iintro HS
  simp only [ret_bind]
  iapply (issueW c W qw (sn t) (bn t) 30 (by decide) (st_c t h2) (stp6 t h2) (stp7 t h2)) $$ HW
  iintro HW
  simp only [ret_bind]
  rw [wp_pure]
  imodintro
  iapply HK
  isplitl [HW]; · iexact HW
  iexact HS

theorem stp8 : ∀ t : Fin cfg0.N, k0_cond2 (grid0.coords t) = 1#1 → k0_off55 (grid0.coords t) = wOff (sn t) ⟨31, by decide⟩ := by decide +kernel
theorem stp9 : ∀ t : Fin cfg0.N, k0_cond2 (grid0.coords t) = 1#1 → (k0_off13 (grid0.coords t) 7#32) = wFrom (bn t) ⟨31, by decide⟩ := by decide +kernel

theorem ring_zero (t : Fin cfg0.N) (h0 : t.val = 0) : ringAt c W S t.val = iprop(free c W S 0 ∗ free c W S (sn t)) := by
  have e : sn t = 1 := Fin.ext (by show (t.val + 1) % 2 = 1; omega)
  unfold ringAt; rw [dif_neg (by omega), e]
theorem ring_pos (t : Fin cfg0.N) (h0 : ¬t.val = 0) : ringAt c W S t.val = iprop(flight c W S (sl t) (nb t) ∗ free c W S (sn t)) := by
  have hN : t.val < 12 := lt_of_lt_of_eq t.isLt (show cfg0.N = 12 from N_0)
  unfold ringAt; rw [dif_pos ⟨by omega, hN⟩]; rfl
theorem ring_succ (t : Fin cfg0.N) : iprop(nextR c W S t ∗ free c W S (sl t)) ⊢ ringAt c W S (t.val + 1) := by
  have hN : t.val < 12 := lt_of_lt_of_eq t.isLt (show cfg0.N = 12 from N_0)
  unfold nextR ringAt
  by_cases h : t.val + 1 < 12
  · rw [if_pos h, dif_pos ⟨by omega, h⟩]
    have e1 : bn t = ⟨t.val + 1, h⟩ := Fin.ext (Nat.mod_eq_of_lt h)
    have e2 : sl t = ⟨(t.val + 1 + 1) % 2, by omega⟩ := Fin.ext (by show t.val % 2 = (t.val + 1 + 1) % 2; omega)
    rw [e1, e2]
    exact .rfl
  · rw [if_neg h, dif_neg (by omega)]
    have e1 : sn t = 0 := Fin.ext (by show (t.val + 1) % 2 = 0; omega)
    have e2 : sl t = 1 := Fin.ext (by show t.val % 2 = 1; omega)
    rw [e1, e2]

theorem md35 (t : Fin cfg0.N) {Q : (Σ' (arg0 : BitVec 32) (v0 : BitVec 32) (v8 : IVec S1x256 32) (v32 : IVec S1x256 32) (v34 : BitVec 32) (v36 : IVec S1x256 32) (v38 : IVec S1x256 1), BitVec 32) → sProp (MM F)} :
    iprop(ringAt c W S t.val ∗ (iprop(flight c W S (sl t) (nb t) ∗ nextR c W S t) -∗ Q ⟨BitVec.ofNat 32 (grid0.coords t 0).val, Scalar.remsi (BitVec.ofNat 32 (grid0.coords t 0).val) 2#32, lanes, k0_pay30, Scalar.select (Scalar.cmpi .eq 64#32 0#32) 1#32 64#32, k0_pay31, k0_pay32, 0#32⟩)) ⊢ wp frame (wpE (defs₀ (F := F)) Variants.none c none) Set.univ (k0_part35 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  have hN : t.val < 12 := lt_of_lt_of_eq t.isLt (show cfg0.N = 12 from N_0)
  rw [k0_part35_eq_skeleton]; unfold k0_part35_skel
  by_cases h0 : t.val = 0
  · have h1 := (first_iff t).mpr h0
    have h2 := (more_iff t).mpr (by omega)
    have e1 : sl t = 0 := Fin.ext (by show t.val % 2 = 0; omega)
    have e2 : nb t = 0 := Fin.ext h0
    simp only [dif_pos h1, dif_pos h2]
    rw [ring_zero c W S t h0, e1, e2]
    unfold nextR
    rw [if_pos (show t.val + 1 < 12 by omega)]
    iintro ⟨⟨H0, H1⟩, HK⟩
    imod (free_start c W S 0 0) $$ H0 with ⟨%fw0, %fs0, HW, HS, HR0⟩
    rw [wp_bind]
    iapply (iss1 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss2 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss3 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss4 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss5 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss6 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss7 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss8 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss9 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss10 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss11 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    rw [wp_bind]
    iapply (iss12 c W S (hs 0) (hs 0) fw0 fs0 arg1 harg1 arg2 harg2 arg5 harg5 arg6 harg6 (grid0.coords t))
    isplitl [HW]; · iexact HW
    isplitl [HS]; · iexact HS
    iintro ⟨HW, HS⟩
    try dsimp only
    ihave H0 := (fly_flight c W S 0 0 fw0 fs0) $$ [HW HS HR0]
    · isplitl [HW]; · iexact HW
      isplitl [HS]; · iexact HS
      iexact HR0
    imod (free_start c W S (sn t) (bn t)) $$ H1 with ⟨%fw1, %fs1, HW, HS, HR1⟩
    rw [wp_bind]
    iapply (md25 c W S (hs (sn t)) (hs (sn t)) fw1 fs1 arg1 harg1 arg2 harg2 arg5 harg5 arg6 harg6 t h2)
    isplitl [HW]; · iexact HW
    isplitl [HS]; · iexact HS
    iintro ⟨HW, HS⟩
    try dsimp only
    iapply (issueW c W (hs (sn t)) (sn t) (bn t) 31 (by decide) (st_c t h2) (stp8 t h2) (stp9 t h2)) $$ HW
    iintro HW
    simp only [ret_bind]
    rw [wp_pure]
    imodintro
    iapply HK
    isplitl [H0]; · iexact H0
    iapply (fly_flight c W S (sn t) (bn t) fw1 fs1)
    isplitl [HW]; · iexact HW
    isplitl [HS]; · iexact HS
    iexact HR1
  have h1 : ¬_ := fun h => h0 ((first_iff t).mp h)
  rw [ring_pos c W S t h0]
  by_cases h : t.val + 1 < 12
  · have h2 := (more_iff t).mpr h
    simp only [dif_neg h1, dif_pos h2]
    unfold nextR
    rw [if_pos h]
    iintro ⟨⟨H0, H1⟩, HK⟩
    imod (free_start c W S (sn t) (bn t)) $$ H1 with ⟨%fw1, %fs1, HW, HS, HR1⟩
    rw [wp_bind]
    iapply (md25 c W S (hs (sn t)) (hs (sn t)) fw1 fs1 arg1 harg1 arg2 harg2 arg5 harg5 arg6 harg6 t h2)
    isplitl [HW]; · iexact HW
    isplitl [HS]; · iexact HS
    iintro ⟨HW, HS⟩
    try dsimp only
    iapply (issueW c W (hs (sn t)) (sn t) (bn t) 31 (by decide) (st_c t h2) (stp8 t h2) (stp9 t h2)) $$ HW
    iintro HW
    simp only [ret_bind]
    rw [wp_pure]
    imodintro
    iapply HK
    isplitl [H0]; · iexact H0
    iapply (fly_flight c W S (sn t) (bn t) fw1 fs1)
    isplitl [HW]; · iexact HW
    isplitl [HS]; · iexact HS
    iexact HR1
  · have h2 : ¬k0_cond2 (grid0.coords t) = 1#1 := fun h' => h ((more_iff t).mp h')
    simp only [dif_neg h1, dif_neg h2]
    unfold nextR
    rw [if_neg h]
    iintro ⟨⟨H0, H1⟩, HK⟩
    rw [wp_pure]
    imodintro
    iapply HK
    isplitl [H0]; · iexact H0
    iexact H1

end Cert.LabelIdeal.Hand

end
-- ==== Proof.LabelIdealBody.lean ====
module

public import proofs.«01_k».proof.Proof.LabelIdealStep
public import proofs.«01_k».proof.Proof.Gen.LabelIdeal.Skeleton
public import Idealize.ShloMosaic.Lib.Batch
public import Idealize.ShloMosaic.Lib.WritesUnit

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A point -/

theorem one_at : ∀ t : Fin cfg0.N, t.val = 0 → Scalar.cmpi .eq (BitVec.ofNat 32 (grid0.coords t 0).val) 0#32 = 1#1 := by decide +kernel
theorem zero_at : ∀ t : Fin cfg0.N, ¬t.val = 0 → Scalar.cmpi .eq (BitVec.ofNat 32 (grid0.coords t 0).val) 0#32 = 0#1 := by decide +kernel

/-- The scratch the channel choice is kept in: anything at first, the choice from then on. -/
def pickAt (c : Dev nD) (chan : Vec F S2x16 .i32) (m : ℕ) : sProp (MM F) :=
  if m = 0 then iprop(∃ d, owns (Val := Elt F) (c : Thread nD τ) (Memref.whole cc0_scratch2 : Memref sig .tc .vmem S128x256 .bf16) fullShare d) else owns (Val := Elt F) (c : Thread nD τ) (Memref.whole cc0_scratch2 : Memref sig .tc .vmem S128x256 .bf16) fullShare (PK chan)

variable (c : Dev nD) (W : Vec F S96x2x2x8192 .i32) (S : Vec F S96x2x8192 .f32)
variable (arg1 : Memref sig .tc .smem S96 .i32) (harg1 : arg1.IsWhole) (arg2 : Memref sig .tc .smem S2x16 .i32) (harg2 : arg2.IsWhole) (arg5 : Memref sig .tc .vmem S8x1536 .bf16) (harg5 : arg5.IsWhole) (arg6 : Memref sig .tc .vmem S12x8x8192 .f32) (harg6 : arg6.IsWhole)

theorem md39 (t : Fin cfg0.N) (chan : Vec F S2x16 .i32) (x : Vec F S8x1536 .bf16) (v158 : IVec S1x256 32) {Q : (Σ' (v195 : FVec F S96x256 .f32) (v196 : IVec S96x1 32) (v215 : IVec S96x256 1) (c48_i32 : BitVec 32) (v217 : IVec S96x1 32), IVec S96x1 32) → sProp (MM F)} :
    iprop(owns (Val := Elt F) (c : Thread nD τ) arg2 fullShare chan ∗ owns (Val := Elt F) (c : Thread nD τ) arg5 fullShare x ∗ pickAt c chan t.val ∗ (owns (Val := Elt F) (c : Thread nD τ) arg2 fullShare chan -∗ owns (Val := Elt F) (c : Thread nD τ) arg5 fullShare x -∗ pickAt c chan (t.val + 1) -∗ Q ⟨k0_pay43 x (PK chan), iota .tc S96x1 32 [0] iota_S96x1_d0_w32, k0_pay44 v158, 48#32, k0_pay45, k0_pay46⟩)) ⊢ wp frame (wpE (defs₀ (F := F)) Variants.none c none) Set.univ (k0_part39 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4 u118 v158 u174 (Scalar.cmpi .eq (BitVec.ofNat 32 (grid0.coords t 0).val) 0#32)) Q := by
  unfold pickAt
  rw [if_neg (Nat.succ_ne_zero t.val)]
  by_cases h0 : t.val = 0
  · rw [if_pos h0, one_at t h0]
    exact md39A c arg1 harg1 arg2 harg2 arg5 harg5 arg6 harg6 (grid0.coords t) chan x v158
  · rw [if_neg h0, zero_at t h0]
    exact md39B c arg1 harg1 arg2 harg2 arg5 harg5 arg6 harg6 (grid0.coords t) chan x v158

theorem md54 (t : Fin cfg0.N) (lens : Vec F S96 .i32) (chan : Vec F S2x16 .i32) (x : Vec F S8x1536 .bf16) {Q : (Σ' (v0 : BitVec 32) (v246 : FVec F S96x256 .bf16), IVec S8x1 32) → sProp (MM F)} :
    iprop(ringAt c W S t.val ∗ pickAt c chan t.val ∗ owns (Val := Elt F) (c : Thread nD τ) arg1 fullShare lens ∗ owns (Val := Elt F) (c : Thread nD τ) arg2 fullShare chan ∗ owns (Val := Elt F) (c : Thread nD τ) arg5 fullShare x ∗ owed c
      ∗ (landW c W (hs (sl t)) (sl t) (nb t) 31 -∗ bigSep Finset.univ (dS c S (hs (sl t)) (sl t) (nb t)) -∗ semVal ((c : Thread nD τ), cellS (sl t)) 0 -∗ rest c W S (sl t) (nb t) -∗ nextR c W S t -∗ pickAt c chan (t.val + 1)
        -∗ owns (Val := Elt F) (c : Thread nD τ) arg1 fullShare lens -∗ owns (Val := Elt F) (c : Thread nD τ) arg2 fullShare chan -∗ owns (Val := Elt F) (c : Thread nD τ) arg5 fullShare x -∗ owed c -∗ Q ⟨Scalar.remsi (BitVec.ofNat 32 (grid0.coords t 0).val) 2#32, V246 chan x, V312 lens (grid0.coords t)⟩)) ⊢ wp frame (wpE (defs₀ (F := F)) Variants.none c none) Set.univ (k0_part54 (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [k0_part54_eq_skeleton]; unfold k0_part54_skel
  iintro ⟨HR, HP, H1, H2, H5, HO, HK⟩
  rw [wp_bind]
  iapply (md35 c W S arg1 harg1 arg2 harg2 arg5 harg5 arg6 harg6 t)
  isplitl [HR]; · iexact HR
  iintro ⟨HF, HN⟩
  try dsimp only
  rw [wp_bind]
  iapply (md36 c arg1 harg1 arg2 harg2 arg5 harg5 arg6 harg6 (grid0.coords t) _ _ _ _ _)
  try dsimp only
  rw [wp_bind]
  iapply (md37 c arg1 harg1 arg2 harg2 arg5 harg5 arg6 harg6 (grid0.coords t) _ _ _ _ _ _)
  try dsimp only
  rw [wp_bind]
  iapply (md38 c arg1 harg1 arg2 harg2 arg5 harg5 arg6 harg6 (grid0.coords t) _ _ _ _ _ _ _)
  try dsimp only
  rw [wp_bind]
  iapply (md39 c arg1 harg1 arg2 harg2 arg5 harg5 arg6 harg6 t chan x _)
  isplitl [H2]; · iexact H2
  isplitl [H5]; · iexact H5
  isplitl [HP]; · iexact HP
  iintro H2 H5 HP
  try dsimp only
  rw [wp_bind]
  iapply (md40 c arg1 harg1 arg2 harg2 arg5 harg5 arg6 harg6 t lens _ _ _ _ _ _ _ _)
  isplitl [H1]; · iexact H1
  iintro H1
  try dsimp only
  rw [wp_bind]
  iapply (md41 c arg1 harg1 arg2 harg2 arg5 harg5 arg6 harg6 t lens _ _ _ _)
  isplitl [H1]; · iexact H1
  iintro H1
  try dsimp only
  rw [wp_bind]
  iapply (md42 c arg1 harg1 arg2 harg2 arg5 harg5 arg6 harg6 t lens _ _ _)
  isplitl [H1]; · iexact H1
  iintro H1
  try dsimp only
  rw [wp_bind]
  iapply (md43 c arg1 harg1 arg2 harg2 arg5 harg5 arg6 harg6 (grid0.coords t) _ _)
  try dsimp only
  rw [wp_bind]
  iapply (md44 c arg1 harg1 arg2 harg2 arg5 harg5 arg6 harg6 (grid0.coords t) _ _)
  try dsimp only
  unfold flight
  icases HF with ⟨HW, HS, HRest⟩
  rw [wp_bind]
  iapply (wt45 c W S (hs (sl t)) (hs (sl t)) (nb t) arg1 harg1 arg2 harg2 arg5 harg5 arg6 harg6 t _ _)
  isplitl [HW]; · iexact HW
  isplitl [HS]; · iexact HS
  isplitl [HO]; · iexact HO
  iintro ⟨HW, HS, HO⟩
  try dsimp only
  rw [wp_bind]
  iapply (wt46 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt47 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt48 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt49 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt50 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt51 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt52 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  rw [wp_bind]
  iapply (wt53 c W S (hs (sl t)) (hs (sl t)) (nb t) arg1 harg1 arg2 harg2 arg5 harg5 arg6 harg6 t)
  isplitl [HW]; · iexact HW
  isplitl [HS]; · iexact HS
  isplitl [HO]; · iexact HO
  iintro ⟨HW, HS, HO⟩
  try dsimp only
  iapply (waitW c W (hs (sl t)) (sl t) (nb t) 28 (by decide) (of_cell t)) $$ [HW HO]
  · isplitl [HW]; · iexact HW
    iexact HO
  iintro ⟨HW, HO⟩
  simp only [ret_bind]
  iapply (waitW c W (hs (sl t)) (sl t) (nb t) 29 (by decide) (of_cell t)) $$ [HW HO]
  · isplitl [HW]; · iexact HW
    iexact HO
  iintro ⟨HW, HO⟩
  simp only [ret_bind]
  iapply (lastS c S (hs (sl t)) (sl t) (nb t) (of_cell t)) $$ [HS HO]
  · isplitl [HS]; · iexact HS
    iexact HO
  iintro ⟨⟨HS, HcS⟩, HO⟩
  simp only [ret_bind]
  iapply (waitW c W (hs (sl t)) (sl t) (nb t) 30 (by decide) (of_cell t)) $$ [HW HO]
  · isplitl [HW]; · iexact HW
    iexact HO
  iintro ⟨HW, HO⟩
  simp only [ret_bind]
  rw [wp_pure]
  imodintro
  ispecialize HK $$ HW
  ispecialize HK $$ HS
  ispecialize HK $$ HcS
  ispecialize HK $$ HRest
  ispecialize HK $$ HN
  ispecialize HK $$ HP
  ispecialize HK $$ H1
  ispecialize HK $$ H2
  ispecialize HK $$ H5
  ispecialize HK $$ HO
  unfold V246 V312 u158 u174 u72
  iexact HK

/-- One point: its block's copies finished and the next one's started, the output's memref written trip by trip. -/
theorem point (t : Fin cfg0.N) (lens : Vec F S96 .i32) (chan : Vec F S2x16 .i32) (x : Vec F S8x1536 .bf16) (g : Buf (Elt F) (arg6.view.loc (c : Thread nD τ))) {Q : PUnit → sProp (MM F)} :
    iprop(ringAt c W S t.val ∗ pickAt c chan t.val ∗ owns (Val := Elt F) (c : Thread nD τ) arg1 fullShare lens ∗ owns (Val := Elt F) (c : Thread nD τ) arg2 fullShare chan ∗ owns (Val := Elt F) (c : Thread nD τ) arg5 fullShare x ∗ (arg6.view.loc (c : Thread nD τ) ↦[arg6.view.set]{fullShare} g) ∗ owed c
      ∗ (ringAt c W S (t.val + 1) -∗ pickAt c chan (t.val + 1) -∗ owns (Val := Elt F) (c : Thread nD τ) arg1 fullShare lens -∗ owns (Val := Elt F) (c : Thread nD τ) arg2 fullShare chan -∗ owns (Val := Elt F) (c : Thread nD τ) arg5 fullShare x -∗ (arg6.view.loc (c : Thread nD τ) ↦[arg6.view.set]{fullShare} arg6.view.writes (Elt F) g (pcsTo (V246 chan x) (V312 lens (grid0.coords t)) W S (nb t) (grid0.coords t) k0_t1_loop.trips)) -∗ owed c -∗ Q ⟨⟩)) ⊢ wp frame (wpE (defs₀ (F := F)) Variants.none c none) Set.univ (cc0_label_scores (grid0.coords t) arg1 harg1 arg2 harg2 (Memref.whole main_arg2) (Memref.isWhole_whole _) (Memref.whole main_arg3) (Memref.isWhole_whole _) arg5 harg5 arg6 harg6 (Memref.whole cc0_scratch0) (Memref.isWhole_whole _) (Memref.whole cc0_scratch1) (Memref.isWhole_whole _) (Memref.whole cc0_scratch2) (Memref.isWhole_whole _) cc0_scratch3 cc0_scratch4) Q := by
  rw [cc0_label_scores_eq_skeleton]; unfold cc0_label_scores_skel
  iintro ⟨HR, HP, H1, H2, H5, H6, HO, HK⟩
  rw [wp_bind]
  iapply (md54 c W S arg1 harg1 arg2 harg2 arg5 harg5 arg6 harg6 t lens chan x)
  isplitl [HR]; · iexact HR
  isplitl [HP]; · iexact HP
  isplitl [H1]; · iexact H1
  isplitl [H2]; · iexact H2
  isplitl [H5]; · iexact H5
  isplitl [HO]; · iexact HO
  iintro HW HS HcS HRest HN HP H1 H2 H5 HO
  try dsimp only
  iapply (lastW c W (hs (sl t)) (sl t) (nb t) (of_cell t)) $$ [HW HO]
  · isplitl [HW]; · iexact HW
    iexact HO
  iintro ⟨⟨HW, HcW⟩, HO⟩
  simp only [ret_bind]
  ihave HL := (landed c W S (sl t) (nb t)) $$ [HW HS HRest]
  · isplitl [HW]; · iexact HW
    isplitl [HS]; · iexact HS
    iexact HRest
  icases HL with ⟨HW, HS, HAW, HAS⟩
  rw [wp_bind]
  iapply (loop c (V246 chan x) (V312 lens (grid0.coords t)) W S (nb t) arg1 harg1 arg2 harg2 arg5 harg5 arg6 harg6 t _ g)
  isplitl [HW]; · iexact HW
  isplitl [HS]; · iexact HS
  isplitl [H6]; · iexact H6
  iintro HW HS H6
  try dsimp only
  rw [wp_pure]
  imodintro
  ihave HF := (ring_succ c W S t) $$ [HN HW HS HcW HcS HAW HAS]
  · isplitl [HN]; · iexact HN
    unfold free
    isplitl [HW]; · iexists _; iexact HW
    isplitl [HS]; · iexists _; iexact HS
    isplitl [HcW]; · iexact HcW
    isplitl [HcS]; · iexact HcS
    isplitl [HAW]; · iexact HAW
    iexact HAS
  ispecialize HK $$ HF
  ispecialize HK $$ HP
  ispecialize HK $$ H1
  ispecialize HK $$ H2
  ispecialize HK $$ H5
  ispecialize HK $$ H6
  ispecialize HK $$ HO
  iexact HK

end Cert.LabelIdeal.Hand

end
-- ==== Proof.LabelIdealRun.lean ====
module

public import proofs.«01_k».proof.Proof.LabelIdealBody
public import proofs.«01_k».proof.Proof.Gen.LabelIdeal.Skeleton
public import Idealize.ShloMosaic.Lib.Claim
public import Idealize.ShloMosaic.Lib.Batch
public import Idealize.ShloMosaic.Lib.WritesUnit

@[expose] public section

set_option maxRecDepth 16384

noncomputable section

namespace Cert.LabelIdeal.Hand

open Cert.LabelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The whole run -/

set_option maxHeartbeats 800000 in
theorem hmainU (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl
theorem bef0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem bef1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem bef2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The semaphore cells of the kernel's own copies, and the arrays they read. -/
abbrev osem0 : Fin 4 → SemLoc sig := fun j => (![SemLoc.dma 6, .dma 7, .dma 8, .dma 9] : Fin 4 → SemLoc sig) j
theorem ownSemFacts0 : Pipeline.OwnSemFacts spec0 osem0 := by decide
theorem ownSems00_eq (c : Dev nD) : (Pipeline.ownSems0 (Ix := Unit) (Name := ℕ) (U := Pipeline.UD sig nD τ) (Lvl := ℕ) (Val := Elt F) (τ := τ) osem0 c)
    = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3] (by decide) (by decide)]; rfl
def H0 : Finset (Ref sig .tc) := {main_arg2, main_arg3}
theorem H0_sub : H0 ⊆ Pipeline.restRefs sig spec0 := by decide
theorem hbmPts0_eq (c : Dev nD) : (bigSep H0 fun b => (((c : Thread nD τ).loc b) ↦{fullShare} V m c b : sProp (MM F)))
    = iprop((wArr c ↦{fullShare} V m c main_arg2) ∗ (sArr c ↦{fullShare} V m c main_arg3)) := by
  rw [BI.bigSep_eq_bigSepL_of_eq [main_arg2, main_arg3] (by decide) (by decide)]; rfl
theorem PhiD0_eq (c : Dev nD) : (Pipeline.ΦD osem0 spec0 H0 (V m) c : sProp (MM F))
    = iprop(((∃ f : Vec F S2x32x8192 .i32, wBuf c ↦{fullShare} f) ∗ (∃ f : Vec F S2x2x8x8192 .f32, sBuf c ↦{fullShare} f) ∗ (∃ d, owns (Val := Elt F) (c : Thread nD τ) (Memref.whole cc0_scratch2 : Memref sig .tc .vmem S128x256 .bf16) fullShare d))
      ∗ (∃ r, prngReg c r)
      ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
      ∗ ((wArr c ↦{fullShare} V m c main_arg2) ∗ (sArr c ↦{fullShare} V m c main_arg3))) := by
  rw [Pipeline.ΦD_eq, scopedRest0_eq, ownSems00_eq, hbmPts0_eq]; simp only [owns_whole]; try rfl

/-- The channel table: the second window's block, the same at every point. -/
abbrev chanAt (c : Dev nD) : Vec F S2x16 .i32 := iblk m c 1 t0_0
theorem iblk1_eq (c : Dev nD) (t : Fin cfg0.N) : iblk m c 1 t = chanAt m c := rfl

/-- What a point leaves in the output's buffer. -/
abbrev outPcs (c : Dev nD) (t : Fin cfg0.N) : List (View.Piece (Elt F) S12x8x8192 .f32) :=
  pcsTo (V246 (chanAt m c) (iblk m c 2 t)) (V312 (iblk m c 0 t) (grid0.coords t)) (V m c main_arg2) (V m c main_arg3) (nb t) (grid0.coords t) k0_t1_loop.trips
def outAt (c : Dev nD) (t : Fin cfg0.N) : Vec F S12x8x8192 .f32 := View.canon (outPcs m c t)
theorem pcs_cover (v246 : FVec F S96x256 .bf16) (v312 : IVec S8x1 32) (W : Vec F S96x2x2x8192 .i32) (S : Vec F S96x2x8192 .f32) (n : Fin 12) (i : grid0.Coords) (y : S12x8x8192.Idx) :
    ∃ p ∈ pcsTo v246 v312 W S n i k0_t1_loop.trips, y ∈ p.1.set :=
  View.cover_of_tiledL (pcsTo v246 v312 W S n i k0_t1_loop.trips) S1x8x1024.size (by sl_kernel_rfl) y

/-- What holds between points. -/
def PhiR (c : Dev nD) (k : ℕ) : sProp (MM F) := iprop((∃ r, prngReg c r) ∗ ringAt c (V m c main_arg2) (V m c main_arg3) k ∗ pickAt c (chanAt m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiR m c t.val
  q _ := fullShare
  owed _ := 0
theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem before0_0 (c : Dev nD) (t : Fin cfg0.N) (d) : (dats m 0 c).before 0 t d = iblk m c 0 t := bef0 m (dats m 0 c) (A_eq m c 0) (after0_0 m c) t d
theorem before0_1 (c : Dev nD) (t : Fin cfg0.N) (d) : (dats m 0 c).before 1 t d = iblk m c 1 t := bef1 m (dats m 0 c) (A_eq m c 1) (after0_1 m c) t d
theorem before0_2 (c : Dev nD) (t : Fin cfg0.N) (d) : (dats m 0 c).before 2 t d = iblk m c 2 t := bef2 m (dats m 0 c) (A_eq m c 2) (after0_2 m c) t d

/-! ## A point -/

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The output's buffer, what it holds given up, and given back full. -/
theorem out_open (c : Dev nD) (a : Memref sig .tc .vmem S12x8x8192 .f32) (d : Vec F S12x8x8192 .f32) :
    (owns (Val := Elt F) (c : Thread nD τ) a fullShare d : sProp (MM F)) ⊢ iprop(∃ g : Buf (Elt F) (a.view.loc (c : Thread nD τ)), a.view.loc (c : Thread nD τ) ↦[a.view.set]{fullShare} g) := by
  unfold owns
  iintro ⟨%g, -, H⟩
  iexists g; iexact H
theorem out_close (c : Dev nD) (a : Memref sig .tc .vmem S12x8x8192 .f32) (t : Fin cfg0.N) (g : Buf (Elt F) (a.view.loc (c : Thread nD τ))) :
    iprop(a.view.loc (c : Thread nD τ) ↦[a.view.set]{fullShare} a.view.writes (Elt F) g (outPcs m c t)) ⊢ (owns (Val := Elt F) (c : Thread nD τ) a fullShare (outAt m c t) : sProp (MM F)) := by
  unfold owns
  iintro H
  iexists _; isplitr
  swap; · iexact H
  ipureintro; exact View.read_writes_eq_canon _ _ _ (pcs_cover _ _ _ _ _ _)

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR
  rw [iblk1_eq m c t]
  iintro ⟨⟨Hg, HR, HP⟩, ⟨%W, -, HW⟩, ⟨%d0, H0⟩, ⟨%d1, H1⟩, ⟨%d2, H2⟩, ⟨%d3, H3⟩⟩
  ihave H3 := (out_open c _ _) $$ H3
  icases H3 with ⟨%g, H3⟩
  iapply (point c (V m c main_arg2) (V m c main_arg3) _ _ _ _ _ _ _ _ t (iblk m c 0 t) (chanAt m c) (iblk m c 2 t) g)
  isplitl [HR]; · iexact HR
  isplitl [HP]; · iexact HP
  isplitl [H0]; · iexact H0
  isplitl [H1]; · iexact H1
  isplitl [H2]; · iexact H2
  isplitl [H3]; · iexact H3
  isplitl [HW]; · unfold owed; iexists W; iexact HW
  iintro HR HP H0 H1 H2 H3 HW
  isplitl [Hg HR HP]
  · isplitl [Hg]; · iexact Hg
    isplitl [HR]; · iexact HR
    iexact HP
  isplitl [HW]
  · unfold owed
    icases HW with ⟨%W', HW⟩
    iexists W'; isplitr; · ipureintro; exact fun _ _ => Or.inl trivial
    iexact HW
  isplitl [H0]; · iexact H0
  isplitl [H1]; · iexact H1
  isplitl [H2]; · iexact H2
  iapply (out_close m c _ t g) $$ H3

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The start and the end -/

theorem slotW_un : (slotW 0 ∪ slotW 1 : Finset S2x32x8192.Idx) = Finset.univ := Finset.ext fun i => ⟨fun _ => Finset.mem_univ _, fun _ => by
  have h : (i 0).val < 2 := (i 0).isLt
  rcases Nat.lt_or_ge (i 0).val 1 with h0 | h1
  · exact Finset.mem_union_left _ (Finset.mem_filter.mpr ⟨Finset.mem_univ _, by show (i 0).val = 0; omega⟩)
  · exact Finset.mem_union_right _ (Finset.mem_filter.mpr ⟨Finset.mem_univ _, by show (i 0).val = 1; omega⟩)⟩
theorem slotW_dj : Disjoint (slotW 0) (slotW 1) := Finset.disjoint_left.mpr fun i h0 h1 => by
  have a : (i 0).val = 0 := (Finset.mem_filter.mp h0).2
  have b : (i 0).val = 1 := (Finset.mem_filter.mp h1).2
  omega
theorem slotS_un : (slotS 0 ∪ slotS 1 : Finset S2x2x8x8192.Idx) = Finset.univ := Finset.ext fun i => ⟨fun _ => Finset.mem_univ _, fun _ => by
  have h : (i 0).val < 2 := (i 0).isLt
  rcases Nat.lt_or_ge (i 0).val 1 with h0 | h1
  · exact Finset.mem_union_left _ (Finset.mem_filter.mpr ⟨Finset.mem_univ _, by show (i 0).val = 0; omega⟩)
  · exact Finset.mem_union_right _ (Finset.mem_filter.mpr ⟨Finset.mem_univ _, by show (i 0).val = 1; omega⟩)⟩
theorem slotS_dj : Disjoint (slotS 0) (slotS 1) := Finset.disjoint_left.mpr fun i h0 h1 => by
  have a : (i 0).val = 0 := (Finset.mem_filter.mp h0).2
  have b : (i 0).val = 1 := (Finset.mem_filter.mp h1).2
  omega

/-- Both slots free: the buffers whole at anything, the cells at zero, the arrays whole. -/
theorem free_both (c : Dev nD) (W : Vec F S96x2x2x8192 .i32) (S : Vec F S96x2x8192 .f32) :
    iprop((∃ f : Vec F S2x32x8192 .i32, wBuf c ↦{fullShare} f) ∗ (∃ f : Vec F S2x2x8x8192 .f32, sBuf c ↦{fullShare} f)
      ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
      ∗ (wArr c ↦{fullShare} W) ∗ (sArr c ↦{fullShare} S)) ⊢ (iprop(free c W S 0 ∗ free c W S 1) : sProp (MM F)) := by
  unfold free
  have hw (f : Vec F S2x32x8192 .i32) : (iprop(wBuf c ↦{fullShare} f) : sProp (MM F)) ⊢ iprop((wBuf c ↦[slotW 0]{fullShare} f) ∗ wBuf c ↦[slotW 1]{fullShare} f) :=
    (Entails.of_eq (congrArg (fun I => (pointsTo (wBuf c) I fullShare f : sProp (MM F))) slotW_un.symm)).trans (pointsTo_union (ℓ := wBuf c) slotW_dj).1
  have hs' (f : Vec F S2x2x8x8192 .f32) : (iprop(sBuf c ↦{fullShare} f) : sProp (MM F)) ⊢ iprop((sBuf c ↦[slotS 0]{fullShare} f) ∗ sBuf c ↦[slotS 1]{fullShare} f) :=
    (Entails.of_eq (congrArg (fun I => (pointsTo (sBuf c) I fullShare f : sProp (MM F))) slotS_un.symm)).trans (pointsTo_union (ℓ := sBuf c) slotS_dj).1
  iintro ⟨⟨%fw, Hw⟩, ⟨%fs, Hs⟩, ⟨H6, H7, H8, H9⟩, HW, HS⟩
  ihave Hw := (hw fw) $$ Hw
  icases Hw with ⟨Hw0, Hw1⟩
  ihave Hs := (hs' fs) $$ Hs
  icases Hs with ⟨Hs0, Hs1⟩
  ihave HW := (pointsTo_share (PosShare.mem_left_op_right fullShare)).1 $$ HW
  icases HW with ⟨HW0, HW1⟩
  ihave HS := (pointsTo_share (PosShare.mem_left_op_right fullShare)).1 $$ HS
  icases HS with ⟨HS0, HS1⟩
  isplitl [Hw0 Hs0 H6 H8 HW0 HS0]
  · isplitl [Hw0]; · iexists fw; iexact Hw0
    isplitl [Hs0]; · iexists fs; iexact Hs0
    isplitl [H6]; · iexact H6
    isplitl [H8]; · iexact H8
    isplitl [HW0]; · iexact HW0
    iexact HS0
  isplitl [Hw1]; · iexists fw; iexact Hw1
  isplitl [Hs1]; · iexists fs; iexact Hs1
  isplitl [H7]; · iexact H7
  isplitl [H9]; · iexact H9
  isplitl [HW1]; · iexact HW1
  iexact HS1
theorem free_whole (c : Dev nD) (W : Vec F S96x2x2x8192 .i32) (S : Vec F S96x2x8192 .f32) :
    (iprop(free c W S 0 ∗ free c W S 1) : sProp (MM F)) ⊢ iprop((∃ f : Vec F S2x32x8192 .i32, wBuf c ↦{fullShare} f) ∗ (∃ f : Vec F S2x2x8x8192 .f32, sBuf c ↦{fullShare} f)
      ∗ (semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
      ∗ (wArr c ↦{fullShare} W) ∗ (sArr c ↦{fullShare} S)) := by
  unfold free
  have hw (f g : Vec F S2x32x8192 .i32) : iprop((wBuf c ↦[slotW 0]{fullShare} f) ∗ wBuf c ↦[slotW 1]{fullShare} g) ⊢ (iprop(∃ e : Vec F S2x32x8192 .i32, wBuf c ↦{fullShare} e) : sProp (MM F)) := by
    refine ((pointsTo_join (ℓ := wBuf c) slotW_dj).trans (Entails.of_eq (congrArg (fun I => (pointsTo (wBuf c) I fullShare _ : sProp (MM F))) slotW_un))).trans ?_
    iintro H
    iexists _; iexact H
  have hs' (f g : Vec F S2x2x8x8192 .f32) : iprop((sBuf c ↦[slotS 0]{fullShare} f) ∗ sBuf c ↦[slotS 1]{fullShare} g) ⊢ (iprop(∃ e : Vec F S2x2x8x8192 .f32, sBuf c ↦{fullShare} e) : sProp (MM F)) := by
    refine ((pointsTo_join (ℓ := sBuf c) slotS_dj).trans (Entails.of_eq (congrArg (fun I => (pointsTo (sBuf c) I fullShare _ : sProp (MM F))) slotS_un))).trans ?_
    iintro H
    iexists _; iexact H
  iintro ⟨⟨⟨%fw, Hw0⟩, ⟨%fs, Hs0⟩, H6, H8, HW0, HS0⟩, ⟨%gw, Hw1⟩, ⟨%gs, Hs1⟩, H7, H9, HW1, HS1⟩
  isplitl [Hw0 Hw1]
  · iapply (hw fw gw)
    isplitl [Hw0]; · iexact Hw0
    iexact Hw1
  isplitl [Hs0 Hs1]
  · iapply (hs' fs gs)
    isplitl [Hs0]; · iexact Hs0
    iexact Hs1
  isplitl [H6 H7 H8 H9]
  · isplitl [H6]; · iexact H6
    isplitl [H7]; · iexact H7
    isplitl [H8]; · iexact H8
    iexact H9
  isplitl [HW0 HW1]
  · iapply (pointsTo_share (PosShare.mem_left_op_right fullShare)).2
    isplitl [HW0]; · iexact HW0
    iexact HW1
  iapply (pointsTo_share (PosShare.mem_left_op_right fullShare)).2
  isplitl [HS0]; · iexact HS0
  iexact HS1

theorem ringAt_0 (c : Dev nD) (W : Vec F S96x2x2x8192 .i32) (S : Vec F S96x2x8192 .f32) : (ringAt c W S 0 : sProp (MM F)) = iprop(free c W S 0 ∗ free c W S 1) := dif_neg (by omega)
theorem ringAt_12 (c : Dev nD) (W : Vec F S96x2x2x8192 .i32) (S : Vec F S96x2x8192 .f32) : (ringAt c W S 12 : sProp (MM F)) = iprop(free c W S 0 ∗ free c W S 1) := dif_neg (by omega)

theorem hin (c : Dev nD) : Pipeline.ΦD osem0 spec0 H0 (V m) c ⊢ (dats m 0 c).Φ 0 := by
  rw [show (dats m 0 c).Φ 0 = PhiR m c 0 from rfl, PhiD0_eq]
  unfold PhiR
  rw [ringAt_0]
  unfold pickAt
  rw [if_pos rfl]
  iintro ⟨⟨Hw, Hs, Hp⟩, Hg, Hc, HW, HS⟩
  isplitl [Hg]; · iexact Hg
  isplitr [Hp]
  · iapply (free_both c (V m c main_arg2) (V m c main_arg3))
    isplitl [Hw]; · iexact Hw
    isplitl [Hs]; · iexact Hs
    isplitl [Hc]; · iexact Hc
    isplitl [HW]; · iexact HW
    iexact HS
  iexact Hp
theorem hout (c : Dev nD) : (dats m 0 c).Φ (Fin.last cfg0.N) ⊢ Pipeline.ΦD osem0 spec0 H0 (V m) c := by
  rw [show (dats m 0 c).Φ (Fin.last cfg0.N) = PhiR m c grid0.N from rfl, show grid0.N = 12 by rw [N_0], PhiD0_eq]
  unfold PhiR
  rw [ringAt_12]
  unfold pickAt
  rw [if_neg (by omega)]
  iintro ⟨Hg, HR, Hp⟩
  ihave H := (free_whole c (V m c main_arg2) (V m c main_arg3)) $$ HR
  icases H with ⟨Hw, Hs, Hc, HW, HS⟩
  isplitl [Hw Hs Hp]
  · isplitl [Hw]; · iexact Hw
    isplitl [Hs]; · iexact Hs
    iexists _; iexact Hp
  isplitl [Hg]; · iexact Hg
  isplitl [Hc]; · iexact Hc
  isplitl [HW]; · iexact HW
  iexact HS

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl) (howed := fun _ _ => rfl)
    (V := V m) (hmain := hmainU m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c)))⟩) (run_main m ρ)
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (run_main_quiescent m ρ))

end Cert.LabelIdeal.Hand

end
-- ==== Proof.LabelVec.lean ====
/- The label step's rows, index by index: row `8 h + b` carries the sixteen label channels of head `h` of sequence `b`,
   each in the column of its own code, and zero in every other column. -/
module

public import proofs.«01_k».proof.Proof.LabelIdealMid
public import proofs.«01_k».proof.Proof.BlockDot

@[expose] public section

set_option maxRecDepth 16384

noncomputable section

namespace Cert.Proof.Lab

open Cert.LabelIdeal Cert.LabelIdeal.Gen Cert.LabelIdeal.Hand Idealize.ShloMosaic Idealize.ShloMosaic.TcCoe Idealize.SL.Sem

/-- The channel slot of a column: the word, the half of the word and the field of the half it reads. -/
def slotOf (l : Fin 256) : Fin 16 := ⟨l.val % 64 / 32 * 8 + l.val % 2 * 4 + l.val / 64, by omega⟩
/-- The sequence of a column. -/
def seqC (l : Fin 256) : Fin 8 := ⟨l.val % 32 / 4, by omega⟩
/-- The group of a column. -/
def grpC (l : Fin 256) : Fin 2 := ⟨l.val % 4 / 2, by omega⟩

theorem u118_apply (l : Fin 256) : u118 (ix2 0 l) = BitVec.ofNat 32 (slotOf l).val := by
  revert l; decide +kernel
theorem u158_apply (l : Fin 256) : u158 (ix2 0 l) = BitVec.ofNat 32 (seqC l).val := by
  revert l; decide +kernel
theorem u174_apply (l : Fin 256) : u174 (ix2 0 l) = BitVec.ofNat 32 (grpC l).val := by
  revert l; decide +kernel

/-- The number chosen for a column, from the table's 32 numbers. -/
theorem g15_apply (chan : Vec Ideal S2x16 .i32) (l : Fin 256) :
    Scalar.select (IntOp.andi (IntOp.cmpi .eq (BitVec.ofNat 32 (grpC l).val) 1#32) (IntOp.cmpi .eq (BitVec.ofNat 32 (slotOf l).val) 15#32)) (chx chan 1 15)
      (Scalar.select (IntOp.andi (IntOp.cmpi .eq (BitVec.ofNat 32 (grpC l).val) 1#32) (IntOp.cmpi .eq (BitVec.ofNat 32 (slotOf l).val) 14#32)) (chx chan 1 14)
        (Scalar.select (IntOp.andi (IntOp.cmpi .eq (BitVec.ofNat 32 (grpC l).val) 1#32) (IntOp.cmpi .eq (BitVec.ofNat 32 (slotOf l).val) 13#32)) (chx chan 1 13)
          (g15 chan (ix2 0 l)))) = chan (ix2 (grpC l) (slotOf l)) := by
  unfold g15 g13 g11 g9 g7 g5
  pointwise [k0_pay5, k0_pay6, k0_pay7, k0_pay8, k0_pay9, k0_pay10, k0_pay11, k0_pay12, k0_pay13, k0_pay14, k0_pay15]
  simp only [u118_apply, u174_apply]
  generalize slotOf l = s
  generalize grpC l = g
  have hx : ∀ (a : Fin 2) (b : Fin 16), chx chan a b = chan (ix2 a b) := by
    intro a b
    unfold chx
    congr 1
    funext k
    match k with
    | ⟨0, _⟩ => rfl
    | ⟨1, _⟩ => rfl
  simp only [hx]
  fin_cases g <;> fin_cases s <;> rfl

/-- The one-hot choice of channels, at an index. -/
theorem PK_apply (chan : Vec Ideal S2x16 .i32) (d : Fin 128) (l : Fin 256) :
    PK chan (ix2 d l) = if BitVec.ofNat 32 d.val = chan (ix2 (grpC l) (slotOf l)) then (1 : EReal) else 0 := by
  have hg := g15_apply chan l
  unfold PK
  pointwise [k0_pay42, k0_pay16]
  simp only [u118_apply, u174_apply]
  rw [hg]
  by_cases hd : BitVec.ofNat 32 d.val = chan (ix2 (grpC l) (slotOf l))
  · rw [if_pos hd, hd]
    show (((BitVec.setWidth 32 (IntOp.cmpi .eq _ _) : BitVec 32).toInt : ℝ) : EReal) = 1
    simp [IntOp.cmpi]
  · rw [if_neg hd]
    show (((BitVec.setWidth 32 (IntOp.cmpi .eq _ _) : BitVec 32).toInt : ℝ) : EReal) = 0
    simp [IntOp.cmpi, beq_eq_false_iff_ne.mpr hd]

/-- The products of rows and choices, before the other sequences' columns are cleared. -/
theorem pay43_apply (x : Vec Ideal S8x1536 .bf16) (P : Vec Ideal S128x256 .bf16) (h : Fin 12) (b : Fin 8) (l : Fin 256) :
    k0_pay43 x P (ix2 (rw96 h b) l) = ∑ d : Fin 128, (x (ix2 b ⟨128 * h.val + d.val, by omega⟩) : EReal) * P (ix2 d l) := by
  unfold k0_pay43
  generalize hq : (concatenate S96x128 0 _ _ : FVec Ideal S96x128 .f32) = q
  have hqa : ∀ d : Fin 128, q (ix2 (rw96 h b) d) = x (ix2 b ⟨128 * h.val + d.val, by omega⟩) := by
    intro d
    rw [← hq, concat12]
    clear hq q
    fin_cases h <;>
      simp only [Matrix.cons_val, Fin.reduceFinMk, Fin.zero_eta, Fin.isValue, Fin.mk_one] <;>
      pointwise [] <;> congr 2 <;> simp
  clear hq
  pointwise
  exact Finset.sum_congr rfl fun d _ => by rw [hqa]

/-- The condition that keeps a column of a row: its sequence and its group are the row's. -/
theorem keep_cond (h : Fin 12) (b b' : Fin 8) (g' : Fin 2) (l : Fin 256) (hb : seqC l = b') (hg : grpC l = g') (X : FVec Ideal S96x256 .f32) :
    k0_pay47 (F := Ideal) u174 X (iota .tc S96x1 32 [0] iota_S96x1_d0_w32) (k0_pay44 u158) 48#32 k0_pay45 k0_pay46 (ix2 (rw96 h b) l)
      = if b = b' ∧ h.val / 6 = g'.val then X (ix2 (rw96 h b) l) else 0 := by
  pointwise [k0_pay47, k0_pay44, k0_pay45, k0_pay46]
  simp only [u158_apply, u174_apply, hb, hg]
  generalize X (ix2 (rw96 h b) l) = v
  have hc : ∀ (w : BitVec 1) (p : Prop) [Decidable p], w = (if p then 1#1 else 0#1) → (Scalar.select w v 0 : EReal) = if p then v else 0 := by
    intro w p _ hw
    rw [hw]
    by_cases hp : p <;> simp [hp, Scalar.select]
  refine hc _ _ ?_
  clear hc hb hg X v l
  revert h b b' g'
  decide +kernel

/-- A step's rows, at an index. -/
theorem V246_apply (chan : Vec Ideal S2x16 .i32) (x : Vec Ideal S8x1536 .bf16) (h : Fin 12) (b : Fin 8) (l : Fin 256) :
    V246 chan x (ix2 (rw96 h b) l)
      = if b = seqC l ∧ h.val / 6 = (grpC l).val then
          ∑ d : Fin 128, (x (ix2 b ⟨128 * h.val + d.val, by omega⟩) : EReal)
            * (if BitVec.ofNat 32 d.val = chan (ix2 (grpC l) (slotOf l)) then (1 : EReal) else 0)
        else 0 := by
  unfold V246
  rw [keep_cond h b (seqC l) (grpC l) l rfl rfl, pay43_apply]
  simp only [PK_apply]

end Cert.Proof.Lab

end
-- ==== Proof.LabelCode.lean ====
/- The label codes: each four-bit field of a word, read as a signed number, is what the step's bit pattern stands for. -/
module

public import proofs.«01_k».proof.Proof.Codes
public import proofs.«01_k».proof.Proof.Gen.LabelIdeal.Skeleton

@[expose] public section

set_option maxRecDepth 16384

noncomputable section

namespace Cert.Proof.Lab

open Idealize.ShloMosaic

/-- Field `k` of a word. -/
def nib (w : BitVec 32) (k : ℕ) : BitVec 32 := (w.sshiftRight (4 * k)) &&& 15#32
/-- A four-bit field read as a signed number. -/
def sgn (n : BitVec 32) : ℤ := if n.toNat < 8 then n.toNat else (n.toNat : ℤ) - 16
/-- The number field `k` of the word `w` stands for. -/
def lcode (w : BitVec 32) (k : ℕ) : EReal := ((sgn (nib w k) : ℝ) : EReal)

/-- A block of 32-bit words read at sixteen bits: the element at row `n` is half `n % 2` of the word at row `n / 2`. -/
theorem bitcast_32_16 {R r n : ℕ} (x : (⟨2, ![R, n]⟩ : Shape).Idx → BitVec 32)
    (h : (⟨2, ![R, n]⟩ : Shape).Bitcasts 32 ⟨2, ![r, n]⟩ 16) (a : Fin r) (l : Fin n) (p : Fin R) (hp : p.val = a.val / 2) :
    bitcast ⟨2, ![r, n]⟩ 16 x h (ix2 a l) = (x (ix2 p l)).extractLsb' (16 * (a.val % 2)) 16 := by
  apply BitVec.eq_of_getLsbD_eq
  intro q hq
  rw [bitcast_getLsbD x h _ q hq (by decide)]
  have hrow : Shape.row (⟨2, ![r, n]⟩ : Shape) (ix2 a l) = a.val := rfl
  have e1 : (Shape.row (⟨2, ![r, n]⟩ : Shape) (ix2 a l) * 16 + q) / 32 = p.val := by rw [hrow, hp]; omega
  have e2 : (Shape.row (⟨2, ![r, n]⟩ : Shape) (ix2 a l) * 16 + q) % 32 = 16 * (a.val % 2) + q := by rw [hrow]; omega
  rw [BitVec.getLsbD_extractLsb', decide_eq_true hq, Bool.true_and, e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The half-words of a word: 128 plus eight away from the field, in sixteen bits. -/
theorem half_eq (w : BitVec 32) (s : Fin 4) (f : Fin 2) :
    (((w.sshiftRight (4 * s.val)) &&& 983055#32) ^^^ 1124614920#32).extractLsb' (16 * f.val) 16
      = 0x4300#16 ||| ((nib w (4 * f.val + s.val)).setWidth 16 ^^^ 8#16) := by
  unfold nib
  fin_cases s <;> fin_cases f <;> (apply BitVec.eq_of_getLsbD_eq; intro i hi; interval_cases i <;> simp [BitVec.getLsbD_sshiftRight, BitVec.getElem_sshiftRight])

theorem nib_lt (w : BitVec 32) (k : ℕ) : (nib w k).toNat < 16 := by
  unfold nib
  rw [BitVec.toNat_and]
  exact lt_of_le_of_lt Nat.and_le_right (by decide)

theorem nib_of (w : BitVec 32) (k : ℕ) : ∃ v : Fin 16, nib w k = BitVec.ofNat 32 v.val :=
  ⟨⟨(nib w k).toNat, nib_lt w k⟩, by simp⟩

/-- The sixteen bits stand for the field's number plus 136. -/
theorem pat_eq (v : Fin 16) :
    Ideal.ofBits .bf16 (0x4300#16 ||| ((BitVec.ofNat 32 v.val).setWidth 16 ^^^ 8#16)) - Ideal.ofBits .bf16 0x4308#16
      = ((sgn (BitVec.ofNat 32 v.val) : ℝ) : EReal) := by
  fin_cases v <;> simp [Ideal.ofBits, Ideal.ieee, sgn, ← EReal.coe_sub] <;> norm_num

end Cert.Proof.Lab

end
-- ==== Proof.LabelProd.lean ====
/- The label step's products, index by index: the row's sixteen label channels against the sixteen signed fields of the
   position's two words, and nothing else, since every other column of the row is zero. -/
module

public import proofs.«01_k».proof.Proof.LabelVec
public import proofs.«01_k».proof.Proof.LabelCode

@[expose] public section

set_option maxRecDepth 16384

noncomputable section

namespace Cert.Proof.Lab

open Cert.LabelIdeal Cert.LabelIdeal.Gen Cert.LabelIdeal.Hand Idealize.ShloMosaic Idealize.ShloMosaic.TcCoe Idealize.SL.Sem

/-- One field of every half-word of the words. -/
def fld (s : BitVec 32) (w : Vec Ideal S1x32x1024 .i32) : FVec Ideal S64x1024 .bf16 :=
  bitcastToFloat .bf16 (bitcast S64x1024 16 (xori (andi (shrsi (shapeCast S32x1024 w shapeCasts_S1x32x1024_S32x1024) (broadcast S32x1024 s)) (broadcast S32x1024 983055#32)) (broadcast S32x1024 1124614920#32)) bitcasts_S32x1024_w32_S64x1024_w16)

/-- The codes of a step, all fields stacked. -/
def codes4 (w : Vec Ideal S1x32x1024 .i32) : FVec Ideal S256x1024 .bf16 :=
  subf (concatenate S256x1024 0 [⟨S64x1024, fld 0#32 w⟩, ⟨S64x1024, fld 4#32 w⟩, ⟨S64x1024, fld 8#32 w⟩, ⟨S64x1024, fld 12#32 w⟩] concatenates_S64x1024_S64x1024_S64x1024_S64x1024_S256x1024_d0)
    (broadcast S256x1024 (Scalar.ofBits .bf16 0x4308#16))

theorem pay17_eq (v : FVec Ideal S96x256 .bf16) (w : Vec Ideal S1x32x1024 .i32) :
    k0_pay17 v w = matmul dot_S96x256_S256x1024_S96x1024_1_0_0_1_n_n none v (codes4 w) (constant S96x1024 .f32 0x00000000#32) := rfl

/-- A field less 136 is the number the four bits stand for. -/
theorem fld_apply (w : Vec Ideal S1x32x1024 .i32) (s : Fin 4) (p : Fin 64) (q : Fin 1024) :
    (fld (BitVec.ofNat 32 (4 * s.val)) w (ix2 p q) : EReal) - Ideal.ofBits .bf16 0x4308#16
      = lcode (w (ix3 0 ⟨p.val / 2, by omega⟩ q)) (4 * (p.val % 2) + s.val) := by
  have hb := bitcast_32_16 (xori (andi (shrsi (shapeCast S32x1024 w shapeCasts_S1x32x1024_S32x1024) (broadcast S32x1024 (BitVec.ofNat 32 (4 * s.val)))) (broadcast S32x1024 983055#32)) (broadcast S32x1024 1124614920#32)) bitcasts_S32x1024_w32_S64x1024_w16 p q ⟨p.val / 2, by omega⟩ rfl
  show Ideal.ofBits .bf16 (bitcast S64x1024 16 _ _ (ix2 p q)) - _ = _
  rw [hb]
  have hx : (xori (andi (shrsi (shapeCast S32x1024 w shapeCasts_S1x32x1024_S32x1024) (broadcast S32x1024 (BitVec.ofNat 32 (4 * s.val)))) (broadcast S32x1024 983055#32)) (broadcast S32x1024 1124614920#32)) (ix2 (⟨p.val / 2, by omega⟩ : Fin 32) q)
      = (((w (ix3 0 ⟨p.val / 2, by omega⟩ q) : BitVec 32).sshiftRight (4 * s.val)) &&& 983055#32) ^^^ 1124614920#32 := by
    pointwise
    fin_cases s <;> rfl
  rw [hx]
  have hh := half_eq (w (ix3 0 ⟨p.val / 2, by omega⟩ q)) s ⟨p.val % 2, by omega⟩
  rw [hh]
  obtain ⟨v, hv⟩ := nib_of (w (ix3 0 ⟨p.val / 2, by omega⟩ q)) (4 * (p.val % 2) + s.val)
  unfold lcode
  rw [hv]
  exact pat_eq v

/-- Four pieces of sixty-four rows, stacked, at row `64 s + p`. -/
theorem concat4 {α : Type} {n : ℕ} (v0 v1 v2 v3 : (⟨2, ![64, n]⟩ : Shape).Idx → α) (hc) (l : Fin 256) (k : Fin n) :
    concatenate ⟨2, ![256, n]⟩ 0 [⟨⟨2, ![64, n]⟩, v0⟩, ⟨⟨2, ![64, n]⟩, v1⟩, ⟨⟨2, ![64, n]⟩, v2⟩, ⟨⟨2, ![64, n]⟩, v3⟩] hc (ix2 l k)
      = (![v0, v1, v2, v3] : Fin 4 → _) ⟨l.val / 64, by omega⟩ (ix2 ⟨l.val % 64, by omega⟩ k) := by
  refine concatenate_ofFn_apply (t := ⟨2, ![256, n]⟩) (s₁ := ⟨2, ![64, n]⟩) 0
    (![v0, v1, v2, v3] : Fin 4 → _) hc rfl 64 rfl (ix2 l k) ⟨l.val / 64, by omega⟩ rfl (ix2 ⟨l.val % 64, by omega⟩ k) rfl ?_
  intro a ha
  match a with
  | ⟨0, _⟩ => exact absurd rfl ha
  | ⟨1, _⟩ => rfl

theorem codes4_apply (w : Vec Ideal S1x32x1024 .i32) (l : Fin 256) (q : Fin 1024) :
    codes4 w (ix2 l q) = lcode (w (ix3 0 ⟨l.val % 64 / 2, by omega⟩ q)) (4 * (l.val % 2) + l.val / 64) := by
  have hf := fld_apply w ⟨l.val / 64, by omega⟩ ⟨l.val % 64, by omega⟩ q
  have hm : l.val % 64 % 2 = l.val % 2 := by omega
  simp only [hm] at hf
  rw [← hf]
  show (concatenate S256x1024 0 _ _ (ix2 l q) : EReal) - Ideal.ofBits .bf16 0x4308#16 = _
  rw [concat4]
  congr 1
  generalize hs : (⟨l.val / 64, by omega⟩ : Fin 4) = s
  generalize (⟨l.val % 64, by omega⟩ : Fin 64) = p
  have : l.val / 64 = s.val := congrArg Fin.val hs
  rw [this]
  fin_cases s <;> rfl

/-- The products at an index, over all columns. -/
theorem pay17_apply (v : FVec Ideal S96x256 .bf16) (w : Vec Ideal S1x32x1024 .i32) (r : Fin 96) (q : Fin 1024) :
    k0_pay17 v w (ix2 r q) = ∑ l : Fin 256, (v (ix2 r l) : EReal) * lcode (w (ix3 0 ⟨l.val % 64 / 2, by omega⟩ q)) (4 * (l.val % 2) + l.val / 64) := by
  have hc := codes4_apply w
  rw [pay17_eq]
  generalize codes4 w = C at hc
  pointwise
  exact Finset.sum_congr rfl fun l _ => by rw [hc]

/-- The column of slot `k` for sequence `b` and group `g`. -/
def colOf (b : Fin 8) (g : Fin 2) (k : Fin 16) : Fin 256 :=
  ⟨64 * (k.val % 4) + 2 * (16 * (k.val / 8) + 2 * b.val + g.val) + k.val % 8 / 4, by omega⟩

theorem slot_col (b : Fin 8) (g : Fin 2) (k : Fin 16) : slotOf (colOf b g k) = k := by revert b g k; decide +kernel
theorem grp_col (b : Fin 8) (g : Fin 2) (k : Fin 16) : grpC (colOf b g k) = g := by revert b g k; decide +kernel
theorem seq_col (b : Fin 8) (g : Fin 2) (k : Fin 16) : seqC (colOf b g k) = b := by revert b g k; decide +kernel
theorem col_slot (l : Fin 256) : colOf (seqC l) (grpC l) (slotOf l) = l := by revert l; decide +kernel
theorem word_col (b : Fin 8) (g : Fin 2) (k : Fin 16) : (colOf b g k).val % 64 / 2 = 16 * (k.val / 8) + 2 * b.val + g.val := by
  revert b g k; decide +kernel
theorem field_col (b : Fin 8) (g : Fin 2) (k : Fin 16) : 4 * ((colOf b g k).val % 2) + (colOf b g k).val / 64 = k.val % 8 := by
  revert b g k; decide +kernel

/-- A one-hot sum picks the chosen channel. -/
theorem onehot (f : Fin 128 → EReal) (c : BitVec 32) (hc : c.toNat < 128) :
    ∑ d : Fin 128, f d * (if BitVec.ofNat 32 d.val = c then (1 : EReal) else 0) = f ⟨c.toNat, hc⟩ := by
  rw [Finset.sum_eq_single (⟨c.toNat, hc⟩ : Fin 128)]
  · rw [if_pos (by simp), mul_one]
  · intro d _ hd
    rw [if_neg, mul_zero]
    rintro rfl
    apply hd
    apply Fin.ext
    show d.val = (BitVec.ofNat 32 d.val).toNat
    rw [BitVec.toNat_ofNat, Nat.mod_eq_of_lt (by omega)]
  · intro h; exact absurd (Finset.mem_univ _) h

/-- The products of a step: sixteen terms. -/
theorem prod_apply (chan : Vec Ideal S2x16 .i32) (hch : ∀ g k, (chan (ix2 g k) : BitVec 32).toNat < 128) (x : Vec Ideal S8x1536 .bf16) (w : Vec Ideal S1x32x1024 .i32) (h : Fin 12) (b : Fin 8) (q : Fin 1024) :
    k0_pay17 (V246 chan x) w (ix2 (rw96 h b) q)
      = ∑ k : Fin 16, (x (ix2 b ⟨128 * h.val + (chan (ix2 ⟨h.val / 6, by omega⟩ k) : BitVec 32).toNat, by have := hch ⟨h.val / 6, by omega⟩ k; omega⟩) : EReal)
          * lcode (w (ix3 0 ⟨16 * (k.val / 8) + 2 * b.val + h.val / 6, by omega⟩ q)) (k.val % 8) := by
  rw [pay17_apply]
  symm
  refine Finset.sum_of_injOn (colOf b ⟨h.val / 6, by omega⟩) ?_ (fun _ _ => Finset.mem_coe.mpr (Finset.mem_univ _)) ?_ ?_
  · intro k _ k' _ e
    exact (slot_col b _ k).symm.trans ((congrArg slotOf e).trans (slot_col b _ k'))
  · intro l _ hl
    rw [V246_apply, if_neg, zero_mul]
    rintro ⟨hb, hg⟩
    apply hl
    refine ⟨slotOf l, Finset.mem_coe.mpr (Finset.mem_univ _), ?_⟩
    have hg' : (⟨h.val / 6, by omega⟩ : Fin 2) = grpC l := Fin.ext hg
    rw [hg', hb, col_slot]
  · intro k _
    rw [V246_apply]
    simp only [slot_col, grp_col, seq_col, field_col, word_col]
    rw [if_pos ⟨trivial, trivial⟩, onehot _ _ (hch _ k)]

end Cert.Proof.Lab

end
-- ==== Proof.LabelSpec.lean ====
/- The label score array both programs leave: head, sequence, position. -/
module

public import proofs.«01_k».proof.Proof.LabelCode

@[expose] public section

noncomputable section

namespace Cert.Proof.Lab

open Cert.LabelIdeal Cert.LabelIdeal.Gen Idealize.ShloMosaic

/-- The scale constant. -/
def lsc : EReal := Ideal.ofBits .f32 0x3DB504F3#32

/-- The label dot product of a query row with the sixteen fields of two words. -/
def ldot (ch : Fin 16 → BitVec 32) (x : Fin 128 → EReal) (w : Fin 2 → BitVec 32) : EReal :=
  ∑ k : Fin 16, x ⟨(ch k).toNat % 128, Nat.mod_lt _ (by decide)⟩ * lcode (w ⟨k.val / 8, by omega⟩) (k.val % 8)

/-- The label score of head `h` of sequence `s` at position `p`: zero past the sequence's length. -/
def labAt (lens : IVec S96 32) (chan : IVec S2x16 32) (W : IVec S96x2x2x8192 32) (S : FVec Ideal S96x2x8192 .f32) (x : FVec Ideal S96x1536 .bf16)
    (h : Fin 12) (s : Fin 96) (p : Fin 8192) : EReal :=
  Scalar.select (IntOp.cmpi .slt (BitVec.ofNat 32 p.val) (lens (ix1 s)))
    ((lsc * S (ix3 s ⟨h.val / 6, by omega⟩ p))
      * ldot (fun k => chan (ix2 ⟨h.val / 6, by omega⟩ k)) (fun d => x (ix2 s ⟨128 * h.val + d.val, by omega⟩)) (fun k => W (ix4 s ⟨h.val / 6, by omega⟩ k p))) 0

/-- The label score array. -/
def labArr (lens : IVec S96 32) (chan : IVec S2x16 32) (W : IVec S96x2x2x8192 32) (S : FVec Ideal S96x2x8192 .f32) (x : FVec Ideal S96x1536 .bf16) :
    FVec Ideal S12x96x8192 .f32 :=
  fun i => labAt lens chan W S x (i 0) (i 1) (i 2)

end Cert.Proof.Lab

end
-- ==== Proof.LabelBlock.lean ====
/- What a label step leaves in its block, index by index: the masked, scaled product of each row. -/
module

public import proofs.«01_k».proof.Proof.LabelProd
public import proofs.«01_k».proof.Proof.LabelSpec
public import proofs.«01_k».proof.Proof.LabelIdealRun
public import Idealize.ShloMosaic.Lib.Pipeline.ValueKit.Tiles

@[expose] public section

set_option maxRecDepth 16384

noncomputable section

namespace Cert.Proof.Lab

open Cert.LabelIdeal Cert.LabelIdeal.Gen Cert.LabelIdeal.Hand Idealize.ShloMosaic Idealize.ShloMosaic.TcCoe Idealize.SL.Sem

section Payloads
variable (v312 : IVec S8x1 32) (j : BitVec 32) (Q : FVec Ideal S96x1024 .f32) (cs : IVec S8x1024 32) (M : IVec S8x1024 1) (s : FVec Ideal S8x1024 .f32)
  (v : Vec Ideal S1x1x8x1024 .f32) (b : Fin 8) (q : Fin 1024)

/-- The number a row of a trip stores at a position: the scaled product where the position counts, zero elsewhere. -/
def put (M : IVec S8x1024 1) (s : FVec Ideal S8x1024 .f32) (Q : FVec Ideal S96x1024 .f32) (h : Fin 12) (b : Fin 8) (q : Fin 1024) : EReal :=
  Scalar.select (M (ix2 b q)) ((s (ix2 b q) : EReal) * Q (ix2 (rw96 h b) q)) 0

theorem put0 : k0_pay20 v312 j Q cs v (ix3 0 b q) = put (k0_pay18 v312 j cs) (k0_pay19 v) Q 0 b q := by
  unfold put k0_pay20
  generalize k0_pay18 v312 j cs = M
  generalize k0_pay19 v = s
  have e : rw96 0 b = ⟨b.val, by omega⟩ := Fin.ext (by show 8 * 0 + b.val = b.val; omega)
  rw [e]
  pointwise
theorem put1 : k0_pay21 v312 j Q cs v (ix3 0 b q) = put (k0_pay18 v312 j cs) (k0_pay19 v) Q 1 b q := by
  unfold put k0_pay21
  generalize k0_pay18 v312 j cs = M
  generalize k0_pay19 v = s
  pointwise
  rfl
theorem put2 : k0_pay22 v312 j Q cs v (ix3 0 b q) = put (k0_pay18 v312 j cs) (k0_pay19 v) Q 2 b q := by
  unfold put k0_pay22
  generalize k0_pay18 v312 j cs = M
  generalize k0_pay19 v = s
  pointwise
  rfl
theorem put3 : k0_pay24 (k0_pay23 v312 j Q cs v) (ix3 0 b q) = put (k0_pay18 v312 j cs) (k0_pay19 v) Q 3 b q := by
  unfold put k0_pay24 k0_pay23
  generalize k0_pay18 v312 j cs = M
  generalize k0_pay19 v = s
  pointwise
  rfl
theorem put4 : k0_pay25 Q M s (ix3 0 b q) = put M s Q 4 b q := by
  unfold put k0_pay25
  pointwise
  rfl
theorem put5 : k0_pay26 Q M s (ix3 0 b q) = put M s Q 5 b q := by
  unfold put k0_pay26
  pointwise
  rfl
theorem put6 : k0_pay28 Q M v (ix3 0 b q) = put M (k0_pay27 v) Q 6 b q := by
  unfold put k0_pay28
  generalize k0_pay27 v = s
  pointwise
  rfl
theorem put7 : k0_pay29 Q M v (ix3 0 b q) = put M (k0_pay27 v) Q 7 b q := by
  unfold put k0_pay29
  generalize k0_pay27 v = s
  pointwise
  rfl
theorem put8 : k0_pay1 Q M s (ix3 0 b q) = put M s Q 8 b q := by
  unfold put k0_pay1
  pointwise
  rfl
theorem put9 : k0_pay2 Q M s (ix3 0 b q) = put M s Q 9 b q := by
  unfold put k0_pay2
  pointwise
  rfl
theorem put10 : k0_pay3 Q M s (ix3 0 b q) = put M s Q 10 b q := by
  unfold put k0_pay3
  pointwise
  rfl
theorem put11 : k0_pay4 Q M s (ix3 0 b q) = put M s Q 11 b q := by
  unfold put k0_pay4
  pointwise
  rfl
end Payloads

/-- The trip's first position. -/
theorem off_eq : ∀ j : Fin k0_t1_loop.trips,
    k0_off114 j = ![0, 0, 1024 * j.val] ∧ k0_off115 j = ![1, 0, 1024 * j.val] ∧ k0_off116 j = ![2, 0, 1024 * j.val]
    ∧ k0_off117 j = ![3, 0, 1024 * j.val] ∧ k0_off118 j = ![4, 0, 1024 * j.val] ∧ k0_off119 j = ![5, 0, 1024 * j.val]
    ∧ k0_off121 j = ![6, 0, 1024 * j.val] ∧ k0_off122 j = ![7, 0, 1024 * j.val] ∧ k0_off123 j = ![8, 0, 1024 * j.val]
    ∧ k0_off124 j = ![9, 0, 1024 * j.val] ∧ k0_off125 j = ![10, 0, 1024 * j.val] ∧ k0_off126 j = ![11, 0, 1024 * j.val] := by
  decide +kernel
theorem off112 : ∀ (t : Fin grid0.N) (j : Fin k0_t1_loop.trips), k0_off112 (grid0.coords t) j 1 = 0 ∧ k0_off112 (grid0.coords t) j 2 = 1024 * j.val := by
  decide +kernel
theorem off113 : ∀ (t : Fin grid0.N) (j : Fin k0_t1_loop.trips), k0_off113 (grid0.coords t) j 1 = 0 ∧ k0_off113 (grid0.coords t) j 2 = 0 ∧ k0_off113 (grid0.coords t) j 3 = 1024 * j.val := by
  decide +kernel
theorem off120 : ∀ (t : Fin grid0.N) (j : Fin k0_t1_loop.trips), k0_off120 (grid0.coords t) j 1 = 1 ∧ k0_off120 (grid0.coords t) j 2 = 0 ∧ k0_off120 (grid0.coords t) j 3 = 1024 * j.val := by
  decide +kernel
theorem jv_eq : ∀ j : Fin k0_t1_loop.trips, IntOp.muli (jv j) 1024#32 = BitVec.ofNat 32 (1024 * j.val) := by decide +kernel
theorem trips_eq : k0_t1_loop.trips = 8 := by decide +kernel
theorem trip_lt (j : Fin k0_t1_loop.trips) : j.val < 8 := lt_of_lt_of_eq j.isLt trips_eq

/-- Position `q` of trip `j`. -/
def pos (j : Fin k0_t1_loop.trips) (q : Fin 1024) : Fin 8192 := ⟨1024 * j.val + q.val, by have := trip_lt j; omega⟩

section Loads
variable (W : Vec Ideal S96x2x2x8192 .i32) (S : Vec Ideal S96x2x8192 .f32) (n : Fin 12) (t : Fin grid0.N) (j : Fin k0_t1_loop.trips) (b : Fin 8) (q : Fin 1024)

/-- Sequence `b` of block `n`. -/
def sq (n : Fin 12) (b : Fin 8) : Fin 96 := ⟨8 * n.val + b.val, by omega⟩

theorem ldW_apply (k : Fin 2) (g : Fin 2) :
    ldW W n (grid0.coords t) j (ix3 0 ⟨16 * k.val + 2 * b.val + g.val, by omega⟩ q) = W (ix4 (sq n b) g k (pos j q)) := by
  obtain ⟨h1, h2⟩ := off112 t j
  show W (wIx n ((Rect.unit (s := S2x32x8192) (k0_off112 (grid0.coords t) j) S1x32x1024.size (k0_off112_inb (grid0.coords t) j)).emb _)) = _
  congr 1
  funext a
  match a with
  | ⟨0, _⟩ => exact Fin.ext (by show 8 * n.val + (k0_off112 (grid0.coords t) j 1 + 1 * (16 * k.val + 2 * b.val + g.val)) % 16 / 2 = 8 * n.val + b.val; rw [h1]; omega)
  | ⟨1, _⟩ => exact Fin.ext (by show (k0_off112 (grid0.coords t) j 1 + 1 * (16 * k.val + 2 * b.val + g.val)) % 2 = g.val; rw [h1]; omega)
  | ⟨2, _⟩ => exact Fin.ext (by show (k0_off112 (grid0.coords t) j 1 + 1 * (16 * k.val + 2 * b.val + g.val)) / 16 = k.val; rw [h1]; omega)
  | ⟨3, _⟩ => exact Fin.ext (by show k0_off112 (grid0.coords t) j 2 + 1 * q.val = 1024 * j.val + q.val; rw [h2]; omega)
theorem ldS0_apply : ldS0 S n (grid0.coords t) j (ix4 0 0 b q) = S (ix3 (sq n b) 0 (pos j q)) := by
  obtain ⟨h1, h2, h3⟩ := off113 t j
  show S (sIx n ((Rect.unit (s := S2x2x8x8192) (k0_off113 (grid0.coords t) j) S1x1x8x1024.size (k0_off113_inb (grid0.coords t) j)).emb _)) = _
  congr 1
  funext a
  match a with
  | ⟨0, _⟩ => exact Fin.ext (by show 8 * n.val + (k0_off113 (grid0.coords t) j 2 + 1 * b.val) = 8 * n.val + b.val; rw [h2]; omega)
  | ⟨1, _⟩ => exact Fin.ext (by show k0_off113 (grid0.coords t) j 1 + 1 * 0 = 0; rw [h1])
  | ⟨2, _⟩ => exact Fin.ext (by show k0_off113 (grid0.coords t) j 3 + 1 * q.val = 1024 * j.val + q.val; rw [h3]; omega)
theorem ldS1_apply : ldS1 S n (grid0.coords t) j (ix4 0 0 b q) = S (ix3 (sq n b) 1 (pos j q)) := by
  obtain ⟨h1, h2, h3⟩ := off120 t j
  show S (sIx n ((Rect.unit (s := S2x2x8x8192) (k0_off120 (grid0.coords t) j) S1x1x8x1024.size (k0_off120_inb (grid0.coords t) j)).emb _)) = _
  congr 1
  funext a
  match a with
  | ⟨0, _⟩ => exact Fin.ext (by show 8 * n.val + (k0_off120 (grid0.coords t) j 2 + 1 * b.val) = 8 * n.val + b.val; rw [h2]; omega)
  | ⟨1, _⟩ => exact Fin.ext (by show k0_off120 (grid0.coords t) j 1 + 1 * 0 = 1; rw [h1])
  | ⟨2, _⟩ => exact Fin.ext (by show k0_off120 (grid0.coords t) j 3 + 1 * q.val = 1024 * j.val + q.val; rw [h3]; omega)
end Loads

theorem pay19_apply (v : Vec Ideal S1x1x8x1024 .f32) (b : Fin 8) (q : Fin 1024) : k0_pay19 v (ix2 b q) = lsc * v (ix4 0 0 b q) := by
  pointwise [k0_pay19]
  rfl
theorem pay27_apply (v : Vec Ideal S1x1x8x1024 .f32) (b : Fin 8) (q : Fin 1024) : k0_pay27 v (ix2 b q) = lsc * v (ix4 0 0 b q) := by
  pointwise [k0_pay27]
  rfl
theorem mask_apply (v312 : IVec S8x1 32) (j : Fin k0_t1_loop.trips) (b : Fin 8) (q : Fin 1024) :
    k0_pay18 v312 (jv j) cols (ix2 b q) = IntOp.cmpi .slt (BitVec.ofNat 32 (pos j q).val) (v312 (ix2 b 0)) := by
  have hj := jv_eq j
  generalize jv j = J at hj
  pointwise [k0_pay18]
  congr 1
  show IntOp.addi (BitVec.ofNat 32 q.val) (IntOp.muli J 1024#32) = BitVec.ofNat 32 (1024 * j.val + q.val)
  rw [hj]
  show BitVec.ofNat 32 q.val + BitVec.ofNat 32 (1024 * j.val) = _
  rw [← BitVec.ofNat_add, Nat.add_comm]

section Block
variable (chan : Vec Ideal S2x16 .i32) (x : Vec Ideal S8x1536 .bf16) (v312 : IVec S8x1 32)
  (W : Vec Ideal S96x2x2x8192 .i32) (S : Vec Ideal S96x2x8192 .f32) (n : Fin 12) (t : Fin grid0.N)

/-- The number a step leaves for head `h` of its sequence `b` at position `p`. -/
def blkAt (h : Fin 12) (b : Fin 8) (p : Fin 8192) : EReal :=
  Scalar.select (IntOp.cmpi .slt (BitVec.ofNat 32 p.val) (v312 (ix2 b 0)))
    ((lsc * S (ix3 (sq n b) ⟨h.val / 6, by omega⟩ p))
      * ldot (fun k => chan (ix2 ⟨h.val / 6, by omega⟩ k)) (fun d => x (ix2 b ⟨128 * h.val + d.val, by omega⟩)) (fun k => W (ix4 (sq n b) ⟨h.val / 6, by omega⟩ k p))) 0

theorem q737_apply (hch : ∀ g k, (chan (ix2 g k) : BitVec 32).toNat < 128) (j : Fin k0_t1_loop.trips) (h : Fin 12) (b : Fin 8) (q : Fin 1024) :
    q737 (V246 chan x) W n (grid0.coords t) j (ix2 (rw96 h b) q)
      = ldot (fun k => chan (ix2 ⟨h.val / 6, by omega⟩ k)) (fun d => x (ix2 b ⟨128 * h.val + d.val, by omega⟩)) (fun k => W (ix4 (sq n b) ⟨h.val / 6, by omega⟩ k (pos j q))) := by
  unfold q737 ldot
  rw [prod_apply chan hch]
  refine Finset.sum_congr rfl fun k _ => ?_
  have hk := ldW_apply W n t j b q ⟨k.val / 8, by omega⟩ ⟨h.val / 6, by omega⟩
  rw [hk]
  congr 1
  have := hch ⟨h.val / 6, by omega⟩ k
  simp only [Nat.mod_eq_of_lt this]

theorem put_eq (hch : ∀ g k, (chan (ix2 g k) : BitVec 32).toNat < 128) (j : Fin k0_t1_loop.trips) (h : Fin 12) (b : Fin 8) (q : Fin 1024)
    (s : FVec Ideal S8x1024 .f32) (hs : s (ix2 b q) = lsc * S (ix3 (sq n b) ⟨h.val / 6, by omega⟩ (pos j q))) :
    put (k0_pay18 v312 (jv j) cols) s (q737 (V246 chan x) W n (grid0.coords t) j) h b q = blkAt chan x v312 W S n h b (pos j q) := by
  unfold put blkAt
  rw [mask_apply, hs, q737_apply chan x W n t hch]

/-- A store of a trip, read at an index of the block. -/
theorem key (j : Fin k0_t1_loop.trips) (r h : Fin 12) (b : Fin 8) (p : Fin 8192) (off : Fin 3 → ℕ) (hoff : off = ![r.val, 0, 1024 * j.val]) (w : Vec Ideal S1x8x1024 .f32)
    (hw : ∀ (b : Fin 8) (q : Fin 1024), w (ix3 0 b q) = blkAt chan x v312 W S n r b (pos j q)) :
    View.TileAt (Val := Elt Ideal) (e := .f32) (ix3 h b p : S12x8x8192.Idx) off S1x8x1024.size w (blkAt chan x v312 W S n h b p) := by
  subst hoff
  intro y hy
  have h0 : h.val = r.val + (y 0).val := hy 0
  have h1 : b.val = 0 + (y 1).val := hy 1
  have h2 : p.val = 1024 * j.val + (y 2).val := hy 2
  have l0 : (y 0).val < 1 := (y 0).isLt
  have e1 : h = r := Fin.ext (by omega)
  subst e1
  have e2 : p = pos j (y 2) := Fin.ext h2
  have ey : y = (ix3 0 b (y 2) : S1x8x1024.Idx) := by
    funext a
    match a with
    | ⟨0, _⟩ => exact Fin.ext (by show (y 0).val = 0; omega)
    | ⟨1, _⟩ => exact Fin.ext (by show (y 1).val = b.val; omega)
    | ⟨2, _⟩ => rfl
  rw [e2]
  exact (congrArg w ey).trans (hw b (y 2))

theorem allAt_append {S : Shape} {e : EltTy} {y : S.Idx} {v : Elt Ideal e} (L L' : List (View.Piece (Elt Ideal) S e))
    (h : View.AllAt L y v) (h' : View.AllAt L' y v) : View.AllAt (L ++ L') y v := by
  intro p hp
  rcases List.mem_append.mp hp with hp | hp
  · exact h p hp
  · exact h' p hp

variable (hch : ∀ g k, (chan (ix2 g k) : BitVec 32).toNat < 128)
include hch

theorem pcs_all (j : Fin k0_t1_loop.trips) (h : Fin 12) (b : Fin 8) (p : Fin 8192) :
    View.AllAt (pcs (V246 chan x) v312 W S n (grid0.coords t) j) (ix3 h b p : S12x8x8192.Idx) (blkAt chan x v312 W S n h b p) := by
  obtain ⟨o0, o1, o2, o3, o4, o5, o6, o7, o8, o9, o10, o11⟩ := off_eq j
  have s0 : ∀ (r : Fin 12) (hr : r.val / 6 = 0) (b : Fin 8) (q : Fin 1024),
      k0_pay19 (ldS0 S n (grid0.coords t) j) (ix2 b q) = lsc * S (ix3 (sq n b) ⟨r.val / 6, by omega⟩ (pos j q)) := by
    intro r hr b q
    rw [pay19_apply, ldS0_apply]
    simp only [hr]
    rfl
  have s1 : ∀ (r : Fin 12) (hr : r.val / 6 = 1) (b : Fin 8) (q : Fin 1024),
      k0_pay27 (ldS1 S n (grid0.coords t) j) (ix2 b q) = lsc * S (ix3 (sq n b) ⟨r.val / 6, by omega⟩ (pos j q)) := by
    intro r hr b q
    rw [pay27_apply, ldS1_apply]
    simp only [hr]
    rfl
  have P := fun (r : Fin 12) => put_eq chan x v312 W S n t hch j r
  unfold pcs
  refine allAt_append _ _ ?_ (allAt_append _ _ ?_ ?_)
  · unfold pcC q743 q803
    refine View.allAt_cons_unit _ _ _ _ _ (key chan x v312 W S n j 11 h b p _ o11 _ fun b q => (put11 _ _ _ b q).trans (P 11 b q _ (s1 11 rfl b q))) ?_
    refine View.allAt_cons_unit _ _ _ _ _ (key chan x v312 W S n j 10 h b p _ o10 _ fun b q => (put10 _ _ _ b q).trans (P 10 b q _ (s1 10 rfl b q))) ?_
    refine View.allAt_cons_unit _ _ _ _ _ (key chan x v312 W S n j 9 h b p _ o9 _ fun b q => (put9 _ _ _ b q).trans (P 9 b q _ (s1 9 rfl b q))) ?_
    exact View.allAt_cons_unit _ _ _ _ _ (key chan x v312 W S n j 8 h b p _ o8 _ fun b q => (put8 _ _ _ b q).trans (P 8 b q _ (s1 8 rfl b q))) (View.allAt_nil _ _)
  · unfold pcB q743 q749 q777
    refine View.allAt_cons_unit _ _ _ _ _ (key chan x v312 W S n j 7 h b p _ o7 _ fun b q => (put7 _ _ _ b q).trans (P 7 b q _ (s1 7 rfl b q))) ?_
    refine View.allAt_cons_unit _ _ _ _ _ (key chan x v312 W S n j 6 h b p _ o6 _ fun b q => (put6 _ _ _ b q).trans (P 6 b q _ (s1 6 rfl b q))) ?_
    refine View.allAt_cons_unit _ _ _ _ _ (key chan x v312 W S n j 5 h b p _ o5 _ fun b q => (put5 _ _ _ b q).trans (P 5 b q _ (s0 5 rfl b q))) ?_
    refine View.allAt_cons_unit _ _ _ _ _ (key chan x v312 W S n j 4 h b p _ o4 _ fun b q => (put4 _ _ _ b q).trans (P 4 b q _ (s0 4 rfl b q))) ?_
    exact View.allAt_cons_unit _ _ _ _ _ (key chan x v312 W S n j 3 h b p _ o3 _ fun b q => (put3 _ _ _ _ _ b q).trans (P 3 b q _ (s0 3 rfl b q))) (View.allAt_nil _ _)
  · unfold pcA
    refine View.allAt_cons_unit _ _ _ _ _ (key chan x v312 W S n j 2 h b p _ o2 _ fun b q => (put2 _ _ _ _ _ b q).trans (P 2 b q _ (s0 2 rfl b q))) ?_
    refine View.allAt_cons_unit _ _ _ _ _ (key chan x v312 W S n j 1 h b p _ o1 _ fun b q => (put1 _ _ _ _ _ b q).trans (P 1 b q _ (s0 1 rfl b q))) ?_
    exact View.allAt_cons_unit _ _ _ _ _ (key chan x v312 W S n j 0 h b p _ o0 _ fun b q => (put0 _ _ _ _ _ b q).trans (P 0 b q _ (s0 0 rfl b q))) (View.allAt_nil _ _)

theorem pcsTo_all (h : Fin 12) (b : Fin 8) (p : Fin 8192) : ∀ k : ℕ,
    View.AllAt (pcsTo (V246 chan x) v312 W S n (grid0.coords t) k) (ix3 h b p : S12x8x8192.Idx) (blkAt chan x v312 W S n h b p)
  | 0 => View.allAt_nil _ _
  | k + 1 => by
    unfold pcsTo
    refine allAt_append _ _ ?_ (pcsTo_all h b p k)
    split_ifs with hk
    · exact pcs_all chan x v312 W S n t hch ⟨k, hk⟩ h b p
    · exact View.allAt_nil _ _

/-- A step's block. -/
theorem canon_block (h : Fin 12) (b : Fin 8) (p : Fin 8192) :
    View.canon (pcsTo (V246 chan x) v312 W S n (grid0.coords t) k0_t1_loop.trips) (ix3 h b p : S12x8x8192.Idx) = blkAt chan x v312 W S n h b p :=
  View.canon_eq_of_allAt _ _ _ (pcs_cover _ _ W S n _ _) (pcsTo_all chan x v312 W S n t hch h b p _)
end Block

end Cert.Proof.Lab

end
-- ==== Proof.LabelArray.lean ====
/- What the label call's result array holds after the run, index by index. -/
module

public import proofs.«01_k».proof.Proof.LabelBlock
public import Idealize.ShloMosaic.Lib.Pipeline.ValueKit

@[expose] public section

set_option maxRecDepth 16384

noncomputable section

namespace Cert.Proof.Lab

open Cert.LabelIdeal Cert.LabelIdeal.Gen Cert.LabelIdeal.Hand Idealize.ShloMosaic Idealize.ShloMosaic.TcCoe Idealize.SL.Sem

/-- The lengths of a step's eight sequences. -/
theorem V312_apply (lens : Vec Ideal S96 .i32) (i : grid0.Coords) (b : Fin 8) : V312 lens i (ix2 b 0) = lnx lens i b := by
  unfold V312
  generalize lnx lens i = l
  pointwise [k0_pay48, k0_pay49, k0_pay50, k0_pay51, k0_pay52]
  fin_cases b <;> rfl

theorem coords_eq : ∀ t : Fin grid0.N, ((grid0.coords t) 0).val = t.val := by decide +kernel

variable (m : (ℓ : Loc nD τ sig) → Buf (Elt Ideal) ℓ)

/-- Where window 0's block lies at point `t`. -/
theorem lindex0 : ∀ t : Fin cfg0.N, win0_0.index t = ![0] :=
  (by decide +kernel : ∀ t : Fin grid0.N, win0_0.index t = ![0])
/-- Where window 1's block lies at point `t`. -/
theorem lindex1 : ∀ t : Fin cfg0.N, win0_1.index t = ![0, 0] :=
  (by decide +kernel : ∀ t : Fin grid0.N, win0_1.index t = ![0, 0])
/-- Where window 2's block lies at point `t`. -/
theorem lindex2 : ∀ t : Fin cfg0.N, win0_2.index t = ![t.val, 0] :=
  (by decide +kernel : ∀ t : Fin grid0.N, win0_2.index t = ![t.val, 0])
/-- Where window 3's block lies at point `t`. -/
theorem lindex3 : ∀ t : Fin cfg0.N, win0_3.index t = ![0, t.val, 0] :=
  (by decide +kernel : ∀ t : Fin grid0.N, win0_3.index t = ![0, t.val, 0])

theorem blk_len (c : Dev nD) (t : Fin cfg0.N) (b : Fin 8) :
    V312 (iblk m c 0 t : Vec Ideal S96 .i32) (grid0.coords t) (ix2 b 0) = (V m c main_arg0 : IVec S96 32) (ix1 (sq (nb t) b)) := by
  rw [V312_apply]
  have hc := coords_eq t
  unfold lnx
  blk_simp [iblk]
  congr 1
  blk_ext [lindex0, sq, nb, hc]
theorem blk_chan (c : Dev nD) (g : Fin 2) (k : Fin 16) : (chanAt m c : Vec Ideal S2x16 .i32) (ix2 g k) = (V m c main_arg1 : IVec S2x16 32) (ix2 g k) := by
  unfold chanAt
  blk_simp [iblk]
  congr 1
  blk_ext [lindex1]
theorem blk_x (c : Dev nD) (t : Fin cfg0.N) (b : Fin 8) (d : Fin 1536) :
    (iblk m c 2 t : Vec Ideal S8x1536 .bf16) (ix2 b d) = (V m c main_arg4 : FVec Ideal S96x1536 .bf16) (ix2 (sq (nb t) b) d) := by
  blk_simp [iblk]
  congr 1
  blk_ext [lindex2, sq, nb]

/-- The block a step leaves. -/
theorem out_eq (c : Dev nD) (hch : ∀ g k, ((V m c main_arg1 : IVec S2x16 32) (ix2 g k)).toNat < 128) (t : Fin cfg0.N) (h : Fin 12) (b : Fin 8) (p : Fin 8192) :
    outAt m c t (ix3 h b p : S12x8x8192.Idx)
      = labAt (V m c main_arg0) (V m c main_arg1) (V m c main_arg2) (V m c main_arg3) (V m c main_arg4) h (sq (nb t) b) p := by
  unfold outAt outPcs
  refine (canon_block _ _ _ _ _ (nb t) t (fun g k => by rw [blk_chan m c g k]; exact hch g k) h b p).trans ?_
  unfold blkAt labAt
  rw [blk_len m c t b]
  simp only [blk_chan m c, blk_x m c t]

theorem out_apply (c : Dev nD) (hch : ∀ g k, ((V m c main_arg1 : IVec S2x16 32) (ix2 g k)).toNat < 128) (t : Fin cfg0.N) (y : S12x8x8192.Idx) :
    outAt m c t y
      = labArr (V m c main_arg0) (V m c main_arg1) (V m c main_arg2) (V m c main_arg3) (V m c main_arg4) (ix3 (y 0) (sq (nb t) (y 1)) (y 2)) := by
  refine Eq.trans (congrArg (outAt m c t) ?_) (out_eq m c hch t (y 0) (y 1) (y 2))
  funext a
  match a with
  | ⟨0, _⟩ => rfl
  | ⟨1, _⟩ => rfl
  | ⟨2, _⟩ => rfl

/-- The label score array after the run. -/
theorem final3 (c : Dev nD) (hch : ∀ g k, ((V m c main_arg1 : IVec S2x16 32) (ix2 g k)).toNat < 128) :
    (dats m 0 c).arrAt 3 cfg0.N
      = labArr (V m c main_arg0) (V m c main_arg1) (V m c main_arg2) (V m c main_arg3) (V m c main_arg4) := by
  refine (dats m 0 c).arrAt_eq_of_covers 3 _ (by decide +kernel) fun t hf y => ?_
  blk_simp
  rw [after0_3]
  refine (out_apply m c hch t y).trans (congrArg _ ?_)
  blk_ext [lindex3, sq, nb]

end Cert.Proof.Lab

end
-- ==== Proof.LabelRefValue.lean ====
/- What the label reference leaves, index by index, when every label channel lies in a head. -/
module

public import proofs.«01_k».proof.Proof.LabelSpec
public import proofs.«01_k».proof.Proof.Gen.LabelReferenceIdeal
public import proofs.«01_k».proof.Proof.Gen.LabelReferenceIdeal.Run
public import proofs.«01_k».proof.Proof.Gen.LabelReferenceIdeal.Read
public import Idealize.ShloMosaic.Lib.Pointwise
public import Idealize.ShloMosaic.Lib.ReduceAll
public import Idealize.ShloMosaic.Lib.Affine
public import Idealize.ShloMosaic.Lib.Quiescent
public import Idealize.ShloMosaic.Lib.Claim

@[expose] public section

set_option maxRecDepth 16384

noncomputable section

namespace Cert.Proof.Lab

open Cert.LabelReferenceIdeal Cert.LabelReferenceIdeal.Gen Cert.LabelReferenceIdeal.Read Idealize.ShloMosaic Idealize.ShloMosaic.TcCoe Idealize.SL.Sem

variable (x0 : IVec S96 32) (x1 : IVec S2x16 32) (x2 : IVec S96x2x2x8192 32) (x3 : FVec Ideal S96x2x8192 .f32) (x4 : FVec Ideal S96x1536 .bf16)

section Channels
variable (hch : ∀ g k, (x1 (ix2 g k)).toNat < 128)

theorem chan_read (i : S96x2x6x16.Idx) : val_main_v2 (F := Ideal) x1 i = x1 (ix2 (i 1) (i 3)) := by
  rw [val_main_v2_apply, val_main_v1_apply]
  congr 1
  funext a
  match a with
  | ⟨0, _⟩ => rfl
  | ⟨1, _⟩ => rfl

include hch

theorem chan_pos (w : BitVec 32) (hw : w.toNat < 128) : IntOp.cmpi .slt w 0#32 = 0#1 ∧ IntOp.cmpi .sge w 0#32 = 1#1 ∧ IntOp.cmpi .sle w 127#32 = 1#1 := by
  have h : w = BitVec.ofNat 32 (⟨w.toNat, hw⟩ : Fin 128).val := by simp
  rw [h]
  generalize (⟨w.toNat, hw⟩ : Fin 128) = v
  revert v
  decide +kernel

theorem chan_wrap (i : S96x2x6x16.Idx) : val_main_call0_v4 (F := Ideal) x1 i = x1 (ix2 (i 1) (i 3)) := by
  rw [val_main_call0_v4_apply, val_main_call0_v1_apply, val_main_call0_v0_apply, val_main_call0_c_apply, chan_read,
    (chan_pos x1 hch _ (hch (i 1) (i 3))).1]
  rfl
theorem chan_wrap1 (i : S96x2x6x16x1.Idx) : val_main_call0_v5 (F := Ideal) x1 i = x1 (ix2 (i 1) (i 3)) := by
  rw [val_main_call0_v5_apply, chan_wrap x1 hch]
  have h0 : (i 0).val < 96 := (i 0).isLt
  have h1 : (i 1).val < 2 := (i 1).isLt
  have h2 : (i 2).val < 6 := (i 2).isLt
  have h3 : (i 3).val < 16 := (i 3).isLt
  have h4 : (i 4).val < 1 := (i 4).isLt
  congr 2
  · exact Fin.ext (by dsimp only; omega)
  · exact Fin.ext (by dsimp only; omega)
theorem chan_ok (i : S96x2x6x16.Idx) : val_main_call0_v12 (F := Ideal) x1 i = 1#1 := by
  unfold val_main_call0_v12
  refine Host.reduce_andi_one _ _ _ _ _ rfl fun j => ?_
  rw [val_main_call0_v11_apply, val_main_call0_v7_apply, val_main_call0_v10_apply, val_main_call0_v6_apply, val_main_call0_c_2_apply,
    val_main_call0_v9_apply, val_main_call0_v8_apply, val_main_call0_c_1_apply, chan_wrap1 x1 hch,
    (chan_pos x1 hch _ (hch (j 1) (j 3))).2.1, (chan_pos x1 hch _ (hch (j 1) (j 3))).2.2]
  rfl
end Channels

/-- The gather's start index. -/
def siOf (i : S96x2x6x16.Idx) : S96x2x6x16x1.Idx := fun a => match a with
  | ⟨0, _⟩ => i 0
  | ⟨1, _⟩ => i 1
  | ⟨2, _⟩ => i 2
  | ⟨3, _⟩ => i 3
  | ⟨4, _⟩ => (0 : Fin 1)

/-- The batched gather read at an index: the operand's row, at the start index clamped. -/
theorem gather_read (x : FVec Ideal S96x2x6x128 .bf16) (idx : IVec S96x2x6x16x1 32) (i : S96x2x6x16.Idx) :
    Host.gather gather_S96x2x6x128_S96x2x6x16x1_S96x2x6x16_n_3_012_012_3_4_1111 x idx i
      = x (ix4 (i 0) (i 1) (i 2) ⟨min (idx (siOf i)).toInt.toNat 127, by omega⟩) := by
  unfold Host.gather
  congr 1
  funext a
  refine Fin.ext ?_
  show GatherDims.start gather_S96x2x6x128_S96x2x6x16x1_S96x2x6x16_n_3_012_012_3_4_1111 i idx a + GatherDims.batchCoord gather_S96x2x6x128_S96x2x6x16x1_S96x2x6x16_n_3_012_012_3_4_1111 i a
      + GatherDims.offCoord gather_S96x2x6x128_S96x2x6x16x1_S96x2x6x16_n_3_012_012_3_4_1111 i a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : ∀ h, gather_S96x2x6x128_S96x2x6x16x1_S96x2x6x16_n_3_012_012_3_4_1111.siIdx i ⟨List.idxOf (3 : Fin 4) gather_S96x2x6x128_S96x2x6x16x1_S96x2x6x16_n_3_012_012_3_4_1111.startIndexMap, h⟩ = siOf i := by
      intro h
      funext b
      refine Fin.ext ?_
      match b with
      | ⟨0, _⟩ => rfl
      | ⟨1, _⟩ => rfl
      | ⟨2, _⟩ => rfl
      | ⟨3, _⟩ => rfl
      | ⟨4, _⟩ => rfl
    erw [hsi]
    rfl

theorem q_read (hch : ∀ g k, (x1 (ix2 g k)).toNat < 128) (s : Fin 96) (g : Fin 2) (j : Fin 6) (k : Fin 16) :
    val_main_v3 (F := Ideal) x1 x4 (ix4 s g j k)
      = x4 (ix2 s ⟨128 * (6 * g.val + j.val) + (x1 (ix2 g k)).toNat % 128, by omega⟩) := by
  rw [val_main_v3_apply, chan_ok x1 hch]
  show val_main_call0_v13 (F := Ideal) x1 x4 (ix4 s g j k) = _
  unfold val_main_call0_v13
  rw [gather_read, val_main_v0_apply]
  have hw := hch g k
  have hc : val_main_call0_v5 (F := Ideal) x1 (siOf (ix4 s g j k)) = x1 (ix2 g k) := chan_wrap1 x1 hch _
  have hi : (x1 (ix2 g k)).toInt.toNat = (x1 (ix2 g k)).toNat := by
    rw [BitVec.toInt_eq_toNat_of_lt (by omega)]; rfl
  congr 1
  funext a
  have hj := j.isLt
  have hg := g.isLt
  match a with
  | ⟨0, _⟩ =>
    refine Fin.ext ?_
    show (((s.val * 2 + g.val) * 6 + j.val) * 128 + min (val_main_call0_v5 (F := Ideal) x1 (siOf (ix4 s g j k))).toInt.toNat 127) / 1536 = s.val
    rw [hc, hi]; omega
  | ⟨1, _⟩ =>
    refine Fin.ext ?_
    show (((s.val * 2 + g.val) * 6 + j.val) * 128 + min (val_main_call0_v5 (F := Ideal) x1 (siOf (ix4 s g j k))).toInt.toNat 127) % 1536 = 128 * (6 * g.val + j.val) + (x1 (ix2 g k)).toNat % 128
    rw [hc, hi]; omega

theorem code_sel : ∀ v : Fin 16, ((Scalar.select (IntOp.cmpi .sge (BitVec.ofNat 32 v.val) 8#32) (IntOp.subi (BitVec.ofNat 32 v.val) 16#32) (BitVec.ofNat 32 v.val) : BitVec 32)).toInt
    = sgn (BitVec.ofNat 32 v.val) := by decide +kernel

theorem shift_eq : ∀ j : Fin 8, IntOp.muli (4#32) (BitVec.ofNat 32 j.val) = BitVec.ofNat 32 (4 * j.val) := by decide +kernel

theorem code_read (s : Fin 96) (g : Fin 2) (k : Fin 16) (p : Fin 8192) :
    val_main_v21 (F := Ideal) x2 (ix4 s g k p) = lcode (x2 (ix4 s g ⟨k.val / 8, by omega⟩ p)) (k.val % 8) := by
  have hn : val_main_v15 (F := Ideal) x2 (ix4 s g k p) = nib (x2 (ix4 s g ⟨k.val / 8, by omega⟩ p)) (k.val % 8) := by
    rw [val_main_v15_apply, val_main_v14_apply, val_main_v12_apply, val_main_v10_apply, val_main_v7_apply, val_main_v11_apply, val_main_v9_apply, val_main_v8_apply,
      val_main_v6_apply, val_main_v5_apply, val_main_c_apply, val_main_v4_apply, val_main_v13_apply, val_main_c_0_apply]
    have hg := g.isLt
    have hk := k.isLt
    have hp := p.isLt
    have e1 : (idx_main_v7 (idx_main_v10 (idx_main_v15 (ix4 s g k p)))) = ix4 s g ⟨k.val / 8, by omega⟩ p := by
      funext a
      match a with
      | ⟨0, _⟩ => exact Fin.ext (by show (((s.val * 2 + g.val) * 16 + k.val) * 8192 + p.val) / 262144 = s.val; omega)
      | ⟨1, _⟩ => exact Fin.ext (by show (((s.val * 2 + g.val) * 16 + k.val) * 8192 + p.val) / 131072 % 2 = g.val; omega)
      | ⟨2, _⟩ => exact Fin.ext (by show (((s.val * 2 + g.val) * 16 + k.val) * 8192 + p.val) / 65536 % 2 = k.val / 8; omega)
      | ⟨3, _⟩ => exact Fin.ext (by show (((s.val * 2 + g.val) * 16 + k.val) * 8192 + p.val) % 8192 = p.val; omega)
    rw [e1]
    have e2 : (idx_main_v8 (idx_main_v9 (idx_main_v11 (idx_main_v15 (ix4 s g k p)))) 0).val = k.val % 8 := by
      show (((s.val * 2 + g.val) * 16 + k.val) * 8192 + p.val) / 8192 % 8 = k.val % 8
      omega
    rw [e2, shift_eq ⟨k.val % 8, by omega⟩]
    generalize x2 (ix4 s g ⟨k.val / 8, by omega⟩ p) = w
    have h8 : ∀ j : Fin 8, (BitVec.ofNat 32 (4 * j.val)).toNat = 4 * j.val ∧ 4 * j.val < 32 := by decide +kernel
    obtain ⟨h1, h2⟩ := h8 ⟨k.val % 8, by omega⟩
    unfold nib
    show IntOp.andi (IntOp.shrsi .host w (BitVec.ofNat 32 (4 * (k.val % 8)))) 15#32 = _
    unfold IntOp.shrsi
    rw [if_pos (by rw [h1]; exact h2)]
    show w.sshiftRight (BitVec.ofNat 32 (4 * (k.val % 8))).toNat &&& 15#32 = _
    rw [h1]
  rw [val_main_v21_apply, val_main_v20_apply, val_main_v17_apply, val_main_v19_apply, val_main_v16_apply, val_main_v18_apply, val_main_c_1_apply, val_main_c_2_apply, hn]
  unfold lcode
  obtain ⟨v, hv⟩ := nib_of (x2 (ix4 s g ⟨k.val / 8, by omega⟩ p)) (k.val % 8)
  rw [hv]
  show (((Scalar.select (IntOp.cmpi .sge (BitVec.ofNat 32 v.val) 8#32) (IntOp.subi (BitVec.ofNat 32 v.val) 16#32) (BitVec.ofNat 32 v.val) : BitVec 32).toInt : ℝ) : EReal) = _
  rw [code_sel v]

/-- The reference's array. -/
theorem ref_eq (hch : ∀ g k, (x1 (ix2 g k)).toNat < 128) : val_main_v36 (F := Ideal) x0 x1 x2 x3 x4 = labArr x0 x1 x2 x3 x4 := by
  funext i
  obtain ⟨h, s, p, rfl⟩ : ∃ (h : Fin 12) (s : Fin 96) (p : Fin 8192), i = ix3 h s p := ⟨i 0, i 1, i 2, by
    funext a
    match a with
    | ⟨0, _⟩ => rfl
    | ⟨1, _⟩ => rfl
    | ⟨2, _⟩ => rfl⟩
  rw [val_main_v36_apply, val_main_v35_apply]
  have hh := h.isLt
  have hp := p.isLt
  have e : idx_main_v35 (idx_main_v36 (ix3 h s p)) = ix4 s ⟨h.val / 6, by omega⟩ ⟨h.val % 6, by omega⟩ p := by
    funext a
    match a with
    | ⟨0, _⟩ => exact Fin.ext (by show ((s.val * 12 + h.val) * 8192 + p.val) / 98304 = s.val; omega)
    | ⟨1, _⟩ => exact Fin.ext (by show ((s.val * 12 + h.val) * 8192 + p.val) / 49152 % 2 = h.val / 6; omega)
    | ⟨2, _⟩ => exact Fin.ext (by show ((s.val * 12 + h.val) * 8192 + p.val) / 8192 % 6 = h.val % 6; omega)
    | ⟨3, _⟩ => exact Fin.ext (by show ((s.val * 12 + h.val) * 8192 + p.val) % 8192 = p.val; omega)
  rw [e, val_main_v34_apply, val_main_call2_v1_apply, val_main_v28_apply, val_main_v26_apply, val_main_v24_apply, val_main_v23_apply, val_main_v27_apply, val_main_v25_apply,
    val_main_v33_apply, val_main_v32_apply, val_main_v31_apply, val_main_v30_apply, val_main_cst_apply, val_main_v29_apply, val_main_v22_apply,
    val_main_call2_v2_apply, val_main_call2_v0_apply, val_main_cst_3_apply]
  show _ = labAt x0 x1 x2 x3 x4 h s p
  unfold labAt
  have e0 : idx_main_v25 (idx_main_v27 (idx_main_call2_v1 (ix4 s ⟨h.val / 6, by omega⟩ ⟨h.val % 6, by omega⟩ p))) = ix1 s := by
    funext a
    match a with
    | ⟨0, _⟩ => rfl
  have e3 : idx_main_v29 (idx_main_v32 (ix4 s ⟨h.val / 6, by omega⟩ ⟨h.val % 6, by omega⟩ p)) = ix3 s ⟨h.val / 6, by omega⟩ p := by
    funext a
    match a with
    | ⟨0, _⟩ => rfl
    | ⟨1, _⟩ => rfl
    | ⟨2, _⟩ => rfl
  rw [e0, e3]
  have ed : (∑ k : Fin 16, (val_main_v3 (F := Ideal) x1 x4) (lidx_main_v22 (ix4 s ⟨h.val / 6, by omega⟩ ⟨h.val % 6, by omega⟩ p) k)
        * (val_main_v21 (F := Ideal) x2) (ridx_main_v22 (ix4 s ⟨h.val / 6, by omega⟩ ⟨h.val % 6, by omega⟩ p) k) : EReal)
      = ldot (fun k => x1 (ix2 ⟨h.val / 6, by omega⟩ k)) (fun d => x4 (ix2 s ⟨128 * h.val + d.val, by omega⟩)) (fun k => x2 (ix4 s ⟨h.val / 6, by omega⟩ k p)) := by
    unfold ldot
    refine Finset.sum_congr rfl fun k _ => ?_
    have el : lidx_main_v22 (ix4 s ⟨h.val / 6, by omega⟩ ⟨h.val % 6, by omega⟩ p) k = ix4 s ⟨h.val / 6, by omega⟩ ⟨h.val % 6, by omega⟩ k := by
      funext a
      match a with
      | ⟨0, _⟩ => rfl
      | ⟨1, _⟩ => rfl
      | ⟨2, _⟩ => rfl
      | ⟨3, _⟩ => rfl
    have er : ridx_main_v22 (ix4 s ⟨h.val / 6, by omega⟩ ⟨h.val % 6, by omega⟩ p) k = ix4 s ⟨h.val / 6, by omega⟩ k p := by
      funext a
      match a with
      | ⟨0, _⟩ => rfl
      | ⟨1, _⟩ => rfl
      | ⟨2, _⟩ => rfl
      | ⟨3, _⟩ => rfl
    rw [el, er, q_read x1 x4 hch, code_read]
    congr 2
    funext a
    match a with
    | ⟨0, _⟩ => rfl
    | ⟨1, _⟩ =>
      refine Fin.ext ?_
      show 128 * (6 * (h.val / 6) + h.val % 6) + _ = 128 * h.val + _
      rw [Nat.div_add_mod]
  rw [ed]
  have ez : (FloatOps.ofBits (F := Ideal) .f32 0x00000000#32 : EReal) = 0 := IdealRules.sign_bit.ideal_zero .f32
  rw [ez]
  rfl

/-- The reference's run: its arguments stay and its counters end at zero. -/
theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2, sem_eq_zero_of_no_sems (by decide) r.2⟩) (Cert.LabelReferenceIdeal.Value.run m ρ)

end Cert.Proof.Lab

end
-- ==== Proof.lean ====
/- The claims, from the blocks' values (BlockValue, LabelBlock), the arrays after the run (ArrayValue, LabelArray) and the
   references' values (RefValue, LabelRefValue): the attention programs leave the attention array `attArr` and the logits array
   `logArr` of their arguments, the label programs the label score array `labArr`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Label
public import proofs.«01_k».proof.Proof.Gen.Label.Skeleton
public import proofs.«01_k».proof.Proof.Gen.Label.Launch
public import proofs.«01_k».proof.Proof.Gen.Label.Points
public import proofs.«01_k».proof.Proof.Gen.Label.Frame
public import proofs.«01_k».proof.Proof.Gen.LabelIdeal
public import proofs.«01_k».proof.Proof.Gen.LabelIdeal.Skeleton
public import proofs.«01_k».proof.Proof.Gen.LabelIdeal.Launch
public import proofs.«01_k».proof.Proof.Gen.LabelIdeal.Points
public import proofs.«01_k».proof.Proof.Gen.LabelIdeal.Frame
public import proofs.«01_k».proof.Proof.Gen.LabelReferenceIdeal
public import proofs.«01_k».proof.Proof.Gen.LabelReferenceIdeal.Run
public import proofs.«01_k».proof.Proof.Gen.LabelReferenceIdeal.Read
public import proofs.«01_k».proof.Proof.Gen.Pre_channels_in_range
public import proofs.«01_k».proof.Proof.ArrayValue
public import proofs.«01_k».proof.Proof.RefValue
public import proofs.«01_k».proof.Proof.LabelRun
public import proofs.«01_k».proof.Proof.LabelIdealRun
public import proofs.«01_k».proof.Proof.LabelArray
public import proofs.«01_k».proof.Proof.LabelRefValue
public import Idealize.ShloMosaic.Adequacy
public import Idealize.ShloMosaic.Init

@[expose] public section

noncomputable section

namespace Cert.Proof

open Idealize.ShloMosaic Idealize.SL.Sem Cert.Kernel

/-- Over the ideal numbers both programs end with the same two arrays. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨h7, h8, hr⟩ := h c
  obtain ⟨e0, e1, e2, e3, e4, e5, e6⟩ := hargs c
  refine ⟨h7.trans ?_, h8.trans ?_, hr⟩
  · refine Eq.trans ?_ (final7 m c).symm
    rw [G7_eq, e0, e1, e2, e3, e4, e5, e6]
  · refine Eq.trans ?_ (final8 m c).symm
    rw [G8_eq, e0, e1, e3, e5]

/-- The precondition, channel by channel. -/
theorem chan_lt (x0 : IVec Cert.LabelIdeal.S96 32) (x1 : IVec Cert.LabelIdeal.S2x16 32) (x2 : IVec Cert.LabelIdeal.S96x2x2x8192 32)
    (x3 : FVec Ideal Cert.LabelIdeal.S96x2x8192 .f32) (x4 : FVec Ideal Cert.LabelIdeal.S96x1536 .bf16)
    (h : Cert.Pre_channels_in_range.fn (F := Ideal) x0 x1 x2 x3 x4 = fun _ => 1#1) (g : Fin 2) (k : Fin 16) : (x1 (ix2 g k)).toNat < 128 := by
  have hi : IntOp.andi (IntOp.cmpi .sge (x1 (ix2 g k)) 0#32) (IntOp.cmpi .slt (x1 (ix2 g k)) 128#32) = 1#1 := congrFun h (ix2 g k)
  generalize x1 (ix2 g k) = w at hi
  have h1 : IntOp.cmpi .sge w 0#32 = 1#1 ∧ IntOp.cmpi .slt w 128#32 = 1#1 := by
    revert hi
    generalize IntOp.cmpi .sge w 0#32 = a
    generalize IntOp.cmpi .slt w 128#32 = b
    revert a b
    decide
  have h2 : (0 : ℤ) ≤ w.toInt := IntOp.cmpi_sge.mp h1.1
  have h3 : w.toInt < 128 := IntOp.cmpi_slt.mp h1.2
  have h4 := BitVec.toInt_eq_toNat_cond w
  have h5 := w.isLt
  split_ifs at h4 <;> omega

/-- Over the ideal numbers both label programs end with the same array. -/
theorem labelAlgebraic : Cert.algebraic_LabelIdeal_LabelReferenceIdeal_pre_channels_in_range (hLabelIdeal := Cert.LabelIdeal.Gen.facts)
    (hLabelReferenceIdeal := Cert.LabelReferenceIdeal.Gen.facts) (hPre_channels_in_range := Cert.Pre_channels_in_range.Gen.facts) := by
  intro m g m' g' hpre hargs
  refine ⟨fun c => (Cert.LabelIdeal.Hand.dats m 0 c).arrAt 3 Cert.LabelIdeal.cfg0.N, ?_, ?_⟩
  · refine (θ_run Cert.LabelIdeal.defs _ _).mono (fun r h c => ?_)
      (θ_run_and (Cert.LabelIdeal.Hand.run_main m g) (Cert.LabelIdeal.Hand.unchanged m g))
    exact ⟨(h.1 c).1 3, h.2 c⟩
  · refine (θ_run Cert.LabelReferenceIdeal.defs _ _).mono (fun r h c => ?_) (Cert.LabelReferenceIdeal.Value.run m' g')
    obtain ⟨hv, hr⟩ := h c
    obtain ⟨e0, e1, e2, e3, e4⟩ := hargs c
    have hch := chan_lt _ _ _ _ _ (hpre c)
    refine ⟨hv.trans ?_, hr⟩
    refine Eq.trans ?_ (Lab.final3 m c hch).symm
    rw [Cert.LabelReferenceIdeal.Read.val_main_v36_eq, e0, e1, e2, e3, e4]
    exact Lab.ref_eq _ _ _ _ _ hch

theorem claim : Cert.Claim := ⟨Cert.Kernel.Gen.facts, Cert.KernelIdeal.Gen.facts, Cert.ReferenceIdeal.Gen.facts,
  Cert.Label.Gen.facts, Cert.LabelIdeal.Gen.facts, Cert.LabelReferenceIdeal.Gen.facts, Cert.Pre_channels_in_range.Gen.facts,
  fun m ρ _ => Cert.Kernel.Gen.frame m ρ, fun m ρ _ => Cert.KernelIdeal.Gen.frame m ρ,
  fun m ρ _ => Cert.ReferenceIdeal.Gen.frame m ρ,
  fun m ρ _ => Cert.Label.Hand.frame_all m ρ, fun m ρ _ => Cert.LabelIdeal.Hand.frame_all m ρ, fun m ρ _ => Cert.LabelIdeal.Hand.frame_all m ρ,
  fun m ρ _ => Lab.ref_frame m ρ, fun m ρ _ => Lab.ref_frame m ρ,
  trivial, algebraic, trivial, labelAlgebraic⟩

end Cert.Proof

end
